-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S16x256

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tables_ok : Cert.Pre_tables_ok.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal) (hPre_tables_ok := hPre_tables_ok)
    ∧ preserves_Kernel_KernelIdeal
    ∧ algebraic_KernelIdeal_ReferenceIdeal (hKernelIdeal := hKernelIdeal) (hReferenceIdeal := hReferenceIdeal) (hPre_tables_ok := hPre_tables_ok)
-- ==== Pre_tables_ok.lean ====
abbrev S32x384 : Shape := ⟨2, ![32, 384]⟩
abbrev S6144x5120 : Shape := ⟨2, ![6144, 5120]⟩
abbrev S3072x256 : Shape := ⟨2, ![3072, 256]⟩
abbrev S20x768x256 : Shape := ⟨3, ![20, 768, 256]⟩
abbrev S46695x5120 : Shape := ⟨2, ![46695, 5120]⟩
abbrev S96x5120 : Shape := ⟨2, ![96, 5120]⟩
abbrev S16x384 : Shape := ⟨2, ![16, 384]⟩
abbrev S_ : Shape := ⟨0, ![]⟩

class Facts : Prop where
  slices_S32x384_S16x384_0_0 : S32x384.Slices ![0, 0] S16x384
  bcast_S_S16x384 : S_.BroadcastsInDim S16x384 (![] : Fin 0 → Fin S16x384.rank)
  reducesTo_S16x384_S_d0_1 : S16x384.ReducesTo [0, 1] S_
  h_S_ : 0 < S_.numel
  bcast_S_S20x768x256 : S_.BroadcastsInDim S20x768x256 (![] : Fin 0 → Fin S20x768x256.rank)
  reducesTo_S20x768x256_S_d0_1_2 : S20x768x256.ReducesTo [0, 1, 2] S_

variable [Facts]

def fn {F : FTy → Type} [FloatOps F] (main_arg0 : IVec S32x384 32) (main_arg1 : FVec F S6144x5120 .bf16) (main_arg2 : IVec S3072x256 32) (main_arg3 : FVec F S20x768x256 .f32) (main_arg4 : FVec F S46695x5120 .fp8e4m3) (main_arg5 : FVec F S96x5120 .fp8e4m3) : IVec S_ 1 :=
  let main_v0 : IVec S16x384 32 := (extractStridedSlice S16x384 ![0, 0] · slices_S32x384_S16x384_0_0) main_arg0
  let main_c : IVec S_ 32 := constantI S_ 32 0#32
  let main_v1 : IVec S16x384 32 := broadcastInDim S16x384 ![] bcast_S_S16x384 main_c
  let main_v2 : IVec S16x384 1 := cmpi .sge main_v0 main_v1
  let main_c_0 : IVec S_ 32 := constantI S_ 32 11688#32
  let main_v3 : IVec S16x384 32 := broadcastInDim S16x384 ![] bcast_S_S16x384 main_c_0
  let main_v4 : IVec S16x384 1 := cmpi .sle main_v0 main_v3
  let main_v5 : IVec S16x384 1 := andi main_v2 main_v4
  let main_c_1 : IVec S_ 1 := constantI S_ 1 1#1
  let main_v6 : IVec S_ 1 := (fun x v => Host.reduce IntOp.andi x v reducesTo_S16x384_S_d0_1 h_S_) main_v5 main_c_1
  let main_v7 : FVec F S20x768x256 .f32 := Host.absf main_arg3
  let main_cst : FVec F S_ .f32 := constant S_ .f32 0x7F800000#32
  let main_v8 : FVec F S20x768x256 .f32 := broadcastInDim S20x768x256 ![] bcast_S_S20x768x256 main_cst
  let main_v9 : IVec S20x768x256 1 := cmpf .olt main_v7 main_v8
  let main_c_2 : IVec S_ 1 := constantI S_ 1 1#1
  let main_v10 : IVec S_ 1 := (fun x v => Host.reduce IntOp.andi x v reducesTo_S20x768x256_S_d0_1_2 h_S_) main_v9 main_c_2
  let main_v11 : IVec S_ 1 := andi main_v6 main_v10
  main_v11
-- ==== Kernel.lean ====
abbrev S32x384 : Shape := ⟨2, ![32, 384]⟩
abbrev S6144x5120 : Shape := ⟨2, ![6144, 5120]⟩
abbrev S3072x256 : Shape := ⟨2, ![3072, 256]⟩
abbrev S20x768x256 : Shape := ⟨3, ![20, 768, 256]⟩
abbrev S46695x5120 : Shape := ⟨2, ![46695, 5120]⟩
abbrev S96x5120 : Shape := ⟨2, ![96, 5120]⟩
abbrev S2048x256 : Shape := ⟨2, ![2048, 256]⟩
abbrev S1x256x256 : Shape := ⟨3, ![1, 256, 256]⟩
abbrev S4x46784x128 : Shape := ⟨3, ![4, 46784, 128]⟩
abbrev S2 : Shape := ⟨1, ![2]⟩
abbrev S1 : Shape := ⟨1, ![1]⟩
abbrev S_ : Shape := ⟨0, ![]⟩
abbrev S1x46784x128 : Shape := ⟨3, ![1, 46784, 128]⟩
abbrev S46784x128 : Shape := ⟨2, ![46784, 128]⟩
abbrev S46688x128 : Shape := ⟨2, ![46688, 128]⟩
abbrev S1x46688x128 : Shape := ⟨3, ![1, 46688, 128]⟩
abbrev S96x128 : Shape := ⟨2, ![96, 128]⟩
abbrev S1x96x128 : Shape := ⟨3, ![1, 96, 128]⟩
abbrev S32x128 : Shape := ⟨2, ![32, 128]⟩
abbrev S1x1 : Shape := ⟨2, ![1, 1]⟩
abbrev S8x256 : Shape := ⟨2, ![8, 256]⟩
abbrev S16x256 : Shape := ⟨2, ![16, 256]⟩
abbrev S1x1x256 : Shape := ⟨3, ![1, 1, 256]⟩
abbrev S1x256 : Shape := ⟨2, ![1, 256]⟩
abbrev S1x32x128 : Shape := ⟨3, ![1, 32, 128]⟩
abbrev S256x128 : Shape := ⟨2, ![256, 128]⟩
abbrev S96x256 : Shape := ⟨2, ![96, 256]⟩
abbrev S256x256 : Shape := ⟨2, ![256, 256]⟩
abbrev S16x128 : Shape := ⟨2, ![16, 128]⟩

abbrev nBuf : Space → Nat
  | .hbm => 7
  | .vmem => 8
  | .smem => 1
  | _ => 0

abbrev bufTy : (tb : Table) → Fin (tcTables nBuf tb) → BufTy
  | .hbm, ⟨0, _⟩ => ⟨S32x384, .i32⟩
  | .hbm, ⟨1, _⟩ => ⟨S6144x5120, .bf16⟩
  | .hbm, ⟨2, _⟩ => ⟨S3072x256, .i32⟩
  | .hbm, ⟨3, _⟩ => ⟨S20x768x256, .f32⟩
  | .hbm, ⟨4, _⟩ => ⟨S46695x5120, .fp8e4m3⟩
  | .hbm, ⟨5, _⟩ => ⟨S96x5120, .fp8e4m3⟩
  | .hbm, ⟨6, _⟩ => ⟨S6144x5120, .bf16⟩
  | .local _ .vmem, ⟨0, _⟩ => ⟨S2048x256, .bf16⟩
  | .local _ .vmem, ⟨1, _⟩ => ⟨S2048x256, .bf16⟩
  | .local _ .vmem, ⟨2, _⟩ => ⟨S3072x256, .i32⟩
  | .local _ .vmem, ⟨3, _⟩ => ⟨S1x256x256, .f32⟩
  | .local _ .vmem, ⟨4, _⟩ => ⟨S1x256x256, .f32⟩
  | .local _ .vmem, ⟨5, _⟩ => ⟨S2048x256, .bf16⟩
  | .local _ .vmem, ⟨6, _⟩ => ⟨S2048x256, .bf16⟩
  | .local _ .vmem, ⟨7, _⟩ => ⟨S4x46784x128, .fp8e4m3⟩
  | .local _ .smem, ⟨0, _⟩ => ⟨S32x384, .i32⟩
  | _, _ => ⟨S32x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨2, ![20, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let arg0 : BitVec 32 := BitVec.ofNat 32 (i 0).val
  let c2_i32_8 : BitVec 32 := 2#32
  let v13 : BitVec 32 := Scalar.muli arg0 c2_i32_8
  let c0_i32_9 : BitVec 32 := 0#32
  let v14 : BitVec 32 := Scalar.addi v13 c0_i32_9
  let c128_i32 : BitVec 32 := 128#32
  let v15 : BitVec 32 := Scalar.muli v14 c128_i32
  v15
def k0_off1 (i : grid0.Coords) : Fin 1 → Nat :=
  let arg0 : BitVec 32 := BitVec.ofNat 32 (i 0).val
  let c2_i32_7 : BitVec 32 := 2#32
  let v12 : BitVec 32 := Scalar.remsi arg0 c2_i32_7
  ![v12.toNat]
def k0_off2 (i : grid0.Coords) (c0_i32_11 : BitVec 32) : Fin 3 → Nat :=
  let arg0 : BitVec 32 := BitVec.ofNat 32 (i 0).val
  let c2_i32_7 : BitVec 32 := 2#32
  let v12 : BitVec 32 := Scalar.remsi arg0 c2_i32_7
  let c2_i32_10 : BitVec 32 := 2#32
  let v17 : BitVec 32 := Scalar.muli v12 c2_i32_10
  let v18 : BitVec 32 := Scalar.addi v17 c0_i32_11
  let c0_i32_12 : BitVec 32 := 0#32
  let c0_i32_13 : BitVec 32 := 0#32
  ![v18.toNat, 0, 0]
def k0_off3 (i : grid0.Coords) (c0_i32_9 : BitVec 32) : Fin 2 → Nat :=
  let c0_i32_16 : BitVec 32 := 0#32
  let arg0 : BitVec 32 := BitVec.ofNat 32 (i 0).val
  let c2_i32_8 : BitVec 32 := 2#32
  let v13 : BitVec 32 := Scalar.muli arg0 c2_i32_8
  let v14 : BitVec 32 := Scalar.addi v13 c0_i32_9
  let c128_i32 : BitVec 32 := 128#32
  let v15 : BitVec 32 := Scalar.muli v14 c128_i32
  let v16 : BitVec 32 := v15
  ![0, v16.toNat]
def k0_off4 (i : grid0.Coords) (c0_i32_11 : BitVec 32) : Fin 3 → Nat :=
  let arg0 : BitVec 32 := BitVec.ofNat 32 (i 0).val
  let c2_i32_7 : BitVec 32 := 2#32
  let v12 : BitVec 32 := Scalar.remsi arg0 c2_i32_7
  let c2_i32_10 : BitVec 32 := 2#32
  let v17 : BitVec 32 := Scalar.muli v12 c2_i32_10
  let v18 : BitVec 32 := Scalar.addi v17 c0_i32_11
  let c0_i32_12 : BitVec 32 := 0#32
  let c0_i32_13 : BitVec 32 := 0#32
  ![v18.toNat, 0, 0]
def k0_off5 (i : grid0.Coords) (c0_i32_9 : BitVec 32) : Fin 2 → Nat :=
  let c0_i32_20 : BitVec 32 := 0#32
  let arg0 : BitVec 32 := BitVec.ofNat 32 (i 0).val
  let c2_i32_8 : BitVec 32 := 2#32
  let v13 : BitVec 32 := Scalar.muli arg0 c2_i32_8
  let v14 : BitVec 32 := Scalar.addi v13 c0_i32_9
  let c128_i32 : BitVec 32 := 128#32
  let v15 : BitVec 32 := Scalar.muli v14 c128_i32
  let v16 : BitVec 32 := v15
  ![0, v16.toNat]
def k0_off6 (i : grid0.Coords) (c0_i32_11 : BitVec 32) : Fin 3 → Nat :=
  let arg0 : BitVec 32 := BitVec.ofNat 32 (i 0).val
  let c2_i32_7 : BitVec 32 := 2#32
  let v12 : BitVec 32 := Scalar.remsi arg0 c2_i32_7
  let c2_i32_10 : BitVec 32 := 2#32
  let v17 : BitVec 32 := Scalar.muli v12 c2_i32_10
  let v18 : BitVec 32 := Scalar.addi v17 c0_i32_11
  let c0_i32_18 : BitVec 32 := 0#32
  ![v18.toNat, 46688, 0]
def k0_mult2 (i : grid0.Coords) : BitVec 32 :=
  let arg0 : BitVec 32 := BitVec.ofNat 32 (i 0).val
  let c2_i32_21 : BitVec 32 := 2#32
  let v31 : BitVec 32 := Scalar.muli arg0 c2_i32_21
  let c1_i32_22 : BitVec 32 := 1#32
  let v32 : BitVec 32 := Scalar.addi v31 c1_i32_22
  let c128_i32_23 : BitVec 32 := 128#32
  let v33 : BitVec 32 := Scalar.muli v32 c128_i32_23
  v33
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32_7 : BitVec 32 := 1#32
  let v12 : BitVec 32 := Scalar.addi arg0 c1_i32_7
  let c20_i32 : BitVec 32 := 20#32
  let v13 : BitVec 1 := Scalar.cmpi .slt v12 c20_i32
  let v14 : BitVec 32 := Scalar.extui v13
  let c0_i32_8 : BitVec 32 := 0#32
  let v15 : BitVec 1 := Scalar.cmpi .ne v14 c0_i32_8
  v15

def k0_mult3 (i : grid0.Coords) : BitVec 32 :=
  let arg0 : BitVec 32 := BitVec.ofNat 32 (i 0).val
  let c1_i32_38 : BitVec 32 := 1#32
  let v53 : BitVec 32 := Scalar.addi arg0 c1_i32_38
  let c2_i32_40 : BitVec 32 := 2#32
  let v55 : BitVec 32 := Scalar.muli v53 c2_i32_40
  let c0_i32_41 : BitVec 32 := 0#32
  let v56 : BitVec 32 := Scalar.addi v55 c0_i32_41
  let c128_i32_42 : BitVec 32 := 128#32
  let v57 : BitVec 32 := Scalar.muli v56 c128_i32_42
  v57
def k0_off7 (i : grid0.Coords) : Fin 1 → Nat :=
  let arg0 : BitVec 32 := BitVec.ofNat 32 (i 0).val
  let c1_i32_38 : BitVec 32 := 1#32
  let v53 : BitVec 32 := Scalar.addi arg0 c1_i32_38
  let c2_i32_39 : BitVec 32 := 2#32
  let v54 : BitVec 32 := Scalar.remsi v53 c2_i32_39
  ![v54.toNat]
def k0_off8 (i : grid0.Coords) (c0_i32_44 : BitVec 32) : Fin 3 → Nat :=
  let arg0 : BitVec 32 := BitVec.ofNat 32 (i 0).val
  let c1_i32_38 : BitVec 32 := 1#32
  let v53 : BitVec 32 := Scalar.addi arg0 c1_i32_38
  let c2_i32_39 : BitVec 32 := 2#32
  let v54 : BitVec 32 := Scalar.remsi v53 c2_i32_39
  let c2_i32_43 : BitVec 32 := 2#32
  let v59 : BitVec 32 := Scalar.muli v54 c2_i32_43
  let v60 : BitVec 32 := Scalar.addi v59 c0_i32_44
  let c0_i32_45 : BitVec 32 := 0#32
  let c0_i32_46 : BitVec 32 := 0#32
  ![v60.toNat, 0, 0]
def k0_off9 (i : grid0.Coords) (c0_i32_41 : BitVec 32) : Fin 2 → Nat :=
  let c0_i32_49 : BitVec 32 := 0#32
  let arg0 : BitVec 32 := BitVec.ofNat 32 (i 0).val
  let c1_i32_38 : BitVec 32 := 1#32
  let v53 : BitVec 32 := Scalar.addi arg0 c1_i32_38
  let c2_i32_40 : BitVec 32 := 2#32
  let v55 : BitVec 32 := Scalar.muli v53 c2_i32_40
  let v56 : BitVec 32 := Scalar.addi v55 c0_i32_41
  let c128_i32_42 : BitVec 32 := 128#32
  let v57 : BitVec 32 := Scalar.muli v56 c128_i32_42
  let v58 : BitVec 32 := v57
  ![0, v58.toNat]
def k0_off10 (i : grid0.Coords) (c0_i32_44 : BitVec 32) : Fin 3 → Nat :=
  let arg0 : BitVec 32 := BitVec.ofNat 32 (i 0).val
  let c1_i32_38 : BitVec 32 := 1#32
  let v53 : BitVec 32 := Scalar.addi arg0 c1_i32_38
  let c2_i32_39 : BitVec 32 := 2#32
  let v54 : BitVec 32 := Scalar.remsi v53 c2_i32_39
  let c2_i32_43 : BitVec 32 := 2#32
  let v59 : BitVec 32 := Scalar.muli v54 c2_i32_43
  let v60 : BitVec 32 := Scalar.addi v59 c0_i32_44
  let c0_i32_45 : BitVec 32 := 0#32
  let c0_i32_46 : BitVec 32 := 0#32
  ![v60.toNat, 0, 0]
def k0_off11 (i : grid0.Coords) (c0_i32_41 : BitVec 32) : Fin 2 → Nat :=
  let c0_i32_54 : BitVec 32 := 0#32
  let arg0 : BitVec 32 := BitVec.ofNat 32 (i 0).val
  let c1_i32_38 : BitVec 32 := 1#32
  let v53 : BitVec 32 := Scalar.addi arg0 c1_i32_38
  let c2_i32_40 : BitVec 32 := 2#32
  let v55 : BitVec 32 := Scalar.muli v53 c2_i32_40
  let v56 : BitVec 32 := Scalar.addi v55 c0_i32_41
  let c128_i32_42 : BitVec 32 := 128#32
  let v57 : BitVec 32 := Scalar.muli v56 c128_i32_42
  let v58 : BitVec 32 := v57
  ![0, v58.toNat]
def k0_off12 (i : grid0.Coords) (c0_i32_44 : BitVec 32) : Fin 3 → Nat :=
  let arg0 : BitVec 32 := BitVec.ofNat 32 (i 0).val
  let c1_i32_38 : BitVec 32 := 1#32
  let v53 : BitVec 32 := Scalar.addi arg0 c1_i32_38
  let c2_i32_39 : BitVec 32 := 2#32
  let v54 : BitVec 32 := Scalar.remsi v53 c2_i32_39
  let c2_i32_43 : BitVec 32 := 2#32
  let v59 : BitVec 32 := Scalar.muli v54 c2_i32_43
  let v60 : BitVec 32 := Scalar.addi v59 c0_i32_44
  let c0_i32_51 : BitVec 32 := 0#32
  ![v60.toNat, 46688, 0]
def k0_mult4 (i : grid0.Coords) : BitVec 32 :=
  let arg0 : BitVec 32 := BitVec.ofNat 32 (i 0).val
  let c1_i32_38 : BitVec 32 := 1#32
  let v53 : BitVec 32 := Scalar.addi arg0 c1_i32_38
  let c2_i32_55 : BitVec 32 := 2#32
  let v73 : BitVec 32 := Scalar.muli v53 c2_i32_55
  let c1_i32_56 : BitVec 32 := 1#32
  let v74 : BitVec 32 := Scalar.addi v73 c1_i32_56
  let c128_i32_57 : BitVec 32 := 128#32
  let v75 : BitVec 32 := Scalar.muli v74 c128_i32_57
  v75
def k0_mult5 (i : grid0.Coords) : BitVec 32 :=
  let arg0 : BitVec 32 := BitVec.ofNat 32 (i 0).val
  let c2_i32_10 : BitVec 32 := 2#32
  let v17 : BitVec 32 := Scalar.muli arg0 c2_i32_10
  let c0_i32_11 : BitVec 32 := 0#32
  let v18 : BitVec 32 := Scalar.addi v17 c0_i32_11
  let c128_i32 : BitVec 32 := 128#32
  let v19 : BitVec 32 := Scalar.muli v18 c128_i32
  v19
def k0_off13 (i : grid0.Coords) : Fin 1 → Nat :=
  let arg0 : BitVec 32 := BitVec.ofNat 32 (i 0).val
  let c2_i32_9 : BitVec 32 := 2#32
  let v16 : BitVec 32 := Scalar.remsi arg0 c2_i32_9
  ![v16.toNat]
def k0_off14 (i : grid0.Coords) (c0_i32_13 : BitVec 32) : Fin 3 → Nat :=
  let arg0 : BitVec 32 := BitVec.ofNat 32 (i 0).val
  let c2_i32_9 : BitVec 32 := 2#32
  let v16 : BitVec 32 := Scalar.remsi arg0 c2_i32_9
  let c2_i32_12 : BitVec 32 := 2#32
  let v21 : BitVec 32 := Scalar.muli v16 c2_i32_12
  let v22 : BitVec 32 := Scalar.addi v21 c0_i32_13
  let c0_i32_14 : BitVec 32 := 0#32
  let c0_i32_15 : BitVec 32 := 0#32
  ![v22.toNat, 0, 0]
def k0_off15 (i : grid0.Coords) (c0_i32_11 : BitVec 32) : Fin 2 → Nat :=
  let c0_i32_18 : BitVec 32 := 0#32
  let arg0 : BitVec 32 := BitVec.ofNat 32 (i 0).val
  let c2_i32_10 : BitVec 32 := 2#32
  let v17 : BitVec 32 := Scalar.muli arg0 c2_i32_10
  let v18 : BitVec 32 := Scalar.addi v17 c0_i32_11
  let c128_i32 : BitVec 32 := 128#32
  let v19 : BitVec 32 := Scalar.muli v18 c128_i32
  let v20 : BitVec 32 := v19
  ![0, v20.toNat]
def k0_off16 (i : grid0.Coords) (c0_i32_13 : BitVec 32) : Fin 3 → Nat :=
  let arg0 : BitVec 32 := BitVec.ofNat 32 (i 0).val
  let c2_i32_9 : BitVec 32 := 2#32
  let v16 : BitVec 32 := Scalar.remsi arg0 c2_i32_9
  let c2_i32_12 : BitVec 32 := 2#32
  let v21 : BitVec 32 := Scalar.muli v16 c2_i32_12
  let v22 : BitVec 32 := Scalar.addi v21 c0_i32_13
  let c0_i32_14 : BitVec 32 := 0#32
  let c0_i32_15 : BitVec 32 := 0#32
  ![v22.toNat, 0, 0]
def k0_off17 (i : grid0.Coords) (c0_i32_11 : BitVec 32) : Fin 2 → Nat :=
  let c0_i32_22 : BitVec 32 := 0#32
  let arg0 : BitVec 32 := BitVec.ofNat 32 (i 0).val
  let c2_i32_10 : BitVec 32 := 2#32
  let v17 : BitVec 32 := Scalar.muli arg0 c2_i32_10
  let v18 : BitVec 32 := Scalar.addi v17 c0_i32_11
  let c128_i32 : BitVec 32 := 128#32
  let v19 : BitVec 32 := Scalar.muli v18 c128_i32
  let v20 : BitVec 32 := v19
  ![0, v20.toNat]
def k0_off18 (i : grid0.Coords) (c0_i32_13 : BitVec 32) : Fin 3 → Nat :=
  let arg0 : BitVec 32 := BitVec.ofNat 32 (i 0).val
  let c2_i32_9 : BitVec 32 := 2#32
  let v16 : BitVec 32 := Scalar.remsi arg0 c2_i32_9
  let c2_i32_12 : BitVec 32 := 2#32
  let v21 : BitVec 32 := Scalar.muli v16 c2_i32_12
  let v22 : BitVec 32 := Scalar.addi v21 c0_i32_13
  let c0_i32_20 : BitVec 32 := 0#32
  ![v22.toNat, 46688, 0]
def k0_mult6 (i : grid0.Coords) : BitVec 32 :=
  let arg0 : BitVec 32 := BitVec.ofNat 32 (i 0).val
  let c2_i32_23 : BitVec 32 := 2#32
  let v35 : BitVec 32 := Scalar.muli arg0 c2_i32_23
  let c1_i32_24 : BitVec 32 := 1#32
  let v36 : BitVec 32 := Scalar.addi v35 c1_i32_24
  let c128_i32_25 : BitVec 32 := 128#32
  let v37 : BitVec 32 := Scalar.muli v36 c128_i32_25
  v37
@[reducible] def k0_t1_loop : Scf.Loop 32 :=
  let c0_i32_5 : BitVec 32 := 0#32
  let c16_i32 : BitVec 32 := 16#32
  let v11 : BitVec 32 := Scalar.addi c0_i32_5 c16_i32
  let c1_i32 : BitVec 32 := 1#32
  ⟨c0_i32_5, v11, c1_i32⟩
def k0_off19 (i : grid0.Coords) (k0_t1 : Fin k0_t1_loop.trips) : Fin 2 → Nat :=
  let c0 : Index := 0#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v16 : Index := Scalar.indexCast v15
  ![0, v16.toNat]
def k0_off20 (i : grid0.Coords) (k0_t1 : Fin k0_t1_loop.trips) : Fin 2 → Nat :=
  let c1 : Index := 1#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v18 : Index := Scalar.indexCast v15
  ![1, v18.toNat]
def k0_off21 (i : grid0.Coords) (k0_t1 : Fin k0_t1_loop.trips) : Fin 2 → Nat :=
  let c2 : Index := 2#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v20 : Index := Scalar.indexCast v15
  ![2, v20.toNat]
def k0_off22 (i : grid0.Coords) (k0_t1 : Fin k0_t1_loop.trips) : Fin 2 → Nat :=
  let c3 : Index := 3#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v22 : Index := Scalar.indexCast v15
  ![3, v22.toNat]
def k0_off23 (i : grid0.Coords) (k0_t1 : Fin k0_t1_loop.trips) : Fin 2 → Nat :=
  let c4 : Index := 4#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v24 : Index := Scalar.indexCast v15
  ![4, v24.toNat]
def k0_off24 (i : grid0.Coords) (k0_t1 : Fin k0_t1_loop.trips) : Fin 2 → Nat :=
  let c5 : Index := 5#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v26 : Index := Scalar.indexCast v15
  ![5, v26.toNat]
def k0_off25 (i : grid0.Coords) (k0_t1 : Fin k0_t1_loop.trips) : Fin 2 → Nat :=
  let c6 : Index := 6#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v28 : Index := Scalar.indexCast v15
  ![6, v28.toNat]
def k0_off26 (i : grid0.Coords) (k0_t1 : Fin k0_t1_loop.trips) : Fin 2 → Nat :=
  let c7 : Index := 7#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v30 : Index := Scalar.indexCast v15
  ![7, v30.toNat]
def k0_off27 (i : grid0.Coords) (k0_t1 : Fin k0_t1_loop.trips) : Fin 2 → Nat :=
  let c8 : Index := 8#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v32 : Index := Scalar.indexCast v15
  ![8, v32.toNat]
def k0_off28 (i : grid0.Coords) (k0_t1 : Fin k0_t1_loop.trips) : Fin 2 → Nat :=
  let c9 : Index := 9#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v34 : Index := Scalar.indexCast v15
  ![9, v34.toNat]
def k0_off29 (i : grid0.Coords) (k0_t1 : Fin k0_t1_loop.trips) : Fin 2 → Nat :=
  let c10 : Index := 10#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v36 : Index := Scalar.indexCast v15
  ![10, v36.toNat]
def k0_off30 (i : grid0.Coords) (k0_t1 : Fin k0_t1_loop.trips) : Fin 2 → Nat :=
  let c11 : Index := 11#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v38 : Index := Scalar.indexCast v15
  ![11, v38.toNat]
def k0_off31 (i : grid0.Coords) (k0_t1 : Fin k0_t1_loop.trips) : Fin 2 → Nat :=
  let c12 : Index := 12#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v40 : Index := Scalar.indexCast v15
  ![12, v40.toNat]
def k0_off32 (i : grid0.Coords) (k0_t1 : Fin k0_t1_loop.trips) : Fin 2 → Nat :=
  let c13 : Index := 13#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v42 : Index := Scalar.indexCast v15
  ![13, v42.toNat]
def k0_off33 (i : grid0.Coords) (k0_t1 : Fin k0_t1_loop.trips) : Fin 2 → Nat :=
  let c14 : Index := 14#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v44 : Index := Scalar.indexCast v15
  ![14, v44.toNat]
def k0_off34 (i : grid0.Coords) (k0_t1 : Fin k0_t1_loop.trips) : Fin 2 → Nat :=
  let c15 : Index := 15#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v46 : Index := Scalar.indexCast v15
  ![15, v46.toNat]
def k0_off35 (i : grid0.Coords) (k0_t1 : Fin k0_t1_loop.trips) : Fin 2 → Nat :=
  let c16 : Index := 16#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v48 : Index := Scalar.indexCast v15
  ![16, v48.toNat]
def k0_off36 (i : grid0.Coords) (k0_t1 : Fin k0_t1_loop.trips) : Fin 2 → Nat :=
  let c17 : Index := 17#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v50 : Index := Scalar.indexCast v15
  ![17, v50.toNat]
def k0_off37 (i : grid0.Coords) (k0_t1 : Fin k0_t1_loop.trips) : Fin 2 → Nat :=
  let c18 : Index := 18#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v52 : Index := Scalar.indexCast v15
  ![18, v52.toNat]
def k0_off38 (i : grid0.Coords) (k0_t1 : Fin k0_t1_loop.trips) : Fin 2 → Nat :=
  let c19 : Index := 19#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v54 : Index := Scalar.indexCast v15
  ![19, v54.toNat]
def k0_off39 (i : grid0.Coords) (k0_t1 : Fin k0_t1_loop.trips) : Fin 2 → Nat :=
  let c20 : Index := 20#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v56 : Index := Scalar.indexCast v15
  ![20, v56.toNat]
def k0_off40 (i : grid0.Coords) (k0_t1 : Fin k0_t1_loop.trips) : Fin 2 → Nat :=
  let c21 : Index := 21#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v58 : Index := Scalar.indexCast v15
  ![21, v58.toNat]
def k0_off41 (i : grid0.Coords) (k0_t1 : Fin k0_t1_loop.trips) : Fin 2 → Nat :=
  let c22 : Index := 22#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v60 : Index := Scalar.indexCast v15
  ![22, v60.toNat]
def k0_off42 (i : grid0.Coords) (k0_t1 : Fin k0_t1_loop.trips) : Fin 2 → Nat :=
  let c23 : Index := 23#32
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let v62 : Index := Scalar.indexCast v15
  ![23, v62.toNat]
def k0_mult7 (i : grid0.Coords) (k0_t1 : Fin k0_t1_loop.trips) : BitVec 32 :=
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let c8_i32_15 : BitVec 32 := 8#32
  let v88 : BitVec 32 := Scalar.muli v15 c8_i32_15
  v88
def k0_off43 (i : grid0.Coords) (k0_t1 : Fin k0_t1_loop.trips) : Fin 2 → Nat :=
  let arg1 : BitVec 32 := BitVec.ofNat 32 (i 1).val
  let c128_i32 : BitVec 32 := 128#32
  let v14 : BitVec 32 := Scalar.muli arg1 c128_i32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let v15 : BitVec 32 := Scalar.addi v14 v13
  let c8_i32_15 : BitVec 32 := 8#32
  let v88 : BitVec 32 := Scalar.muli v15 c8_i32_15
  let v89 : BitVec 32 := v88
  let v90 : Index := Scalar.indexCast v89
  let c0_16 : Index := 0#32
  ![v90.toNat, 0]
def k0_off44 (k0_t1 : Fin k0_t1_loop.trips) : Fin 3 → Nat :=
  let c0_19 : Index := 0#32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let c2_i32_17 : BitVec 32 := 2#32
  let v95 : BitVec 32 := Scalar.muli v13 c2_i32_17
  let c0_i32_18 : BitVec 32 := 0#32
  let v96 : BitVec 32 := Scalar.addi v95 c0_i32_18
  let v97 : Index := Scalar.indexCast v96
  let c0_20 : Index := 0#32
  ![0, v97.toNat, 0]
def k0_off45 (i : grid0.Coords) (v17 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_24 : BitVec 32 := 0#32
  let v121 : BitVec 32 := Scalar.addi v9 c0_i32_24
  let v123 : Index := Scalar.indexCast v121
  let c4_i32_25 : BitVec 32 := 4#32
  let v122 : BitVec 32 := Scalar.muli c4_i32_25 v17
  let v124 : Index := Scalar.indexCast v122
  let c0_26 : Index := 0#32
  ![v123.toNat, v124.toNat, 0]

def k0_off46 (i : grid0.Coords) (v33 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_27 : BitVec 32 := 0#32
  let v127 : BitVec 32 := Scalar.addi v9 c0_i32_27
  let v129 : Index := Scalar.indexCast v127
  let c4_i32_28 : BitVec 32 := 4#32
  let v128 : BitVec 32 := Scalar.muli c4_i32_28 v33
  let v130 : Index := Scalar.indexCast v128
  let c0_29 : Index := 0#32
  ![v129.toNat, v130.toNat, 0]

def k0_off47 (i : grid0.Coords) (v19 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_30 : BitVec 32 := 0#32
  let v134 : BitVec 32 := Scalar.addi v9 c0_i32_30
  let v136 : Index := Scalar.indexCast v134
  let c4_i32_31 : BitVec 32 := 4#32
  let v135 : BitVec 32 := Scalar.muli c4_i32_31 v19
  let v137 : Index := Scalar.indexCast v135
  let c0_32 : Index := 0#32
  ![v136.toNat, v137.toNat, 0]

def k0_off48 (i : grid0.Coords) (v35 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_33 : BitVec 32 := 0#32
  let v140 : BitVec 32 := Scalar.addi v9 c0_i32_33
  let v142 : Index := Scalar.indexCast v140
  let c4_i32_34 : BitVec 32 := 4#32
  let v141 : BitVec 32 := Scalar.muli c4_i32_34 v35
  let v143 : Index := Scalar.indexCast v141
  let c0_35 : Index := 0#32
  ![v142.toNat, v143.toNat, 0]

def k0_off49 (i : grid0.Coords) (v21 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_36 : BitVec 32 := 0#32
  let v147 : BitVec 32 := Scalar.addi v9 c0_i32_36
  let v149 : Index := Scalar.indexCast v147
  let c4_i32_37 : BitVec 32 := 4#32
  let v148 : BitVec 32 := Scalar.muli c4_i32_37 v21
  let v150 : Index := Scalar.indexCast v148
  let c0_38 : Index := 0#32
  ![v149.toNat, v150.toNat, 0]

def k0_off50 (i : grid0.Coords) (v37 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_39 : BitVec 32 := 0#32
  let v153 : BitVec 32 := Scalar.addi v9 c0_i32_39
  let v155 : Index := Scalar.indexCast v153
  let c4_i32_40 : BitVec 32 := 4#32
  let v154 : BitVec 32 := Scalar.muli c4_i32_40 v37
  let v156 : Index := Scalar.indexCast v154
  let c0_41 : Index := 0#32
  ![v155.toNat, v156.toNat, 0]

def k0_off51 (i : grid0.Coords) (v23 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_42 : BitVec 32 := 0#32
  let v160 : BitVec 32 := Scalar.addi v9 c0_i32_42
  let v162 : Index := Scalar.indexCast v160
  let c4_i32_43 : BitVec 32 := 4#32
  let v161 : BitVec 32 := Scalar.muli c4_i32_43 v23
  let v163 : Index := Scalar.indexCast v161
  let c0_44 : Index := 0#32
  ![v162.toNat, v163.toNat, 0]

def k0_off52 (i : grid0.Coords) (v39 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_45 : BitVec 32 := 0#32
  let v166 : BitVec 32 := Scalar.addi v9 c0_i32_45
  let v168 : Index := Scalar.indexCast v166
  let c4_i32_46 : BitVec 32 := 4#32
  let v167 : BitVec 32 := Scalar.muli c4_i32_46 v39
  let v169 : Index := Scalar.indexCast v167
  let c0_47 : Index := 0#32
  ![v168.toNat, v169.toNat, 0]

def k0_off53 (i : grid0.Coords) (v25 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_48 : BitVec 32 := 0#32
  let v173 : BitVec 32 := Scalar.addi v9 c0_i32_48
  let v175 : Index := Scalar.indexCast v173
  let c4_i32_49 : BitVec 32 := 4#32
  let v174 : BitVec 32 := Scalar.muli c4_i32_49 v25
  let v176 : Index := Scalar.indexCast v174
  let c0_50 : Index := 0#32
  ![v175.toNat, v176.toNat, 0]

def k0_off54 (i : grid0.Coords) (v41 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_51 : BitVec 32 := 0#32
  let v179 : BitVec 32 := Scalar.addi v9 c0_i32_51
  let v181 : Index := Scalar.indexCast v179
  let c4_i32_52 : BitVec 32 := 4#32
  let v180 : BitVec 32 := Scalar.muli c4_i32_52 v41
  let v182 : Index := Scalar.indexCast v180
  let c0_53 : Index := 0#32
  ![v181.toNat, v182.toNat, 0]

def k0_off55 (i : grid0.Coords) (v27 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_54 : BitVec 32 := 0#32
  let v186 : BitVec 32 := Scalar.addi v9 c0_i32_54
  let v188 : Index := Scalar.indexCast v186
  let c4_i32_55 : BitVec 32 := 4#32
  let v187 : BitVec 32 := Scalar.muli c4_i32_55 v27
  let v189 : Index := Scalar.indexCast v187
  let c0_56 : Index := 0#32
  ![v188.toNat, v189.toNat, 0]

def k0_off56 (i : grid0.Coords) (v43 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_57 : BitVec 32 := 0#32
  let v192 : BitVec 32 := Scalar.addi v9 c0_i32_57
  let v194 : Index := Scalar.indexCast v192
  let c4_i32_58 : BitVec 32 := 4#32
  let v193 : BitVec 32 := Scalar.muli c4_i32_58 v43
  let v195 : Index := Scalar.indexCast v193
  let c0_59 : Index := 0#32
  ![v194.toNat, v195.toNat, 0]

def k0_off57 (i : grid0.Coords) (v29 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_60 : BitVec 32 := 0#32
  let v199 : BitVec 32 := Scalar.addi v9 c0_i32_60
  let v201 : Index := Scalar.indexCast v199
  let c4_i32_61 : BitVec 32 := 4#32
  let v200 : BitVec 32 := Scalar.muli c4_i32_61 v29
  let v202 : Index := Scalar.indexCast v200
  let c0_62 : Index := 0#32
  ![v201.toNat, v202.toNat, 0]

def k0_off58 (i : grid0.Coords) (v45 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_63 : BitVec 32 := 0#32
  let v205 : BitVec 32 := Scalar.addi v9 c0_i32_63
  let v207 : Index := Scalar.indexCast v205
  let c4_i32_64 : BitVec 32 := 4#32
  let v206 : BitVec 32 := Scalar.muli c4_i32_64 v45
  let v208 : Index := Scalar.indexCast v206
  let c0_65 : Index := 0#32
  ![v207.toNat, v208.toNat, 0]

def k0_off59 (i : grid0.Coords) (v31 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_66 : BitVec 32 := 0#32
  let v212 : BitVec 32 := Scalar.addi v9 c0_i32_66
  let v214 : Index := Scalar.indexCast v212
  let c4_i32_67 : BitVec 32 := 4#32
  let v213 : BitVec 32 := Scalar.muli c4_i32_67 v31
  let v215 : Index := Scalar.indexCast v213
  let c0_68 : Index := 0#32
  ![v214.toNat, v215.toNat, 0]

def k0_off60 (i : grid0.Coords) (v47 : BitVec 32) (c0_i32_69 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v218 : BitVec 32 := Scalar.addi v9 c0_i32_69
  let v220 : Index := Scalar.indexCast v218
  let c4_i32_70 : BitVec 32 := 4#32
  let v219 : BitVec 32 := Scalar.muli c4_i32_70 v47
  let v221 : Index := Scalar.indexCast v219
  let c0_71 : Index := 0#32
  ![v220.toNat, v221.toNat, 0]

def k0_chk16 (i : grid0.Coords) (v47 : BitVec 32) : Prop :=
  (∀ (r : Fin 2), ∀ a, (k0_off60 i v47 (BitVec.ofNat 32 r.val)) a + S1x32x128.size a ≤ S4x46784x128.size a)
theorem k0_off60_inb : ∀ (i : grid0.Coords) (v47 : BitVec 32) (k0_hw16 : k0_chk16 i v47), ∀ (r : Fin 2), ∀ a, (k0_off60 i v47 (BitVec.ofNat 32 r.val)) a + S1x32x128.size a ≤ S4x46784x128.size a := fun i v47 k0_hw16 r => k0_hw16 r

def k0_off61 (k0_t1 : Fin k0_t1_loop.trips) (c0_i32_7 : BitVec 32) (c1_i32_73 : BitVec 32) : Fin 3 → Nat :=
  let c0_74 : Index := 0#32
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let v13 : BitVec 32 := Scalar.addi v12 c0_i32_7
  let c2_i32_72 : BitVec 32 := 2#32
  let v226 : BitVec 32 := Scalar.muli v13 c2_i32_72
  let v227 : BitVec 32 := Scalar.addi v226 c1_i32_73
  let v228 : Index := Scalar.indexCast v227
  let c0_75 : Index := 0#32
  ![0, v228.toNat, 0]
def k0_off61_at (r : Fin 2) : BitVec 32 × BitVec 32 :=
  if r.val < 1 then
    (0#32, 1#32)
  else
    (1#32, 0#32)
def k0_off62 (i : grid0.Coords) (v17 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_81 : BitVec 32 := 1#32
  let v252 : BitVec 32 := Scalar.addi v9 c1_i32_81
  let v254 : Index := Scalar.indexCast v252
  let c4_i32_82 : BitVec 32 := 4#32
  let v253 : BitVec 32 := Scalar.muli c4_i32_82 v17
  let v255 : Index := Scalar.indexCast v253
  let c0_83 : Index := 0#32
  ![v254.toNat, v255.toNat, 0]

def k0_chk1 (i : grid0.Coords) (v17 : BitVec 32) : Prop :=
  (∀ a, (k0_off45 i v17) a + S1x32x128.size a ≤ S4x46784x128.size a) ∧
  (∀ a, (k0_off62 i v17) a + S1x32x128.size a ≤ S4x46784x128.size a)
theorem k0_off45_inb : ∀ (i : grid0.Coords) (v17 : BitVec 32) (k0_hw1 : k0_chk1 i v17), ∀ a, (k0_off45 i v17) a + S1x32x128.size a ≤ S4x46784x128.size a := fun i v17 k0_hw1 => k0_hw1.1
theorem k0_off62_inb : ∀ (i : grid0.Coords) (v17 : BitVec 32) (k0_hw1 : k0_chk1 i v17), ∀ a, (k0_off62 i v17) a + S1x32x128.size a ≤ S4x46784x128.size a := fun i v17 k0_hw1 => k0_hw1.2

def k0_off63 (i : grid0.Coords) (v33 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_84 : BitVec 32 := 1#32
  let v258 : BitVec 32 := Scalar.addi v9 c1_i32_84
  let v260 : Index := Scalar.indexCast v258
  let c4_i32_85 : BitVec 32 := 4#32
  let v259 : BitVec 32 := Scalar.muli c4_i32_85 v33
  let v261 : Index := Scalar.indexCast v259
  let c0_86 : Index := 0#32
  ![v260.toNat, v261.toNat, 0]

def k0_chk2 (i : grid0.Coords) (v33 : BitVec 32) : Prop :=
  (∀ a, (k0_off46 i v33) a + S1x32x128.size a ≤ S4x46784x128.size a) ∧
  (∀ a, (k0_off63 i v33) a + S1x32x128.size a ≤ S4x46784x128.size a)
theorem k0_off46_inb : ∀ (i : grid0.Coords) (v33 : BitVec 32) (k0_hw2 : k0_chk2 i v33), ∀ a, (k0_off46 i v33) a + S1x32x128.size a ≤ S4x46784x128.size a := fun i v33 k0_hw2 => k0_hw2.1
theorem k0_off63_inb : ∀ (i : grid0.Coords) (v33 : BitVec 32) (k0_hw2 : k0_chk2 i v33), ∀ a, (k0_off63 i v33) a + S1x32x128.size a ≤ S4x46784x128.size a := fun i v33 k0_hw2 => k0_hw2.2

def k0_off64 (i : grid0.Coords) (v19 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_87 : BitVec 32 := 1#32
  let v265 : BitVec 32 := Scalar.addi v9 c1_i32_87
  let v267 : Index := Scalar.indexCast v265
  let c4_i32_88 : BitVec 32 := 4#32
  let v266 : BitVec 32 := Scalar.muli c4_i32_88 v19
  let v268 : Index := Scalar.indexCast v266
  let c0_89 : Index := 0#32
  ![v267.toNat, v268.toNat, 0]

def k0_chk3 (i : grid0.Coords) (v19 : BitVec 32) : Prop :=
  (∀ a, (k0_off47 i v19) a + S1x32x128.size a ≤ S4x46784x128.size a) ∧
  (∀ a, (k0_off64 i v19) a + S1x32x128.size a ≤ S4x46784x128.size a)
theorem k0_off47_inb : ∀ (i : grid0.Coords) (v19 : BitVec 32) (k0_hw3 : k0_chk3 i v19), ∀ a, (k0_off47 i v19) a + S1x32x128.size a ≤ S4x46784x128.size a := fun i v19 k0_hw3 => k0_hw3.1
theorem k0_off64_inb : ∀ (i : grid0.Coords) (v19 : BitVec 32) (k0_hw3 : k0_chk3 i v19), ∀ a, (k0_off64 i v19) a + S1x32x128.size a ≤ S4x46784x128.size a := fun i v19 k0_hw3 => k0_hw3.2

def k0_off65 (i : grid0.Coords) (v35 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_90 : BitVec 32 := 1#32
  let v271 : BitVec 32 := Scalar.addi v9 c1_i32_90
  let v273 : Index := Scalar.indexCast v271
  let c4_i32_91 : BitVec 32 := 4#32
  let v272 : BitVec 32 := Scalar.muli c4_i32_91 v35
  let v274 : Index := Scalar.indexCast v272
  let c0_92 : Index := 0#32
  ![v273.toNat, v274.toNat, 0]

def k0_chk4 (i : grid0.Coords) (v35 : BitVec 32) : Prop :=
  (∀ a, (k0_off48 i v35) a + S1x32x128.size a ≤ S4x46784x128.size a) ∧
  (∀ a, (k0_off65 i v35) a + S1x32x128.size a ≤ S4x46784x128.size a)
theorem k0_off48_inb : ∀ (i : grid0.Coords) (v35 : BitVec 32) (k0_hw4 : k0_chk4 i v35), ∀ a, (k0_off48 i v35) a + S1x32x128.size a ≤ S4x46784x128.size a := fun i v35 k0_hw4 => k0_hw4.1
theorem k0_off65_inb : ∀ (i : grid0.Coords) (v35 : BitVec 32) (k0_hw4 : k0_chk4 i v35), ∀ a, (k0_off65 i v35) a + S1x32x128.size a ≤ S4x46784x128.size a := fun i v35 k0_hw4 => k0_hw4.2

def k0_off66 (i : grid0.Coords) (v21 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_93 : BitVec 32 := 1#32
  let v278 : BitVec 32 := Scalar.addi v9 c1_i32_93
  let v280 : Index := Scalar.indexCast v278
  let c4_i32_94 : BitVec 32 := 4#32
  let v279 : BitVec 32 := Scalar.muli c4_i32_94 v21
  let v281 : Index := Scalar.indexCast v279
  let c0_95 : Index := 0#32
  ![v280.toNat, v281.toNat, 0]

def k0_chk5 (i : grid0.Coords) (v21 : BitVec 32) : Prop :=
  (∀ a, (k0_off49 i v21) a + S1x32x128.size a ≤ S4x46784x128.size a) ∧
  (∀ a, (k0_off66 i v21) a + S1x32x128.size a ≤ S4x46784x128.size a)
theorem k0_off49_inb : ∀ (i : grid0.Coords) (v21 : BitVec 32) (k0_hw5 : k0_chk5 i v21), ∀ a, (k0_off49 i v21) a + S1x32x128.size a ≤ S4x46784x128.size a := fun i v21 k0_hw5 => k0_hw5.1
theorem k0_off66_inb : ∀ (i : grid0.Coords) (v21 : BitVec 32) (k0_hw5 : k0_chk5 i v21), ∀ a, (k0_off66 i v21) a + S1x32x128.size a ≤ S4x46784x128.size a := fun i v21 k0_hw5 => k0_hw5.2

def k0_off67 (i : grid0.Coords) (v37 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_96 : BitVec 32 := 1#32
  let v284 : BitVec 32 := Scalar.addi v9 c1_i32_96
  let v286 : Index := Scalar.indexCast v284
  let c4_i32_97 : BitVec 32 := 4#32
  let v285 : BitVec 32 := Scalar.muli c4_i32_97 v37
  let v287 : Index := Scalar.indexCast v285
  let c0_98 : Index := 0#32
  ![v286.toNat, v287.toNat, 0]

def k0_chk6 (i : grid0.Coords) (v37 : BitVec 32) : Prop :=
  (∀ a, (k0_off50 i v37) a + S1x32x128.size a ≤ S4x46784x128.size a) ∧
  (∀ a, (k0_off67 i v37) a + S1x32x128.size a ≤ S4x46784x128.size a)
theorem k0_off50_inb : ∀ (i : grid0.Coords) (v37 : BitVec 32) (k0_hw6 : k0_chk6 i v37), ∀ a, (k0_off50 i v37) a + S1x32x128.size a ≤ S4x46784x128.size a := fun i v37 k0_hw6 => k0_hw6.1
theorem k0_off67_inb : ∀ (i : grid0.Coords) (v37 : BitVec 32) (k0_hw6 : k0_chk6 i v37), ∀ a, (k0_off67 i v37) a + S1x32x128.size a ≤ S4x46784x128.size a := fun i v37 k0_hw6 => k0_hw6.2

def k0_off68 (i : grid0.Coords) (v23 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_99 : BitVec 32 := 1#32
  let v291 : BitVec 32 := Scalar.addi v9 c1_i32_99
  let v293 : Index := Scalar.indexCast v291
  let c4_i32_100 : BitVec 32 := 4#32
  let v292 : BitVec 32 := Scalar.muli c4_i32_100 v23
  let v294 : Index := Scalar.indexCast v292
  let c0_101 : Index := 0#32
  ![v293.toNat, v294.toNat, 0]

def k0_chk7 (i : grid0.Coords) (v23 : BitVec 32) : Prop :=
  (∀ a, (k0_off51 i v23) a + S1x32x128.size a ≤ S4x46784x128.size a) ∧
  (∀ a, (k0_off68 i v23) a + S1x32x128.size a ≤ S4x46784x128.size a)
theorem k0_off51_inb : ∀ (i : grid0.Coords) (v23 : BitVec 32) (k0_hw7 : k0_chk7 i v23), ∀ a, (k0_off51 i v23) a + S1x32x128.size a ≤ S4x46784x128.size a := fun i v23 k0_hw7 => k0_hw7.1
theorem k0_off68_inb : ∀ (i : grid0.Coords) (v23 : BitVec 32) (k0_hw7 : k0_chk7 i v23), ∀ a, (k0_off68 i v23) a + S1x32x128.size a ≤ S4x46784x128.size a := fun i v23 k0_hw7 => k0_hw7.2

def k0_off69 (i : grid0.Coords) (v39 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_102 : BitVec 32 := 1#32
  let v297 : BitVec 32 := Scalar.addi v9 c1_i32_102
  let v299 : Index := Scalar.indexCast v297
  let c4_i32_103 : BitVec 32 := 4#32
  let v298 : BitVec 32 := Scalar.muli c4_i32_103 v39
  let v300 : Index := Scalar.indexCast v298
  let c0_104 : Index := 0#32
  ![v299.toNat, v300.toNat, 0]

def k0_chk8 (i : grid0.Coords) (v39 : BitVec 32) : Prop :=
  (∀ a, (k0_off52 i v39) a + S1x32x128.size a ≤ S4x46784x128.size a) ∧
  (∀ a, (k0_off69 i v39) a + S1x32x128.size a ≤ S4x46784x128.size a)
theorem k0_off52_inb : ∀ (i : grid0.Coords) (v39 : BitVec 32) (k0_hw8 : k0_chk8 i v39), ∀ a, (k0_off52 i v39) a + S1x32x128.size a ≤ S4x46784x128.size a := fun i v39 k0_hw8 => k0_hw8.1
theorem k0_off69_inb : ∀ (i : grid0.Coords) (v39 : BitVec 32) (k0_hw8 : k0_chk8 i v39), ∀ a, (k0_off69 i v39) a + S1x32x128.size a ≤ S4x46784x128.size a := fun i v39 k0_hw8 => k0_hw8.2

def k0_off70 (i : grid0.Coords) (v25 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_105 : BitVec 32 := 1#32
  let v304 : BitVec 32 := Scalar.addi v9 c1_i32_105
  let v306 : Index := Scalar.indexCast v304
  let c4_i32_106 : BitVec 32 := 4#32
  let v305 : BitVec 32 := Scalar.muli c4_i32_106 v25
  let v307 : Index := Scalar.indexCast v305
  let c0_107 : Index := 0#32
  ![v306.toNat, v307.toNat, 0]

def k0_chk9 (i : grid0.Coords) (v25 : BitVec 32) : Prop :=
  (∀ a, (k0_off53 i v25) a + S1x32x128.size a ≤ S4x46784x128.size a) ∧
  (∀ a, (k0_off70 i v25) a + S1x32x128.size a ≤ S4x46784x128.size a)
theorem k0_off53_inb : ∀ (i : grid0.Coords) (v25 : BitVec 32) (k0_hw9 : k0_chk9 i v25), ∀ a, (k0_off53 i v25) a + S1x32x128.size a ≤ S4x46784x128.size a := fun i v25 k0_hw9 => k0_hw9.1
theorem k0_off70_inb : ∀ (i : grid0.Coords) (v25 : BitVec 32) (k0_hw9 : k0_chk9 i v25), ∀ a, (k0_off70 i v25) a + S1x32x128.size a ≤ S4x46784x128.size a := fun i v25 k0_hw9 => k0_hw9.2

def k0_off71 (i : grid0.Coords) (v41 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_108 : BitVec 32 := 1#32
  let v310 : BitVec 32 := Scalar.addi v9 c1_i32_108
  let v312 : Index := Scalar.indexCast v310
  let c4_i32_109 : BitVec 32 := 4#32
  let v311 : BitVec 32 := Scalar.muli c4_i32_109 v41
  let v313 : Index := Scalar.indexCast v311
  let c0_110 : Index := 0#32
  ![v312.toNat, v313.toNat, 0]

def k0_chk10 (i : grid0.Coords) (v41 : BitVec 32) : Prop :=
  (∀ a, (k0_off54 i v41) a + S1x32x128.size a ≤ S4x46784x128.size a) ∧
  (∀ a, (k0_off71 i v41) a + S1x32x128.size a ≤ S4x46784x128.size a)
theorem k0_off54_inb : ∀ (i : grid0.Coords) (v41 : BitVec 32) (k0_hw10 : k0_chk10 i v41), ∀ a, (k0_off54 i v41) a + S1x32x128.size a ≤ S4x46784x128.size a := fun i v41 k0_hw10 => k0_hw10.1
theorem k0_off71_inb : ∀ (i : grid0.Coords) (v41 : BitVec 32) (k0_hw10 : k0_chk10 i v41), ∀ a, (k0_off71 i v41) a + S1x32x128.size a ≤ S4x46784x128.size a := fun i v41 k0_hw10 => k0_hw10.2

def k0_off72 (i : grid0.Coords) (v27 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_111 : BitVec 32 := 1#32
  let v317 : BitVec 32 := Scalar.addi v9 c1_i32_111
  let v319 : Index := Scalar.indexCast v317
  let c4_i32_112 : BitVec 32 := 4#32
  let v318 : BitVec 32 := Scalar.muli c4_i32_112 v27
  let v320 : Index := Scalar.indexCast v318
  let c0_113 : Index := 0#32
  ![v319.toNat, v320.toNat, 0]

def k0_chk11 (i : grid0.Coords) (v27 : BitVec 32) : Prop :=
  (∀ a, (k0_off55 i v27) a + S1x32x128.size a ≤ S4x46784x128.size a) ∧
  (∀ a, (k0_off72 i v27) a + S1x32x128.size a ≤ S4x46784x128.size a)
theorem k0_off55_inb : ∀ (i : grid0.Coords) (v27 : BitVec 32) (k0_hw11 : k0_chk11 i v27), ∀ a, (k0_off55 i v27) a + S1x32x128.size a ≤ S4x46784x128.size a := fun i v27 k0_hw11 => k0_hw11.1
theorem k0_off72_inb : ∀ (i : grid0.Coords) (v27 : BitVec 32) (k0_hw11 : k0_chk11 i v27), ∀ a, (k0_off72 i v27) a + S1x32x128.size a ≤ S4x46784x128.size a := fun i v27 k0_hw11 => k0_hw11.2

def k0_off73 (i : grid0.Coords) (v43 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_114 : BitVec 32 := 1#32
  let v323 : BitVec 32 := Scalar.addi v9 c1_i32_114
  let v325 : Index := Scalar.indexCast v323
  let c4_i32_115 : BitVec 32 := 4#32
  let v324 : BitVec 32 := Scalar.muli c4_i32_115 v43
  let v326 : Index := Scalar.indexCast v324
  let c0_116 : Index := 0#32
  ![v325.toNat, v326.toNat, 0]

def k0_chk12 (i : grid0.Coords) (v43 : BitVec 32) : Prop :=
  (∀ a, (k0_off56 i v43) a + S1x32x128.size a ≤ S4x46784x128.size a) ∧
  (∀ a, (k0_off73 i v43) a + S1x32x128.size a ≤ S4x46784x128.size a)
theorem k0_off56_inb : ∀ (i : grid0.Coords) (v43 : BitVec 32) (k0_hw12 : k0_chk12 i v43), ∀ a, (k0_off56 i v43) a + S1x32x128.size a ≤ S4x46784x128.size a := fun i v43 k0_hw12 => k0_hw12.1
theorem k0_off73_inb : ∀ (i : grid0.Coords) (v43 : BitVec 32) (k0_hw12 : k0_chk12 i v43), ∀ a, (k0_off73 i v43) a + S1x32x128.size a ≤ S4x46784x128.size a := fun i v43 k0_hw12 => k0_hw12.2

def k0_off74 (i : grid0.Coords) (v29 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_117 : BitVec 32 := 1#32
  let v330 : BitVec 32 := Scalar.addi v9 c1_i32_117
  let v332 : Index := Scalar.indexCast v330
  let c4_i32_118 : BitVec 32 := 4#32
  let v331 : BitVec 32 := Scalar.muli c4_i32_118 v29
  let v333 : Index := Scalar.indexCast v331
  let c0_119 : Index := 0#32
  ![v332.toNat, v333.toNat, 0]

def k0_chk13 (i : grid0.Coords) (v29 : BitVec 32) : Prop :=
  (∀ a, (k0_off57 i v29) a + S1x32x128.size a ≤ S4x46784x128.size a) ∧
  (∀ a, (k0_off74 i v29) a + S1x32x128.size a ≤ S4x46784x128.size a)
theorem k0_off57_inb : ∀ (i : grid0.Coords) (v29 : BitVec 32) (k0_hw13 : k0_chk13 i v29), ∀ a, (k0_off57 i v29) a + S1x32x128.size a ≤ S4x46784x128.size a := fun i v29 k0_hw13 => k0_hw13.1
theorem k0_off74_inb : ∀ (i : grid0.Coords) (v29 : BitVec 32) (k0_hw13 : k0_chk13 i v29), ∀ a, (k0_off74 i v29) a + S1x32x128.size a ≤ S4x46784x128.size a := fun i v29 k0_hw13 => k0_hw13.2

def k0_off75 (i : grid0.Coords) (v45 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_120 : BitVec 32 := 1#32
  let v336 : BitVec 32 := Scalar.addi v9 c1_i32_120
  let v338 : Index := Scalar.indexCast v336
  let c4_i32_121 : BitVec 32 := 4#32
  let v337 : BitVec 32 := Scalar.muli c4_i32_121 v45
  let v339 : Index := Scalar.indexCast v337
  let c0_122 : Index := 0#32
  ![v338.toNat, v339.toNat, 0]

def k0_chk14 (i : grid0.Coords) (v45 : BitVec 32) : Prop :=
  (∀ a, (k0_off58 i v45) a + S1x32x128.size a ≤ S4x46784x128.size a) ∧
  (∀ a, (k0_off75 i v45) a + S1x32x128.size a ≤ S4x46784x128.size a)
theorem k0_off58_inb : ∀ (i : grid0.Coords) (v45 : BitVec 32) (k0_hw14 : k0_chk14 i v45), ∀ a, (k0_off58 i v45) a + S1x32x128.size a ≤ S4x46784x128.size a := fun i v45 k0_hw14 => k0_hw14.1
theorem k0_off75_inb : ∀ (i : grid0.Coords) (v45 : BitVec 32) (k0_hw14 : k0_chk14 i v45), ∀ a, (k0_off75 i v45) a + S1x32x128.size a ≤ S4x46784x128.size a := fun i v45 k0_hw14 => k0_hw14.2

def k0_off76 (i : grid0.Coords) (v31 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_123 : BitVec 32 := 1#32
  let v343 : BitVec 32 := Scalar.addi v9 c1_i32_123
  let v345 : Index := Scalar.indexCast v343
  let c4_i32_124 : BitVec 32 := 4#32
  let v344 : BitVec 32 := Scalar.muli c4_i32_124 v31
  let v346 : Index := Scalar.indexCast v344
  let c0_125 : Index := 0#32
  ![v345.toNat, v346.toNat, 0]

def k0_chk15 (i : grid0.Coords) (v31 : BitVec 32) : Prop :=
  (∀ a, (k0_off59 i v31) a + S1x32x128.size a ≤ S4x46784x128.size a) ∧
  (∀ a, (k0_off76 i v31) a + S1x32x128.size a ≤ S4x46784x128.size a)
theorem k0_off59_inb : ∀ (i : grid0.Coords) (v31 : BitVec 32) (k0_hw15 : k0_chk15 i v31), ∀ a, (k0_off59 i v31) a + S1x32x128.size a ≤ S4x46784x128.size a := fun i v31 k0_hw15 => k0_hw15.1
theorem k0_off76_inb : ∀ (i : grid0.Coords) (v31 : BitVec 32) (k0_hw15 : k0_chk15 i v31), ∀ a, (k0_off76 i v31) a + S1x32x128.size a ≤ S4x46784x128.size a := fun i v31 k0_hw15 => k0_hw15.2

def k0_mult8 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let c16_i32_130 : BitVec 32 := 16#32
  let v360 : BitVec 32 := Scalar.muli v13 c16_i32_130
  v360
def k0_off77 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let c16_i32_130 : BitVec 32 := 16#32
  let v360 : BitVec 32 := Scalar.muli v13 c16_i32_130
  let v361 : BitVec 32 := v360
  let v367 : Index := Scalar.indexCast v361
  let c0_131 : Index := 0#32
  ![v367.toNat, 0]
def k0_off78 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32 : BitVec 32 := 8#32
  let v12 : BitVec 32 := Scalar.muli arg11 c8_i32
  let c0_i32_7 : BitVec 32 := 0#32
  let v13 : BitVec 32 := Scalar.addi v12 c0_i32_7
  let c16_i32_130 : BitVec 32 := 16#32
  let v360 : BitVec 32 := Scalar.muli v13 c16_i32_130
  let v361 : BitVec 32 := v360
  let v379 : Index := Scalar.indexCast v361
  let c128 : Index := 128#32
  ![v379.toNat, 128]
def k0_off79 (i : grid0.Coords) (k0_t1 : Fin k0_t1_loop.trips) : Fin 2 → Nat :=
  let c0_137 : Index := 0#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v390 : Index := Scalar.indexCast v389
  ![0, v390.toNat]
def k0_off80 (i : grid0.Coords) (k0_t1 : Fin k0_t1_loop.trips) : Fin 2 → Nat :=
  let c1_138 : Index := 1#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v392 : Index := Scalar.indexCast v389
  ![1, v392.toNat]
def k0_off81 (i : grid0.Coords) (k0_t1 : Fin k0_t1_loop.trips) : Fin 2 → Nat :=
  let c2_139 : Index := 2#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v394 : Index := Scalar.indexCast v389
  ![2, v394.toNat]
def k0_off82 (i : grid0.Coords) (k0_t1 : Fin k0_t1_loop.trips) : Fin 2 → Nat :=
  let c3_140 : Index := 3#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v396 : Index := Scalar.indexCast v389
  ![3, v396.toNat]
def k0_off83 (i : grid0.Coords) (k0_t1 : Fin k0_t1_loop.trips) : Fin 2 → Nat :=
  let c4_141 : Index := 4#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v398 : Index := Scalar.indexCast v389
  ![4, v398.toNat]
def k0_off84 (i : grid0.Coords) (k0_t1 : Fin k0_t1_loop.trips) : Fin 2 → Nat :=
  let c5_142 : Index := 5#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v400 : Index := Scalar.indexCast v389
  ![5, v400.toNat]
def k0_off85 (i : grid0.Coords) (k0_t1 : Fin k0_t1_loop.trips) : Fin 2 → Nat :=
  let c6_143 : Index := 6#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v402 : Index := Scalar.indexCast v389
  ![6, v402.toNat]
def k0_off86 (i : grid0.Coords) (k0_t1 : Fin k0_t1_loop.trips) : Fin 2 → Nat :=
  let c7_144 : Index := 7#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v404 : Index := Scalar.indexCast v389
  ![7, v404.toNat]
def k0_off87 (i : grid0.Coords) (k0_t1 : Fin k0_t1_loop.trips) : Fin 2 → Nat :=
  let c8_145 : Index := 8#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v406 : Index := Scalar.indexCast v389
  ![8, v406.toNat]
def k0_off88 (i : grid0.Coords) (k0_t1 : Fin k0_t1_loop.trips) : Fin 2 → Nat :=
  let c9_146 : Index := 9#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v408 : Index := Scalar.indexCast v389
  ![9, v408.toNat]
def k0_off89 (i : grid0.Coords) (k0_t1 : Fin k0_t1_loop.trips) : Fin 2 → Nat :=
  let c10_147 : Index := 10#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v410 : Index := Scalar.indexCast v389
  ![10, v410.toNat]
def k0_off90 (i : grid0.Coords) (k0_t1 : Fin k0_t1_loop.trips) : Fin 2 → Nat :=
  let c11_148 : Index := 11#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v412 : Index := Scalar.indexCast v389
  ![11, v412.toNat]
def k0_off91 (i : grid0.Coords) (k0_t1 : Fin k0_t1_loop.trips) : Fin 2 → Nat :=
  let c12_149 : Index := 12#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v414 : Index := Scalar.indexCast v389
  ![12, v414.toNat]
def k0_off92 (i : grid0.Coords) (k0_t1 : Fin k0_t1_loop.trips) : Fin 2 → Nat :=
  let c13_150 : Index := 13#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v416 : Index := Scalar.indexCast v389
  ![13, v416.toNat]
def k0_off93 (i : grid0.Coords) (k0_t1 : Fin k0_t1_loop.trips) : Fin 2 → Nat :=
  let c14_151 : Index := 14#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v418 : Index := Scalar.indexCast v389
  ![14, v418.toNat]
def k0_off94 (i : grid0.Coords) (k0_t1 : Fin k0_t1_loop.trips) : Fin 2 → Nat :=
  let c15_152 : Index := 15#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v420 : Index := Scalar.indexCast v389
  ![15, v420.toNat]
def k0_off95 (i : grid0.Coords) (k0_t1 : Fin k0_t1_loop.trips) : Fin 2 → Nat :=
  let c16_153 : Index := 16#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v422 : Index := Scalar.indexCast v389
  ![16, v422.toNat]
def k0_off96 (i : grid0.Coords) (k0_t1 : Fin k0_t1_loop.trips) : Fin 2 → Nat :=
  let c17_154 : Index := 17#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v424 : Index := Scalar.indexCast v389
  ![17, v424.toNat]
def k0_off97 (i : grid0.Coords) (k0_t1 : Fin k0_t1_loop.trips) : Fin 2 → Nat :=
  let c18_155 : Index := 18#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v426 : Index := Scalar.indexCast v389
  ![18, v426.toNat]
def k0_off98 (i : grid0.Coords) (k0_t1 : Fin k0_t1_loop.trips) : Fin 2 → Nat :=
  let c19_156 : Index := 19#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v428 : Index := Scalar.indexCast v389
  ![19, v428.toNat]
def k0_off99 (i : grid0.Coords) (k0_t1 : Fin k0_t1_loop.trips) : Fin 2 → Nat :=
  let c20_157 : Index := 20#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v430 : Index := Scalar.indexCast v389
  ![20, v430.toNat]
def k0_off100 (i : grid0.Coords) (k0_t1 : Fin k0_t1_loop.trips) : Fin 2 → Nat :=
  let c21_158 : Index := 21#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v432 : Index := Scalar.indexCast v389
  ![21, v432.toNat]
def k0_off101 (i : grid0.Coords) (k0_t1 : Fin k0_t1_loop.trips) : Fin 2 → Nat :=
  let c22_159 : Index := 22#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v434 : Index := Scalar.indexCast v389
  ![22, v434.toNat]
def k0_off102 (i : grid0.Coords) (k0_t1 : Fin k0_t1_loop.trips) : Fin 2 → Nat :=
  let c23_160 : Index := 23#32
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let v436 : Index := Scalar.indexCast v389
  ![23, v436.toNat]
def k0_mult9 (i : grid0.Coords) (k0_t1 : Fin k0_t1_loop.trips) : BitVec 32 :=
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let c8_i32_169 : BitVec 32 := 8#32
  let v462 : BitVec 32 := Scalar.muli v389 c8_i32_169
  v462
def k0_off103 (i : grid0.Coords) (k0_t1 : Fin k0_t1_loop.trips) : Fin 2 → Nat :=
  let arg1 : BitVec 32 := BitVec.ofNat 32 (i 1).val
  let c128_i32_136 : BitVec 32 := 128#32
  let v388 : BitVec 32 := Scalar.muli arg1 c128_i32_136
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let v389 : BitVec 32 := Scalar.addi v388 v387
  let c8_i32_169 : BitVec 32 := 8#32
  let v462 : BitVec 32 := Scalar.muli v389 c8_i32_169
  let v463 : BitVec 32 := v462
  let v464 : Index := Scalar.indexCast v463
  let c0_170 : Index := 0#32
  ![v464.toNat, 0]
def k0_off104 (i : grid0.Coords) (v391 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_181 : BitVec 32 := 0#32
  let v495 : BitVec 32 := Scalar.addi v9 c0_i32_181
  let v497 : Index := Scalar.indexCast v495
  let c4_i32_182 : BitVec 32 := 4#32
  let v496 : BitVec 32 := Scalar.muli c4_i32_182 v391
  let v498 : Index := Scalar.indexCast v496
  let c0_183 : Index := 0#32
  ![v497.toNat, v498.toNat, 0]

def k0_off105 (i : grid0.Coords) (v407 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_184 : BitVec 32 := 0#32
  let v501 : BitVec 32 := Scalar.addi v9 c0_i32_184
  let v503 : Index := Scalar.indexCast v501
  let c4_i32_185 : BitVec 32 := 4#32
  let v502 : BitVec 32 := Scalar.muli c4_i32_185 v407
  let v504 : Index := Scalar.indexCast v502
  let c0_186 : Index := 0#32
  ![v503.toNat, v504.toNat, 0]

def k0_off106 (i : grid0.Coords) (v393 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_187 : BitVec 32 := 0#32
  let v508 : BitVec 32 := Scalar.addi v9 c0_i32_187
  let v510 : Index := Scalar.indexCast v508
  let c4_i32_188 : BitVec 32 := 4#32
  let v509 : BitVec 32 := Scalar.muli c4_i32_188 v393
  let v511 : Index := Scalar.indexCast v509
  let c0_189 : Index := 0#32
  ![v510.toNat, v511.toNat, 0]

def k0_off107 (i : grid0.Coords) (v409 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_190 : BitVec 32 := 0#32
  let v514 : BitVec 32 := Scalar.addi v9 c0_i32_190
  let v516 : Index := Scalar.indexCast v514
  let c4_i32_191 : BitVec 32 := 4#32
  let v515 : BitVec 32 := Scalar.muli c4_i32_191 v409
  let v517 : Index := Scalar.indexCast v515
  let c0_192 : Index := 0#32
  ![v516.toNat, v517.toNat, 0]

def k0_off108 (i : grid0.Coords) (v395 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_193 : BitVec 32 := 0#32
  let v521 : BitVec 32 := Scalar.addi v9 c0_i32_193
  let v523 : Index := Scalar.indexCast v521
  let c4_i32_194 : BitVec 32 := 4#32
  let v522 : BitVec 32 := Scalar.muli c4_i32_194 v395
  let v524 : Index := Scalar.indexCast v522
  let c0_195 : Index := 0#32
  ![v523.toNat, v524.toNat, 0]

def k0_off109 (i : grid0.Coords) (v411 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_196 : BitVec 32 := 0#32
  let v527 : BitVec 32 := Scalar.addi v9 c0_i32_196
  let v529 : Index := Scalar.indexCast v527
  let c4_i32_197 : BitVec 32 := 4#32
  let v528 : BitVec 32 := Scalar.muli c4_i32_197 v411
  let v530 : Index := Scalar.indexCast v528
  let c0_198 : Index := 0#32
  ![v529.toNat, v530.toNat, 0]

def k0_off110 (i : grid0.Coords) (v397 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_199 : BitVec 32 := 0#32
  let v534 : BitVec 32 := Scalar.addi v9 c0_i32_199
  let v536 : Index := Scalar.indexCast v534
  let c4_i32_200 : BitVec 32 := 4#32
  let v535 : BitVec 32 := Scalar.muli c4_i32_200 v397
  let v537 : Index := Scalar.indexCast v535
  let c0_201 : Index := 0#32
  ![v536.toNat, v537.toNat, 0]

def k0_off111 (i : grid0.Coords) (v413 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_202 : BitVec 32 := 0#32
  let v540 : BitVec 32 := Scalar.addi v9 c0_i32_202
  let v542 : Index := Scalar.indexCast v540
  let c4_i32_203 : BitVec 32 := 4#32
  let v541 : BitVec 32 := Scalar.muli c4_i32_203 v413
  let v543 : Index := Scalar.indexCast v541
  let c0_204 : Index := 0#32
  ![v542.toNat, v543.toNat, 0]

def k0_off112 (i : grid0.Coords) (v399 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_205 : BitVec 32 := 0#32
  let v547 : BitVec 32 := Scalar.addi v9 c0_i32_205
  let v549 : Index := Scalar.indexCast v547
  let c4_i32_206 : BitVec 32 := 4#32
  let v548 : BitVec 32 := Scalar.muli c4_i32_206 v399
  let v550 : Index := Scalar.indexCast v548
  let c0_207 : Index := 0#32
  ![v549.toNat, v550.toNat, 0]

def k0_off113 (i : grid0.Coords) (v415 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_208 : BitVec 32 := 0#32
  let v553 : BitVec 32 := Scalar.addi v9 c0_i32_208
  let v555 : Index := Scalar.indexCast v553
  let c4_i32_209 : BitVec 32 := 4#32
  let v554 : BitVec 32 := Scalar.muli c4_i32_209 v415
  let v556 : Index := Scalar.indexCast v554
  let c0_210 : Index := 0#32
  ![v555.toNat, v556.toNat, 0]

def k0_off114 (i : grid0.Coords) (v401 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_211 : BitVec 32 := 0#32
  let v560 : BitVec 32 := Scalar.addi v9 c0_i32_211
  let v562 : Index := Scalar.indexCast v560
  let c4_i32_212 : BitVec 32 := 4#32
  let v561 : BitVec 32 := Scalar.muli c4_i32_212 v401
  let v563 : Index := Scalar.indexCast v561
  let c0_213 : Index := 0#32
  ![v562.toNat, v563.toNat, 0]

def k0_off115 (i : grid0.Coords) (v417 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_214 : BitVec 32 := 0#32
  let v566 : BitVec 32 := Scalar.addi v9 c0_i32_214
  let v568 : Index := Scalar.indexCast v566
  let c4_i32_215 : BitVec 32 := 4#32
  let v567 : BitVec 32 := Scalar.muli c4_i32_215 v417
  let v569 : Index := Scalar.indexCast v567
  let c0_216 : Index := 0#32
  ![v568.toNat, v569.toNat, 0]

def k0_off116 (i : grid0.Coords) (v403 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_217 : BitVec 32 := 0#32
  let v573 : BitVec 32 := Scalar.addi v9 c0_i32_217
  let v575 : Index := Scalar.indexCast v573
  let c4_i32_218 : BitVec 32 := 4#32
  let v574 : BitVec 32 := Scalar.muli c4_i32_218 v403
  let v576 : Index := Scalar.indexCast v574
  let c0_219 : Index := 0#32
  ![v575.toNat, v576.toNat, 0]

def k0_off117 (i : grid0.Coords) (v419 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_220 : BitVec 32 := 0#32
  let v579 : BitVec 32 := Scalar.addi v9 c0_i32_220
  let v581 : Index := Scalar.indexCast v579
  let c4_i32_221 : BitVec 32 := 4#32
  let v580 : BitVec 32 := Scalar.muli c4_i32_221 v419
  let v582 : Index := Scalar.indexCast v580
  let c0_222 : Index := 0#32
  ![v581.toNat, v582.toNat, 0]

def k0_off118 (i : grid0.Coords) (v405 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_223 : BitVec 32 := 0#32
  let v586 : BitVec 32 := Scalar.addi v9 c0_i32_223
  let v588 : Index := Scalar.indexCast v586
  let c4_i32_224 : BitVec 32 := 4#32
  let v587 : BitVec 32 := Scalar.muli c4_i32_224 v405
  let v589 : Index := Scalar.indexCast v587
  let c0_225 : Index := 0#32
  ![v588.toNat, v589.toNat, 0]

def k0_off119 (i : grid0.Coords) (v421 : BitVec 32) (c0_i32_226 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v592 : BitVec 32 := Scalar.addi v9 c0_i32_226
  let v594 : Index := Scalar.indexCast v592
  let c4_i32_227 : BitVec 32 := 4#32
  let v593 : BitVec 32 := Scalar.muli c4_i32_227 v421
  let v595 : Index := Scalar.indexCast v593
  let c0_228 : Index := 0#32
  ![v594.toNat, v595.toNat, 0]

def k0_chk32 (i : grid0.Coords) (v421 : BitVec 32) : Prop :=
  (∀ (r : Fin 2), ∀ a, (k0_off119 i v421 (BitVec.ofNat 32 r.val)) a + S1x32x128.size a ≤ S4x46784x128.size a)
theorem k0_off119_inb : ∀ (i : grid0.Coords) (v421 : BitVec 32) (k0_hw32 : k0_chk32 i v421), ∀ (r : Fin 2), ∀ a, (k0_off119 i v421 (BitVec.ofNat 32 r.val)) a + S1x32x128.size a ≤ S4x46784x128.size a := fun i v421 k0_hw32 r => k0_hw32 r

def k0_off120 (k0_t1 : Fin k0_t1_loop.trips) (c1_i32_135 : BitVec 32) (c1_i32_230 : BitVec 32) : Fin 3 → Nat :=
  let c0_231 : Index := 0#32
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let v387 : BitVec 32 := Scalar.addi v386 c1_i32_135
  let c2_i32_229 : BitVec 32 := 2#32
  let v600 : BitVec 32 := Scalar.muli v387 c2_i32_229
  let v601 : BitVec 32 := Scalar.addi v600 c1_i32_230
  let v602 : Index := Scalar.indexCast v601
  let c0_232 : Index := 0#32
  ![0, v602.toNat, 0]
def k0_off120_at (r : Fin 2) : BitVec 32 × BitVec 32 :=
  if r.val < 1 then
    (1#32, 1#32)
  else
    (2#32, 0#32)
def k0_off121 (i : grid0.Coords) (v391 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_238 : BitVec 32 := 1#32
  let v626 : BitVec 32 := Scalar.addi v9 c1_i32_238
  let v628 : Index := Scalar.indexCast v626
  let c4_i32_239 : BitVec 32 := 4#32
  let v627 : BitVec 32 := Scalar.muli c4_i32_239 v391
  let v629 : Index := Scalar.indexCast v627
  let c0_240 : Index := 0#32
  ![v628.toNat, v629.toNat, 0]

def k0_chk17 (i : grid0.Coords) (v391 : BitVec 32) : Prop :=
  (∀ a, (k0_off104 i v391) a + S1x32x128.size a ≤ S4x46784x128.size a) ∧
  (∀ a, (k0_off121 i v391) a + S1x32x128.size a ≤ S4x46784x128.size a)
theorem k0_off104_inb : ∀ (i : grid0.Coords) (v391 : BitVec 32) (k0_hw17 : k0_chk17 i v391), ∀ a, (k0_off104 i v391) a + S1x32x128.size a ≤ S4x46784x128.size a := fun i v391 k0_hw17 => k0_hw17.1
theorem k0_off121_inb : ∀ (i : grid0.Coords) (v391 : BitVec 32) (k0_hw17 : k0_chk17 i v391), ∀ a, (k0_off121 i v391) a + S1x32x128.size a ≤ S4x46784x128.size a := fun i v391 k0_hw17 => k0_hw17.2

def k0_off122 (i : grid0.Coords) (v407 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_241 : BitVec 32 := 1#32
  let v632 : BitVec 32 := Scalar.addi v9 c1_i32_241
  let v634 : Index := Scalar.indexCast v632
  let c4_i32_242 : BitVec 32 := 4#32
  let v633 : BitVec 32 := Scalar.muli c4_i32_242 v407
  let v635 : Index := Scalar.indexCast v633
  let c0_243 : Index := 0#32
  ![v634.toNat, v635.toNat, 0]

def k0_chk18 (i : grid0.Coords) (v407 : BitVec 32) : Prop :=
  (∀ a, (k0_off105 i v407) a + S1x32x128.size a ≤ S4x46784x128.size a) ∧
  (∀ a, (k0_off122 i v407) a + S1x32x128.size a ≤ S4x46784x128.size a)
theorem k0_off105_inb : ∀ (i : grid0.Coords) (v407 : BitVec 32) (k0_hw18 : k0_chk18 i v407), ∀ a, (k0_off105 i v407) a + S1x32x128.size a ≤ S4x46784x128.size a := fun i v407 k0_hw18 => k0_hw18.1
theorem k0_off122_inb : ∀ (i : grid0.Coords) (v407 : BitVec 32) (k0_hw18 : k0_chk18 i v407), ∀ a, (k0_off122 i v407) a + S1x32x128.size a ≤ S4x46784x128.size a := fun i v407 k0_hw18 => k0_hw18.2

def k0_off123 (i : grid0.Coords) (v393 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_244 : BitVec 32 := 1#32
  let v639 : BitVec 32 := Scalar.addi v9 c1_i32_244
  let v641 : Index := Scalar.indexCast v639
  let c4_i32_245 : BitVec 32 := 4#32
  let v640 : BitVec 32 := Scalar.muli c4_i32_245 v393
  let v642 : Index := Scalar.indexCast v640
  let c0_246 : Index := 0#32
  ![v641.toNat, v642.toNat, 0]

def k0_chk19 (i : grid0.Coords) (v393 : BitVec 32) : Prop :=
  (∀ a, (k0_off106 i v393) a + S1x32x128.size a ≤ S4x46784x128.size a) ∧
  (∀ a, (k0_off123 i v393) a + S1x32x128.size a ≤ S4x46784x128.size a)
theorem k0_off106_inb : ∀ (i : grid0.Coords) (v393 : BitVec 32) (k0_hw19 : k0_chk19 i v393), ∀ a, (k0_off106 i v393) a + S1x32x128.size a ≤ S4x46784x128.size a := fun i v393 k0_hw19 => k0_hw19.1
theorem k0_off123_inb : ∀ (i : grid0.Coords) (v393 : BitVec 32) (k0_hw19 : k0_chk19 i v393), ∀ a, (k0_off123 i v393) a + S1x32x128.size a ≤ S4x46784x128.size a := fun i v393 k0_hw19 => k0_hw19.2

def k0_off124 (i : grid0.Coords) (v409 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_247 : BitVec 32 := 1#32
  let v645 : BitVec 32 := Scalar.addi v9 c1_i32_247
  let v647 : Index := Scalar.indexCast v645
  let c4_i32_248 : BitVec 32 := 4#32
  let v646 : BitVec 32 := Scalar.muli c4_i32_248 v409
  let v648 : Index := Scalar.indexCast v646
  let c0_249 : Index := 0#32
  ![v647.toNat, v648.toNat, 0]

def k0_chk20 (i : grid0.Coords) (v409 : BitVec 32) : Prop :=
  (∀ a, (k0_off107 i v409) a + S1x32x128.size a ≤ S4x46784x128.size a) ∧
  (∀ a, (k0_off124 i v409) a + S1x32x128.size a ≤ S4x46784x128.size a)
theorem k0_off107_inb : ∀ (i : grid0.Coords) (v409 : BitVec 32) (k0_hw20 : k0_chk20 i v409), ∀ a, (k0_off107 i v409) a + S1x32x128.size a ≤ S4x46784x128.size a := fun i v409 k0_hw20 => k0_hw20.1
theorem k0_off124_inb : ∀ (i : grid0.Coords) (v409 : BitVec 32) (k0_hw20 : k0_chk20 i v409), ∀ a, (k0_off124 i v409) a + S1x32x128.size a ≤ S4x46784x128.size a := fun i v409 k0_hw20 => k0_hw20.2

def k0_off125 (i : grid0.Coords) (v395 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_250 : BitVec 32 := 1#32
  let v652 : BitVec 32 := Scalar.addi v9 c1_i32_250
  let v654 : Index := Scalar.indexCast v652
  let c4_i32_251 : BitVec 32 := 4#32
  let v653 : BitVec 32 := Scalar.muli c4_i32_251 v395
  let v655 : Index := Scalar.indexCast v653
  let c0_252 : Index := 0#32
  ![v654.toNat, v655.toNat, 0]

def k0_chk21 (i : grid0.Coords) (v395 : BitVec 32) : Prop :=
  (∀ a, (k0_off108 i v395) a + S1x32x128.size a ≤ S4x46784x128.size a) ∧
  (∀ a, (k0_off125 i v395) a + S1x32x128.size a ≤ S4x46784x128.size a)
theorem k0_off108_inb : ∀ (i : grid0.Coords) (v395 : BitVec 32) (k0_hw21 : k0_chk21 i v395), ∀ a, (k0_off108 i v395) a + S1x32x128.size a ≤ S4x46784x128.size a := fun i v395 k0_hw21 => k0_hw21.1
theorem k0_off125_inb : ∀ (i : grid0.Coords) (v395 : BitVec 32) (k0_hw21 : k0_chk21 i v395), ∀ a, (k0_off125 i v395) a + S1x32x128.size a ≤ S4x46784x128.size a := fun i v395 k0_hw21 => k0_hw21.2

def k0_off126 (i : grid0.Coords) (v411 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_253 : BitVec 32 := 1#32
  let v658 : BitVec 32 := Scalar.addi v9 c1_i32_253
  let v660 : Index := Scalar.indexCast v658
  let c4_i32_254 : BitVec 32 := 4#32
  let v659 : BitVec 32 := Scalar.muli c4_i32_254 v411
  let v661 : Index := Scalar.indexCast v659
  let c0_255 : Index := 0#32
  ![v660.toNat, v661.toNat, 0]

def k0_chk22 (i : grid0.Coords) (v411 : BitVec 32) : Prop :=
  (∀ a, (k0_off109 i v411) a + S1x32x128.size a ≤ S4x46784x128.size a) ∧
  (∀ a, (k0_off126 i v411) a + S1x32x128.size a ≤ S4x46784x128.size a)
theorem k0_off109_inb : ∀ (i : grid0.Coords) (v411 : BitVec 32) (k0_hw22 : k0_chk22 i v411), ∀ a, (k0_off109 i v411) a + S1x32x128.size a ≤ S4x46784x128.size a := fun i v411 k0_hw22 => k0_hw22.1
theorem k0_off126_inb : ∀ (i : grid0.Coords) (v411 : BitVec 32) (k0_hw22 : k0_chk22 i v411), ∀ a, (k0_off126 i v411) a + S1x32x128.size a ≤ S4x46784x128.size a := fun i v411 k0_hw22 => k0_hw22.2

def k0_off127 (i : grid0.Coords) (v397 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_256 : BitVec 32 := 1#32
  let v665 : BitVec 32 := Scalar.addi v9 c1_i32_256
  let v667 : Index := Scalar.indexCast v665
  let c4_i32_257 : BitVec 32 := 4#32
  let v666 : BitVec 32 := Scalar.muli c4_i32_257 v397
  let v668 : Index := Scalar.indexCast v666
  let c0_258 : Index := 0#32
  ![v667.toNat, v668.toNat, 0]

def k0_chk23 (i : grid0.Coords) (v397 : BitVec 32) : Prop :=
  (∀ a, (k0_off110 i v397) a + S1x32x128.size a ≤ S4x46784x128.size a) ∧
  (∀ a, (k0_off127 i v397) a + S1x32x128.size a ≤ S4x46784x128.size a)
theorem k0_off110_inb : ∀ (i : grid0.Coords) (v397 : BitVec 32) (k0_hw23 : k0_chk23 i v397), ∀ a, (k0_off110 i v397) a + S1x32x128.size a ≤ S4x46784x128.size a := fun i v397 k0_hw23 => k0_hw23.1
theorem k0_off127_inb : ∀ (i : grid0.Coords) (v397 : BitVec 32) (k0_hw23 : k0_chk23 i v397), ∀ a, (k0_off127 i v397) a + S1x32x128.size a ≤ S4x46784x128.size a := fun i v397 k0_hw23 => k0_hw23.2

def k0_off128 (i : grid0.Coords) (v413 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_259 : BitVec 32 := 1#32
  let v671 : BitVec 32 := Scalar.addi v9 c1_i32_259
  let v673 : Index := Scalar.indexCast v671
  let c4_i32_260 : BitVec 32 := 4#32
  let v672 : BitVec 32 := Scalar.muli c4_i32_260 v413
  let v674 : Index := Scalar.indexCast v672
  let c0_261 : Index := 0#32
  ![v673.toNat, v674.toNat, 0]

def k0_chk24 (i : grid0.Coords) (v413 : BitVec 32) : Prop :=
  (∀ a, (k0_off111 i v413) a + S1x32x128.size a ≤ S4x46784x128.size a) ∧
  (∀ a, (k0_off128 i v413) a + S1x32x128.size a ≤ S4x46784x128.size a)
theorem k0_off111_inb : ∀ (i : grid0.Coords) (v413 : BitVec 32) (k0_hw24 : k0_chk24 i v413), ∀ a, (k0_off111 i v413) a + S1x32x128.size a ≤ S4x46784x128.size a := fun i v413 k0_hw24 => k0_hw24.1
theorem k0_off128_inb : ∀ (i : grid0.Coords) (v413 : BitVec 32) (k0_hw24 : k0_chk24 i v413), ∀ a, (k0_off128 i v413) a + S1x32x128.size a ≤ S4x46784x128.size a := fun i v413 k0_hw24 => k0_hw24.2

def k0_off129 (i : grid0.Coords) (v399 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_262 : BitVec 32 := 1#32
  let v678 : BitVec 32 := Scalar.addi v9 c1_i32_262
  let v680 : Index := Scalar.indexCast v678
  let c4_i32_263 : BitVec 32 := 4#32
  let v679 : BitVec 32 := Scalar.muli c4_i32_263 v399
  let v681 : Index := Scalar.indexCast v679
  let c0_264 : Index := 0#32
  ![v680.toNat, v681.toNat, 0]

def k0_chk25 (i : grid0.Coords) (v399 : BitVec 32) : Prop :=
  (∀ a, (k0_off112 i v399) a + S1x32x128.size a ≤ S4x46784x128.size a) ∧
  (∀ a, (k0_off129 i v399) a + S1x32x128.size a ≤ S4x46784x128.size a)
theorem k0_off112_inb : ∀ (i : grid0.Coords) (v399 : BitVec 32) (k0_hw25 : k0_chk25 i v399), ∀ a, (k0_off112 i v399) a + S1x32x128.size a ≤ S4x46784x128.size a := fun i v399 k0_hw25 => k0_hw25.1
theorem k0_off129_inb : ∀ (i : grid0.Coords) (v399 : BitVec 32) (k0_hw25 : k0_chk25 i v399), ∀ a, (k0_off129 i v399) a + S1x32x128.size a ≤ S4x46784x128.size a := fun i v399 k0_hw25 => k0_hw25.2

def k0_off130 (i : grid0.Coords) (v415 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_265 : BitVec 32 := 1#32
  let v684 : BitVec 32 := Scalar.addi v9 c1_i32_265
  let v686 : Index := Scalar.indexCast v684
  let c4_i32_266 : BitVec 32 := 4#32
  let v685 : BitVec 32 := Scalar.muli c4_i32_266 v415
  let v687 : Index := Scalar.indexCast v685
  let c0_267 : Index := 0#32
  ![v686.toNat, v687.toNat, 0]

def k0_chk26 (i : grid0.Coords) (v415 : BitVec 32) : Prop :=
  (∀ a, (k0_off113 i v415) a + S1x32x128.size a ≤ S4x46784x128.size a) ∧
  (∀ a, (k0_off130 i v415) a + S1x32x128.size a ≤ S4x46784x128.size a)
theorem k0_off113_inb : ∀ (i : grid0.Coords) (v415 : BitVec 32) (k0_hw26 : k0_chk26 i v415), ∀ a, (k0_off113 i v415) a + S1x32x128.size a ≤ S4x46784x128.size a := fun i v415 k0_hw26 => k0_hw26.1
theorem k0_off130_inb : ∀ (i : grid0.Coords) (v415 : BitVec 32) (k0_hw26 : k0_chk26 i v415), ∀ a, (k0_off130 i v415) a + S1x32x128.size a ≤ S4x46784x128.size a := fun i v415 k0_hw26 => k0_hw26.2

def k0_off131 (i : grid0.Coords) (v401 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_268 : BitVec 32 := 1#32
  let v691 : BitVec 32 := Scalar.addi v9 c1_i32_268
  let v693 : Index := Scalar.indexCast v691
  let c4_i32_269 : BitVec 32 := 4#32
  let v692 : BitVec 32 := Scalar.muli c4_i32_269 v401
  let v694 : Index := Scalar.indexCast v692
  let c0_270 : Index := 0#32
  ![v693.toNat, v694.toNat, 0]

def k0_chk27 (i : grid0.Coords) (v401 : BitVec 32) : Prop :=
  (∀ a, (k0_off114 i v401) a + S1x32x128.size a ≤ S4x46784x128.size a) ∧
  (∀ a, (k0_off131 i v401) a + S1x32x128.size a ≤ S4x46784x128.size a)
theorem k0_off114_inb : ∀ (i : grid0.Coords) (v401 : BitVec 32) (k0_hw27 : k0_chk27 i v401), ∀ a, (k0_off114 i v401) a + S1x32x128.size a ≤ S4x46784x128.size a := fun i v401 k0_hw27 => k0_hw27.1
theorem k0_off131_inb : ∀ (i : grid0.Coords) (v401 : BitVec 32) (k0_hw27 : k0_chk27 i v401), ∀ a, (k0_off131 i v401) a + S1x32x128.size a ≤ S4x46784x128.size a := fun i v401 k0_hw27 => k0_hw27.2

def k0_off132 (i : grid0.Coords) (v417 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_271 : BitVec 32 := 1#32
  let v697 : BitVec 32 := Scalar.addi v9 c1_i32_271
  let v699 : Index := Scalar.indexCast v697
  let c4_i32_272 : BitVec 32 := 4#32
  let v698 : BitVec 32 := Scalar.muli c4_i32_272 v417
  let v700 : Index := Scalar.indexCast v698
  let c0_273 : Index := 0#32
  ![v699.toNat, v700.toNat, 0]

def k0_chk28 (i : grid0.Coords) (v417 : BitVec 32) : Prop :=
  (∀ a, (k0_off115 i v417) a + S1x32x128.size a ≤ S4x46784x128.size a) ∧
  (∀ a, (k0_off132 i v417) a + S1x32x128.size a ≤ S4x46784x128.size a)
theorem k0_off115_inb : ∀ (i : grid0.Coords) (v417 : BitVec 32) (k0_hw28 : k0_chk28 i v417), ∀ a, (k0_off115 i v417) a + S1x32x128.size a ≤ S4x46784x128.size a := fun i v417 k0_hw28 => k0_hw28.1
theorem k0_off132_inb : ∀ (i : grid0.Coords) (v417 : BitVec 32) (k0_hw28 : k0_chk28 i v417), ∀ a, (k0_off132 i v417) a + S1x32x128.size a ≤ S4x46784x128.size a := fun i v417 k0_hw28 => k0_hw28.2

def k0_off133 (i : grid0.Coords) (v403 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_274 : BitVec 32 := 1#32
  let v704 : BitVec 32 := Scalar.addi v9 c1_i32_274
  let v706 : Index := Scalar.indexCast v704
  let c4_i32_275 : BitVec 32 := 4#32
  let v705 : BitVec 32 := Scalar.muli c4_i32_275 v403
  let v707 : Index := Scalar.indexCast v705
  let c0_276 : Index := 0#32
  ![v706.toNat, v707.toNat, 0]

def k0_chk29 (i : grid0.Coords) (v403 : BitVec 32) : Prop :=
  (∀ a, (k0_off116 i v403) a + S1x32x128.size a ≤ S4x46784x128.size a) ∧
  (∀ a, (k0_off133 i v403) a + S1x32x128.size a ≤ S4x46784x128.size a)
theorem k0_off116_inb : ∀ (i : grid0.Coords) (v403 : BitVec 32) (k0_hw29 : k0_chk29 i v403), ∀ a, (k0_off116 i v403) a + S1x32x128.size a ≤ S4x46784x128.size a := fun i v403 k0_hw29 => k0_hw29.1
theorem k0_off133_inb : ∀ (i : grid0.Coords) (v403 : BitVec 32) (k0_hw29 : k0_chk29 i v403), ∀ a, (k0_off133 i v403) a + S1x32x128.size a ≤ S4x46784x128.size a := fun i v403 k0_hw29 => k0_hw29.2

def k0_off134 (i : grid0.Coords) (v419 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_277 : BitVec 32 := 1#32
  let v710 : BitVec 32 := Scalar.addi v9 c1_i32_277
  let v712 : Index := Scalar.indexCast v710
  let c4_i32_278 : BitVec 32 := 4#32
  let v711 : BitVec 32 := Scalar.muli c4_i32_278 v419
  let v713 : Index := Scalar.indexCast v711
  let c0_279 : Index := 0#32
  ![v712.toNat, v713.toNat, 0]

def k0_chk30 (i : grid0.Coords) (v419 : BitVec 32) : Prop :=
  (∀ a, (k0_off117 i v419) a + S1x32x128.size a ≤ S4x46784x128.size a) ∧
  (∀ a, (k0_off134 i v419) a + S1x32x128.size a ≤ S4x46784x128.size a)
theorem k0_off117_inb : ∀ (i : grid0.Coords) (v419 : BitVec 32) (k0_hw30 : k0_chk30 i v419), ∀ a, (k0_off117 i v419) a + S1x32x128.size a ≤ S4x46784x128.size a := fun i v419 k0_hw30 => k0_hw30.1
theorem k0_off134_inb : ∀ (i : grid0.Coords) (v419 : BitVec 32) (k0_hw30 : k0_chk30 i v419), ∀ a, (k0_off134 i v419) a + S1x32x128.size a ≤ S4x46784x128.size a := fun i v419 k0_hw30 => k0_hw30.2

def k0_off135 (i : grid0.Coords) (v405 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_280 : BitVec 32 := 1#32
  let v717 : BitVec 32 := Scalar.addi v9 c1_i32_280
  let v719 : Index := Scalar.indexCast v717
  let c4_i32_281 : BitVec 32 := 4#32
  let v718 : BitVec 32 := Scalar.muli c4_i32_281 v405
  let v720 : Index := Scalar.indexCast v718
  let c0_282 : Index := 0#32
  ![v719.toNat, v720.toNat, 0]

def k0_chk31 (i : grid0.Coords) (v405 : BitVec 32) : Prop :=
  (∀ a, (k0_off118 i v405) a + S1x32x128.size a ≤ S4x46784x128.size a) ∧
  (∀ a, (k0_off135 i v405) a + S1x32x128.size a ≤ S4x46784x128.size a)
theorem k0_off118_inb : ∀ (i : grid0.Coords) (v405 : BitVec 32) (k0_hw31 : k0_chk31 i v405), ∀ a, (k0_off118 i v405) a + S1x32x128.size a ≤ S4x46784x128.size a := fun i v405 k0_hw31 => k0_hw31.1
theorem k0_off135_inb : ∀ (i : grid0.Coords) (v405 : BitVec 32) (k0_hw31 : k0_chk31 i v405), ∀ a, (k0_off135 i v405) a + S1x32x128.size a ≤ S4x46784x128.size a := fun i v405 k0_hw31 => k0_hw31.2

def k0_mult10 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let c16_i32_287 : BitVec 32 := 16#32
  let v734 : BitVec 32 := Scalar.muli v387 c16_i32_287
  v734
def k0_off136 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let c16_i32_287 : BitVec 32 := 16#32
  let v734 : BitVec 32 := Scalar.muli v387 c16_i32_287
  let v735 : BitVec 32 := v734
  let v741 : Index := Scalar.indexCast v735
  let c0_288 : Index := 0#32
  ![v741.toNat, 0]
def k0_off137 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_134 : BitVec 32 := 8#32
  let v386 : BitVec 32 := Scalar.muli arg11 c8_i32_134
  let c1_i32_135 : BitVec 32 := 1#32
  let v387 : BitVec 32 := Scalar.addi v386 c1_i32_135
  let c16_i32_287 : BitVec 32 := 16#32
  let v734 : BitVec 32 := Scalar.muli v387 c16_i32_287
  let v735 : BitVec 32 := v734
  let v753 : Index := Scalar.indexCast v735
  let c128_290 : Index := 128#32
  ![v753.toNat, 128]
def k0_off138 (i : grid0.Coords) (k0_t1 : Fin k0_t1_loop.trips) : Fin 2 → Nat :=
  let c0_295 : Index := 0#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v764 : Index := Scalar.indexCast v763
  ![0, v764.toNat]
def k0_off139 (i : grid0.Coords) (k0_t1 : Fin k0_t1_loop.trips) : Fin 2 → Nat :=
  let c1_296 : Index := 1#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v766 : Index := Scalar.indexCast v763
  ![1, v766.toNat]
def k0_off140 (i : grid0.Coords) (k0_t1 : Fin k0_t1_loop.trips) : Fin 2 → Nat :=
  let c2_297 : Index := 2#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v768 : Index := Scalar.indexCast v763
  ![2, v768.toNat]
def k0_off141 (i : grid0.Coords) (k0_t1 : Fin k0_t1_loop.trips) : Fin 2 → Nat :=
  let c3_298 : Index := 3#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v770 : Index := Scalar.indexCast v763
  ![3, v770.toNat]
def k0_off142 (i : grid0.Coords) (k0_t1 : Fin k0_t1_loop.trips) : Fin 2 → Nat :=
  let c4_299 : Index := 4#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v772 : Index := Scalar.indexCast v763
  ![4, v772.toNat]
def k0_off143 (i : grid0.Coords) (k0_t1 : Fin k0_t1_loop.trips) : Fin 2 → Nat :=
  let c5_300 : Index := 5#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v774 : Index := Scalar.indexCast v763
  ![5, v774.toNat]
def k0_off144 (i : grid0.Coords) (k0_t1 : Fin k0_t1_loop.trips) : Fin 2 → Nat :=
  let c6_301 : Index := 6#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v776 : Index := Scalar.indexCast v763
  ![6, v776.toNat]
def k0_off145 (i : grid0.Coords) (k0_t1 : Fin k0_t1_loop.trips) : Fin 2 → Nat :=
  let c7_302 : Index := 7#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v778 : Index := Scalar.indexCast v763
  ![7, v778.toNat]
def k0_off146 (i : grid0.Coords) (k0_t1 : Fin k0_t1_loop.trips) : Fin 2 → Nat :=
  let c8_303 : Index := 8#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v780 : Index := Scalar.indexCast v763
  ![8, v780.toNat]
def k0_off147 (i : grid0.Coords) (k0_t1 : Fin k0_t1_loop.trips) : Fin 2 → Nat :=
  let c9_304 : Index := 9#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v782 : Index := Scalar.indexCast v763
  ![9, v782.toNat]
def k0_off148 (i : grid0.Coords) (k0_t1 : Fin k0_t1_loop.trips) : Fin 2 → Nat :=
  let c10_305 : Index := 10#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v784 : Index := Scalar.indexCast v763
  ![10, v784.toNat]
def k0_off149 (i : grid0.Coords) (k0_t1 : Fin k0_t1_loop.trips) : Fin 2 → Nat :=
  let c11_306 : Index := 11#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v786 : Index := Scalar.indexCast v763
  ![11, v786.toNat]
def k0_off150 (i : grid0.Coords) (k0_t1 : Fin k0_t1_loop.trips) : Fin 2 → Nat :=
  let c12_307 : Index := 12#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v788 : Index := Scalar.indexCast v763
  ![12, v788.toNat]
def k0_off151 (i : grid0.Coords) (k0_t1 : Fin k0_t1_loop.trips) : Fin 2 → Nat :=
  let c13_308 : Index := 13#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v790 : Index := Scalar.indexCast v763
  ![13, v790.toNat]
def k0_off152 (i : grid0.Coords) (k0_t1 : Fin k0_t1_loop.trips) : Fin 2 → Nat :=
  let c14_309 : Index := 14#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v792 : Index := Scalar.indexCast v763
  ![14, v792.toNat]
def k0_off153 (i : grid0.Coords) (k0_t1 : Fin k0_t1_loop.trips) : Fin 2 → Nat :=
  let c15_310 : Index := 15#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v794 : Index := Scalar.indexCast v763
  ![15, v794.toNat]
def k0_off154 (i : grid0.Coords) (k0_t1 : Fin k0_t1_loop.trips) : Fin 2 → Nat :=
  let c16_311 : Index := 16#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v796 : Index := Scalar.indexCast v763
  ![16, v796.toNat]
def k0_off155 (i : grid0.Coords) (k0_t1 : Fin k0_t1_loop.trips) : Fin 2 → Nat :=
  let c17_312 : Index := 17#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v798 : Index := Scalar.indexCast v763
  ![17, v798.toNat]
def k0_off156 (i : grid0.Coords) (k0_t1 : Fin k0_t1_loop.trips) : Fin 2 → Nat :=
  let c18_313 : Index := 18#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v800 : Index := Scalar.indexCast v763
  ![18, v800.toNat]
def k0_off157 (i : grid0.Coords) (k0_t1 : Fin k0_t1_loop.trips) : Fin 2 → Nat :=
  let c19_314 : Index := 19#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v802 : Index := Scalar.indexCast v763
  ![19, v802.toNat]
def k0_off158 (i : grid0.Coords) (k0_t1 : Fin k0_t1_loop.trips) : Fin 2 → Nat :=
  let c20_315 : Index := 20#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v804 : Index := Scalar.indexCast v763
  ![20, v804.toNat]
def k0_off159 (i : grid0.Coords) (k0_t1 : Fin k0_t1_loop.trips) : Fin 2 → Nat :=
  let c21_316 : Index := 21#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v806 : Index := Scalar.indexCast v763
  ![21, v806.toNat]
def k0_off160 (i : grid0.Coords) (k0_t1 : Fin k0_t1_loop.trips) : Fin 2 → Nat :=
  let c22_317 : Index := 22#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v808 : Index := Scalar.indexCast v763
  ![22, v808.toNat]
def k0_off161 (i : grid0.Coords) (k0_t1 : Fin k0_t1_loop.trips) : Fin 2 → Nat :=
  let c23_318 : Index := 23#32
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let v810 : Index := Scalar.indexCast v763
  ![23, v810.toNat]
def k0_mult11 (i : grid0.Coords) (k0_t1 : Fin k0_t1_loop.trips) : BitVec 32 :=
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let c8_i32_327 : BitVec 32 := 8#32
  let v836 : BitVec 32 := Scalar.muli v763 c8_i32_327
  v836
def k0_off162 (i : grid0.Coords) (k0_t1 : Fin k0_t1_loop.trips) : Fin 2 → Nat :=
  let arg1 : BitVec 32 := BitVec.ofNat 32 (i 1).val
  let c128_i32_294 : BitVec 32 := 128#32
  let v762 : BitVec 32 := Scalar.muli arg1 c128_i32_294
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let v763 : BitVec 32 := Scalar.addi v762 v761
  let c8_i32_327 : BitVec 32 := 8#32
  let v836 : BitVec 32 := Scalar.muli v763 c8_i32_327
  let v837 : BitVec 32 := v836
  let v838 : Index := Scalar.indexCast v837
  let c0_328 : Index := 0#32
  ![v838.toNat, 0]
def k0_off163 (i : grid0.Coords) (v765 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_339 : BitVec 32 := 0#32
  let v869 : BitVec 32 := Scalar.addi v9 c0_i32_339
  let v871 : Index := Scalar.indexCast v869
  let c4_i32_340 : BitVec 32 := 4#32
  let v870 : BitVec 32 := Scalar.muli c4_i32_340 v765
  let v872 : Index := Scalar.indexCast v870
  let c0_341 : Index := 0#32
  ![v871.toNat, v872.toNat, 0]

def k0_off164 (i : grid0.Coords) (v781 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_342 : BitVec 32 := 0#32
  let v875 : BitVec 32 := Scalar.addi v9 c0_i32_342
  let v877 : Index := Scalar.indexCast v875
  let c4_i32_343 : BitVec 32 := 4#32
  let v876 : BitVec 32 := Scalar.muli c4_i32_343 v781
  let v878 : Index := Scalar.indexCast v876
  let c0_344 : Index := 0#32
  ![v877.toNat, v878.toNat, 0]

def k0_off165 (i : grid0.Coords) (v767 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_345 : BitVec 32 := 0#32
  let v882 : BitVec 32 := Scalar.addi v9 c0_i32_345
  let v884 : Index := Scalar.indexCast v882
  let c4_i32_346 : BitVec 32 := 4#32
  let v883 : BitVec 32 := Scalar.muli c4_i32_346 v767
  let v885 : Index := Scalar.indexCast v883
  let c0_347 : Index := 0#32
  ![v884.toNat, v885.toNat, 0]

def k0_off166 (i : grid0.Coords) (v783 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_348 : BitVec 32 := 0#32
  let v888 : BitVec 32 := Scalar.addi v9 c0_i32_348
  let v890 : Index := Scalar.indexCast v888
  let c4_i32_349 : BitVec 32 := 4#32
  let v889 : BitVec 32 := Scalar.muli c4_i32_349 v783
  let v891 : Index := Scalar.indexCast v889
  let c0_350 : Index := 0#32
  ![v890.toNat, v891.toNat, 0]

def k0_off167 (i : grid0.Coords) (v769 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_351 : BitVec 32 := 0#32
  let v895 : BitVec 32 := Scalar.addi v9 c0_i32_351
  let v897 : Index := Scalar.indexCast v895
  let c4_i32_352 : BitVec 32 := 4#32
  let v896 : BitVec 32 := Scalar.muli c4_i32_352 v769
  let v898 : Index := Scalar.indexCast v896
  let c0_353 : Index := 0#32
  ![v897.toNat, v898.toNat, 0]

def k0_off168 (i : grid0.Coords) (v785 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_354 : BitVec 32 := 0#32
  let v901 : BitVec 32 := Scalar.addi v9 c0_i32_354
  let v903 : Index := Scalar.indexCast v901
  let c4_i32_355 : BitVec 32 := 4#32
  let v902 : BitVec 32 := Scalar.muli c4_i32_355 v785
  let v904 : Index := Scalar.indexCast v902
  let c0_356 : Index := 0#32
  ![v903.toNat, v904.toNat, 0]

def k0_off169 (i : grid0.Coords) (v771 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_357 : BitVec 32 := 0#32
  let v908 : BitVec 32 := Scalar.addi v9 c0_i32_357
  let v910 : Index := Scalar.indexCast v908
  let c4_i32_358 : BitVec 32 := 4#32
  let v909 : BitVec 32 := Scalar.muli c4_i32_358 v771
  let v911 : Index := Scalar.indexCast v909
  let c0_359 : Index := 0#32
  ![v910.toNat, v911.toNat, 0]

def k0_off170 (i : grid0.Coords) (v787 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_360 : BitVec 32 := 0#32
  let v914 : BitVec 32 := Scalar.addi v9 c0_i32_360
  let v916 : Index := Scalar.indexCast v914
  let c4_i32_361 : BitVec 32 := 4#32
  let v915 : BitVec 32 := Scalar.muli c4_i32_361 v787
  let v917 : Index := Scalar.indexCast v915
  let c0_362 : Index := 0#32
  ![v916.toNat, v917.toNat, 0]

def k0_off171 (i : grid0.Coords) (v773 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_363 : BitVec 32 := 0#32
  let v921 : BitVec 32 := Scalar.addi v9 c0_i32_363
  let v923 : Index := Scalar.indexCast v921
  let c4_i32_364 : BitVec 32 := 4#32
  let v922 : BitVec 32 := Scalar.muli c4_i32_364 v773
  let v924 : Index := Scalar.indexCast v922
  let c0_365 : Index := 0#32
  ![v923.toNat, v924.toNat, 0]

def k0_off172 (i : grid0.Coords) (v789 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_366 : BitVec 32 := 0#32
  let v927 : BitVec 32 := Scalar.addi v9 c0_i32_366
  let v929 : Index := Scalar.indexCast v927
  let c4_i32_367 : BitVec 32 := 4#32
  let v928 : BitVec 32 := Scalar.muli c4_i32_367 v789
  let v930 : Index := Scalar.indexCast v928
  let c0_368 : Index := 0#32
  ![v929.toNat, v930.toNat, 0]

def k0_off173 (i : grid0.Coords) (v775 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_369 : BitVec 32 := 0#32
  let v934 : BitVec 32 := Scalar.addi v9 c0_i32_369
  let v936 : Index := Scalar.indexCast v934
  let c4_i32_370 : BitVec 32 := 4#32
  let v935 : BitVec 32 := Scalar.muli c4_i32_370 v775
  let v937 : Index := Scalar.indexCast v935
  let c0_371 : Index := 0#32
  ![v936.toNat, v937.toNat, 0]

def k0_off174 (i : grid0.Coords) (v791 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_372 : BitVec 32 := 0#32
  let v940 : BitVec 32 := Scalar.addi v9 c0_i32_372
  let v942 : Index := Scalar.indexCast v940
  let c4_i32_373 : BitVec 32 := 4#32
  let v941 : BitVec 32 := Scalar.muli c4_i32_373 v791
  let v943 : Index := Scalar.indexCast v941
  let c0_374 : Index := 0#32
  ![v942.toNat, v943.toNat, 0]

def k0_off175 (i : grid0.Coords) (v777 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_375 : BitVec 32 := 0#32
  let v947 : BitVec 32 := Scalar.addi v9 c0_i32_375
  let v949 : Index := Scalar.indexCast v947
  let c4_i32_376 : BitVec 32 := 4#32
  let v948 : BitVec 32 := Scalar.muli c4_i32_376 v777
  let v950 : Index := Scalar.indexCast v948
  let c0_377 : Index := 0#32
  ![v949.toNat, v950.toNat, 0]

def k0_off176 (i : grid0.Coords) (v793 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_378 : BitVec 32 := 0#32
  let v953 : BitVec 32 := Scalar.addi v9 c0_i32_378
  let v955 : Index := Scalar.indexCast v953
  let c4_i32_379 : BitVec 32 := 4#32
  let v954 : BitVec 32 := Scalar.muli c4_i32_379 v793
  let v956 : Index := Scalar.indexCast v954
  let c0_380 : Index := 0#32
  ![v955.toNat, v956.toNat, 0]

def k0_off177 (i : grid0.Coords) (v779 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_381 : BitVec 32 := 0#32
  let v960 : BitVec 32 := Scalar.addi v9 c0_i32_381
  let v962 : Index := Scalar.indexCast v960
  let c4_i32_382 : BitVec 32 := 4#32
  let v961 : BitVec 32 := Scalar.muli c4_i32_382 v779
  let v963 : Index := Scalar.indexCast v961
  let c0_383 : Index := 0#32
  ![v962.toNat, v963.toNat, 0]

def k0_off178 (i : grid0.Coords) (v795 : BitVec 32) (c0_i32_384 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v966 : BitVec 32 := Scalar.addi v9 c0_i32_384
  let v968 : Index := Scalar.indexCast v966
  let c4_i32_385 : BitVec 32 := 4#32
  let v967 : BitVec 32 := Scalar.muli c4_i32_385 v795
  let v969 : Index := Scalar.indexCast v967
  let c0_386 : Index := 0#32
  ![v968.toNat, v969.toNat, 0]

def k0_chk48 (i : grid0.Coords) (v795 : BitVec 32) : Prop :=
  (∀ (r : Fin 2), ∀ a, (k0_off178 i v795 (BitVec.ofNat 32 r.val)) a + S1x32x128.size a ≤ S4x46784x128.size a)
theorem k0_off178_inb : ∀ (i : grid0.Coords) (v795 : BitVec 32) (k0_hw48 : k0_chk48 i v795), ∀ (r : Fin 2), ∀ a, (k0_off178 i v795 (BitVec.ofNat 32 r.val)) a + S1x32x128.size a ≤ S4x46784x128.size a := fun i v795 k0_hw48 r => k0_hw48 r

def k0_off179 (k0_t1 : Fin k0_t1_loop.trips) (c2_i32_293 : BitVec 32) (c1_i32_388 : BitVec 32) : Fin 3 → Nat :=
  let c0_389 : Index := 0#32
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let v761 : BitVec 32 := Scalar.addi v760 c2_i32_293
  let c2_i32_387 : BitVec 32 := 2#32
  let v974 : BitVec 32 := Scalar.muli v761 c2_i32_387
  let v975 : BitVec 32 := Scalar.addi v974 c1_i32_388
  let v976 : Index := Scalar.indexCast v975
  let c0_390 : Index := 0#32
  ![0, v976.toNat, 0]
def k0_off179_at (r : Fin 2) : BitVec 32 × BitVec 32 :=
  if r.val < 1 then
    (2#32, 1#32)
  else
    (3#32, 0#32)
def k0_off180 (i : grid0.Coords) (v765 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_396 : BitVec 32 := 1#32
  let v1000 : BitVec 32 := Scalar.addi v9 c1_i32_396
  let v1002 : Index := Scalar.indexCast v1000
  let c4_i32_397 : BitVec 32 := 4#32
  let v1001 : BitVec 32 := Scalar.muli c4_i32_397 v765
  let v1003 : Index := Scalar.indexCast v1001
  let c0_398 : Index := 0#32
  ![v1002.toNat, v1003.toNat, 0]

def k0_chk33 (i : grid0.Coords) (v765 : BitVec 32) : Prop :=
  (∀ a, (k0_off163 i v765) a + S1x32x128.size a ≤ S4x46784x128.size a) ∧
  (∀ a, (k0_off180 i v765) a + S1x32x128.size a ≤ S4x46784x128.size a)
theorem k0_off163_inb : ∀ (i : grid0.Coords) (v765 : BitVec 32) (k0_hw33 : k0_chk33 i v765), ∀ a, (k0_off163 i v765) a + S1x32x128.size a ≤ S4x46784x128.size a := fun i v765 k0_hw33 => k0_hw33.1
theorem k0_off180_inb : ∀ (i : grid0.Coords) (v765 : BitVec 32) (k0_hw33 : k0_chk33 i v765), ∀ a, (k0_off180 i v765) a + S1x32x128.size a ≤ S4x46784x128.size a := fun i v765 k0_hw33 => k0_hw33.2

def k0_off181 (i : grid0.Coords) (v781 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_399 : BitVec 32 := 1#32
  let v1006 : BitVec 32 := Scalar.addi v9 c1_i32_399
  let v1008 : Index := Scalar.indexCast v1006
  let c4_i32_400 : BitVec 32 := 4#32
  let v1007 : BitVec 32 := Scalar.muli c4_i32_400 v781
  let v1009 : Index := Scalar.indexCast v1007
  let c0_401 : Index := 0#32
  ![v1008.toNat, v1009.toNat, 0]

def k0_chk34 (i : grid0.Coords) (v781 : BitVec 32) : Prop :=
  (∀ a, (k0_off164 i v781) a + S1x32x128.size a ≤ S4x46784x128.size a) ∧
  (∀ a, (k0_off181 i v781) a + S1x32x128.size a ≤ S4x46784x128.size a)
theorem k0_off164_inb : ∀ (i : grid0.Coords) (v781 : BitVec 32) (k0_hw34 : k0_chk34 i v781), ∀ a, (k0_off164 i v781) a + S1x32x128.size a ≤ S4x46784x128.size a := fun i v781 k0_hw34 => k0_hw34.1
theorem k0_off181_inb : ∀ (i : grid0.Coords) (v781 : BitVec 32) (k0_hw34 : k0_chk34 i v781), ∀ a, (k0_off181 i v781) a + S1x32x128.size a ≤ S4x46784x128.size a := fun i v781 k0_hw34 => k0_hw34.2

def k0_off182 (i : grid0.Coords) (v767 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_402 : BitVec 32 := 1#32
  let v1013 : BitVec 32 := Scalar.addi v9 c1_i32_402
  let v1015 : Index := Scalar.indexCast v1013
  let c4_i32_403 : BitVec 32 := 4#32
  let v1014 : BitVec 32 := Scalar.muli c4_i32_403 v767
  let v1016 : Index := Scalar.indexCast v1014
  let c0_404 : Index := 0#32
  ![v1015.toNat, v1016.toNat, 0]

def k0_chk35 (i : grid0.Coords) (v767 : BitVec 32) : Prop :=
  (∀ a, (k0_off165 i v767) a + S1x32x128.size a ≤ S4x46784x128.size a) ∧
  (∀ a, (k0_off182 i v767) a + S1x32x128.size a ≤ S4x46784x128.size a)
theorem k0_off165_inb : ∀ (i : grid0.Coords) (v767 : BitVec 32) (k0_hw35 : k0_chk35 i v767), ∀ a, (k0_off165 i v767) a + S1x32x128.size a ≤ S4x46784x128.size a := fun i v767 k0_hw35 => k0_hw35.1
theorem k0_off182_inb : ∀ (i : grid0.Coords) (v767 : BitVec 32) (k0_hw35 : k0_chk35 i v767), ∀ a, (k0_off182 i v767) a + S1x32x128.size a ≤ S4x46784x128.size a := fun i v767 k0_hw35 => k0_hw35.2

def k0_off183 (i : grid0.Coords) (v783 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_405 : BitVec 32 := 1#32
  let v1019 : BitVec 32 := Scalar.addi v9 c1_i32_405
  let v1021 : Index := Scalar.indexCast v1019
  let c4_i32_406 : BitVec 32 := 4#32
  let v1020 : BitVec 32 := Scalar.muli c4_i32_406 v783
  let v1022 : Index := Scalar.indexCast v1020
  let c0_407 : Index := 0#32
  ![v1021.toNat, v1022.toNat, 0]

def k0_chk36 (i : grid0.Coords) (v783 : BitVec 32) : Prop :=
  (∀ a, (k0_off166 i v783) a + S1x32x128.size a ≤ S4x46784x128.size a) ∧
  (∀ a, (k0_off183 i v783) a + S1x32x128.size a ≤ S4x46784x128.size a)
theorem k0_off166_inb : ∀ (i : grid0.Coords) (v783 : BitVec 32) (k0_hw36 : k0_chk36 i v783), ∀ a, (k0_off166 i v783) a + S1x32x128.size a ≤ S4x46784x128.size a := fun i v783 k0_hw36 => k0_hw36.1
theorem k0_off183_inb : ∀ (i : grid0.Coords) (v783 : BitVec 32) (k0_hw36 : k0_chk36 i v783), ∀ a, (k0_off183 i v783) a + S1x32x128.size a ≤ S4x46784x128.size a := fun i v783 k0_hw36 => k0_hw36.2

def k0_off184 (i : grid0.Coords) (v769 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_408 : BitVec 32 := 1#32
  let v1026 : BitVec 32 := Scalar.addi v9 c1_i32_408
  let v1028 : Index := Scalar.indexCast v1026
  let c4_i32_409 : BitVec 32 := 4#32
  let v1027 : BitVec 32 := Scalar.muli c4_i32_409 v769
  let v1029 : Index := Scalar.indexCast v1027
  let c0_410 : Index := 0#32
  ![v1028.toNat, v1029.toNat, 0]

def k0_chk37 (i : grid0.Coords) (v769 : BitVec 32) : Prop :=
  (∀ a, (k0_off167 i v769) a + S1x32x128.size a ≤ S4x46784x128.size a) ∧
  (∀ a, (k0_off184 i v769) a + S1x32x128.size a ≤ S4x46784x128.size a)
theorem k0_off167_inb : ∀ (i : grid0.Coords) (v769 : BitVec 32) (k0_hw37 : k0_chk37 i v769), ∀ a, (k0_off167 i v769) a + S1x32x128.size a ≤ S4x46784x128.size a := fun i v769 k0_hw37 => k0_hw37.1
theorem k0_off184_inb : ∀ (i : grid0.Coords) (v769 : BitVec 32) (k0_hw37 : k0_chk37 i v769), ∀ a, (k0_off184 i v769) a + S1x32x128.size a ≤ S4x46784x128.size a := fun i v769 k0_hw37 => k0_hw37.2

def k0_off185 (i : grid0.Coords) (v785 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_411 : BitVec 32 := 1#32
  let v1032 : BitVec 32 := Scalar.addi v9 c1_i32_411
  let v1034 : Index := Scalar.indexCast v1032
  let c4_i32_412 : BitVec 32 := 4#32
  let v1033 : BitVec 32 := Scalar.muli c4_i32_412 v785
  let v1035 : Index := Scalar.indexCast v1033
  let c0_413 : Index := 0#32
  ![v1034.toNat, v1035.toNat, 0]

def k0_chk38 (i : grid0.Coords) (v785 : BitVec 32) : Prop :=
  (∀ a, (k0_off168 i v785) a + S1x32x128.size a ≤ S4x46784x128.size a) ∧
  (∀ a, (k0_off185 i v785) a + S1x32x128.size a ≤ S4x46784x128.size a)
theorem k0_off168_inb : ∀ (i : grid0.Coords) (v785 : BitVec 32) (k0_hw38 : k0_chk38 i v785), ∀ a, (k0_off168 i v785) a + S1x32x128.size a ≤ S4x46784x128.size a := fun i v785 k0_hw38 => k0_hw38.1
theorem k0_off185_inb : ∀ (i : grid0.Coords) (v785 : BitVec 32) (k0_hw38 : k0_chk38 i v785), ∀ a, (k0_off185 i v785) a + S1x32x128.size a ≤ S4x46784x128.size a := fun i v785 k0_hw38 => k0_hw38.2

def k0_off186 (i : grid0.Coords) (v771 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_414 : BitVec 32 := 1#32
  let v1039 : BitVec 32 := Scalar.addi v9 c1_i32_414
  let v1041 : Index := Scalar.indexCast v1039
  let c4_i32_415 : BitVec 32 := 4#32
  let v1040 : BitVec 32 := Scalar.muli c4_i32_415 v771
  let v1042 : Index := Scalar.indexCast v1040
  let c0_416 : Index := 0#32
  ![v1041.toNat, v1042.toNat, 0]

def k0_chk39 (i : grid0.Coords) (v771 : BitVec 32) : Prop :=
  (∀ a, (k0_off169 i v771) a + S1x32x128.size a ≤ S4x46784x128.size a) ∧
  (∀ a, (k0_off186 i v771) a + S1x32x128.size a ≤ S4x46784x128.size a)
theorem k0_off169_inb : ∀ (i : grid0.Coords) (v771 : BitVec 32) (k0_hw39 : k0_chk39 i v771), ∀ a, (k0_off169 i v771) a + S1x32x128.size a ≤ S4x46784x128.size a := fun i v771 k0_hw39 => k0_hw39.1
theorem k0_off186_inb : ∀ (i : grid0.Coords) (v771 : BitVec 32) (k0_hw39 : k0_chk39 i v771), ∀ a, (k0_off186 i v771) a + S1x32x128.size a ≤ S4x46784x128.size a := fun i v771 k0_hw39 => k0_hw39.2

def k0_off187 (i : grid0.Coords) (v787 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_417 : BitVec 32 := 1#32
  let v1045 : BitVec 32 := Scalar.addi v9 c1_i32_417
  let v1047 : Index := Scalar.indexCast v1045
  let c4_i32_418 : BitVec 32 := 4#32
  let v1046 : BitVec 32 := Scalar.muli c4_i32_418 v787
  let v1048 : Index := Scalar.indexCast v1046
  let c0_419 : Index := 0#32
  ![v1047.toNat, v1048.toNat, 0]

def k0_chk40 (i : grid0.Coords) (v787 : BitVec 32) : Prop :=
  (∀ a, (k0_off170 i v787) a + S1x32x128.size a ≤ S4x46784x128.size a) ∧
  (∀ a, (k0_off187 i v787) a + S1x32x128.size a ≤ S4x46784x128.size a)
theorem k0_off170_inb : ∀ (i : grid0.Coords) (v787 : BitVec 32) (k0_hw40 : k0_chk40 i v787), ∀ a, (k0_off170 i v787) a + S1x32x128.size a ≤ S4x46784x128.size a := fun i v787 k0_hw40 => k0_hw40.1
theorem k0_off187_inb : ∀ (i : grid0.Coords) (v787 : BitVec 32) (k0_hw40 : k0_chk40 i v787), ∀ a, (k0_off187 i v787) a + S1x32x128.size a ≤ S4x46784x128.size a := fun i v787 k0_hw40 => k0_hw40.2

def k0_off188 (i : grid0.Coords) (v773 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_420 : BitVec 32 := 1#32
  let v1052 : BitVec 32 := Scalar.addi v9 c1_i32_420
  let v1054 : Index := Scalar.indexCast v1052
  let c4_i32_421 : BitVec 32 := 4#32
  let v1053 : BitVec 32 := Scalar.muli c4_i32_421 v773
  let v1055 : Index := Scalar.indexCast v1053
  let c0_422 : Index := 0#32
  ![v1054.toNat, v1055.toNat, 0]

def k0_chk41 (i : grid0.Coords) (v773 : BitVec 32) : Prop :=
  (∀ a, (k0_off171 i v773) a + S1x32x128.size a ≤ S4x46784x128.size a) ∧
  (∀ a, (k0_off188 i v773) a + S1x32x128.size a ≤ S4x46784x128.size a)
theorem k0_off171_inb : ∀ (i : grid0.Coords) (v773 : BitVec 32) (k0_hw41 : k0_chk41 i v773), ∀ a, (k0_off171 i v773) a + S1x32x128.size a ≤ S4x46784x128.size a := fun i v773 k0_hw41 => k0_hw41.1
theorem k0_off188_inb : ∀ (i : grid0.Coords) (v773 : BitVec 32) (k0_hw41 : k0_chk41 i v773), ∀ a, (k0_off188 i v773) a + S1x32x128.size a ≤ S4x46784x128.size a := fun i v773 k0_hw41 => k0_hw41.2

def k0_off189 (i : grid0.Coords) (v789 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_423 : BitVec 32 := 1#32
  let v1058 : BitVec 32 := Scalar.addi v9 c1_i32_423
  let v1060 : Index := Scalar.indexCast v1058
  let c4_i32_424 : BitVec 32 := 4#32
  let v1059 : BitVec 32 := Scalar.muli c4_i32_424 v789
  let v1061 : Index := Scalar.indexCast v1059
  let c0_425 : Index := 0#32
  ![v1060.toNat, v1061.toNat, 0]

def k0_chk42 (i : grid0.Coords) (v789 : BitVec 32) : Prop :=
  (∀ a, (k0_off172 i v789) a + S1x32x128.size a ≤ S4x46784x128.size a) ∧
  (∀ a, (k0_off189 i v789) a + S1x32x128.size a ≤ S4x46784x128.size a)
theorem k0_off172_inb : ∀ (i : grid0.Coords) (v789 : BitVec 32) (k0_hw42 : k0_chk42 i v789), ∀ a, (k0_off172 i v789) a + S1x32x128.size a ≤ S4x46784x128.size a := fun i v789 k0_hw42 => k0_hw42.1
theorem k0_off189_inb : ∀ (i : grid0.Coords) (v789 : BitVec 32) (k0_hw42 : k0_chk42 i v789), ∀ a, (k0_off189 i v789) a + S1x32x128.size a ≤ S4x46784x128.size a := fun i v789 k0_hw42 => k0_hw42.2

def k0_off190 (i : grid0.Coords) (v775 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_426 : BitVec 32 := 1#32
  let v1065 : BitVec 32 := Scalar.addi v9 c1_i32_426
  let v1067 : Index := Scalar.indexCast v1065
  let c4_i32_427 : BitVec 32 := 4#32
  let v1066 : BitVec 32 := Scalar.muli c4_i32_427 v775
  let v1068 : Index := Scalar.indexCast v1066
  let c0_428 : Index := 0#32
  ![v1067.toNat, v1068.toNat, 0]

def k0_chk43 (i : grid0.Coords) (v775 : BitVec 32) : Prop :=
  (∀ a, (k0_off173 i v775) a + S1x32x128.size a ≤ S4x46784x128.size a) ∧
  (∀ a, (k0_off190 i v775) a + S1x32x128.size a ≤ S4x46784x128.size a)
theorem k0_off173_inb : ∀ (i : grid0.Coords) (v775 : BitVec 32) (k0_hw43 : k0_chk43 i v775), ∀ a, (k0_off173 i v775) a + S1x32x128.size a ≤ S4x46784x128.size a := fun i v775 k0_hw43 => k0_hw43.1
theorem k0_off190_inb : ∀ (i : grid0.Coords) (v775 : BitVec 32) (k0_hw43 : k0_chk43 i v775), ∀ a, (k0_off190 i v775) a + S1x32x128.size a ≤ S4x46784x128.size a := fun i v775 k0_hw43 => k0_hw43.2

def k0_off191 (i : grid0.Coords) (v791 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_429 : BitVec 32 := 1#32
  let v1071 : BitVec 32 := Scalar.addi v9 c1_i32_429
  let v1073 : Index := Scalar.indexCast v1071
  let c4_i32_430 : BitVec 32 := 4#32
  let v1072 : BitVec 32 := Scalar.muli c4_i32_430 v791
  let v1074 : Index := Scalar.indexCast v1072
  let c0_431 : Index := 0#32
  ![v1073.toNat, v1074.toNat, 0]

def k0_chk44 (i : grid0.Coords) (v791 : BitVec 32) : Prop :=
  (∀ a, (k0_off174 i v791) a + S1x32x128.size a ≤ S4x46784x128.size a) ∧
  (∀ a, (k0_off191 i v791) a + S1x32x128.size a ≤ S4x46784x128.size a)
theorem k0_off174_inb : ∀ (i : grid0.Coords) (v791 : BitVec 32) (k0_hw44 : k0_chk44 i v791), ∀ a, (k0_off174 i v791) a + S1x32x128.size a ≤ S4x46784x128.size a := fun i v791 k0_hw44 => k0_hw44.1
theorem k0_off191_inb : ∀ (i : grid0.Coords) (v791 : BitVec 32) (k0_hw44 : k0_chk44 i v791), ∀ a, (k0_off191 i v791) a + S1x32x128.size a ≤ S4x46784x128.size a := fun i v791 k0_hw44 => k0_hw44.2

def k0_off192 (i : grid0.Coords) (v777 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_432 : BitVec 32 := 1#32
  let v1078 : BitVec 32 := Scalar.addi v9 c1_i32_432
  let v1080 : Index := Scalar.indexCast v1078
  let c4_i32_433 : BitVec 32 := 4#32
  let v1079 : BitVec 32 := Scalar.muli c4_i32_433 v777
  let v1081 : Index := Scalar.indexCast v1079
  let c0_434 : Index := 0#32
  ![v1080.toNat, v1081.toNat, 0]

def k0_chk45 (i : grid0.Coords) (v777 : BitVec 32) : Prop :=
  (∀ a, (k0_off175 i v777) a + S1x32x128.size a ≤ S4x46784x128.size a) ∧
  (∀ a, (k0_off192 i v777) a + S1x32x128.size a ≤ S4x46784x128.size a)
theorem k0_off175_inb : ∀ (i : grid0.Coords) (v777 : BitVec 32) (k0_hw45 : k0_chk45 i v777), ∀ a, (k0_off175 i v777) a + S1x32x128.size a ≤ S4x46784x128.size a := fun i v777 k0_hw45 => k0_hw45.1
theorem k0_off192_inb : ∀ (i : grid0.Coords) (v777 : BitVec 32) (k0_hw45 : k0_chk45 i v777), ∀ a, (k0_off192 i v777) a + S1x32x128.size a ≤ S4x46784x128.size a := fun i v777 k0_hw45 => k0_hw45.2

def k0_off193 (i : grid0.Coords) (v793 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_435 : BitVec 32 := 1#32
  let v1084 : BitVec 32 := Scalar.addi v9 c1_i32_435
  let v1086 : Index := Scalar.indexCast v1084
  let c4_i32_436 : BitVec 32 := 4#32
  let v1085 : BitVec 32 := Scalar.muli c4_i32_436 v793
  let v1087 : Index := Scalar.indexCast v1085
  let c0_437 : Index := 0#32
  ![v1086.toNat, v1087.toNat, 0]

def k0_chk46 (i : grid0.Coords) (v793 : BitVec 32) : Prop :=
  (∀ a, (k0_off176 i v793) a + S1x32x128.size a ≤ S4x46784x128.size a) ∧
  (∀ a, (k0_off193 i v793) a + S1x32x128.size a ≤ S4x46784x128.size a)
theorem k0_off176_inb : ∀ (i : grid0.Coords) (v793 : BitVec 32) (k0_hw46 : k0_chk46 i v793), ∀ a, (k0_off176 i v793) a + S1x32x128.size a ≤ S4x46784x128.size a := fun i v793 k0_hw46 => k0_hw46.1
theorem k0_off193_inb : ∀ (i : grid0.Coords) (v793 : BitVec 32) (k0_hw46 : k0_chk46 i v793), ∀ a, (k0_off193 i v793) a + S1x32x128.size a ≤ S4x46784x128.size a := fun i v793 k0_hw46 => k0_hw46.2

def k0_off194 (i : grid0.Coords) (v779 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_438 : BitVec 32 := 1#32
  let v1091 : BitVec 32 := Scalar.addi v9 c1_i32_438
  let v1093 : Index := Scalar.indexCast v1091
  let c4_i32_439 : BitVec 32 := 4#32
  let v1092 : BitVec 32 := Scalar.muli c4_i32_439 v779
  let v1094 : Index := Scalar.indexCast v1092
  let c0_440 : Index := 0#32
  ![v1093.toNat, v1094.toNat, 0]

def k0_chk47 (i : grid0.Coords) (v779 : BitVec 32) : Prop :=
  (∀ a, (k0_off177 i v779) a + S1x32x128.size a ≤ S4x46784x128.size a) ∧
  (∀ a, (k0_off194 i v779) a + S1x32x128.size a ≤ S4x46784x128.size a)
theorem k0_off177_inb : ∀ (i : grid0.Coords) (v779 : BitVec 32) (k0_hw47 : k0_chk47 i v779), ∀ a, (k0_off177 i v779) a + S1x32x128.size a ≤ S4x46784x128.size a := fun i v779 k0_hw47 => k0_hw47.1
theorem k0_off194_inb : ∀ (i : grid0.Coords) (v779 : BitVec 32) (k0_hw47 : k0_chk47 i v779), ∀ a, (k0_off194 i v779) a + S1x32x128.size a ≤ S4x46784x128.size a := fun i v779 k0_hw47 => k0_hw47.2

def k0_mult12 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let c16_i32_445 : BitVec 32 := 16#32
  let v1108 : BitVec 32 := Scalar.muli v761 c16_i32_445
  v1108
def k0_off195 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let c16_i32_445 : BitVec 32 := 16#32
  let v1108 : BitVec 32 := Scalar.muli v761 c16_i32_445
  let v1109 : BitVec 32 := v1108
  let v1115 : Index := Scalar.indexCast v1109
  let c0_446 : Index := 0#32
  ![v1115.toNat, 0]
def k0_off196 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_292 : BitVec 32 := 8#32
  let v760 : BitVec 32 := Scalar.muli arg11 c8_i32_292
  let c2_i32_293 : BitVec 32 := 2#32
  let v761 : BitVec 32 := Scalar.addi v760 c2_i32_293
  let c16_i32_445 : BitVec 32 := 16#32
  let v1108 : BitVec 32 := Scalar.muli v761 c16_i32_445
  let v1109 : BitVec 32 := v1108
  let v1127 : Index := Scalar.indexCast v1109
  let c128_448 : Index := 128#32
  ![v1127.toNat, 128]
def k0_off197 (i : grid0.Coords) (k0_t1 : Fin k0_t1_loop.trips) : Fin 2 → Nat :=
  let c0_452 : Index := 0#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1138 : Index := Scalar.indexCast v1137
  ![0, v1138.toNat]
def k0_off198 (i : grid0.Coords) (k0_t1 : Fin k0_t1_loop.trips) : Fin 2 → Nat :=
  let c1_453 : Index := 1#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1140 : Index := Scalar.indexCast v1137
  ![1, v1140.toNat]
def k0_off199 (i : grid0.Coords) (k0_t1 : Fin k0_t1_loop.trips) : Fin 2 → Nat :=
  let c2_454 : Index := 2#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1142 : Index := Scalar.indexCast v1137
  ![2, v1142.toNat]
def k0_off200 (i : grid0.Coords) (k0_t1 : Fin k0_t1_loop.trips) : Fin 2 → Nat :=
  let c3_455 : Index := 3#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1144 : Index := Scalar.indexCast v1137
  ![3, v1144.toNat]
def k0_off201 (i : grid0.Coords) (k0_t1 : Fin k0_t1_loop.trips) : Fin 2 → Nat :=
  let c4_456 : Index := 4#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1146 : Index := Scalar.indexCast v1137
  ![4, v1146.toNat]
def k0_off202 (i : grid0.Coords) (k0_t1 : Fin k0_t1_loop.trips) : Fin 2 → Nat :=
  let c5_457 : Index := 5#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1148 : Index := Scalar.indexCast v1137
  ![5, v1148.toNat]
def k0_off203 (i : grid0.Coords) (k0_t1 : Fin k0_t1_loop.trips) : Fin 2 → Nat :=
  let c6_458 : Index := 6#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1150 : Index := Scalar.indexCast v1137
  ![6, v1150.toNat]
def k0_off204 (i : grid0.Coords) (k0_t1 : Fin k0_t1_loop.trips) : Fin 2 → Nat :=
  let c7_459 : Index := 7#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1152 : Index := Scalar.indexCast v1137
  ![7, v1152.toNat]
def k0_off205 (i : grid0.Coords) (k0_t1 : Fin k0_t1_loop.trips) : Fin 2 → Nat :=
  let c8_460 : Index := 8#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1154 : Index := Scalar.indexCast v1137
  ![8, v1154.toNat]
def k0_off206 (i : grid0.Coords) (k0_t1 : Fin k0_t1_loop.trips) : Fin 2 → Nat :=
  let c9_461 : Index := 9#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1156 : Index := Scalar.indexCast v1137
  ![9, v1156.toNat]
def k0_off207 (i : grid0.Coords) (k0_t1 : Fin k0_t1_loop.trips) : Fin 2 → Nat :=
  let c10_462 : Index := 10#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1158 : Index := Scalar.indexCast v1137
  ![10, v1158.toNat]
def k0_off208 (i : grid0.Coords) (k0_t1 : Fin k0_t1_loop.trips) : Fin 2 → Nat :=
  let c11_463 : Index := 11#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1160 : Index := Scalar.indexCast v1137
  ![11, v1160.toNat]
def k0_off209 (i : grid0.Coords) (k0_t1 : Fin k0_t1_loop.trips) : Fin 2 → Nat :=
  let c12_464 : Index := 12#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1162 : Index := Scalar.indexCast v1137
  ![12, v1162.toNat]
def k0_off210 (i : grid0.Coords) (k0_t1 : Fin k0_t1_loop.trips) : Fin 2 → Nat :=
  let c13_465 : Index := 13#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1164 : Index := Scalar.indexCast v1137
  ![13, v1164.toNat]
def k0_off211 (i : grid0.Coords) (k0_t1 : Fin k0_t1_loop.trips) : Fin 2 → Nat :=
  let c14_466 : Index := 14#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1166 : Index := Scalar.indexCast v1137
  ![14, v1166.toNat]
def k0_off212 (i : grid0.Coords) (k0_t1 : Fin k0_t1_loop.trips) : Fin 2 → Nat :=
  let c15_467 : Index := 15#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1168 : Index := Scalar.indexCast v1137
  ![15, v1168.toNat]
def k0_off213 (i : grid0.Coords) (k0_t1 : Fin k0_t1_loop.trips) : Fin 2 → Nat :=
  let c16_468 : Index := 16#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1170 : Index := Scalar.indexCast v1137
  ![16, v1170.toNat]
def k0_off214 (i : grid0.Coords) (k0_t1 : Fin k0_t1_loop.trips) : Fin 2 → Nat :=
  let c17_469 : Index := 17#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1172 : Index := Scalar.indexCast v1137
  ![17, v1172.toNat]
def k0_off215 (i : grid0.Coords) (k0_t1 : Fin k0_t1_loop.trips) : Fin 2 → Nat :=
  let c18_470 : Index := 18#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1174 : Index := Scalar.indexCast v1137
  ![18, v1174.toNat]
def k0_off216 (i : grid0.Coords) (k0_t1 : Fin k0_t1_loop.trips) : Fin 2 → Nat :=
  let c19_471 : Index := 19#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1176 : Index := Scalar.indexCast v1137
  ![19, v1176.toNat]
def k0_off217 (i : grid0.Coords) (k0_t1 : Fin k0_t1_loop.trips) : Fin 2 → Nat :=
  let c20_472 : Index := 20#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1178 : Index := Scalar.indexCast v1137
  ![20, v1178.toNat]
def k0_off218 (i : grid0.Coords) (k0_t1 : Fin k0_t1_loop.trips) : Fin 2 → Nat :=
  let c21_473 : Index := 21#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1180 : Index := Scalar.indexCast v1137
  ![21, v1180.toNat]
def k0_off219 (i : grid0.Coords) (k0_t1 : Fin k0_t1_loop.trips) : Fin 2 → Nat :=
  let c22_474 : Index := 22#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1182 : Index := Scalar.indexCast v1137
  ![22, v1182.toNat]
def k0_off220 (i : grid0.Coords) (k0_t1 : Fin k0_t1_loop.trips) : Fin 2 → Nat :=
  let c23_475 : Index := 23#32
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let v1184 : Index := Scalar.indexCast v1137
  ![23, v1184.toNat]
def k0_mult13 (i : grid0.Coords) (k0_t1 : Fin k0_t1_loop.trips) : BitVec 32 :=
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let c8_i32_484 : BitVec 32 := 8#32
  let v1210 : BitVec 32 := Scalar.muli v1137 c8_i32_484
  v1210
def k0_off221 (i : grid0.Coords) (k0_t1 : Fin k0_t1_loop.trips) : Fin 2 → Nat :=
  let arg1 : BitVec 32 := BitVec.ofNat 32 (i 1).val
  let c128_i32_451 : BitVec 32 := 128#32
  let v1136 : BitVec 32 := Scalar.muli arg1 c128_i32_451
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let v1137 : BitVec 32 := Scalar.addi v1136 v1135
  let c8_i32_484 : BitVec 32 := 8#32
  let v1210 : BitVec 32 := Scalar.muli v1137 c8_i32_484
  let v1211 : BitVec 32 := v1210
  let v1212 : Index := Scalar.indexCast v1211
  let c0_485 : Index := 0#32
  ![v1212.toNat, 0]
def k0_off222 (i : grid0.Coords) (v1139 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_496 : BitVec 32 := 0#32
  let v1243 : BitVec 32 := Scalar.addi v9 c0_i32_496
  let v1245 : Index := Scalar.indexCast v1243
  let c4_i32_497 : BitVec 32 := 4#32
  let v1244 : BitVec 32 := Scalar.muli c4_i32_497 v1139
  let v1246 : Index := Scalar.indexCast v1244
  let c0_498 : Index := 0#32
  ![v1245.toNat, v1246.toNat, 0]

def k0_off223 (i : grid0.Coords) (v1155 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_499 : BitVec 32 := 0#32
  let v1249 : BitVec 32 := Scalar.addi v9 c0_i32_499
  let v1251 : Index := Scalar.indexCast v1249
  let c4_i32_500 : BitVec 32 := 4#32
  let v1250 : BitVec 32 := Scalar.muli c4_i32_500 v1155
  let v1252 : Index := Scalar.indexCast v1250
  let c0_501 : Index := 0#32
  ![v1251.toNat, v1252.toNat, 0]

def k0_off224 (i : grid0.Coords) (v1141 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_502 : BitVec 32 := 0#32
  let v1256 : BitVec 32 := Scalar.addi v9 c0_i32_502
  let v1258 : Index := Scalar.indexCast v1256
  let c4_i32_503 : BitVec 32 := 4#32
  let v1257 : BitVec 32 := Scalar.muli c4_i32_503 v1141
  let v1259 : Index := Scalar.indexCast v1257
  let c0_504 : Index := 0#32
  ![v1258.toNat, v1259.toNat, 0]

def k0_off225 (i : grid0.Coords) (v1157 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_505 : BitVec 32 := 0#32
  let v1262 : BitVec 32 := Scalar.addi v9 c0_i32_505
  let v1264 : Index := Scalar.indexCast v1262
  let c4_i32_506 : BitVec 32 := 4#32
  let v1263 : BitVec 32 := Scalar.muli c4_i32_506 v1157
  let v1265 : Index := Scalar.indexCast v1263
  let c0_507 : Index := 0#32
  ![v1264.toNat, v1265.toNat, 0]

def k0_off226 (i : grid0.Coords) (v1143 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_508 : BitVec 32 := 0#32
  let v1269 : BitVec 32 := Scalar.addi v9 c0_i32_508
  let v1271 : Index := Scalar.indexCast v1269
  let c4_i32_509 : BitVec 32 := 4#32
  let v1270 : BitVec 32 := Scalar.muli c4_i32_509 v1143
  let v1272 : Index := Scalar.indexCast v1270
  let c0_510 : Index := 0#32
  ![v1271.toNat, v1272.toNat, 0]

def k0_off227 (i : grid0.Coords) (v1159 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_511 : BitVec 32 := 0#32
  let v1275 : BitVec 32 := Scalar.addi v9 c0_i32_511
  let v1277 : Index := Scalar.indexCast v1275
  let c4_i32_512 : BitVec 32 := 4#32
  let v1276 : BitVec 32 := Scalar.muli c4_i32_512 v1159
  let v1278 : Index := Scalar.indexCast v1276
  let c0_513 : Index := 0#32
  ![v1277.toNat, v1278.toNat, 0]

def k0_off228 (i : grid0.Coords) (v1145 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_514 : BitVec 32 := 0#32
  let v1282 : BitVec 32 := Scalar.addi v9 c0_i32_514
  let v1284 : Index := Scalar.indexCast v1282
  let c4_i32_515 : BitVec 32 := 4#32
  let v1283 : BitVec 32 := Scalar.muli c4_i32_515 v1145
  let v1285 : Index := Scalar.indexCast v1283
  let c0_516 : Index := 0#32
  ![v1284.toNat, v1285.toNat, 0]

def k0_off229 (i : grid0.Coords) (v1161 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_517 : BitVec 32 := 0#32
  let v1288 : BitVec 32 := Scalar.addi v9 c0_i32_517
  let v1290 : Index := Scalar.indexCast v1288
  let c4_i32_518 : BitVec 32 := 4#32
  let v1289 : BitVec 32 := Scalar.muli c4_i32_518 v1161
  let v1291 : Index := Scalar.indexCast v1289
  let c0_519 : Index := 0#32
  ![v1290.toNat, v1291.toNat, 0]

def k0_off230 (i : grid0.Coords) (v1147 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_520 : BitVec 32 := 0#32
  let v1295 : BitVec 32 := Scalar.addi v9 c0_i32_520
  let v1297 : Index := Scalar.indexCast v1295
  let c4_i32_521 : BitVec 32 := 4#32
  let v1296 : BitVec 32 := Scalar.muli c4_i32_521 v1147
  let v1298 : Index := Scalar.indexCast v1296
  let c0_522 : Index := 0#32
  ![v1297.toNat, v1298.toNat, 0]

def k0_off231 (i : grid0.Coords) (v1163 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_523 : BitVec 32 := 0#32
  let v1301 : BitVec 32 := Scalar.addi v9 c0_i32_523
  let v1303 : Index := Scalar.indexCast v1301
  let c4_i32_524 : BitVec 32 := 4#32
  let v1302 : BitVec 32 := Scalar.muli c4_i32_524 v1163
  let v1304 : Index := Scalar.indexCast v1302
  let c0_525 : Index := 0#32
  ![v1303.toNat, v1304.toNat, 0]

def k0_off232 (i : grid0.Coords) (v1149 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_526 : BitVec 32 := 0#32
  let v1308 : BitVec 32 := Scalar.addi v9 c0_i32_526
  let v1310 : Index := Scalar.indexCast v1308
  let c4_i32_527 : BitVec 32 := 4#32
  let v1309 : BitVec 32 := Scalar.muli c4_i32_527 v1149
  let v1311 : Index := Scalar.indexCast v1309
  let c0_528 : Index := 0#32
  ![v1310.toNat, v1311.toNat, 0]

def k0_off233 (i : grid0.Coords) (v1165 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_529 : BitVec 32 := 0#32
  let v1314 : BitVec 32 := Scalar.addi v9 c0_i32_529
  let v1316 : Index := Scalar.indexCast v1314
  let c4_i32_530 : BitVec 32 := 4#32
  let v1315 : BitVec 32 := Scalar.muli c4_i32_530 v1165
  let v1317 : Index := Scalar.indexCast v1315
  let c0_531 : Index := 0#32
  ![v1316.toNat, v1317.toNat, 0]

def k0_off234 (i : grid0.Coords) (v1151 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_532 : BitVec 32 := 0#32
  let v1321 : BitVec 32 := Scalar.addi v9 c0_i32_532
  let v1323 : Index := Scalar.indexCast v1321
  let c4_i32_533 : BitVec 32 := 4#32
  let v1322 : BitVec 32 := Scalar.muli c4_i32_533 v1151
  let v1324 : Index := Scalar.indexCast v1322
  let c0_534 : Index := 0#32
  ![v1323.toNat, v1324.toNat, 0]

def k0_off235 (i : grid0.Coords) (v1167 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_535 : BitVec 32 := 0#32
  let v1327 : BitVec 32 := Scalar.addi v9 c0_i32_535
  let v1329 : Index := Scalar.indexCast v1327
  let c4_i32_536 : BitVec 32 := 4#32
  let v1328 : BitVec 32 := Scalar.muli c4_i32_536 v1167
  let v1330 : Index := Scalar.indexCast v1328
  let c0_537 : Index := 0#32
  ![v1329.toNat, v1330.toNat, 0]

def k0_off236 (i : grid0.Coords) (v1153 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_538 : BitVec 32 := 0#32
  let v1334 : BitVec 32 := Scalar.addi v9 c0_i32_538
  let v1336 : Index := Scalar.indexCast v1334
  let c4_i32_539 : BitVec 32 := 4#32
  let v1335 : BitVec 32 := Scalar.muli c4_i32_539 v1153
  let v1337 : Index := Scalar.indexCast v1335
  let c0_540 : Index := 0#32
  ![v1336.toNat, v1337.toNat, 0]

def k0_off237 (i : grid0.Coords) (v1169 : BitVec 32) (c0_i32_541 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v1340 : BitVec 32 := Scalar.addi v9 c0_i32_541
  let v1342 : Index := Scalar.indexCast v1340
  let c4_i32_542 : BitVec 32 := 4#32
  let v1341 : BitVec 32 := Scalar.muli c4_i32_542 v1169
  let v1343 : Index := Scalar.indexCast v1341
  let c0_543 : Index := 0#32
  ![v1342.toNat, v1343.toNat, 0]

def k0_chk64 (i : grid0.Coords) (v1169 : BitVec 32) : Prop :=
  (∀ (r : Fin 2), ∀ a, (k0_off237 i v1169 (BitVec.ofNat 32 r.val)) a + S1x32x128.size a ≤ S4x46784x128.size a)
theorem k0_off237_inb : ∀ (i : grid0.Coords) (v1169 : BitVec 32) (k0_hw64 : k0_chk64 i v1169), ∀ (r : Fin 2), ∀ a, (k0_off237 i v1169 (BitVec.ofNat 32 r.val)) a + S1x32x128.size a ≤ S4x46784x128.size a := fun i v1169 k0_hw64 r => k0_hw64 r

def k0_off238 (k0_t1 : Fin k0_t1_loop.trips) (c3_i32 : BitVec 32) (c1_i32_545 : BitVec 32) : Fin 3 → Nat :=
  let c0_546 : Index := 0#32
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let v1135 : BitVec 32 := Scalar.addi v1134 c3_i32
  let c2_i32_544 : BitVec 32 := 2#32
  let v1348 : BitVec 32 := Scalar.muli v1135 c2_i32_544
  let v1349 : BitVec 32 := Scalar.addi v1348 c1_i32_545
  let v1350 : Index := Scalar.indexCast v1349
  let c0_547 : Index := 0#32
  ![0, v1350.toNat, 0]
def k0_off238_at (r : Fin 2) : BitVec 32 × BitVec 32 :=
  if r.val < 1 then
    (3#32, 1#32)
  else
    (4#32, 0#32)
def k0_off239 (i : grid0.Coords) (v1139 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_553 : BitVec 32 := 1#32
  let v1374 : BitVec 32 := Scalar.addi v9 c1_i32_553
  let v1376 : Index := Scalar.indexCast v1374
  let c4_i32_554 : BitVec 32 := 4#32
  let v1375 : BitVec 32 := Scalar.muli c4_i32_554 v1139
  let v1377 : Index := Scalar.indexCast v1375
  let c0_555 : Index := 0#32
  ![v1376.toNat, v1377.toNat, 0]

def k0_chk49 (i : grid0.Coords) (v1139 : BitVec 32) : Prop :=
  (∀ a, (k0_off222 i v1139) a + S1x32x128.size a ≤ S4x46784x128.size a) ∧
  (∀ a, (k0_off239 i v1139) a + S1x32x128.size a ≤ S4x46784x128.size a)
theorem k0_off222_inb : ∀ (i : grid0.Coords) (v1139 : BitVec 32) (k0_hw49 : k0_chk49 i v1139), ∀ a, (k0_off222 i v1139) a + S1x32x128.size a ≤ S4x46784x128.size a := fun i v1139 k0_hw49 => k0_hw49.1
theorem k0_off239_inb : ∀ (i : grid0.Coords) (v1139 : BitVec 32) (k0_hw49 : k0_chk49 i v1139), ∀ a, (k0_off239 i v1139) a + S1x32x128.size a ≤ S4x46784x128.size a := fun i v1139 k0_hw49 => k0_hw49.2

def k0_off240 (i : grid0.Coords) (v1155 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_556 : BitVec 32 := 1#32
  let v1380 : BitVec 32 := Scalar.addi v9 c1_i32_556
  let v1382 : Index := Scalar.indexCast v1380
  let c4_i32_557 : BitVec 32 := 4#32
  let v1381 : BitVec 32 := Scalar.muli c4_i32_557 v1155
  let v1383 : Index := Scalar.indexCast v1381
  let c0_558 : Index := 0#32
  ![v1382.toNat, v1383.toNat, 0]

def k0_chk50 (i : grid0.Coords) (v1155 : BitVec 32) : Prop :=
  (∀ a, (k0_off223 i v1155) a + S1x32x128.size a ≤ S4x46784x128.size a) ∧
  (∀ a, (k0_off240 i v1155) a + S1x32x128.size a ≤ S4x46784x128.size a)
theorem k0_off223_inb : ∀ (i : grid0.Coords) (v1155 : BitVec 32) (k0_hw50 : k0_chk50 i v1155), ∀ a, (k0_off223 i v1155) a + S1x32x128.size a ≤ S4x46784x128.size a := fun i v1155 k0_hw50 => k0_hw50.1
theorem k0_off240_inb : ∀ (i : grid0.Coords) (v1155 : BitVec 32) (k0_hw50 : k0_chk50 i v1155), ∀ a, (k0_off240 i v1155) a + S1x32x128.size a ≤ S4x46784x128.size a := fun i v1155 k0_hw50 => k0_hw50.2

def k0_off241 (i : grid0.Coords) (v1141 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_559 : BitVec 32 := 1#32
  let v1387 : BitVec 32 := Scalar.addi v9 c1_i32_559
  let v1389 : Index := Scalar.indexCast v1387
  let c4_i32_560 : BitVec 32 := 4#32
  let v1388 : BitVec 32 := Scalar.muli c4_i32_560 v1141
  let v1390 : Index := Scalar.indexCast v1388
  let c0_561 : Index := 0#32
  ![v1389.toNat, v1390.toNat, 0]

def k0_chk51 (i : grid0.Coords) (v1141 : BitVec 32) : Prop :=
  (∀ a, (k0_off224 i v1141) a + S1x32x128.size a ≤ S4x46784x128.size a) ∧
  (∀ a, (k0_off241 i v1141) a + S1x32x128.size a ≤ S4x46784x128.size a)
theorem k0_off224_inb : ∀ (i : grid0.Coords) (v1141 : BitVec 32) (k0_hw51 : k0_chk51 i v1141), ∀ a, (k0_off224 i v1141) a + S1x32x128.size a ≤ S4x46784x128.size a := fun i v1141 k0_hw51 => k0_hw51.1
theorem k0_off241_inb : ∀ (i : grid0.Coords) (v1141 : BitVec 32) (k0_hw51 : k0_chk51 i v1141), ∀ a, (k0_off241 i v1141) a + S1x32x128.size a ≤ S4x46784x128.size a := fun i v1141 k0_hw51 => k0_hw51.2

def k0_off242 (i : grid0.Coords) (v1157 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_562 : BitVec 32 := 1#32
  let v1393 : BitVec 32 := Scalar.addi v9 c1_i32_562
  let v1395 : Index := Scalar.indexCast v1393
  let c4_i32_563 : BitVec 32 := 4#32
  let v1394 : BitVec 32 := Scalar.muli c4_i32_563 v1157
  let v1396 : Index := Scalar.indexCast v1394
  let c0_564 : Index := 0#32
  ![v1395.toNat, v1396.toNat, 0]

def k0_chk52 (i : grid0.Coords) (v1157 : BitVec 32) : Prop :=
  (∀ a, (k0_off225 i v1157) a + S1x32x128.size a ≤ S4x46784x128.size a) ∧
  (∀ a, (k0_off242 i v1157) a + S1x32x128.size a ≤ S4x46784x128.size a)
theorem k0_off225_inb : ∀ (i : grid0.Coords) (v1157 : BitVec 32) (k0_hw52 : k0_chk52 i v1157), ∀ a, (k0_off225 i v1157) a + S1x32x128.size a ≤ S4x46784x128.size a := fun i v1157 k0_hw52 => k0_hw52.1
theorem k0_off242_inb : ∀ (i : grid0.Coords) (v1157 : BitVec 32) (k0_hw52 : k0_chk52 i v1157), ∀ a, (k0_off242 i v1157) a + S1x32x128.size a ≤ S4x46784x128.size a := fun i v1157 k0_hw52 => k0_hw52.2

def k0_off243 (i : grid0.Coords) (v1143 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_565 : BitVec 32 := 1#32
  let v1400 : BitVec 32 := Scalar.addi v9 c1_i32_565
  let v1402 : Index := Scalar.indexCast v1400
  let c4_i32_566 : BitVec 32 := 4#32
  let v1401 : BitVec 32 := Scalar.muli c4_i32_566 v1143
  let v1403 : Index := Scalar.indexCast v1401
  let c0_567 : Index := 0#32
  ![v1402.toNat, v1403.toNat, 0]

def k0_chk53 (i : grid0.Coords) (v1143 : BitVec 32) : Prop :=
  (∀ a, (k0_off226 i v1143) a + S1x32x128.size a ≤ S4x46784x128.size a) ∧
  (∀ a, (k0_off243 i v1143) a + S1x32x128.size a ≤ S4x46784x128.size a)
theorem k0_off226_inb : ∀ (i : grid0.Coords) (v1143 : BitVec 32) (k0_hw53 : k0_chk53 i v1143), ∀ a, (k0_off226 i v1143) a + S1x32x128.size a ≤ S4x46784x128.size a := fun i v1143 k0_hw53 => k0_hw53.1
theorem k0_off243_inb : ∀ (i : grid0.Coords) (v1143 : BitVec 32) (k0_hw53 : k0_chk53 i v1143), ∀ a, (k0_off243 i v1143) a + S1x32x128.size a ≤ S4x46784x128.size a := fun i v1143 k0_hw53 => k0_hw53.2

def k0_off244 (i : grid0.Coords) (v1159 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_568 : BitVec 32 := 1#32
  let v1406 : BitVec 32 := Scalar.addi v9 c1_i32_568
  let v1408 : Index := Scalar.indexCast v1406
  let c4_i32_569 : BitVec 32 := 4#32
  let v1407 : BitVec 32 := Scalar.muli c4_i32_569 v1159
  let v1409 : Index := Scalar.indexCast v1407
  let c0_570 : Index := 0#32
  ![v1408.toNat, v1409.toNat, 0]

def k0_chk54 (i : grid0.Coords) (v1159 : BitVec 32) : Prop :=
  (∀ a, (k0_off227 i v1159) a + S1x32x128.size a ≤ S4x46784x128.size a) ∧
  (∀ a, (k0_off244 i v1159) a + S1x32x128.size a ≤ S4x46784x128.size a)
theorem k0_off227_inb : ∀ (i : grid0.Coords) (v1159 : BitVec 32) (k0_hw54 : k0_chk54 i v1159), ∀ a, (k0_off227 i v1159) a + S1x32x128.size a ≤ S4x46784x128.size a := fun i v1159 k0_hw54 => k0_hw54.1
theorem k0_off244_inb : ∀ (i : grid0.Coords) (v1159 : BitVec 32) (k0_hw54 : k0_chk54 i v1159), ∀ a, (k0_off244 i v1159) a + S1x32x128.size a ≤ S4x46784x128.size a := fun i v1159 k0_hw54 => k0_hw54.2

def k0_off245 (i : grid0.Coords) (v1145 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_571 : BitVec 32 := 1#32
  let v1413 : BitVec 32 := Scalar.addi v9 c1_i32_571
  let v1415 : Index := Scalar.indexCast v1413
  let c4_i32_572 : BitVec 32 := 4#32
  let v1414 : BitVec 32 := Scalar.muli c4_i32_572 v1145
  let v1416 : Index := Scalar.indexCast v1414
  let c0_573 : Index := 0#32
  ![v1415.toNat, v1416.toNat, 0]

def k0_chk55 (i : grid0.Coords) (v1145 : BitVec 32) : Prop :=
  (∀ a, (k0_off228 i v1145) a + S1x32x128.size a ≤ S4x46784x128.size a) ∧
  (∀ a, (k0_off245 i v1145) a + S1x32x128.size a ≤ S4x46784x128.size a)
theorem k0_off228_inb : ∀ (i : grid0.Coords) (v1145 : BitVec 32) (k0_hw55 : k0_chk55 i v1145), ∀ a, (k0_off228 i v1145) a + S1x32x128.size a ≤ S4x46784x128.size a := fun i v1145 k0_hw55 => k0_hw55.1
theorem k0_off245_inb : ∀ (i : grid0.Coords) (v1145 : BitVec 32) (k0_hw55 : k0_chk55 i v1145), ∀ a, (k0_off245 i v1145) a + S1x32x128.size a ≤ S4x46784x128.size a := fun i v1145 k0_hw55 => k0_hw55.2

def k0_off246 (i : grid0.Coords) (v1161 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_574 : BitVec 32 := 1#32
  let v1419 : BitVec 32 := Scalar.addi v9 c1_i32_574
  let v1421 : Index := Scalar.indexCast v1419
  let c4_i32_575 : BitVec 32 := 4#32
  let v1420 : BitVec 32 := Scalar.muli c4_i32_575 v1161
  let v1422 : Index := Scalar.indexCast v1420
  let c0_576 : Index := 0#32
  ![v1421.toNat, v1422.toNat, 0]

def k0_chk56 (i : grid0.Coords) (v1161 : BitVec 32) : Prop :=
  (∀ a, (k0_off229 i v1161) a + S1x32x128.size a ≤ S4x46784x128.size a) ∧
  (∀ a, (k0_off246 i v1161) a + S1x32x128.size a ≤ S4x46784x128.size a)
theorem k0_off229_inb : ∀ (i : grid0.Coords) (v1161 : BitVec 32) (k0_hw56 : k0_chk56 i v1161), ∀ a, (k0_off229 i v1161) a + S1x32x128.size a ≤ S4x46784x128.size a := fun i v1161 k0_hw56 => k0_hw56.1
theorem k0_off246_inb : ∀ (i : grid0.Coords) (v1161 : BitVec 32) (k0_hw56 : k0_chk56 i v1161), ∀ a, (k0_off246 i v1161) a + S1x32x128.size a ≤ S4x46784x128.size a := fun i v1161 k0_hw56 => k0_hw56.2

def k0_off247 (i : grid0.Coords) (v1147 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_577 : BitVec 32 := 1#32
  let v1426 : BitVec 32 := Scalar.addi v9 c1_i32_577
  let v1428 : Index := Scalar.indexCast v1426
  let c4_i32_578 : BitVec 32 := 4#32
  let v1427 : BitVec 32 := Scalar.muli c4_i32_578 v1147
  let v1429 : Index := Scalar.indexCast v1427
  let c0_579 : Index := 0#32
  ![v1428.toNat, v1429.toNat, 0]

def k0_chk57 (i : grid0.Coords) (v1147 : BitVec 32) : Prop :=
  (∀ a, (k0_off230 i v1147) a + S1x32x128.size a ≤ S4x46784x128.size a) ∧
  (∀ a, (k0_off247 i v1147) a + S1x32x128.size a ≤ S4x46784x128.size a)
theorem k0_off230_inb : ∀ (i : grid0.Coords) (v1147 : BitVec 32) (k0_hw57 : k0_chk57 i v1147), ∀ a, (k0_off230 i v1147) a + S1x32x128.size a ≤ S4x46784x128.size a := fun i v1147 k0_hw57 => k0_hw57.1
theorem k0_off247_inb : ∀ (i : grid0.Coords) (v1147 : BitVec 32) (k0_hw57 : k0_chk57 i v1147), ∀ a, (k0_off247 i v1147) a + S1x32x128.size a ≤ S4x46784x128.size a := fun i v1147 k0_hw57 => k0_hw57.2

def k0_off248 (i : grid0.Coords) (v1163 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_580 : BitVec 32 := 1#32
  let v1432 : BitVec 32 := Scalar.addi v9 c1_i32_580
  let v1434 : Index := Scalar.indexCast v1432
  let c4_i32_581 : BitVec 32 := 4#32
  let v1433 : BitVec 32 := Scalar.muli c4_i32_581 v1163
  let v1435 : Index := Scalar.indexCast v1433
  let c0_582 : Index := 0#32
  ![v1434.toNat, v1435.toNat, 0]

def k0_chk58 (i : grid0.Coords) (v1163 : BitVec 32) : Prop :=
  (∀ a, (k0_off231 i v1163) a + S1x32x128.size a ≤ S4x46784x128.size a) ∧
  (∀ a, (k0_off248 i v1163) a + S1x32x128.size a ≤ S4x46784x128.size a)
theorem k0_off231_inb : ∀ (i : grid0.Coords) (v1163 : BitVec 32) (k0_hw58 : k0_chk58 i v1163), ∀ a, (k0_off231 i v1163) a + S1x32x128.size a ≤ S4x46784x128.size a := fun i v1163 k0_hw58 => k0_hw58.1
theorem k0_off248_inb : ∀ (i : grid0.Coords) (v1163 : BitVec 32) (k0_hw58 : k0_chk58 i v1163), ∀ a, (k0_off248 i v1163) a + S1x32x128.size a ≤ S4x46784x128.size a := fun i v1163 k0_hw58 => k0_hw58.2

def k0_off249 (i : grid0.Coords) (v1149 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_583 : BitVec 32 := 1#32
  let v1439 : BitVec 32 := Scalar.addi v9 c1_i32_583
  let v1441 : Index := Scalar.indexCast v1439
  let c4_i32_584 : BitVec 32 := 4#32
  let v1440 : BitVec 32 := Scalar.muli c4_i32_584 v1149
  let v1442 : Index := Scalar.indexCast v1440
  let c0_585 : Index := 0#32
  ![v1441.toNat, v1442.toNat, 0]

def k0_chk59 (i : grid0.Coords) (v1149 : BitVec 32) : Prop :=
  (∀ a, (k0_off232 i v1149) a + S1x32x128.size a ≤ S4x46784x128.size a) ∧
  (∀ a, (k0_off249 i v1149) a + S1x32x128.size a ≤ S4x46784x128.size a)
theorem k0_off232_inb : ∀ (i : grid0.Coords) (v1149 : BitVec 32) (k0_hw59 : k0_chk59 i v1149), ∀ a, (k0_off232 i v1149) a + S1x32x128.size a ≤ S4x46784x128.size a := fun i v1149 k0_hw59 => k0_hw59.1
theorem k0_off249_inb : ∀ (i : grid0.Coords) (v1149 : BitVec 32) (k0_hw59 : k0_chk59 i v1149), ∀ a, (k0_off249 i v1149) a + S1x32x128.size a ≤ S4x46784x128.size a := fun i v1149 k0_hw59 => k0_hw59.2

def k0_off250 (i : grid0.Coords) (v1165 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_586 : BitVec 32 := 1#32
  let v1445 : BitVec 32 := Scalar.addi v9 c1_i32_586
  let v1447 : Index := Scalar.indexCast v1445
  let c4_i32_587 : BitVec 32 := 4#32
  let v1446 : BitVec 32 := Scalar.muli c4_i32_587 v1165
  let v1448 : Index := Scalar.indexCast v1446
  let c0_588 : Index := 0#32
  ![v1447.toNat, v1448.toNat, 0]

def k0_chk60 (i : grid0.Coords) (v1165 : BitVec 32) : Prop :=
  (∀ a, (k0_off233 i v1165) a + S1x32x128.size a ≤ S4x46784x128.size a) ∧
  (∀ a, (k0_off250 i v1165) a + S1x32x128.size a ≤ S4x46784x128.size a)
theorem k0_off233_inb : ∀ (i : grid0.Coords) (v1165 : BitVec 32) (k0_hw60 : k0_chk60 i v1165), ∀ a, (k0_off233 i v1165) a + S1x32x128.size a ≤ S4x46784x128.size a := fun i v1165 k0_hw60 => k0_hw60.1
theorem k0_off250_inb : ∀ (i : grid0.Coords) (v1165 : BitVec 32) (k0_hw60 : k0_chk60 i v1165), ∀ a, (k0_off250 i v1165) a + S1x32x128.size a ≤ S4x46784x128.size a := fun i v1165 k0_hw60 => k0_hw60.2

def k0_off251 (i : grid0.Coords) (v1151 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_589 : BitVec 32 := 1#32
  let v1452 : BitVec 32 := Scalar.addi v9 c1_i32_589
  let v1454 : Index := Scalar.indexCast v1452
  let c4_i32_590 : BitVec 32 := 4#32
  let v1453 : BitVec 32 := Scalar.muli c4_i32_590 v1151
  let v1455 : Index := Scalar.indexCast v1453
  let c0_591 : Index := 0#32
  ![v1454.toNat, v1455.toNat, 0]

def k0_chk61 (i : grid0.Coords) (v1151 : BitVec 32) : Prop :=
  (∀ a, (k0_off234 i v1151) a + S1x32x128.size a ≤ S4x46784x128.size a) ∧
  (∀ a, (k0_off251 i v1151) a + S1x32x128.size a ≤ S4x46784x128.size a)
theorem k0_off234_inb : ∀ (i : grid0.Coords) (v1151 : BitVec 32) (k0_hw61 : k0_chk61 i v1151), ∀ a, (k0_off234 i v1151) a + S1x32x128.size a ≤ S4x46784x128.size a := fun i v1151 k0_hw61 => k0_hw61.1
theorem k0_off251_inb : ∀ (i : grid0.Coords) (v1151 : BitVec 32) (k0_hw61 : k0_chk61 i v1151), ∀ a, (k0_off251 i v1151) a + S1x32x128.size a ≤ S4x46784x128.size a := fun i v1151 k0_hw61 => k0_hw61.2

def k0_off252 (i : grid0.Coords) (v1167 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_592 : BitVec 32 := 1#32
  let v1458 : BitVec 32 := Scalar.addi v9 c1_i32_592
  let v1460 : Index := Scalar.indexCast v1458
  let c4_i32_593 : BitVec 32 := 4#32
  let v1459 : BitVec 32 := Scalar.muli c4_i32_593 v1167
  let v1461 : Index := Scalar.indexCast v1459
  let c0_594 : Index := 0#32
  ![v1460.toNat, v1461.toNat, 0]

def k0_chk62 (i : grid0.Coords) (v1167 : BitVec 32) : Prop :=
  (∀ a, (k0_off235 i v1167) a + S1x32x128.size a ≤ S4x46784x128.size a) ∧
  (∀ a, (k0_off252 i v1167) a + S1x32x128.size a ≤ S4x46784x128.size a)
theorem k0_off235_inb : ∀ (i : grid0.Coords) (v1167 : BitVec 32) (k0_hw62 : k0_chk62 i v1167), ∀ a, (k0_off235 i v1167) a + S1x32x128.size a ≤ S4x46784x128.size a := fun i v1167 k0_hw62 => k0_hw62.1
theorem k0_off252_inb : ∀ (i : grid0.Coords) (v1167 : BitVec 32) (k0_hw62 : k0_chk62 i v1167), ∀ a, (k0_off252 i v1167) a + S1x32x128.size a ≤ S4x46784x128.size a := fun i v1167 k0_hw62 => k0_hw62.2

def k0_off253 (i : grid0.Coords) (v1153 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_595 : BitVec 32 := 1#32
  let v1465 : BitVec 32 := Scalar.addi v9 c1_i32_595
  let v1467 : Index := Scalar.indexCast v1465
  let c4_i32_596 : BitVec 32 := 4#32
  let v1466 : BitVec 32 := Scalar.muli c4_i32_596 v1153
  let v1468 : Index := Scalar.indexCast v1466
  let c0_597 : Index := 0#32
  ![v1467.toNat, v1468.toNat, 0]

def k0_chk63 (i : grid0.Coords) (v1153 : BitVec 32) : Prop :=
  (∀ a, (k0_off236 i v1153) a + S1x32x128.size a ≤ S4x46784x128.size a) ∧
  (∀ a, (k0_off253 i v1153) a + S1x32x128.size a ≤ S4x46784x128.size a)
theorem k0_off236_inb : ∀ (i : grid0.Coords) (v1153 : BitVec 32) (k0_hw63 : k0_chk63 i v1153), ∀ a, (k0_off236 i v1153) a + S1x32x128.size a ≤ S4x46784x128.size a := fun i v1153 k0_hw63 => k0_hw63.1
theorem k0_off253_inb : ∀ (i : grid0.Coords) (v1153 : BitVec 32) (k0_hw63 : k0_chk63 i v1153), ∀ a, (k0_off253 i v1153) a + S1x32x128.size a ≤ S4x46784x128.size a := fun i v1153 k0_hw63 => k0_hw63.2

def k0_mult14 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let c16_i32_602 : BitVec 32 := 16#32
  let v1482 : BitVec 32 := Scalar.muli v1135 c16_i32_602
  v1482
def k0_off254 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let c16_i32_602 : BitVec 32 := 16#32
  let v1482 : BitVec 32 := Scalar.muli v1135 c16_i32_602
  let v1483 : BitVec 32 := v1482
  let v1489 : Index := Scalar.indexCast v1483
  let c0_603 : Index := 0#32
  ![v1489.toNat, 0]
def k0_off255 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_450 : BitVec 32 := 8#32
  let v1134 : BitVec 32 := Scalar.muli arg11 c8_i32_450
  let c3_i32 : BitVec 32 := 3#32
  let v1135 : BitVec 32 := Scalar.addi v1134 c3_i32
  let c16_i32_602 : BitVec 32 := 16#32
  let v1482 : BitVec 32 := Scalar.muli v1135 c16_i32_602
  let v1483 : BitVec 32 := v1482
  let v1501 : Index := Scalar.indexCast v1483
  let c128_605 : Index := 128#32
  ![v1501.toNat, 128]
def k0_off256 (i : grid0.Coords) (k0_t1 : Fin k0_t1_loop.trips) : Fin 2 → Nat :=
  let c0_610 : Index := 0#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1512 : Index := Scalar.indexCast v1511
  ![0, v1512.toNat]
def k0_off257 (i : grid0.Coords) (k0_t1 : Fin k0_t1_loop.trips) : Fin 2 → Nat :=
  let c1_611 : Index := 1#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1514 : Index := Scalar.indexCast v1511
  ![1, v1514.toNat]
def k0_off258 (i : grid0.Coords) (k0_t1 : Fin k0_t1_loop.trips) : Fin 2 → Nat :=
  let c2_612 : Index := 2#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1516 : Index := Scalar.indexCast v1511
  ![2, v1516.toNat]
def k0_off259 (i : grid0.Coords) (k0_t1 : Fin k0_t1_loop.trips) : Fin 2 → Nat :=
  let c3_613 : Index := 3#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1518 : Index := Scalar.indexCast v1511
  ![3, v1518.toNat]
def k0_off260 (i : grid0.Coords) (k0_t1 : Fin k0_t1_loop.trips) : Fin 2 → Nat :=
  let c4_614 : Index := 4#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1520 : Index := Scalar.indexCast v1511
  ![4, v1520.toNat]
def k0_off261 (i : grid0.Coords) (k0_t1 : Fin k0_t1_loop.trips) : Fin 2 → Nat :=
  let c5_615 : Index := 5#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1522 : Index := Scalar.indexCast v1511
  ![5, v1522.toNat]
def k0_off262 (i : grid0.Coords) (k0_t1 : Fin k0_t1_loop.trips) : Fin 2 → Nat :=
  let c6_616 : Index := 6#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1524 : Index := Scalar.indexCast v1511
  ![6, v1524.toNat]
def k0_off263 (i : grid0.Coords) (k0_t1 : Fin k0_t1_loop.trips) : Fin 2 → Nat :=
  let c7_617 : Index := 7#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1526 : Index := Scalar.indexCast v1511
  ![7, v1526.toNat]
def k0_off264 (i : grid0.Coords) (k0_t1 : Fin k0_t1_loop.trips) : Fin 2 → Nat :=
  let c8_618 : Index := 8#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1528 : Index := Scalar.indexCast v1511
  ![8, v1528.toNat]
def k0_off265 (i : grid0.Coords) (k0_t1 : Fin k0_t1_loop.trips) : Fin 2 → Nat :=
  let c9_619 : Index := 9#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1530 : Index := Scalar.indexCast v1511
  ![9, v1530.toNat]
def k0_off266 (i : grid0.Coords) (k0_t1 : Fin k0_t1_loop.trips) : Fin 2 → Nat :=
  let c10_620 : Index := 10#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1532 : Index := Scalar.indexCast v1511
  ![10, v1532.toNat]
def k0_off267 (i : grid0.Coords) (k0_t1 : Fin k0_t1_loop.trips) : Fin 2 → Nat :=
  let c11_621 : Index := 11#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1534 : Index := Scalar.indexCast v1511
  ![11, v1534.toNat]
def k0_off268 (i : grid0.Coords) (k0_t1 : Fin k0_t1_loop.trips) : Fin 2 → Nat :=
  let c12_622 : Index := 12#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1536 : Index := Scalar.indexCast v1511
  ![12, v1536.toNat]
def k0_off269 (i : grid0.Coords) (k0_t1 : Fin k0_t1_loop.trips) : Fin 2 → Nat :=
  let c13_623 : Index := 13#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1538 : Index := Scalar.indexCast v1511
  ![13, v1538.toNat]
def k0_off270 (i : grid0.Coords) (k0_t1 : Fin k0_t1_loop.trips) : Fin 2 → Nat :=
  let c14_624 : Index := 14#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1540 : Index := Scalar.indexCast v1511
  ![14, v1540.toNat]
def k0_off271 (i : grid0.Coords) (k0_t1 : Fin k0_t1_loop.trips) : Fin 2 → Nat :=
  let c15_625 : Index := 15#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1542 : Index := Scalar.indexCast v1511
  ![15, v1542.toNat]
def k0_off272 (i : grid0.Coords) (k0_t1 : Fin k0_t1_loop.trips) : Fin 2 → Nat :=
  let c16_626 : Index := 16#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1544 : Index := Scalar.indexCast v1511
  ![16, v1544.toNat]
def k0_off273 (i : grid0.Coords) (k0_t1 : Fin k0_t1_loop.trips) : Fin 2 → Nat :=
  let c17_627 : Index := 17#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1546 : Index := Scalar.indexCast v1511
  ![17, v1546.toNat]
def k0_off274 (i : grid0.Coords) (k0_t1 : Fin k0_t1_loop.trips) : Fin 2 → Nat :=
  let c18_628 : Index := 18#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1548 : Index := Scalar.indexCast v1511
  ![18, v1548.toNat]
def k0_off275 (i : grid0.Coords) (k0_t1 : Fin k0_t1_loop.trips) : Fin 2 → Nat :=
  let c19_629 : Index := 19#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1550 : Index := Scalar.indexCast v1511
  ![19, v1550.toNat]
def k0_off276 (i : grid0.Coords) (k0_t1 : Fin k0_t1_loop.trips) : Fin 2 → Nat :=
  let c20_630 : Index := 20#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1552 : Index := Scalar.indexCast v1511
  ![20, v1552.toNat]
def k0_off277 (i : grid0.Coords) (k0_t1 : Fin k0_t1_loop.trips) : Fin 2 → Nat :=
  let c21_631 : Index := 21#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1554 : Index := Scalar.indexCast v1511
  ![21, v1554.toNat]
def k0_off278 (i : grid0.Coords) (k0_t1 : Fin k0_t1_loop.trips) : Fin 2 → Nat :=
  let c22_632 : Index := 22#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1556 : Index := Scalar.indexCast v1511
  ![22, v1556.toNat]
def k0_off279 (i : grid0.Coords) (k0_t1 : Fin k0_t1_loop.trips) : Fin 2 → Nat :=
  let c23_633 : Index := 23#32
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let v1558 : Index := Scalar.indexCast v1511
  ![23, v1558.toNat]
def k0_mult15 (i : grid0.Coords) (k0_t1 : Fin k0_t1_loop.trips) : BitVec 32 :=
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let c8_i32_642 : BitVec 32 := 8#32
  let v1584 : BitVec 32 := Scalar.muli v1511 c8_i32_642
  v1584
def k0_off280 (i : grid0.Coords) (k0_t1 : Fin k0_t1_loop.trips) : Fin 2 → Nat :=
  let arg1 : BitVec 32 := BitVec.ofNat 32 (i 1).val
  let c128_i32_609 : BitVec 32 := 128#32
  let v1510 : BitVec 32 := Scalar.muli arg1 c128_i32_609
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let v1511 : BitVec 32 := Scalar.addi v1510 v1509
  let c8_i32_642 : BitVec 32 := 8#32
  let v1584 : BitVec 32 := Scalar.muli v1511 c8_i32_642
  let v1585 : BitVec 32 := v1584
  let v1586 : Index := Scalar.indexCast v1585
  let c0_643 : Index := 0#32
  ![v1586.toNat, 0]
def k0_off281 (i : grid0.Coords) (v1513 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_654 : BitVec 32 := 0#32
  let v1617 : BitVec 32 := Scalar.addi v9 c0_i32_654
  let v1619 : Index := Scalar.indexCast v1617
  let c4_i32_655 : BitVec 32 := 4#32
  let v1618 : BitVec 32 := Scalar.muli c4_i32_655 v1513
  let v1620 : Index := Scalar.indexCast v1618
  let c0_656 : Index := 0#32
  ![v1619.toNat, v1620.toNat, 0]

def k0_off282 (i : grid0.Coords) (v1529 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_657 : BitVec 32 := 0#32
  let v1623 : BitVec 32 := Scalar.addi v9 c0_i32_657
  let v1625 : Index := Scalar.indexCast v1623
  let c4_i32_658 : BitVec 32 := 4#32
  let v1624 : BitVec 32 := Scalar.muli c4_i32_658 v1529
  let v1626 : Index := Scalar.indexCast v1624
  let c0_659 : Index := 0#32
  ![v1625.toNat, v1626.toNat, 0]

def k0_off283 (i : grid0.Coords) (v1515 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_660 : BitVec 32 := 0#32
  let v1630 : BitVec 32 := Scalar.addi v9 c0_i32_660
  let v1632 : Index := Scalar.indexCast v1630
  let c4_i32_661 : BitVec 32 := 4#32
  let v1631 : BitVec 32 := Scalar.muli c4_i32_661 v1515
  let v1633 : Index := Scalar.indexCast v1631
  let c0_662 : Index := 0#32
  ![v1632.toNat, v1633.toNat, 0]

def k0_off284 (i : grid0.Coords) (v1531 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_663 : BitVec 32 := 0#32
  let v1636 : BitVec 32 := Scalar.addi v9 c0_i32_663
  let v1638 : Index := Scalar.indexCast v1636
  let c4_i32_664 : BitVec 32 := 4#32
  let v1637 : BitVec 32 := Scalar.muli c4_i32_664 v1531
  let v1639 : Index := Scalar.indexCast v1637
  let c0_665 : Index := 0#32
  ![v1638.toNat, v1639.toNat, 0]

def k0_off285 (i : grid0.Coords) (v1517 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_666 : BitVec 32 := 0#32
  let v1643 : BitVec 32 := Scalar.addi v9 c0_i32_666
  let v1645 : Index := Scalar.indexCast v1643
  let c4_i32_667 : BitVec 32 := 4#32
  let v1644 : BitVec 32 := Scalar.muli c4_i32_667 v1517
  let v1646 : Index := Scalar.indexCast v1644
  let c0_668 : Index := 0#32
  ![v1645.toNat, v1646.toNat, 0]

def k0_off286 (i : grid0.Coords) (v1533 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_669 : BitVec 32 := 0#32
  let v1649 : BitVec 32 := Scalar.addi v9 c0_i32_669
  let v1651 : Index := Scalar.indexCast v1649
  let c4_i32_670 : BitVec 32 := 4#32
  let v1650 : BitVec 32 := Scalar.muli c4_i32_670 v1533
  let v1652 : Index := Scalar.indexCast v1650
  let c0_671 : Index := 0#32
  ![v1651.toNat, v1652.toNat, 0]

def k0_off287 (i : grid0.Coords) (v1519 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_672 : BitVec 32 := 0#32
  let v1656 : BitVec 32 := Scalar.addi v9 c0_i32_672
  let v1658 : Index := Scalar.indexCast v1656
  let c4_i32_673 : BitVec 32 := 4#32
  let v1657 : BitVec 32 := Scalar.muli c4_i32_673 v1519
  let v1659 : Index := Scalar.indexCast v1657
  let c0_674 : Index := 0#32
  ![v1658.toNat, v1659.toNat, 0]

def k0_off288 (i : grid0.Coords) (v1535 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_675 : BitVec 32 := 0#32
  let v1662 : BitVec 32 := Scalar.addi v9 c0_i32_675
  let v1664 : Index := Scalar.indexCast v1662
  let c4_i32_676 : BitVec 32 := 4#32
  let v1663 : BitVec 32 := Scalar.muli c4_i32_676 v1535
  let v1665 : Index := Scalar.indexCast v1663
  let c0_677 : Index := 0#32
  ![v1664.toNat, v1665.toNat, 0]

def k0_off289 (i : grid0.Coords) (v1521 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_678 : BitVec 32 := 0#32
  let v1669 : BitVec 32 := Scalar.addi v9 c0_i32_678
  let v1671 : Index := Scalar.indexCast v1669
  let c4_i32_679 : BitVec 32 := 4#32
  let v1670 : BitVec 32 := Scalar.muli c4_i32_679 v1521
  let v1672 : Index := Scalar.indexCast v1670
  let c0_680 : Index := 0#32
  ![v1671.toNat, v1672.toNat, 0]

def k0_off290 (i : grid0.Coords) (v1537 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_681 : BitVec 32 := 0#32
  let v1675 : BitVec 32 := Scalar.addi v9 c0_i32_681
  let v1677 : Index := Scalar.indexCast v1675
  let c4_i32_682 : BitVec 32 := 4#32
  let v1676 : BitVec 32 := Scalar.muli c4_i32_682 v1537
  let v1678 : Index := Scalar.indexCast v1676
  let c0_683 : Index := 0#32
  ![v1677.toNat, v1678.toNat, 0]

def k0_off291 (i : grid0.Coords) (v1523 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_684 : BitVec 32 := 0#32
  let v1682 : BitVec 32 := Scalar.addi v9 c0_i32_684
  let v1684 : Index := Scalar.indexCast v1682
  let c4_i32_685 : BitVec 32 := 4#32
  let v1683 : BitVec 32 := Scalar.muli c4_i32_685 v1523
  let v1685 : Index := Scalar.indexCast v1683
  let c0_686 : Index := 0#32
  ![v1684.toNat, v1685.toNat, 0]

def k0_off292 (i : grid0.Coords) (v1539 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_687 : BitVec 32 := 0#32
  let v1688 : BitVec 32 := Scalar.addi v9 c0_i32_687
  let v1690 : Index := Scalar.indexCast v1688
  let c4_i32_688 : BitVec 32 := 4#32
  let v1689 : BitVec 32 := Scalar.muli c4_i32_688 v1539
  let v1691 : Index := Scalar.indexCast v1689
  let c0_689 : Index := 0#32
  ![v1690.toNat, v1691.toNat, 0]

def k0_off293 (i : grid0.Coords) (v1525 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_690 : BitVec 32 := 0#32
  let v1695 : BitVec 32 := Scalar.addi v9 c0_i32_690
  let v1697 : Index := Scalar.indexCast v1695
  let c4_i32_691 : BitVec 32 := 4#32
  let v1696 : BitVec 32 := Scalar.muli c4_i32_691 v1525
  let v1698 : Index := Scalar.indexCast v1696
  let c0_692 : Index := 0#32
  ![v1697.toNat, v1698.toNat, 0]

def k0_off294 (i : grid0.Coords) (v1541 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_693 : BitVec 32 := 0#32
  let v1701 : BitVec 32 := Scalar.addi v9 c0_i32_693
  let v1703 : Index := Scalar.indexCast v1701
  let c4_i32_694 : BitVec 32 := 4#32
  let v1702 : BitVec 32 := Scalar.muli c4_i32_694 v1541
  let v1704 : Index := Scalar.indexCast v1702
  let c0_695 : Index := 0#32
  ![v1703.toNat, v1704.toNat, 0]

def k0_off295 (i : grid0.Coords) (v1527 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_696 : BitVec 32 := 0#32
  let v1708 : BitVec 32 := Scalar.addi v9 c0_i32_696
  let v1710 : Index := Scalar.indexCast v1708
  let c4_i32_697 : BitVec 32 := 4#32
  let v1709 : BitVec 32 := Scalar.muli c4_i32_697 v1527
  let v1711 : Index := Scalar.indexCast v1709
  let c0_698 : Index := 0#32
  ![v1710.toNat, v1711.toNat, 0]

def k0_off296 (i : grid0.Coords) (v1543 : BitVec 32) (c0_i32_699 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v1714 : BitVec 32 := Scalar.addi v9 c0_i32_699
  let v1716 : Index := Scalar.indexCast v1714
  let c4_i32_700 : BitVec 32 := 4#32
  let v1715 : BitVec 32 := Scalar.muli c4_i32_700 v1543
  let v1717 : Index := Scalar.indexCast v1715
  let c0_701 : Index := 0#32
  ![v1716.toNat, v1717.toNat, 0]

def k0_chk80 (i : grid0.Coords) (v1543 : BitVec 32) : Prop :=
  (∀ (r : Fin 2), ∀ a, (k0_off296 i v1543 (BitVec.ofNat 32 r.val)) a + S1x32x128.size a ≤ S4x46784x128.size a)
theorem k0_off296_inb : ∀ (i : grid0.Coords) (v1543 : BitVec 32) (k0_hw80 : k0_chk80 i v1543), ∀ (r : Fin 2), ∀ a, (k0_off296 i v1543 (BitVec.ofNat 32 r.val)) a + S1x32x128.size a ≤ S4x46784x128.size a := fun i v1543 k0_hw80 r => k0_hw80 r

def k0_off297 (k0_t1 : Fin k0_t1_loop.trips) (c4_i32_608 : BitVec 32) (c1_i32_703 : BitVec 32) : Fin 3 → Nat :=
  let c0_704 : Index := 0#32
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let v1509 : BitVec 32 := Scalar.addi v1508 c4_i32_608
  let c2_i32_702 : BitVec 32 := 2#32
  let v1722 : BitVec 32 := Scalar.muli v1509 c2_i32_702
  let v1723 : BitVec 32 := Scalar.addi v1722 c1_i32_703
  let v1724 : Index := Scalar.indexCast v1723
  let c0_705 : Index := 0#32
  ![0, v1724.toNat, 0]
def k0_off297_at (r : Fin 2) : BitVec 32 × BitVec 32 :=
  if r.val < 1 then
    (4#32, 1#32)
  else
    (5#32, 0#32)
def k0_off298 (i : grid0.Coords) (v1513 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_711 : BitVec 32 := 1#32
  let v1748 : BitVec 32 := Scalar.addi v9 c1_i32_711
  let v1750 : Index := Scalar.indexCast v1748
  let c4_i32_712 : BitVec 32 := 4#32
  let v1749 : BitVec 32 := Scalar.muli c4_i32_712 v1513
  let v1751 : Index := Scalar.indexCast v1749
  let c0_713 : Index := 0#32
  ![v1750.toNat, v1751.toNat, 0]

def k0_chk65 (i : grid0.Coords) (v1513 : BitVec 32) : Prop :=
  (∀ a, (k0_off281 i v1513) a + S1x32x128.size a ≤ S4x46784x128.size a) ∧
  (∀ a, (k0_off298 i v1513) a + S1x32x128.size a ≤ S4x46784x128.size a)
theorem k0_off281_inb : ∀ (i : grid0.Coords) (v1513 : BitVec 32) (k0_hw65 : k0_chk65 i v1513), ∀ a, (k0_off281 i v1513) a + S1x32x128.size a ≤ S4x46784x128.size a := fun i v1513 k0_hw65 => k0_hw65.1
theorem k0_off298_inb : ∀ (i : grid0.Coords) (v1513 : BitVec 32) (k0_hw65 : k0_chk65 i v1513), ∀ a, (k0_off298 i v1513) a + S1x32x128.size a ≤ S4x46784x128.size a := fun i v1513 k0_hw65 => k0_hw65.2

def k0_off299 (i : grid0.Coords) (v1529 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_714 : BitVec 32 := 1#32
  let v1754 : BitVec 32 := Scalar.addi v9 c1_i32_714
  let v1756 : Index := Scalar.indexCast v1754
  let c4_i32_715 : BitVec 32 := 4#32
  let v1755 : BitVec 32 := Scalar.muli c4_i32_715 v1529
  let v1757 : Index := Scalar.indexCast v1755
  let c0_716 : Index := 0#32
  ![v1756.toNat, v1757.toNat, 0]

def k0_chk66 (i : grid0.Coords) (v1529 : BitVec 32) : Prop :=
  (∀ a, (k0_off282 i v1529) a + S1x32x128.size a ≤ S4x46784x128.size a) ∧
  (∀ a, (k0_off299 i v1529) a + S1x32x128.size a ≤ S4x46784x128.size a)
theorem k0_off282_inb : ∀ (i : grid0.Coords) (v1529 : BitVec 32) (k0_hw66 : k0_chk66 i v1529), ∀ a, (k0_off282 i v1529) a + S1x32x128.size a ≤ S4x46784x128.size a := fun i v1529 k0_hw66 => k0_hw66.1
theorem k0_off299_inb : ∀ (i : grid0.Coords) (v1529 : BitVec 32) (k0_hw66 : k0_chk66 i v1529), ∀ a, (k0_off299 i v1529) a + S1x32x128.size a ≤ S4x46784x128.size a := fun i v1529 k0_hw66 => k0_hw66.2

def k0_off300 (i : grid0.Coords) (v1515 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_717 : BitVec 32 := 1#32
  let v1761 : BitVec 32 := Scalar.addi v9 c1_i32_717
  let v1763 : Index := Scalar.indexCast v1761
  let c4_i32_718 : BitVec 32 := 4#32
  let v1762 : BitVec 32 := Scalar.muli c4_i32_718 v1515
  let v1764 : Index := Scalar.indexCast v1762
  let c0_719 : Index := 0#32
  ![v1763.toNat, v1764.toNat, 0]

def k0_chk67 (i : grid0.Coords) (v1515 : BitVec 32) : Prop :=
  (∀ a, (k0_off283 i v1515) a + S1x32x128.size a ≤ S4x46784x128.size a) ∧
  (∀ a, (k0_off300 i v1515) a + S1x32x128.size a ≤ S4x46784x128.size a)
theorem k0_off283_inb : ∀ (i : grid0.Coords) (v1515 : BitVec 32) (k0_hw67 : k0_chk67 i v1515), ∀ a, (k0_off283 i v1515) a + S1x32x128.size a ≤ S4x46784x128.size a := fun i v1515 k0_hw67 => k0_hw67.1
theorem k0_off300_inb : ∀ (i : grid0.Coords) (v1515 : BitVec 32) (k0_hw67 : k0_chk67 i v1515), ∀ a, (k0_off300 i v1515) a + S1x32x128.size a ≤ S4x46784x128.size a := fun i v1515 k0_hw67 => k0_hw67.2

def k0_off301 (i : grid0.Coords) (v1531 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_720 : BitVec 32 := 1#32
  let v1767 : BitVec 32 := Scalar.addi v9 c1_i32_720
  let v1769 : Index := Scalar.indexCast v1767
  let c4_i32_721 : BitVec 32 := 4#32
  let v1768 : BitVec 32 := Scalar.muli c4_i32_721 v1531
  let v1770 : Index := Scalar.indexCast v1768
  let c0_722 : Index := 0#32
  ![v1769.toNat, v1770.toNat, 0]

def k0_chk68 (i : grid0.Coords) (v1531 : BitVec 32) : Prop :=
  (∀ a, (k0_off284 i v1531) a + S1x32x128.size a ≤ S4x46784x128.size a) ∧
  (∀ a, (k0_off301 i v1531) a + S1x32x128.size a ≤ S4x46784x128.size a)
theorem k0_off284_inb : ∀ (i : grid0.Coords) (v1531 : BitVec 32) (k0_hw68 : k0_chk68 i v1531), ∀ a, (k0_off284 i v1531) a + S1x32x128.size a ≤ S4x46784x128.size a := fun i v1531 k0_hw68 => k0_hw68.1
theorem k0_off301_inb : ∀ (i : grid0.Coords) (v1531 : BitVec 32) (k0_hw68 : k0_chk68 i v1531), ∀ a, (k0_off301 i v1531) a + S1x32x128.size a ≤ S4x46784x128.size a := fun i v1531 k0_hw68 => k0_hw68.2

def k0_off302 (i : grid0.Coords) (v1517 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_723 : BitVec 32 := 1#32
  let v1774 : BitVec 32 := Scalar.addi v9 c1_i32_723
  let v1776 : Index := Scalar.indexCast v1774
  let c4_i32_724 : BitVec 32 := 4#32
  let v1775 : BitVec 32 := Scalar.muli c4_i32_724 v1517
  let v1777 : Index := Scalar.indexCast v1775
  let c0_725 : Index := 0#32
  ![v1776.toNat, v1777.toNat, 0]

def k0_chk69 (i : grid0.Coords) (v1517 : BitVec 32) : Prop :=
  (∀ a, (k0_off285 i v1517) a + S1x32x128.size a ≤ S4x46784x128.size a) ∧
  (∀ a, (k0_off302 i v1517) a + S1x32x128.size a ≤ S4x46784x128.size a)
theorem k0_off285_inb : ∀ (i : grid0.Coords) (v1517 : BitVec 32) (k0_hw69 : k0_chk69 i v1517), ∀ a, (k0_off285 i v1517) a + S1x32x128.size a ≤ S4x46784x128.size a := fun i v1517 k0_hw69 => k0_hw69.1
theorem k0_off302_inb : ∀ (i : grid0.Coords) (v1517 : BitVec 32) (k0_hw69 : k0_chk69 i v1517), ∀ a, (k0_off302 i v1517) a + S1x32x128.size a ≤ S4x46784x128.size a := fun i v1517 k0_hw69 => k0_hw69.2

def k0_off303 (i : grid0.Coords) (v1533 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_726 : BitVec 32 := 1#32
  let v1780 : BitVec 32 := Scalar.addi v9 c1_i32_726
  let v1782 : Index := Scalar.indexCast v1780
  let c4_i32_727 : BitVec 32 := 4#32
  let v1781 : BitVec 32 := Scalar.muli c4_i32_727 v1533
  let v1783 : Index := Scalar.indexCast v1781
  let c0_728 : Index := 0#32
  ![v1782.toNat, v1783.toNat, 0]

def k0_chk70 (i : grid0.Coords) (v1533 : BitVec 32) : Prop :=
  (∀ a, (k0_off286 i v1533) a + S1x32x128.size a ≤ S4x46784x128.size a) ∧
  (∀ a, (k0_off303 i v1533) a + S1x32x128.size a ≤ S4x46784x128.size a)
theorem k0_off286_inb : ∀ (i : grid0.Coords) (v1533 : BitVec 32) (k0_hw70 : k0_chk70 i v1533), ∀ a, (k0_off286 i v1533) a + S1x32x128.size a ≤ S4x46784x128.size a := fun i v1533 k0_hw70 => k0_hw70.1
theorem k0_off303_inb : ∀ (i : grid0.Coords) (v1533 : BitVec 32) (k0_hw70 : k0_chk70 i v1533), ∀ a, (k0_off303 i v1533) a + S1x32x128.size a ≤ S4x46784x128.size a := fun i v1533 k0_hw70 => k0_hw70.2

def k0_off304 (i : grid0.Coords) (v1519 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_729 : BitVec 32 := 1#32
  let v1787 : BitVec 32 := Scalar.addi v9 c1_i32_729
  let v1789 : Index := Scalar.indexCast v1787
  let c4_i32_730 : BitVec 32 := 4#32
  let v1788 : BitVec 32 := Scalar.muli c4_i32_730 v1519
  let v1790 : Index := Scalar.indexCast v1788
  let c0_731 : Index := 0#32
  ![v1789.toNat, v1790.toNat, 0]

def k0_chk71 (i : grid0.Coords) (v1519 : BitVec 32) : Prop :=
  (∀ a, (k0_off287 i v1519) a + S1x32x128.size a ≤ S4x46784x128.size a) ∧
  (∀ a, (k0_off304 i v1519) a + S1x32x128.size a ≤ S4x46784x128.size a)
theorem k0_off287_inb : ∀ (i : grid0.Coords) (v1519 : BitVec 32) (k0_hw71 : k0_chk71 i v1519), ∀ a, (k0_off287 i v1519) a + S1x32x128.size a ≤ S4x46784x128.size a := fun i v1519 k0_hw71 => k0_hw71.1
theorem k0_off304_inb : ∀ (i : grid0.Coords) (v1519 : BitVec 32) (k0_hw71 : k0_chk71 i v1519), ∀ a, (k0_off304 i v1519) a + S1x32x128.size a ≤ S4x46784x128.size a := fun i v1519 k0_hw71 => k0_hw71.2

def k0_off305 (i : grid0.Coords) (v1535 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_732 : BitVec 32 := 1#32
  let v1793 : BitVec 32 := Scalar.addi v9 c1_i32_732
  let v1795 : Index := Scalar.indexCast v1793
  let c4_i32_733 : BitVec 32 := 4#32
  let v1794 : BitVec 32 := Scalar.muli c4_i32_733 v1535
  let v1796 : Index := Scalar.indexCast v1794
  let c0_734 : Index := 0#32
  ![v1795.toNat, v1796.toNat, 0]

def k0_chk72 (i : grid0.Coords) (v1535 : BitVec 32) : Prop :=
  (∀ a, (k0_off288 i v1535) a + S1x32x128.size a ≤ S4x46784x128.size a) ∧
  (∀ a, (k0_off305 i v1535) a + S1x32x128.size a ≤ S4x46784x128.size a)
theorem k0_off288_inb : ∀ (i : grid0.Coords) (v1535 : BitVec 32) (k0_hw72 : k0_chk72 i v1535), ∀ a, (k0_off288 i v1535) a + S1x32x128.size a ≤ S4x46784x128.size a := fun i v1535 k0_hw72 => k0_hw72.1
theorem k0_off305_inb : ∀ (i : grid0.Coords) (v1535 : BitVec 32) (k0_hw72 : k0_chk72 i v1535), ∀ a, (k0_off305 i v1535) a + S1x32x128.size a ≤ S4x46784x128.size a := fun i v1535 k0_hw72 => k0_hw72.2

def k0_off306 (i : grid0.Coords) (v1521 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_735 : BitVec 32 := 1#32
  let v1800 : BitVec 32 := Scalar.addi v9 c1_i32_735
  let v1802 : Index := Scalar.indexCast v1800
  let c4_i32_736 : BitVec 32 := 4#32
  let v1801 : BitVec 32 := Scalar.muli c4_i32_736 v1521
  let v1803 : Index := Scalar.indexCast v1801
  let c0_737 : Index := 0#32
  ![v1802.toNat, v1803.toNat, 0]

def k0_chk73 (i : grid0.Coords) (v1521 : BitVec 32) : Prop :=
  (∀ a, (k0_off289 i v1521) a + S1x32x128.size a ≤ S4x46784x128.size a) ∧
  (∀ a, (k0_off306 i v1521) a + S1x32x128.size a ≤ S4x46784x128.size a)
theorem k0_off289_inb : ∀ (i : grid0.Coords) (v1521 : BitVec 32) (k0_hw73 : k0_chk73 i v1521), ∀ a, (k0_off289 i v1521) a + S1x32x128.size a ≤ S4x46784x128.size a := fun i v1521 k0_hw73 => k0_hw73.1
theorem k0_off306_inb : ∀ (i : grid0.Coords) (v1521 : BitVec 32) (k0_hw73 : k0_chk73 i v1521), ∀ a, (k0_off306 i v1521) a + S1x32x128.size a ≤ S4x46784x128.size a := fun i v1521 k0_hw73 => k0_hw73.2

def k0_off307 (i : grid0.Coords) (v1537 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_738 : BitVec 32 := 1#32
  let v1806 : BitVec 32 := Scalar.addi v9 c1_i32_738
  let v1808 : Index := Scalar.indexCast v1806
  let c4_i32_739 : BitVec 32 := 4#32
  let v1807 : BitVec 32 := Scalar.muli c4_i32_739 v1537
  let v1809 : Index := Scalar.indexCast v1807
  let c0_740 : Index := 0#32
  ![v1808.toNat, v1809.toNat, 0]

def k0_chk74 (i : grid0.Coords) (v1537 : BitVec 32) : Prop :=
  (∀ a, (k0_off290 i v1537) a + S1x32x128.size a ≤ S4x46784x128.size a) ∧
  (∀ a, (k0_off307 i v1537) a + S1x32x128.size a ≤ S4x46784x128.size a)
theorem k0_off290_inb : ∀ (i : grid0.Coords) (v1537 : BitVec 32) (k0_hw74 : k0_chk74 i v1537), ∀ a, (k0_off290 i v1537) a + S1x32x128.size a ≤ S4x46784x128.size a := fun i v1537 k0_hw74 => k0_hw74.1
theorem k0_off307_inb : ∀ (i : grid0.Coords) (v1537 : BitVec 32) (k0_hw74 : k0_chk74 i v1537), ∀ a, (k0_off307 i v1537) a + S1x32x128.size a ≤ S4x46784x128.size a := fun i v1537 k0_hw74 => k0_hw74.2

def k0_off308 (i : grid0.Coords) (v1523 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_741 : BitVec 32 := 1#32
  let v1813 : BitVec 32 := Scalar.addi v9 c1_i32_741
  let v1815 : Index := Scalar.indexCast v1813
  let c4_i32_742 : BitVec 32 := 4#32
  let v1814 : BitVec 32 := Scalar.muli c4_i32_742 v1523
  let v1816 : Index := Scalar.indexCast v1814
  let c0_743 : Index := 0#32
  ![v1815.toNat, v1816.toNat, 0]

def k0_chk75 (i : grid0.Coords) (v1523 : BitVec 32) : Prop :=
  (∀ a, (k0_off291 i v1523) a + S1x32x128.size a ≤ S4x46784x128.size a) ∧
  (∀ a, (k0_off308 i v1523) a + S1x32x128.size a ≤ S4x46784x128.size a)
theorem k0_off291_inb : ∀ (i : grid0.Coords) (v1523 : BitVec 32) (k0_hw75 : k0_chk75 i v1523), ∀ a, (k0_off291 i v1523) a + S1x32x128.size a ≤ S4x46784x128.size a := fun i v1523 k0_hw75 => k0_hw75.1
theorem k0_off308_inb : ∀ (i : grid0.Coords) (v1523 : BitVec 32) (k0_hw75 : k0_chk75 i v1523), ∀ a, (k0_off308 i v1523) a + S1x32x128.size a ≤ S4x46784x128.size a := fun i v1523 k0_hw75 => k0_hw75.2

def k0_off309 (i : grid0.Coords) (v1539 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_744 : BitVec 32 := 1#32
  let v1819 : BitVec 32 := Scalar.addi v9 c1_i32_744
  let v1821 : Index := Scalar.indexCast v1819
  let c4_i32_745 : BitVec 32 := 4#32
  let v1820 : BitVec 32 := Scalar.muli c4_i32_745 v1539
  let v1822 : Index := Scalar.indexCast v1820
  let c0_746 : Index := 0#32
  ![v1821.toNat, v1822.toNat, 0]

def k0_chk76 (i : grid0.Coords) (v1539 : BitVec 32) : Prop :=
  (∀ a, (k0_off292 i v1539) a + S1x32x128.size a ≤ S4x46784x128.size a) ∧
  (∀ a, (k0_off309 i v1539) a + S1x32x128.size a ≤ S4x46784x128.size a)
theorem k0_off292_inb : ∀ (i : grid0.Coords) (v1539 : BitVec 32) (k0_hw76 : k0_chk76 i v1539), ∀ a, (k0_off292 i v1539) a + S1x32x128.size a ≤ S4x46784x128.size a := fun i v1539 k0_hw76 => k0_hw76.1
theorem k0_off309_inb : ∀ (i : grid0.Coords) (v1539 : BitVec 32) (k0_hw76 : k0_chk76 i v1539), ∀ a, (k0_off309 i v1539) a + S1x32x128.size a ≤ S4x46784x128.size a := fun i v1539 k0_hw76 => k0_hw76.2

def k0_off310 (i : grid0.Coords) (v1525 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_747 : BitVec 32 := 1#32
  let v1826 : BitVec 32 := Scalar.addi v9 c1_i32_747
  let v1828 : Index := Scalar.indexCast v1826
  let c4_i32_748 : BitVec 32 := 4#32
  let v1827 : BitVec 32 := Scalar.muli c4_i32_748 v1525
  let v1829 : Index := Scalar.indexCast v1827
  let c0_749 : Index := 0#32
  ![v1828.toNat, v1829.toNat, 0]

def k0_chk77 (i : grid0.Coords) (v1525 : BitVec 32) : Prop :=
  (∀ a, (k0_off293 i v1525) a + S1x32x128.size a ≤ S4x46784x128.size a) ∧
  (∀ a, (k0_off310 i v1525) a + S1x32x128.size a ≤ S4x46784x128.size a)
theorem k0_off293_inb : ∀ (i : grid0.Coords) (v1525 : BitVec 32) (k0_hw77 : k0_chk77 i v1525), ∀ a, (k0_off293 i v1525) a + S1x32x128.size a ≤ S4x46784x128.size a := fun i v1525 k0_hw77 => k0_hw77.1
theorem k0_off310_inb : ∀ (i : grid0.Coords) (v1525 : BitVec 32) (k0_hw77 : k0_chk77 i v1525), ∀ a, (k0_off310 i v1525) a + S1x32x128.size a ≤ S4x46784x128.size a := fun i v1525 k0_hw77 => k0_hw77.2

def k0_off311 (i : grid0.Coords) (v1541 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_750 : BitVec 32 := 1#32
  let v1832 : BitVec 32 := Scalar.addi v9 c1_i32_750
  let v1834 : Index := Scalar.indexCast v1832
  let c4_i32_751 : BitVec 32 := 4#32
  let v1833 : BitVec 32 := Scalar.muli c4_i32_751 v1541
  let v1835 : Index := Scalar.indexCast v1833
  let c0_752 : Index := 0#32
  ![v1834.toNat, v1835.toNat, 0]

def k0_chk78 (i : grid0.Coords) (v1541 : BitVec 32) : Prop :=
  (∀ a, (k0_off294 i v1541) a + S1x32x128.size a ≤ S4x46784x128.size a) ∧
  (∀ a, (k0_off311 i v1541) a + S1x32x128.size a ≤ S4x46784x128.size a)
theorem k0_off294_inb : ∀ (i : grid0.Coords) (v1541 : BitVec 32) (k0_hw78 : k0_chk78 i v1541), ∀ a, (k0_off294 i v1541) a + S1x32x128.size a ≤ S4x46784x128.size a := fun i v1541 k0_hw78 => k0_hw78.1
theorem k0_off311_inb : ∀ (i : grid0.Coords) (v1541 : BitVec 32) (k0_hw78 : k0_chk78 i v1541), ∀ a, (k0_off311 i v1541) a + S1x32x128.size a ≤ S4x46784x128.size a := fun i v1541 k0_hw78 => k0_hw78.2

def k0_off312 (i : grid0.Coords) (v1527 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_753 : BitVec 32 := 1#32
  let v1839 : BitVec 32 := Scalar.addi v9 c1_i32_753
  let v1841 : Index := Scalar.indexCast v1839
  let c4_i32_754 : BitVec 32 := 4#32
  let v1840 : BitVec 32 := Scalar.muli c4_i32_754 v1527
  let v1842 : Index := Scalar.indexCast v1840
  let c0_755 : Index := 0#32
  ![v1841.toNat, v1842.toNat, 0]

def k0_chk79 (i : grid0.Coords) (v1527 : BitVec 32) : Prop :=
  (∀ a, (k0_off295 i v1527) a + S1x32x128.size a ≤ S4x46784x128.size a) ∧
  (∀ a, (k0_off312 i v1527) a + S1x32x128.size a ≤ S4x46784x128.size a)
theorem k0_off295_inb : ∀ (i : grid0.Coords) (v1527 : BitVec 32) (k0_hw79 : k0_chk79 i v1527), ∀ a, (k0_off295 i v1527) a + S1x32x128.size a ≤ S4x46784x128.size a := fun i v1527 k0_hw79 => k0_hw79.1
theorem k0_off312_inb : ∀ (i : grid0.Coords) (v1527 : BitVec 32) (k0_hw79 : k0_chk79 i v1527), ∀ a, (k0_off312 i v1527) a + S1x32x128.size a ≤ S4x46784x128.size a := fun i v1527 k0_hw79 => k0_hw79.2

def k0_mult16 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let c16_i32_760 : BitVec 32 := 16#32
  let v1856 : BitVec 32 := Scalar.muli v1509 c16_i32_760
  v1856
def k0_off313 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let c16_i32_760 : BitVec 32 := 16#32
  let v1856 : BitVec 32 := Scalar.muli v1509 c16_i32_760
  let v1857 : BitVec 32 := v1856
  let v1863 : Index := Scalar.indexCast v1857
  let c0_761 : Index := 0#32
  ![v1863.toNat, 0]
def k0_off314 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_607 : BitVec 32 := 8#32
  let v1508 : BitVec 32 := Scalar.muli arg11 c8_i32_607
  let c4_i32_608 : BitVec 32 := 4#32
  let v1509 : BitVec 32 := Scalar.addi v1508 c4_i32_608
  let c16_i32_760 : BitVec 32 := 16#32
  let v1856 : BitVec 32 := Scalar.muli v1509 c16_i32_760
  let v1857 : BitVec 32 := v1856
  let v1875 : Index := Scalar.indexCast v1857
  let c128_763 : Index := 128#32
  ![v1875.toNat, 128]
def k0_off315 (i : grid0.Coords) (k0_t1 : Fin k0_t1_loop.trips) : Fin 2 → Nat :=
  let c0_767 : Index := 0#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1886 : Index := Scalar.indexCast v1885
  ![0, v1886.toNat]
def k0_off316 (i : grid0.Coords) (k0_t1 : Fin k0_t1_loop.trips) : Fin 2 → Nat :=
  let c1_768 : Index := 1#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1888 : Index := Scalar.indexCast v1885
  ![1, v1888.toNat]
def k0_off317 (i : grid0.Coords) (k0_t1 : Fin k0_t1_loop.trips) : Fin 2 → Nat :=
  let c2_769 : Index := 2#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1890 : Index := Scalar.indexCast v1885
  ![2, v1890.toNat]
def k0_off318 (i : grid0.Coords) (k0_t1 : Fin k0_t1_loop.trips) : Fin 2 → Nat :=
  let c3_770 : Index := 3#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1892 : Index := Scalar.indexCast v1885
  ![3, v1892.toNat]
def k0_off319 (i : grid0.Coords) (k0_t1 : Fin k0_t1_loop.trips) : Fin 2 → Nat :=
  let c4_771 : Index := 4#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1894 : Index := Scalar.indexCast v1885
  ![4, v1894.toNat]
def k0_off320 (i : grid0.Coords) (k0_t1 : Fin k0_t1_loop.trips) : Fin 2 → Nat :=
  let c5_772 : Index := 5#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1896 : Index := Scalar.indexCast v1885
  ![5, v1896.toNat]
def k0_off321 (i : grid0.Coords) (k0_t1 : Fin k0_t1_loop.trips) : Fin 2 → Nat :=
  let c6_773 : Index := 6#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1898 : Index := Scalar.indexCast v1885
  ![6, v1898.toNat]
def k0_off322 (i : grid0.Coords) (k0_t1 : Fin k0_t1_loop.trips) : Fin 2 → Nat :=
  let c7_774 : Index := 7#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1900 : Index := Scalar.indexCast v1885
  ![7, v1900.toNat]
def k0_off323 (i : grid0.Coords) (k0_t1 : Fin k0_t1_loop.trips) : Fin 2 → Nat :=
  let c8_775 : Index := 8#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1902 : Index := Scalar.indexCast v1885
  ![8, v1902.toNat]
def k0_off324 (i : grid0.Coords) (k0_t1 : Fin k0_t1_loop.trips) : Fin 2 → Nat :=
  let c9_776 : Index := 9#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1904 : Index := Scalar.indexCast v1885
  ![9, v1904.toNat]
def k0_off325 (i : grid0.Coords) (k0_t1 : Fin k0_t1_loop.trips) : Fin 2 → Nat :=
  let c10_777 : Index := 10#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1906 : Index := Scalar.indexCast v1885
  ![10, v1906.toNat]
def k0_off326 (i : grid0.Coords) (k0_t1 : Fin k0_t1_loop.trips) : Fin 2 → Nat :=
  let c11_778 : Index := 11#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1908 : Index := Scalar.indexCast v1885
  ![11, v1908.toNat]
def k0_off327 (i : grid0.Coords) (k0_t1 : Fin k0_t1_loop.trips) : Fin 2 → Nat :=
  let c12_779 : Index := 12#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1910 : Index := Scalar.indexCast v1885
  ![12, v1910.toNat]
def k0_off328 (i : grid0.Coords) (k0_t1 : Fin k0_t1_loop.trips) : Fin 2 → Nat :=
  let c13_780 : Index := 13#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1912 : Index := Scalar.indexCast v1885
  ![13, v1912.toNat]
def k0_off329 (i : grid0.Coords) (k0_t1 : Fin k0_t1_loop.trips) : Fin 2 → Nat :=
  let c14_781 : Index := 14#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1914 : Index := Scalar.indexCast v1885
  ![14, v1914.toNat]
def k0_off330 (i : grid0.Coords) (k0_t1 : Fin k0_t1_loop.trips) : Fin 2 → Nat :=
  let c15_782 : Index := 15#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1916 : Index := Scalar.indexCast v1885
  ![15, v1916.toNat]
def k0_off331 (i : grid0.Coords) (k0_t1 : Fin k0_t1_loop.trips) : Fin 2 → Nat :=
  let c16_783 : Index := 16#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1918 : Index := Scalar.indexCast v1885
  ![16, v1918.toNat]
def k0_off332 (i : grid0.Coords) (k0_t1 : Fin k0_t1_loop.trips) : Fin 2 → Nat :=
  let c17_784 : Index := 17#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1920 : Index := Scalar.indexCast v1885
  ![17, v1920.toNat]
def k0_off333 (i : grid0.Coords) (k0_t1 : Fin k0_t1_loop.trips) : Fin 2 → Nat :=
  let c18_785 : Index := 18#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1922 : Index := Scalar.indexCast v1885
  ![18, v1922.toNat]
def k0_off334 (i : grid0.Coords) (k0_t1 : Fin k0_t1_loop.trips) : Fin 2 → Nat :=
  let c19_786 : Index := 19#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1924 : Index := Scalar.indexCast v1885
  ![19, v1924.toNat]
def k0_off335 (i : grid0.Coords) (k0_t1 : Fin k0_t1_loop.trips) : Fin 2 → Nat :=
  let c20_787 : Index := 20#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1926 : Index := Scalar.indexCast v1885
  ![20, v1926.toNat]
def k0_off336 (i : grid0.Coords) (k0_t1 : Fin k0_t1_loop.trips) : Fin 2 → Nat :=
  let c21_788 : Index := 21#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1928 : Index := Scalar.indexCast v1885
  ![21, v1928.toNat]
def k0_off337 (i : grid0.Coords) (k0_t1 : Fin k0_t1_loop.trips) : Fin 2 → Nat :=
  let c22_789 : Index := 22#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1930 : Index := Scalar.indexCast v1885
  ![22, v1930.toNat]
def k0_off338 (i : grid0.Coords) (k0_t1 : Fin k0_t1_loop.trips) : Fin 2 → Nat :=
  let c23_790 : Index := 23#32
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let v1932 : Index := Scalar.indexCast v1885
  ![23, v1932.toNat]
def k0_mult17 (i : grid0.Coords) (k0_t1 : Fin k0_t1_loop.trips) : BitVec 32 :=
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let c8_i32_799 : BitVec 32 := 8#32
  let v1958 : BitVec 32 := Scalar.muli v1885 c8_i32_799
  v1958
def k0_off339 (i : grid0.Coords) (k0_t1 : Fin k0_t1_loop.trips) : Fin 2 → Nat :=
  let arg1 : BitVec 32 := BitVec.ofNat 32 (i 1).val
  let c128_i32_766 : BitVec 32 := 128#32
  let v1884 : BitVec 32 := Scalar.muli arg1 c128_i32_766
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let v1885 : BitVec 32 := Scalar.addi v1884 v1883
  let c8_i32_799 : BitVec 32 := 8#32
  let v1958 : BitVec 32 := Scalar.muli v1885 c8_i32_799
  let v1959 : BitVec 32 := v1958
  let v1960 : Index := Scalar.indexCast v1959
  let c0_800 : Index := 0#32
  ![v1960.toNat, 0]
def k0_off340 (i : grid0.Coords) (v1887 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_811 : BitVec 32 := 0#32
  let v1991 : BitVec 32 := Scalar.addi v9 c0_i32_811
  let v1993 : Index := Scalar.indexCast v1991
  let c4_i32_812 : BitVec 32 := 4#32
  let v1992 : BitVec 32 := Scalar.muli c4_i32_812 v1887
  let v1994 : Index := Scalar.indexCast v1992
  let c0_813 : Index := 0#32
  ![v1993.toNat, v1994.toNat, 0]

def k0_off341 (i : grid0.Coords) (v1903 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_814 : BitVec 32 := 0#32
  let v1997 : BitVec 32 := Scalar.addi v9 c0_i32_814
  let v1999 : Index := Scalar.indexCast v1997
  let c4_i32_815 : BitVec 32 := 4#32
  let v1998 : BitVec 32 := Scalar.muli c4_i32_815 v1903
  let v2000 : Index := Scalar.indexCast v1998
  let c0_816 : Index := 0#32
  ![v1999.toNat, v2000.toNat, 0]

def k0_off342 (i : grid0.Coords) (v1889 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_817 : BitVec 32 := 0#32
  let v2004 : BitVec 32 := Scalar.addi v9 c0_i32_817
  let v2006 : Index := Scalar.indexCast v2004
  let c4_i32_818 : BitVec 32 := 4#32
  let v2005 : BitVec 32 := Scalar.muli c4_i32_818 v1889
  let v2007 : Index := Scalar.indexCast v2005
  let c0_819 : Index := 0#32
  ![v2006.toNat, v2007.toNat, 0]

def k0_off343 (i : grid0.Coords) (v1905 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_820 : BitVec 32 := 0#32
  let v2010 : BitVec 32 := Scalar.addi v9 c0_i32_820
  let v2012 : Index := Scalar.indexCast v2010
  let c4_i32_821 : BitVec 32 := 4#32
  let v2011 : BitVec 32 := Scalar.muli c4_i32_821 v1905
  let v2013 : Index := Scalar.indexCast v2011
  let c0_822 : Index := 0#32
  ![v2012.toNat, v2013.toNat, 0]

def k0_off344 (i : grid0.Coords) (v1891 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_823 : BitVec 32 := 0#32
  let v2017 : BitVec 32 := Scalar.addi v9 c0_i32_823
  let v2019 : Index := Scalar.indexCast v2017
  let c4_i32_824 : BitVec 32 := 4#32
  let v2018 : BitVec 32 := Scalar.muli c4_i32_824 v1891
  let v2020 : Index := Scalar.indexCast v2018
  let c0_825 : Index := 0#32
  ![v2019.toNat, v2020.toNat, 0]

def k0_off345 (i : grid0.Coords) (v1907 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_826 : BitVec 32 := 0#32
  let v2023 : BitVec 32 := Scalar.addi v9 c0_i32_826
  let v2025 : Index := Scalar.indexCast v2023
  let c4_i32_827 : BitVec 32 := 4#32
  let v2024 : BitVec 32 := Scalar.muli c4_i32_827 v1907
  let v2026 : Index := Scalar.indexCast v2024
  let c0_828 : Index := 0#32
  ![v2025.toNat, v2026.toNat, 0]

def k0_off346 (i : grid0.Coords) (v1893 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_829 : BitVec 32 := 0#32
  let v2030 : BitVec 32 := Scalar.addi v9 c0_i32_829
  let v2032 : Index := Scalar.indexCast v2030
  let c4_i32_830 : BitVec 32 := 4#32
  let v2031 : BitVec 32 := Scalar.muli c4_i32_830 v1893
  let v2033 : Index := Scalar.indexCast v2031
  let c0_831 : Index := 0#32
  ![v2032.toNat, v2033.toNat, 0]

def k0_off347 (i : grid0.Coords) (v1909 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_832 : BitVec 32 := 0#32
  let v2036 : BitVec 32 := Scalar.addi v9 c0_i32_832
  let v2038 : Index := Scalar.indexCast v2036
  let c4_i32_833 : BitVec 32 := 4#32
  let v2037 : BitVec 32 := Scalar.muli c4_i32_833 v1909
  let v2039 : Index := Scalar.indexCast v2037
  let c0_834 : Index := 0#32
  ![v2038.toNat, v2039.toNat, 0]

def k0_off348 (i : grid0.Coords) (v1895 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_835 : BitVec 32 := 0#32
  let v2043 : BitVec 32 := Scalar.addi v9 c0_i32_835
  let v2045 : Index := Scalar.indexCast v2043
  let c4_i32_836 : BitVec 32 := 4#32
  let v2044 : BitVec 32 := Scalar.muli c4_i32_836 v1895
  let v2046 : Index := Scalar.indexCast v2044
  let c0_837 : Index := 0#32
  ![v2045.toNat, v2046.toNat, 0]

def k0_off349 (i : grid0.Coords) (v1911 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_838 : BitVec 32 := 0#32
  let v2049 : BitVec 32 := Scalar.addi v9 c0_i32_838
  let v2051 : Index := Scalar.indexCast v2049
  let c4_i32_839 : BitVec 32 := 4#32
  let v2050 : BitVec 32 := Scalar.muli c4_i32_839 v1911
  let v2052 : Index := Scalar.indexCast v2050
  let c0_840 : Index := 0#32
  ![v2051.toNat, v2052.toNat, 0]

def k0_off350 (i : grid0.Coords) (v1897 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_841 : BitVec 32 := 0#32
  let v2056 : BitVec 32 := Scalar.addi v9 c0_i32_841
  let v2058 : Index := Scalar.indexCast v2056
  let c4_i32_842 : BitVec 32 := 4#32
  let v2057 : BitVec 32 := Scalar.muli c4_i32_842 v1897
  let v2059 : Index := Scalar.indexCast v2057
  let c0_843 : Index := 0#32
  ![v2058.toNat, v2059.toNat, 0]

def k0_off351 (i : grid0.Coords) (v1913 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_844 : BitVec 32 := 0#32
  let v2062 : BitVec 32 := Scalar.addi v9 c0_i32_844
  let v2064 : Index := Scalar.indexCast v2062
  let c4_i32_845 : BitVec 32 := 4#32
  let v2063 : BitVec 32 := Scalar.muli c4_i32_845 v1913
  let v2065 : Index := Scalar.indexCast v2063
  let c0_846 : Index := 0#32
  ![v2064.toNat, v2065.toNat, 0]

def k0_off352 (i : grid0.Coords) (v1899 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_847 : BitVec 32 := 0#32
  let v2069 : BitVec 32 := Scalar.addi v9 c0_i32_847
  let v2071 : Index := Scalar.indexCast v2069
  let c4_i32_848 : BitVec 32 := 4#32
  let v2070 : BitVec 32 := Scalar.muli c4_i32_848 v1899
  let v2072 : Index := Scalar.indexCast v2070
  let c0_849 : Index := 0#32
  ![v2071.toNat, v2072.toNat, 0]

def k0_off353 (i : grid0.Coords) (v1915 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_850 : BitVec 32 := 0#32
  let v2075 : BitVec 32 := Scalar.addi v9 c0_i32_850
  let v2077 : Index := Scalar.indexCast v2075
  let c4_i32_851 : BitVec 32 := 4#32
  let v2076 : BitVec 32 := Scalar.muli c4_i32_851 v1915
  let v2078 : Index := Scalar.indexCast v2076
  let c0_852 : Index := 0#32
  ![v2077.toNat, v2078.toNat, 0]

def k0_off354 (i : grid0.Coords) (v1901 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_853 : BitVec 32 := 0#32
  let v2082 : BitVec 32 := Scalar.addi v9 c0_i32_853
  let v2084 : Index := Scalar.indexCast v2082
  let c4_i32_854 : BitVec 32 := 4#32
  let v2083 : BitVec 32 := Scalar.muli c4_i32_854 v1901
  let v2085 : Index := Scalar.indexCast v2083
  let c0_855 : Index := 0#32
  ![v2084.toNat, v2085.toNat, 0]

def k0_off355 (i : grid0.Coords) (v1917 : BitVec 32) (c0_i32_856 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v2088 : BitVec 32 := Scalar.addi v9 c0_i32_856
  let v2090 : Index := Scalar.indexCast v2088
  let c4_i32_857 : BitVec 32 := 4#32
  let v2089 : BitVec 32 := Scalar.muli c4_i32_857 v1917
  let v2091 : Index := Scalar.indexCast v2089
  let c0_858 : Index := 0#32
  ![v2090.toNat, v2091.toNat, 0]

def k0_chk96 (i : grid0.Coords) (v1917 : BitVec 32) : Prop :=
  (∀ (r : Fin 2), ∀ a, (k0_off355 i v1917 (BitVec.ofNat 32 r.val)) a + S1x32x128.size a ≤ S4x46784x128.size a)
theorem k0_off355_inb : ∀ (i : grid0.Coords) (v1917 : BitVec 32) (k0_hw96 : k0_chk96 i v1917), ∀ (r : Fin 2), ∀ a, (k0_off355 i v1917 (BitVec.ofNat 32 r.val)) a + S1x32x128.size a ≤ S4x46784x128.size a := fun i v1917 k0_hw96 r => k0_hw96 r

def k0_off356 (k0_t1 : Fin k0_t1_loop.trips) (c5_i32 : BitVec 32) (c1_i32_860 : BitVec 32) : Fin 3 → Nat :=
  let c0_861 : Index := 0#32
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let v1883 : BitVec 32 := Scalar.addi v1882 c5_i32
  let c2_i32_859 : BitVec 32 := 2#32
  let v2096 : BitVec 32 := Scalar.muli v1883 c2_i32_859
  let v2097 : BitVec 32 := Scalar.addi v2096 c1_i32_860
  let v2098 : Index := Scalar.indexCast v2097
  let c0_862 : Index := 0#32
  ![0, v2098.toNat, 0]
def k0_off356_at (r : Fin 2) : BitVec 32 × BitVec 32 :=
  if r.val < 1 then
    (5#32, 1#32)
  else
    (6#32, 0#32)
def k0_off357 (i : grid0.Coords) (v1887 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_868 : BitVec 32 := 1#32
  let v2122 : BitVec 32 := Scalar.addi v9 c1_i32_868
  let v2124 : Index := Scalar.indexCast v2122
  let c4_i32_869 : BitVec 32 := 4#32
  let v2123 : BitVec 32 := Scalar.muli c4_i32_869 v1887
  let v2125 : Index := Scalar.indexCast v2123
  let c0_870 : Index := 0#32
  ![v2124.toNat, v2125.toNat, 0]

def k0_chk81 (i : grid0.Coords) (v1887 : BitVec 32) : Prop :=
  (∀ a, (k0_off340 i v1887) a + S1x32x128.size a ≤ S4x46784x128.size a) ∧
  (∀ a, (k0_off357 i v1887) a + S1x32x128.size a ≤ S4x46784x128.size a)
theorem k0_off340_inb : ∀ (i : grid0.Coords) (v1887 : BitVec 32) (k0_hw81 : k0_chk81 i v1887), ∀ a, (k0_off340 i v1887) a + S1x32x128.size a ≤ S4x46784x128.size a := fun i v1887 k0_hw81 => k0_hw81.1
theorem k0_off357_inb : ∀ (i : grid0.Coords) (v1887 : BitVec 32) (k0_hw81 : k0_chk81 i v1887), ∀ a, (k0_off357 i v1887) a + S1x32x128.size a ≤ S4x46784x128.size a := fun i v1887 k0_hw81 => k0_hw81.2

def k0_off358 (i : grid0.Coords) (v1903 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_871 : BitVec 32 := 1#32
  let v2128 : BitVec 32 := Scalar.addi v9 c1_i32_871
  let v2130 : Index := Scalar.indexCast v2128
  let c4_i32_872 : BitVec 32 := 4#32
  let v2129 : BitVec 32 := Scalar.muli c4_i32_872 v1903
  let v2131 : Index := Scalar.indexCast v2129
  let c0_873 : Index := 0#32
  ![v2130.toNat, v2131.toNat, 0]

def k0_chk82 (i : grid0.Coords) (v1903 : BitVec 32) : Prop :=
  (∀ a, (k0_off341 i v1903) a + S1x32x128.size a ≤ S4x46784x128.size a) ∧
  (∀ a, (k0_off358 i v1903) a + S1x32x128.size a ≤ S4x46784x128.size a)
theorem k0_off341_inb : ∀ (i : grid0.Coords) (v1903 : BitVec 32) (k0_hw82 : k0_chk82 i v1903), ∀ a, (k0_off341 i v1903) a + S1x32x128.size a ≤ S4x46784x128.size a := fun i v1903 k0_hw82 => k0_hw82.1
theorem k0_off358_inb : ∀ (i : grid0.Coords) (v1903 : BitVec 32) (k0_hw82 : k0_chk82 i v1903), ∀ a, (k0_off358 i v1903) a + S1x32x128.size a ≤ S4x46784x128.size a := fun i v1903 k0_hw82 => k0_hw82.2

def k0_off359 (i : grid0.Coords) (v1889 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_874 : BitVec 32 := 1#32
  let v2135 : BitVec 32 := Scalar.addi v9 c1_i32_874
  let v2137 : Index := Scalar.indexCast v2135
  let c4_i32_875 : BitVec 32 := 4#32
  let v2136 : BitVec 32 := Scalar.muli c4_i32_875 v1889
  let v2138 : Index := Scalar.indexCast v2136
  let c0_876 : Index := 0#32
  ![v2137.toNat, v2138.toNat, 0]

def k0_chk83 (i : grid0.Coords) (v1889 : BitVec 32) : Prop :=
  (∀ a, (k0_off342 i v1889) a + S1x32x128.size a ≤ S4x46784x128.size a) ∧
  (∀ a, (k0_off359 i v1889) a + S1x32x128.size a ≤ S4x46784x128.size a)
theorem k0_off342_inb : ∀ (i : grid0.Coords) (v1889 : BitVec 32) (k0_hw83 : k0_chk83 i v1889), ∀ a, (k0_off342 i v1889) a + S1x32x128.size a ≤ S4x46784x128.size a := fun i v1889 k0_hw83 => k0_hw83.1
theorem k0_off359_inb : ∀ (i : grid0.Coords) (v1889 : BitVec 32) (k0_hw83 : k0_chk83 i v1889), ∀ a, (k0_off359 i v1889) a + S1x32x128.size a ≤ S4x46784x128.size a := fun i v1889 k0_hw83 => k0_hw83.2

def k0_off360 (i : grid0.Coords) (v1905 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_877 : BitVec 32 := 1#32
  let v2141 : BitVec 32 := Scalar.addi v9 c1_i32_877
  let v2143 : Index := Scalar.indexCast v2141
  let c4_i32_878 : BitVec 32 := 4#32
  let v2142 : BitVec 32 := Scalar.muli c4_i32_878 v1905
  let v2144 : Index := Scalar.indexCast v2142
  let c0_879 : Index := 0#32
  ![v2143.toNat, v2144.toNat, 0]

def k0_chk84 (i : grid0.Coords) (v1905 : BitVec 32) : Prop :=
  (∀ a, (k0_off343 i v1905) a + S1x32x128.size a ≤ S4x46784x128.size a) ∧
  (∀ a, (k0_off360 i v1905) a + S1x32x128.size a ≤ S4x46784x128.size a)
theorem k0_off343_inb : ∀ (i : grid0.Coords) (v1905 : BitVec 32) (k0_hw84 : k0_chk84 i v1905), ∀ a, (k0_off343 i v1905) a + S1x32x128.size a ≤ S4x46784x128.size a := fun i v1905 k0_hw84 => k0_hw84.1
theorem k0_off360_inb : ∀ (i : grid0.Coords) (v1905 : BitVec 32) (k0_hw84 : k0_chk84 i v1905), ∀ a, (k0_off360 i v1905) a + S1x32x128.size a ≤ S4x46784x128.size a := fun i v1905 k0_hw84 => k0_hw84.2

def k0_off361 (i : grid0.Coords) (v1891 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_880 : BitVec 32 := 1#32
  let v2148 : BitVec 32 := Scalar.addi v9 c1_i32_880
  let v2150 : Index := Scalar.indexCast v2148
  let c4_i32_881 : BitVec 32 := 4#32
  let v2149 : BitVec 32 := Scalar.muli c4_i32_881 v1891
  let v2151 : Index := Scalar.indexCast v2149
  let c0_882 : Index := 0#32
  ![v2150.toNat, v2151.toNat, 0]

def k0_chk85 (i : grid0.Coords) (v1891 : BitVec 32) : Prop :=
  (∀ a, (k0_off344 i v1891) a + S1x32x128.size a ≤ S4x46784x128.size a) ∧
  (∀ a, (k0_off361 i v1891) a + S1x32x128.size a ≤ S4x46784x128.size a)
theorem k0_off344_inb : ∀ (i : grid0.Coords) (v1891 : BitVec 32) (k0_hw85 : k0_chk85 i v1891), ∀ a, (k0_off344 i v1891) a + S1x32x128.size a ≤ S4x46784x128.size a := fun i v1891 k0_hw85 => k0_hw85.1
theorem k0_off361_inb : ∀ (i : grid0.Coords) (v1891 : BitVec 32) (k0_hw85 : k0_chk85 i v1891), ∀ a, (k0_off361 i v1891) a + S1x32x128.size a ≤ S4x46784x128.size a := fun i v1891 k0_hw85 => k0_hw85.2

def k0_off362 (i : grid0.Coords) (v1907 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_883 : BitVec 32 := 1#32
  let v2154 : BitVec 32 := Scalar.addi v9 c1_i32_883
  let v2156 : Index := Scalar.indexCast v2154
  let c4_i32_884 : BitVec 32 := 4#32
  let v2155 : BitVec 32 := Scalar.muli c4_i32_884 v1907
  let v2157 : Index := Scalar.indexCast v2155
  let c0_885 : Index := 0#32
  ![v2156.toNat, v2157.toNat, 0]

def k0_chk86 (i : grid0.Coords) (v1907 : BitVec 32) : Prop :=
  (∀ a, (k0_off345 i v1907) a + S1x32x128.size a ≤ S4x46784x128.size a) ∧
  (∀ a, (k0_off362 i v1907) a + S1x32x128.size a ≤ S4x46784x128.size a)
theorem k0_off345_inb : ∀ (i : grid0.Coords) (v1907 : BitVec 32) (k0_hw86 : k0_chk86 i v1907), ∀ a, (k0_off345 i v1907) a + S1x32x128.size a ≤ S4x46784x128.size a := fun i v1907 k0_hw86 => k0_hw86.1
theorem k0_off362_inb : ∀ (i : grid0.Coords) (v1907 : BitVec 32) (k0_hw86 : k0_chk86 i v1907), ∀ a, (k0_off362 i v1907) a + S1x32x128.size a ≤ S4x46784x128.size a := fun i v1907 k0_hw86 => k0_hw86.2

def k0_off363 (i : grid0.Coords) (v1893 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_886 : BitVec 32 := 1#32
  let v2161 : BitVec 32 := Scalar.addi v9 c1_i32_886
  let v2163 : Index := Scalar.indexCast v2161
  let c4_i32_887 : BitVec 32 := 4#32
  let v2162 : BitVec 32 := Scalar.muli c4_i32_887 v1893
  let v2164 : Index := Scalar.indexCast v2162
  let c0_888 : Index := 0#32
  ![v2163.toNat, v2164.toNat, 0]

def k0_chk87 (i : grid0.Coords) (v1893 : BitVec 32) : Prop :=
  (∀ a, (k0_off346 i v1893) a + S1x32x128.size a ≤ S4x46784x128.size a) ∧
  (∀ a, (k0_off363 i v1893) a + S1x32x128.size a ≤ S4x46784x128.size a)
theorem k0_off346_inb : ∀ (i : grid0.Coords) (v1893 : BitVec 32) (k0_hw87 : k0_chk87 i v1893), ∀ a, (k0_off346 i v1893) a + S1x32x128.size a ≤ S4x46784x128.size a := fun i v1893 k0_hw87 => k0_hw87.1
theorem k0_off363_inb : ∀ (i : grid0.Coords) (v1893 : BitVec 32) (k0_hw87 : k0_chk87 i v1893), ∀ a, (k0_off363 i v1893) a + S1x32x128.size a ≤ S4x46784x128.size a := fun i v1893 k0_hw87 => k0_hw87.2

def k0_off364 (i : grid0.Coords) (v1909 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_889 : BitVec 32 := 1#32
  let v2167 : BitVec 32 := Scalar.addi v9 c1_i32_889
  let v2169 : Index := Scalar.indexCast v2167
  let c4_i32_890 : BitVec 32 := 4#32
  let v2168 : BitVec 32 := Scalar.muli c4_i32_890 v1909
  let v2170 : Index := Scalar.indexCast v2168
  let c0_891 : Index := 0#32
  ![v2169.toNat, v2170.toNat, 0]

def k0_chk88 (i : grid0.Coords) (v1909 : BitVec 32) : Prop :=
  (∀ a, (k0_off347 i v1909) a + S1x32x128.size a ≤ S4x46784x128.size a) ∧
  (∀ a, (k0_off364 i v1909) a + S1x32x128.size a ≤ S4x46784x128.size a)
theorem k0_off347_inb : ∀ (i : grid0.Coords) (v1909 : BitVec 32) (k0_hw88 : k0_chk88 i v1909), ∀ a, (k0_off347 i v1909) a + S1x32x128.size a ≤ S4x46784x128.size a := fun i v1909 k0_hw88 => k0_hw88.1
theorem k0_off364_inb : ∀ (i : grid0.Coords) (v1909 : BitVec 32) (k0_hw88 : k0_chk88 i v1909), ∀ a, (k0_off364 i v1909) a + S1x32x128.size a ≤ S4x46784x128.size a := fun i v1909 k0_hw88 => k0_hw88.2

def k0_off365 (i : grid0.Coords) (v1895 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_892 : BitVec 32 := 1#32
  let v2174 : BitVec 32 := Scalar.addi v9 c1_i32_892
  let v2176 : Index := Scalar.indexCast v2174
  let c4_i32_893 : BitVec 32 := 4#32
  let v2175 : BitVec 32 := Scalar.muli c4_i32_893 v1895
  let v2177 : Index := Scalar.indexCast v2175
  let c0_894 : Index := 0#32
  ![v2176.toNat, v2177.toNat, 0]

def k0_chk89 (i : grid0.Coords) (v1895 : BitVec 32) : Prop :=
  (∀ a, (k0_off348 i v1895) a + S1x32x128.size a ≤ S4x46784x128.size a) ∧
  (∀ a, (k0_off365 i v1895) a + S1x32x128.size a ≤ S4x46784x128.size a)
theorem k0_off348_inb : ∀ (i : grid0.Coords) (v1895 : BitVec 32) (k0_hw89 : k0_chk89 i v1895), ∀ a, (k0_off348 i v1895) a + S1x32x128.size a ≤ S4x46784x128.size a := fun i v1895 k0_hw89 => k0_hw89.1
theorem k0_off365_inb : ∀ (i : grid0.Coords) (v1895 : BitVec 32) (k0_hw89 : k0_chk89 i v1895), ∀ a, (k0_off365 i v1895) a + S1x32x128.size a ≤ S4x46784x128.size a := fun i v1895 k0_hw89 => k0_hw89.2

def k0_off366 (i : grid0.Coords) (v1911 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_895 : BitVec 32 := 1#32
  let v2180 : BitVec 32 := Scalar.addi v9 c1_i32_895
  let v2182 : Index := Scalar.indexCast v2180
  let c4_i32_896 : BitVec 32 := 4#32
  let v2181 : BitVec 32 := Scalar.muli c4_i32_896 v1911
  let v2183 : Index := Scalar.indexCast v2181
  let c0_897 : Index := 0#32
  ![v2182.toNat, v2183.toNat, 0]

def k0_chk90 (i : grid0.Coords) (v1911 : BitVec 32) : Prop :=
  (∀ a, (k0_off349 i v1911) a + S1x32x128.size a ≤ S4x46784x128.size a) ∧
  (∀ a, (k0_off366 i v1911) a + S1x32x128.size a ≤ S4x46784x128.size a)
theorem k0_off349_inb : ∀ (i : grid0.Coords) (v1911 : BitVec 32) (k0_hw90 : k0_chk90 i v1911), ∀ a, (k0_off349 i v1911) a + S1x32x128.size a ≤ S4x46784x128.size a := fun i v1911 k0_hw90 => k0_hw90.1
theorem k0_off366_inb : ∀ (i : grid0.Coords) (v1911 : BitVec 32) (k0_hw90 : k0_chk90 i v1911), ∀ a, (k0_off366 i v1911) a + S1x32x128.size a ≤ S4x46784x128.size a := fun i v1911 k0_hw90 => k0_hw90.2

def k0_off367 (i : grid0.Coords) (v1897 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_898 : BitVec 32 := 1#32
  let v2187 : BitVec 32 := Scalar.addi v9 c1_i32_898
  let v2189 : Index := Scalar.indexCast v2187
  let c4_i32_899 : BitVec 32 := 4#32
  let v2188 : BitVec 32 := Scalar.muli c4_i32_899 v1897
  let v2190 : Index := Scalar.indexCast v2188
  let c0_900 : Index := 0#32
  ![v2189.toNat, v2190.toNat, 0]

def k0_chk91 (i : grid0.Coords) (v1897 : BitVec 32) : Prop :=
  (∀ a, (k0_off350 i v1897) a + S1x32x128.size a ≤ S4x46784x128.size a) ∧
  (∀ a, (k0_off367 i v1897) a + S1x32x128.size a ≤ S4x46784x128.size a)
theorem k0_off350_inb : ∀ (i : grid0.Coords) (v1897 : BitVec 32) (k0_hw91 : k0_chk91 i v1897), ∀ a, (k0_off350 i v1897) a + S1x32x128.size a ≤ S4x46784x128.size a := fun i v1897 k0_hw91 => k0_hw91.1
theorem k0_off367_inb : ∀ (i : grid0.Coords) (v1897 : BitVec 32) (k0_hw91 : k0_chk91 i v1897), ∀ a, (k0_off367 i v1897) a + S1x32x128.size a ≤ S4x46784x128.size a := fun i v1897 k0_hw91 => k0_hw91.2

def k0_off368 (i : grid0.Coords) (v1913 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_901 : BitVec 32 := 1#32
  let v2193 : BitVec 32 := Scalar.addi v9 c1_i32_901
  let v2195 : Index := Scalar.indexCast v2193
  let c4_i32_902 : BitVec 32 := 4#32
  let v2194 : BitVec 32 := Scalar.muli c4_i32_902 v1913
  let v2196 : Index := Scalar.indexCast v2194
  let c0_903 : Index := 0#32
  ![v2195.toNat, v2196.toNat, 0]

def k0_chk92 (i : grid0.Coords) (v1913 : BitVec 32) : Prop :=
  (∀ a, (k0_off351 i v1913) a + S1x32x128.size a ≤ S4x46784x128.size a) ∧
  (∀ a, (k0_off368 i v1913) a + S1x32x128.size a ≤ S4x46784x128.size a)
theorem k0_off351_inb : ∀ (i : grid0.Coords) (v1913 : BitVec 32) (k0_hw92 : k0_chk92 i v1913), ∀ a, (k0_off351 i v1913) a + S1x32x128.size a ≤ S4x46784x128.size a := fun i v1913 k0_hw92 => k0_hw92.1
theorem k0_off368_inb : ∀ (i : grid0.Coords) (v1913 : BitVec 32) (k0_hw92 : k0_chk92 i v1913), ∀ a, (k0_off368 i v1913) a + S1x32x128.size a ≤ S4x46784x128.size a := fun i v1913 k0_hw92 => k0_hw92.2

def k0_off369 (i : grid0.Coords) (v1899 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_904 : BitVec 32 := 1#32
  let v2200 : BitVec 32 := Scalar.addi v9 c1_i32_904
  let v2202 : Index := Scalar.indexCast v2200
  let c4_i32_905 : BitVec 32 := 4#32
  let v2201 : BitVec 32 := Scalar.muli c4_i32_905 v1899
  let v2203 : Index := Scalar.indexCast v2201
  let c0_906 : Index := 0#32
  ![v2202.toNat, v2203.toNat, 0]

def k0_chk93 (i : grid0.Coords) (v1899 : BitVec 32) : Prop :=
  (∀ a, (k0_off352 i v1899) a + S1x32x128.size a ≤ S4x46784x128.size a) ∧
  (∀ a, (k0_off369 i v1899) a + S1x32x128.size a ≤ S4x46784x128.size a)
theorem k0_off352_inb : ∀ (i : grid0.Coords) (v1899 : BitVec 32) (k0_hw93 : k0_chk93 i v1899), ∀ a, (k0_off352 i v1899) a + S1x32x128.size a ≤ S4x46784x128.size a := fun i v1899 k0_hw93 => k0_hw93.1
theorem k0_off369_inb : ∀ (i : grid0.Coords) (v1899 : BitVec 32) (k0_hw93 : k0_chk93 i v1899), ∀ a, (k0_off369 i v1899) a + S1x32x128.size a ≤ S4x46784x128.size a := fun i v1899 k0_hw93 => k0_hw93.2

def k0_off370 (i : grid0.Coords) (v1915 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_907 : BitVec 32 := 1#32
  let v2206 : BitVec 32 := Scalar.addi v9 c1_i32_907
  let v2208 : Index := Scalar.indexCast v2206
  let c4_i32_908 : BitVec 32 := 4#32
  let v2207 : BitVec 32 := Scalar.muli c4_i32_908 v1915
  let v2209 : Index := Scalar.indexCast v2207
  let c0_909 : Index := 0#32
  ![v2208.toNat, v2209.toNat, 0]

def k0_chk94 (i : grid0.Coords) (v1915 : BitVec 32) : Prop :=
  (∀ a, (k0_off353 i v1915) a + S1x32x128.size a ≤ S4x46784x128.size a) ∧
  (∀ a, (k0_off370 i v1915) a + S1x32x128.size a ≤ S4x46784x128.size a)
theorem k0_off353_inb : ∀ (i : grid0.Coords) (v1915 : BitVec 32) (k0_hw94 : k0_chk94 i v1915), ∀ a, (k0_off353 i v1915) a + S1x32x128.size a ≤ S4x46784x128.size a := fun i v1915 k0_hw94 => k0_hw94.1
theorem k0_off370_inb : ∀ (i : grid0.Coords) (v1915 : BitVec 32) (k0_hw94 : k0_chk94 i v1915), ∀ a, (k0_off370 i v1915) a + S1x32x128.size a ≤ S4x46784x128.size a := fun i v1915 k0_hw94 => k0_hw94.2

def k0_off371 (i : grid0.Coords) (v1901 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_910 : BitVec 32 := 1#32
  let v2213 : BitVec 32 := Scalar.addi v9 c1_i32_910
  let v2215 : Index := Scalar.indexCast v2213
  let c4_i32_911 : BitVec 32 := 4#32
  let v2214 : BitVec 32 := Scalar.muli c4_i32_911 v1901
  let v2216 : Index := Scalar.indexCast v2214
  let c0_912 : Index := 0#32
  ![v2215.toNat, v2216.toNat, 0]

def k0_chk95 (i : grid0.Coords) (v1901 : BitVec 32) : Prop :=
  (∀ a, (k0_off354 i v1901) a + S1x32x128.size a ≤ S4x46784x128.size a) ∧
  (∀ a, (k0_off371 i v1901) a + S1x32x128.size a ≤ S4x46784x128.size a)
theorem k0_off354_inb : ∀ (i : grid0.Coords) (v1901 : BitVec 32) (k0_hw95 : k0_chk95 i v1901), ∀ a, (k0_off354 i v1901) a + S1x32x128.size a ≤ S4x46784x128.size a := fun i v1901 k0_hw95 => k0_hw95.1
theorem k0_off371_inb : ∀ (i : grid0.Coords) (v1901 : BitVec 32) (k0_hw95 : k0_chk95 i v1901), ∀ a, (k0_off371 i v1901) a + S1x32x128.size a ≤ S4x46784x128.size a := fun i v1901 k0_hw95 => k0_hw95.2

def k0_mult18 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let c16_i32_917 : BitVec 32 := 16#32
  let v2230 : BitVec 32 := Scalar.muli v1883 c16_i32_917
  v2230
def k0_off372 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let c16_i32_917 : BitVec 32 := 16#32
  let v2230 : BitVec 32 := Scalar.muli v1883 c16_i32_917
  let v2231 : BitVec 32 := v2230
  let v2237 : Index := Scalar.indexCast v2231
  let c0_918 : Index := 0#32
  ![v2237.toNat, 0]
def k0_off373 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_765 : BitVec 32 := 8#32
  let v1882 : BitVec 32 := Scalar.muli arg11 c8_i32_765
  let c5_i32 : BitVec 32 := 5#32
  let v1883 : BitVec 32 := Scalar.addi v1882 c5_i32
  let c16_i32_917 : BitVec 32 := 16#32
  let v2230 : BitVec 32 := Scalar.muli v1883 c16_i32_917
  let v2231 : BitVec 32 := v2230
  let v2249 : Index := Scalar.indexCast v2231
  let c128_920 : Index := 128#32
  ![v2249.toNat, 128]
def k0_off374 (i : grid0.Coords) (k0_t1 : Fin k0_t1_loop.trips) : Fin 2 → Nat :=
  let c0_924 : Index := 0#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2260 : Index := Scalar.indexCast v2259
  ![0, v2260.toNat]
def k0_off375 (i : grid0.Coords) (k0_t1 : Fin k0_t1_loop.trips) : Fin 2 → Nat :=
  let c1_925 : Index := 1#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2262 : Index := Scalar.indexCast v2259
  ![1, v2262.toNat]
def k0_off376 (i : grid0.Coords) (k0_t1 : Fin k0_t1_loop.trips) : Fin 2 → Nat :=
  let c2_926 : Index := 2#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2264 : Index := Scalar.indexCast v2259
  ![2, v2264.toNat]
def k0_off377 (i : grid0.Coords) (k0_t1 : Fin k0_t1_loop.trips) : Fin 2 → Nat :=
  let c3_927 : Index := 3#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2266 : Index := Scalar.indexCast v2259
  ![3, v2266.toNat]
def k0_off378 (i : grid0.Coords) (k0_t1 : Fin k0_t1_loop.trips) : Fin 2 → Nat :=
  let c4_928 : Index := 4#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2268 : Index := Scalar.indexCast v2259
  ![4, v2268.toNat]
def k0_off379 (i : grid0.Coords) (k0_t1 : Fin k0_t1_loop.trips) : Fin 2 → Nat :=
  let c5_929 : Index := 5#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2270 : Index := Scalar.indexCast v2259
  ![5, v2270.toNat]
def k0_off380 (i : grid0.Coords) (k0_t1 : Fin k0_t1_loop.trips) : Fin 2 → Nat :=
  let c6_930 : Index := 6#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2272 : Index := Scalar.indexCast v2259
  ![6, v2272.toNat]
def k0_off381 (i : grid0.Coords) (k0_t1 : Fin k0_t1_loop.trips) : Fin 2 → Nat :=
  let c7_931 : Index := 7#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2274 : Index := Scalar.indexCast v2259
  ![7, v2274.toNat]
def k0_off382 (i : grid0.Coords) (k0_t1 : Fin k0_t1_loop.trips) : Fin 2 → Nat :=
  let c8_932 : Index := 8#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2276 : Index := Scalar.indexCast v2259
  ![8, v2276.toNat]
def k0_off383 (i : grid0.Coords) (k0_t1 : Fin k0_t1_loop.trips) : Fin 2 → Nat :=
  let c9_933 : Index := 9#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2278 : Index := Scalar.indexCast v2259
  ![9, v2278.toNat]
def k0_off384 (i : grid0.Coords) (k0_t1 : Fin k0_t1_loop.trips) : Fin 2 → Nat :=
  let c10_934 : Index := 10#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2280 : Index := Scalar.indexCast v2259
  ![10, v2280.toNat]
def k0_off385 (i : grid0.Coords) (k0_t1 : Fin k0_t1_loop.trips) : Fin 2 → Nat :=
  let c11_935 : Index := 11#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2282 : Index := Scalar.indexCast v2259
  ![11, v2282.toNat]
def k0_off386 (i : grid0.Coords) (k0_t1 : Fin k0_t1_loop.trips) : Fin 2 → Nat :=
  let c12_936 : Index := 12#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2284 : Index := Scalar.indexCast v2259
  ![12, v2284.toNat]
def k0_off387 (i : grid0.Coords) (k0_t1 : Fin k0_t1_loop.trips) : Fin 2 → Nat :=
  let c13_937 : Index := 13#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2286 : Index := Scalar.indexCast v2259
  ![13, v2286.toNat]
def k0_off388 (i : grid0.Coords) (k0_t1 : Fin k0_t1_loop.trips) : Fin 2 → Nat :=
  let c14_938 : Index := 14#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2288 : Index := Scalar.indexCast v2259
  ![14, v2288.toNat]
def k0_off389 (i : grid0.Coords) (k0_t1 : Fin k0_t1_loop.trips) : Fin 2 → Nat :=
  let c15_939 : Index := 15#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2290 : Index := Scalar.indexCast v2259
  ![15, v2290.toNat]
def k0_off390 (i : grid0.Coords) (k0_t1 : Fin k0_t1_loop.trips) : Fin 2 → Nat :=
  let c16_940 : Index := 16#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2292 : Index := Scalar.indexCast v2259
  ![16, v2292.toNat]
def k0_off391 (i : grid0.Coords) (k0_t1 : Fin k0_t1_loop.trips) : Fin 2 → Nat :=
  let c17_941 : Index := 17#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2294 : Index := Scalar.indexCast v2259
  ![17, v2294.toNat]
def k0_off392 (i : grid0.Coords) (k0_t1 : Fin k0_t1_loop.trips) : Fin 2 → Nat :=
  let c18_942 : Index := 18#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2296 : Index := Scalar.indexCast v2259
  ![18, v2296.toNat]
def k0_off393 (i : grid0.Coords) (k0_t1 : Fin k0_t1_loop.trips) : Fin 2 → Nat :=
  let c19_943 : Index := 19#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2298 : Index := Scalar.indexCast v2259
  ![19, v2298.toNat]
def k0_off394 (i : grid0.Coords) (k0_t1 : Fin k0_t1_loop.trips) : Fin 2 → Nat :=
  let c20_944 : Index := 20#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2300 : Index := Scalar.indexCast v2259
  ![20, v2300.toNat]
def k0_off395 (i : grid0.Coords) (k0_t1 : Fin k0_t1_loop.trips) : Fin 2 → Nat :=
  let c21_945 : Index := 21#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2302 : Index := Scalar.indexCast v2259
  ![21, v2302.toNat]
def k0_off396 (i : grid0.Coords) (k0_t1 : Fin k0_t1_loop.trips) : Fin 2 → Nat :=
  let c22_946 : Index := 22#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2304 : Index := Scalar.indexCast v2259
  ![22, v2304.toNat]
def k0_off397 (i : grid0.Coords) (k0_t1 : Fin k0_t1_loop.trips) : Fin 2 → Nat :=
  let c23_947 : Index := 23#32
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let v2306 : Index := Scalar.indexCast v2259
  ![23, v2306.toNat]
def k0_mult19 (i : grid0.Coords) (k0_t1 : Fin k0_t1_loop.trips) : BitVec 32 :=
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let c8_i32_956 : BitVec 32 := 8#32
  let v2332 : BitVec 32 := Scalar.muli v2259 c8_i32_956
  v2332
def k0_off398 (i : grid0.Coords) (k0_t1 : Fin k0_t1_loop.trips) : Fin 2 → Nat :=
  let arg1 : BitVec 32 := BitVec.ofNat 32 (i 1).val
  let c128_i32_923 : BitVec 32 := 128#32
  let v2258 : BitVec 32 := Scalar.muli arg1 c128_i32_923
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let v2259 : BitVec 32 := Scalar.addi v2258 v2257
  let c8_i32_956 : BitVec 32 := 8#32
  let v2332 : BitVec 32 := Scalar.muli v2259 c8_i32_956
  let v2333 : BitVec 32 := v2332
  let v2334 : Index := Scalar.indexCast v2333
  let c0_957 : Index := 0#32
  ![v2334.toNat, 0]
def k0_off399 (i : grid0.Coords) (v2261 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_968 : BitVec 32 := 0#32
  let v2365 : BitVec 32 := Scalar.addi v9 c0_i32_968
  let v2367 : Index := Scalar.indexCast v2365
  let c4_i32_969 : BitVec 32 := 4#32
  let v2366 : BitVec 32 := Scalar.muli c4_i32_969 v2261
  let v2368 : Index := Scalar.indexCast v2366
  let c0_970 : Index := 0#32
  ![v2367.toNat, v2368.toNat, 0]

def k0_off400 (i : grid0.Coords) (v2277 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_971 : BitVec 32 := 0#32
  let v2371 : BitVec 32 := Scalar.addi v9 c0_i32_971
  let v2373 : Index := Scalar.indexCast v2371
  let c4_i32_972 : BitVec 32 := 4#32
  let v2372 : BitVec 32 := Scalar.muli c4_i32_972 v2277
  let v2374 : Index := Scalar.indexCast v2372
  let c0_973 : Index := 0#32
  ![v2373.toNat, v2374.toNat, 0]

def k0_off401 (i : grid0.Coords) (v2263 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_974 : BitVec 32 := 0#32
  let v2378 : BitVec 32 := Scalar.addi v9 c0_i32_974
  let v2380 : Index := Scalar.indexCast v2378
  let c4_i32_975 : BitVec 32 := 4#32
  let v2379 : BitVec 32 := Scalar.muli c4_i32_975 v2263
  let v2381 : Index := Scalar.indexCast v2379
  let c0_976 : Index := 0#32
  ![v2380.toNat, v2381.toNat, 0]

def k0_off402 (i : grid0.Coords) (v2279 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_977 : BitVec 32 := 0#32
  let v2384 : BitVec 32 := Scalar.addi v9 c0_i32_977
  let v2386 : Index := Scalar.indexCast v2384
  let c4_i32_978 : BitVec 32 := 4#32
  let v2385 : BitVec 32 := Scalar.muli c4_i32_978 v2279
  let v2387 : Index := Scalar.indexCast v2385
  let c0_979 : Index := 0#32
  ![v2386.toNat, v2387.toNat, 0]

def k0_off403 (i : grid0.Coords) (v2265 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_980 : BitVec 32 := 0#32
  let v2391 : BitVec 32 := Scalar.addi v9 c0_i32_980
  let v2393 : Index := Scalar.indexCast v2391
  let c4_i32_981 : BitVec 32 := 4#32
  let v2392 : BitVec 32 := Scalar.muli c4_i32_981 v2265
  let v2394 : Index := Scalar.indexCast v2392
  let c0_982 : Index := 0#32
  ![v2393.toNat, v2394.toNat, 0]

def k0_off404 (i : grid0.Coords) (v2281 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_983 : BitVec 32 := 0#32
  let v2397 : BitVec 32 := Scalar.addi v9 c0_i32_983
  let v2399 : Index := Scalar.indexCast v2397
  let c4_i32_984 : BitVec 32 := 4#32
  let v2398 : BitVec 32 := Scalar.muli c4_i32_984 v2281
  let v2400 : Index := Scalar.indexCast v2398
  let c0_985 : Index := 0#32
  ![v2399.toNat, v2400.toNat, 0]

def k0_off405 (i : grid0.Coords) (v2267 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_986 : BitVec 32 := 0#32
  let v2404 : BitVec 32 := Scalar.addi v9 c0_i32_986
  let v2406 : Index := Scalar.indexCast v2404
  let c4_i32_987 : BitVec 32 := 4#32
  let v2405 : BitVec 32 := Scalar.muli c4_i32_987 v2267
  let v2407 : Index := Scalar.indexCast v2405
  let c0_988 : Index := 0#32
  ![v2406.toNat, v2407.toNat, 0]

def k0_off406 (i : grid0.Coords) (v2283 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_989 : BitVec 32 := 0#32
  let v2410 : BitVec 32 := Scalar.addi v9 c0_i32_989
  let v2412 : Index := Scalar.indexCast v2410
  let c4_i32_990 : BitVec 32 := 4#32
  let v2411 : BitVec 32 := Scalar.muli c4_i32_990 v2283
  let v2413 : Index := Scalar.indexCast v2411
  let c0_991 : Index := 0#32
  ![v2412.toNat, v2413.toNat, 0]

def k0_off407 (i : grid0.Coords) (v2269 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_992 : BitVec 32 := 0#32
  let v2417 : BitVec 32 := Scalar.addi v9 c0_i32_992
  let v2419 : Index := Scalar.indexCast v2417
  let c4_i32_993 : BitVec 32 := 4#32
  let v2418 : BitVec 32 := Scalar.muli c4_i32_993 v2269
  let v2420 : Index := Scalar.indexCast v2418
  let c0_994 : Index := 0#32
  ![v2419.toNat, v2420.toNat, 0]

def k0_off408 (i : grid0.Coords) (v2285 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_995 : BitVec 32 := 0#32
  let v2423 : BitVec 32 := Scalar.addi v9 c0_i32_995
  let v2425 : Index := Scalar.indexCast v2423
  let c4_i32_996 : BitVec 32 := 4#32
  let v2424 : BitVec 32 := Scalar.muli c4_i32_996 v2285
  let v2426 : Index := Scalar.indexCast v2424
  let c0_997 : Index := 0#32
  ![v2425.toNat, v2426.toNat, 0]

def k0_off409 (i : grid0.Coords) (v2271 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_998 : BitVec 32 := 0#32
  let v2430 : BitVec 32 := Scalar.addi v9 c0_i32_998
  let v2432 : Index := Scalar.indexCast v2430
  let c4_i32_999 : BitVec 32 := 4#32
  let v2431 : BitVec 32 := Scalar.muli c4_i32_999 v2271
  let v2433 : Index := Scalar.indexCast v2431
  let c0_1000 : Index := 0#32
  ![v2432.toNat, v2433.toNat, 0]

def k0_off410 (i : grid0.Coords) (v2287 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1001 : BitVec 32 := 0#32
  let v2436 : BitVec 32 := Scalar.addi v9 c0_i32_1001
  let v2438 : Index := Scalar.indexCast v2436
  let c4_i32_1002 : BitVec 32 := 4#32
  let v2437 : BitVec 32 := Scalar.muli c4_i32_1002 v2287
  let v2439 : Index := Scalar.indexCast v2437
  let c0_1003 : Index := 0#32
  ![v2438.toNat, v2439.toNat, 0]

def k0_off411 (i : grid0.Coords) (v2273 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1004 : BitVec 32 := 0#32
  let v2443 : BitVec 32 := Scalar.addi v9 c0_i32_1004
  let v2445 : Index := Scalar.indexCast v2443
  let c4_i32_1005 : BitVec 32 := 4#32
  let v2444 : BitVec 32 := Scalar.muli c4_i32_1005 v2273
  let v2446 : Index := Scalar.indexCast v2444
  let c0_1006 : Index := 0#32
  ![v2445.toNat, v2446.toNat, 0]

def k0_off412 (i : grid0.Coords) (v2289 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1007 : BitVec 32 := 0#32
  let v2449 : BitVec 32 := Scalar.addi v9 c0_i32_1007
  let v2451 : Index := Scalar.indexCast v2449
  let c4_i32_1008 : BitVec 32 := 4#32
  let v2450 : BitVec 32 := Scalar.muli c4_i32_1008 v2289
  let v2452 : Index := Scalar.indexCast v2450
  let c0_1009 : Index := 0#32
  ![v2451.toNat, v2452.toNat, 0]

def k0_off413 (i : grid0.Coords) (v2275 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1010 : BitVec 32 := 0#32
  let v2456 : BitVec 32 := Scalar.addi v9 c0_i32_1010
  let v2458 : Index := Scalar.indexCast v2456
  let c4_i32_1011 : BitVec 32 := 4#32
  let v2457 : BitVec 32 := Scalar.muli c4_i32_1011 v2275
  let v2459 : Index := Scalar.indexCast v2457
  let c0_1012 : Index := 0#32
  ![v2458.toNat, v2459.toNat, 0]

def k0_off414 (i : grid0.Coords) (v2291 : BitVec 32) (c0_i32_1013 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v2462 : BitVec 32 := Scalar.addi v9 c0_i32_1013
  let v2464 : Index := Scalar.indexCast v2462
  let c4_i32_1014 : BitVec 32 := 4#32
  let v2463 : BitVec 32 := Scalar.muli c4_i32_1014 v2291
  let v2465 : Index := Scalar.indexCast v2463
  let c0_1015 : Index := 0#32
  ![v2464.toNat, v2465.toNat, 0]

def k0_chk112 (i : grid0.Coords) (v2291 : BitVec 32) : Prop :=
  (∀ (r : Fin 2), ∀ a, (k0_off414 i v2291 (BitVec.ofNat 32 r.val)) a + S1x32x128.size a ≤ S4x46784x128.size a)
theorem k0_off414_inb : ∀ (i : grid0.Coords) (v2291 : BitVec 32) (k0_hw112 : k0_chk112 i v2291), ∀ (r : Fin 2), ∀ a, (k0_off414 i v2291 (BitVec.ofNat 32 r.val)) a + S1x32x128.size a ≤ S4x46784x128.size a := fun i v2291 k0_hw112 r => k0_hw112 r

def k0_off415 (k0_t1 : Fin k0_t1_loop.trips) (c6_i32 : BitVec 32) (c1_i32_1017 : BitVec 32) : Fin 3 → Nat :=
  let c0_1018 : Index := 0#32
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let v2257 : BitVec 32 := Scalar.addi v2256 c6_i32
  let c2_i32_1016 : BitVec 32 := 2#32
  let v2470 : BitVec 32 := Scalar.muli v2257 c2_i32_1016
  let v2471 : BitVec 32 := Scalar.addi v2470 c1_i32_1017
  let v2472 : Index := Scalar.indexCast v2471
  let c0_1019 : Index := 0#32
  ![0, v2472.toNat, 0]
def k0_off415_at (r : Fin 2) : BitVec 32 × BitVec 32 :=
  if r.val < 1 then
    (6#32, 1#32)
  else
    (7#32, 0#32)
def k0_off416 (i : grid0.Coords) (v2261 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1025 : BitVec 32 := 1#32
  let v2496 : BitVec 32 := Scalar.addi v9 c1_i32_1025
  let v2498 : Index := Scalar.indexCast v2496
  let c4_i32_1026 : BitVec 32 := 4#32
  let v2497 : BitVec 32 := Scalar.muli c4_i32_1026 v2261
  let v2499 : Index := Scalar.indexCast v2497
  let c0_1027 : Index := 0#32
  ![v2498.toNat, v2499.toNat, 0]

def k0_chk97 (i : grid0.Coords) (v2261 : BitVec 32) : Prop :=
  (∀ a, (k0_off399 i v2261) a + S1x32x128.size a ≤ S4x46784x128.size a) ∧
  (∀ a, (k0_off416 i v2261) a + S1x32x128.size a ≤ S4x46784x128.size a)
theorem k0_off399_inb : ∀ (i : grid0.Coords) (v2261 : BitVec 32) (k0_hw97 : k0_chk97 i v2261), ∀ a, (k0_off399 i v2261) a + S1x32x128.size a ≤ S4x46784x128.size a := fun i v2261 k0_hw97 => k0_hw97.1
theorem k0_off416_inb : ∀ (i : grid0.Coords) (v2261 : BitVec 32) (k0_hw97 : k0_chk97 i v2261), ∀ a, (k0_off416 i v2261) a + S1x32x128.size a ≤ S4x46784x128.size a := fun i v2261 k0_hw97 => k0_hw97.2

def k0_off417 (i : grid0.Coords) (v2277 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1028 : BitVec 32 := 1#32
  let v2502 : BitVec 32 := Scalar.addi v9 c1_i32_1028
  let v2504 : Index := Scalar.indexCast v2502
  let c4_i32_1029 : BitVec 32 := 4#32
  let v2503 : BitVec 32 := Scalar.muli c4_i32_1029 v2277
  let v2505 : Index := Scalar.indexCast v2503
  let c0_1030 : Index := 0#32
  ![v2504.toNat, v2505.toNat, 0]

def k0_chk98 (i : grid0.Coords) (v2277 : BitVec 32) : Prop :=
  (∀ a, (k0_off400 i v2277) a + S1x32x128.size a ≤ S4x46784x128.size a) ∧
  (∀ a, (k0_off417 i v2277) a + S1x32x128.size a ≤ S4x46784x128.size a)
theorem k0_off400_inb : ∀ (i : grid0.Coords) (v2277 : BitVec 32) (k0_hw98 : k0_chk98 i v2277), ∀ a, (k0_off400 i v2277) a + S1x32x128.size a ≤ S4x46784x128.size a := fun i v2277 k0_hw98 => k0_hw98.1
theorem k0_off417_inb : ∀ (i : grid0.Coords) (v2277 : BitVec 32) (k0_hw98 : k0_chk98 i v2277), ∀ a, (k0_off417 i v2277) a + S1x32x128.size a ≤ S4x46784x128.size a := fun i v2277 k0_hw98 => k0_hw98.2

def k0_off418 (i : grid0.Coords) (v2263 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1031 : BitVec 32 := 1#32
  let v2509 : BitVec 32 := Scalar.addi v9 c1_i32_1031
  let v2511 : Index := Scalar.indexCast v2509
  let c4_i32_1032 : BitVec 32 := 4#32
  let v2510 : BitVec 32 := Scalar.muli c4_i32_1032 v2263
  let v2512 : Index := Scalar.indexCast v2510
  let c0_1033 : Index := 0#32
  ![v2511.toNat, v2512.toNat, 0]

def k0_chk99 (i : grid0.Coords) (v2263 : BitVec 32) : Prop :=
  (∀ a, (k0_off401 i v2263) a + S1x32x128.size a ≤ S4x46784x128.size a) ∧
  (∀ a, (k0_off418 i v2263) a + S1x32x128.size a ≤ S4x46784x128.size a)
theorem k0_off401_inb : ∀ (i : grid0.Coords) (v2263 : BitVec 32) (k0_hw99 : k0_chk99 i v2263), ∀ a, (k0_off401 i v2263) a + S1x32x128.size a ≤ S4x46784x128.size a := fun i v2263 k0_hw99 => k0_hw99.1
theorem k0_off418_inb : ∀ (i : grid0.Coords) (v2263 : BitVec 32) (k0_hw99 : k0_chk99 i v2263), ∀ a, (k0_off418 i v2263) a + S1x32x128.size a ≤ S4x46784x128.size a := fun i v2263 k0_hw99 => k0_hw99.2

def k0_off419 (i : grid0.Coords) (v2279 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1034 : BitVec 32 := 1#32
  let v2515 : BitVec 32 := Scalar.addi v9 c1_i32_1034
  let v2517 : Index := Scalar.indexCast v2515
  let c4_i32_1035 : BitVec 32 := 4#32
  let v2516 : BitVec 32 := Scalar.muli c4_i32_1035 v2279
  let v2518 : Index := Scalar.indexCast v2516
  let c0_1036 : Index := 0#32
  ![v2517.toNat, v2518.toNat, 0]

def k0_chk100 (i : grid0.Coords) (v2279 : BitVec 32) : Prop :=
  (∀ a, (k0_off402 i v2279) a + S1x32x128.size a ≤ S4x46784x128.size a) ∧
  (∀ a, (k0_off419 i v2279) a + S1x32x128.size a ≤ S4x46784x128.size a)
theorem k0_off402_inb : ∀ (i : grid0.Coords) (v2279 : BitVec 32) (k0_hw100 : k0_chk100 i v2279), ∀ a, (k0_off402 i v2279) a + S1x32x128.size a ≤ S4x46784x128.size a := fun i v2279 k0_hw100 => k0_hw100.1
theorem k0_off419_inb : ∀ (i : grid0.Coords) (v2279 : BitVec 32) (k0_hw100 : k0_chk100 i v2279), ∀ a, (k0_off419 i v2279) a + S1x32x128.size a ≤ S4x46784x128.size a := fun i v2279 k0_hw100 => k0_hw100.2

def k0_off420 (i : grid0.Coords) (v2265 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1037 : BitVec 32 := 1#32
  let v2522 : BitVec 32 := Scalar.addi v9 c1_i32_1037
  let v2524 : Index := Scalar.indexCast v2522
  let c4_i32_1038 : BitVec 32 := 4#32
  let v2523 : BitVec 32 := Scalar.muli c4_i32_1038 v2265
  let v2525 : Index := Scalar.indexCast v2523
  let c0_1039 : Index := 0#32
  ![v2524.toNat, v2525.toNat, 0]

def k0_chk101 (i : grid0.Coords) (v2265 : BitVec 32) : Prop :=
  (∀ a, (k0_off403 i v2265) a + S1x32x128.size a ≤ S4x46784x128.size a) ∧
  (∀ a, (k0_off420 i v2265) a + S1x32x128.size a ≤ S4x46784x128.size a)
theorem k0_off403_inb : ∀ (i : grid0.Coords) (v2265 : BitVec 32) (k0_hw101 : k0_chk101 i v2265), ∀ a, (k0_off403 i v2265) a + S1x32x128.size a ≤ S4x46784x128.size a := fun i v2265 k0_hw101 => k0_hw101.1
theorem k0_off420_inb : ∀ (i : grid0.Coords) (v2265 : BitVec 32) (k0_hw101 : k0_chk101 i v2265), ∀ a, (k0_off420 i v2265) a + S1x32x128.size a ≤ S4x46784x128.size a := fun i v2265 k0_hw101 => k0_hw101.2

def k0_off421 (i : grid0.Coords) (v2281 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1040 : BitVec 32 := 1#32
  let v2528 : BitVec 32 := Scalar.addi v9 c1_i32_1040
  let v2530 : Index := Scalar.indexCast v2528
  let c4_i32_1041 : BitVec 32 := 4#32
  let v2529 : BitVec 32 := Scalar.muli c4_i32_1041 v2281
  let v2531 : Index := Scalar.indexCast v2529
  let c0_1042 : Index := 0#32
  ![v2530.toNat, v2531.toNat, 0]

def k0_chk102 (i : grid0.Coords) (v2281 : BitVec 32) : Prop :=
  (∀ a, (k0_off404 i v2281) a + S1x32x128.size a ≤ S4x46784x128.size a) ∧
  (∀ a, (k0_off421 i v2281) a + S1x32x128.size a ≤ S4x46784x128.size a)
theorem k0_off404_inb : ∀ (i : grid0.Coords) (v2281 : BitVec 32) (k0_hw102 : k0_chk102 i v2281), ∀ a, (k0_off404 i v2281) a + S1x32x128.size a ≤ S4x46784x128.size a := fun i v2281 k0_hw102 => k0_hw102.1
theorem k0_off421_inb : ∀ (i : grid0.Coords) (v2281 : BitVec 32) (k0_hw102 : k0_chk102 i v2281), ∀ a, (k0_off421 i v2281) a + S1x32x128.size a ≤ S4x46784x128.size a := fun i v2281 k0_hw102 => k0_hw102.2

def k0_off422 (i : grid0.Coords) (v2267 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1043 : BitVec 32 := 1#32
  let v2535 : BitVec 32 := Scalar.addi v9 c1_i32_1043
  let v2537 : Index := Scalar.indexCast v2535
  let c4_i32_1044 : BitVec 32 := 4#32
  let v2536 : BitVec 32 := Scalar.muli c4_i32_1044 v2267
  let v2538 : Index := Scalar.indexCast v2536
  let c0_1045 : Index := 0#32
  ![v2537.toNat, v2538.toNat, 0]

def k0_chk103 (i : grid0.Coords) (v2267 : BitVec 32) : Prop :=
  (∀ a, (k0_off405 i v2267) a + S1x32x128.size a ≤ S4x46784x128.size a) ∧
  (∀ a, (k0_off422 i v2267) a + S1x32x128.size a ≤ S4x46784x128.size a)
theorem k0_off405_inb : ∀ (i : grid0.Coords) (v2267 : BitVec 32) (k0_hw103 : k0_chk103 i v2267), ∀ a, (k0_off405 i v2267) a + S1x32x128.size a ≤ S4x46784x128.size a := fun i v2267 k0_hw103 => k0_hw103.1
theorem k0_off422_inb : ∀ (i : grid0.Coords) (v2267 : BitVec 32) (k0_hw103 : k0_chk103 i v2267), ∀ a, (k0_off422 i v2267) a + S1x32x128.size a ≤ S4x46784x128.size a := fun i v2267 k0_hw103 => k0_hw103.2

def k0_off423 (i : grid0.Coords) (v2283 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1046 : BitVec 32 := 1#32
  let v2541 : BitVec 32 := Scalar.addi v9 c1_i32_1046
  let v2543 : Index := Scalar.indexCast v2541
  let c4_i32_1047 : BitVec 32 := 4#32
  let v2542 : BitVec 32 := Scalar.muli c4_i32_1047 v2283
  let v2544 : Index := Scalar.indexCast v2542
  let c0_1048 : Index := 0#32
  ![v2543.toNat, v2544.toNat, 0]

def k0_chk104 (i : grid0.Coords) (v2283 : BitVec 32) : Prop :=
  (∀ a, (k0_off406 i v2283) a + S1x32x128.size a ≤ S4x46784x128.size a) ∧
  (∀ a, (k0_off423 i v2283) a + S1x32x128.size a ≤ S4x46784x128.size a)
theorem k0_off406_inb : ∀ (i : grid0.Coords) (v2283 : BitVec 32) (k0_hw104 : k0_chk104 i v2283), ∀ a, (k0_off406 i v2283) a + S1x32x128.size a ≤ S4x46784x128.size a := fun i v2283 k0_hw104 => k0_hw104.1
theorem k0_off423_inb : ∀ (i : grid0.Coords) (v2283 : BitVec 32) (k0_hw104 : k0_chk104 i v2283), ∀ a, (k0_off423 i v2283) a + S1x32x128.size a ≤ S4x46784x128.size a := fun i v2283 k0_hw104 => k0_hw104.2

def k0_off424 (i : grid0.Coords) (v2269 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1049 : BitVec 32 := 1#32
  let v2548 : BitVec 32 := Scalar.addi v9 c1_i32_1049
  let v2550 : Index := Scalar.indexCast v2548
  let c4_i32_1050 : BitVec 32 := 4#32
  let v2549 : BitVec 32 := Scalar.muli c4_i32_1050 v2269
  let v2551 : Index := Scalar.indexCast v2549
  let c0_1051 : Index := 0#32
  ![v2550.toNat, v2551.toNat, 0]

def k0_chk105 (i : grid0.Coords) (v2269 : BitVec 32) : Prop :=
  (∀ a, (k0_off407 i v2269) a + S1x32x128.size a ≤ S4x46784x128.size a) ∧
  (∀ a, (k0_off424 i v2269) a + S1x32x128.size a ≤ S4x46784x128.size a)
theorem k0_off407_inb : ∀ (i : grid0.Coords) (v2269 : BitVec 32) (k0_hw105 : k0_chk105 i v2269), ∀ a, (k0_off407 i v2269) a + S1x32x128.size a ≤ S4x46784x128.size a := fun i v2269 k0_hw105 => k0_hw105.1
theorem k0_off424_inb : ∀ (i : grid0.Coords) (v2269 : BitVec 32) (k0_hw105 : k0_chk105 i v2269), ∀ a, (k0_off424 i v2269) a + S1x32x128.size a ≤ S4x46784x128.size a := fun i v2269 k0_hw105 => k0_hw105.2

def k0_off425 (i : grid0.Coords) (v2285 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1052 : BitVec 32 := 1#32
  let v2554 : BitVec 32 := Scalar.addi v9 c1_i32_1052
  let v2556 : Index := Scalar.indexCast v2554
  let c4_i32_1053 : BitVec 32 := 4#32
  let v2555 : BitVec 32 := Scalar.muli c4_i32_1053 v2285
  let v2557 : Index := Scalar.indexCast v2555
  let c0_1054 : Index := 0#32
  ![v2556.toNat, v2557.toNat, 0]

def k0_chk106 (i : grid0.Coords) (v2285 : BitVec 32) : Prop :=
  (∀ a, (k0_off408 i v2285) a + S1x32x128.size a ≤ S4x46784x128.size a) ∧
  (∀ a, (k0_off425 i v2285) a + S1x32x128.size a ≤ S4x46784x128.size a)
theorem k0_off408_inb : ∀ (i : grid0.Coords) (v2285 : BitVec 32) (k0_hw106 : k0_chk106 i v2285), ∀ a, (k0_off408 i v2285) a + S1x32x128.size a ≤ S4x46784x128.size a := fun i v2285 k0_hw106 => k0_hw106.1
theorem k0_off425_inb : ∀ (i : grid0.Coords) (v2285 : BitVec 32) (k0_hw106 : k0_chk106 i v2285), ∀ a, (k0_off425 i v2285) a + S1x32x128.size a ≤ S4x46784x128.size a := fun i v2285 k0_hw106 => k0_hw106.2

def k0_off426 (i : grid0.Coords) (v2271 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1055 : BitVec 32 := 1#32
  let v2561 : BitVec 32 := Scalar.addi v9 c1_i32_1055
  let v2563 : Index := Scalar.indexCast v2561
  let c4_i32_1056 : BitVec 32 := 4#32
  let v2562 : BitVec 32 := Scalar.muli c4_i32_1056 v2271
  let v2564 : Index := Scalar.indexCast v2562
  let c0_1057 : Index := 0#32
  ![v2563.toNat, v2564.toNat, 0]

def k0_chk107 (i : grid0.Coords) (v2271 : BitVec 32) : Prop :=
  (∀ a, (k0_off409 i v2271) a + S1x32x128.size a ≤ S4x46784x128.size a) ∧
  (∀ a, (k0_off426 i v2271) a + S1x32x128.size a ≤ S4x46784x128.size a)
theorem k0_off409_inb : ∀ (i : grid0.Coords) (v2271 : BitVec 32) (k0_hw107 : k0_chk107 i v2271), ∀ a, (k0_off409 i v2271) a + S1x32x128.size a ≤ S4x46784x128.size a := fun i v2271 k0_hw107 => k0_hw107.1
theorem k0_off426_inb : ∀ (i : grid0.Coords) (v2271 : BitVec 32) (k0_hw107 : k0_chk107 i v2271), ∀ a, (k0_off426 i v2271) a + S1x32x128.size a ≤ S4x46784x128.size a := fun i v2271 k0_hw107 => k0_hw107.2

def k0_off427 (i : grid0.Coords) (v2287 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1058 : BitVec 32 := 1#32
  let v2567 : BitVec 32 := Scalar.addi v9 c1_i32_1058
  let v2569 : Index := Scalar.indexCast v2567
  let c4_i32_1059 : BitVec 32 := 4#32
  let v2568 : BitVec 32 := Scalar.muli c4_i32_1059 v2287
  let v2570 : Index := Scalar.indexCast v2568
  let c0_1060 : Index := 0#32
  ![v2569.toNat, v2570.toNat, 0]

def k0_chk108 (i : grid0.Coords) (v2287 : BitVec 32) : Prop :=
  (∀ a, (k0_off410 i v2287) a + S1x32x128.size a ≤ S4x46784x128.size a) ∧
  (∀ a, (k0_off427 i v2287) a + S1x32x128.size a ≤ S4x46784x128.size a)
theorem k0_off410_inb : ∀ (i : grid0.Coords) (v2287 : BitVec 32) (k0_hw108 : k0_chk108 i v2287), ∀ a, (k0_off410 i v2287) a + S1x32x128.size a ≤ S4x46784x128.size a := fun i v2287 k0_hw108 => k0_hw108.1
theorem k0_off427_inb : ∀ (i : grid0.Coords) (v2287 : BitVec 32) (k0_hw108 : k0_chk108 i v2287), ∀ a, (k0_off427 i v2287) a + S1x32x128.size a ≤ S4x46784x128.size a := fun i v2287 k0_hw108 => k0_hw108.2

def k0_off428 (i : grid0.Coords) (v2273 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1061 : BitVec 32 := 1#32
  let v2574 : BitVec 32 := Scalar.addi v9 c1_i32_1061
  let v2576 : Index := Scalar.indexCast v2574
  let c4_i32_1062 : BitVec 32 := 4#32
  let v2575 : BitVec 32 := Scalar.muli c4_i32_1062 v2273
  let v2577 : Index := Scalar.indexCast v2575
  let c0_1063 : Index := 0#32
  ![v2576.toNat, v2577.toNat, 0]

def k0_chk109 (i : grid0.Coords) (v2273 : BitVec 32) : Prop :=
  (∀ a, (k0_off411 i v2273) a + S1x32x128.size a ≤ S4x46784x128.size a) ∧
  (∀ a, (k0_off428 i v2273) a + S1x32x128.size a ≤ S4x46784x128.size a)
theorem k0_off411_inb : ∀ (i : grid0.Coords) (v2273 : BitVec 32) (k0_hw109 : k0_chk109 i v2273), ∀ a, (k0_off411 i v2273) a + S1x32x128.size a ≤ S4x46784x128.size a := fun i v2273 k0_hw109 => k0_hw109.1
theorem k0_off428_inb : ∀ (i : grid0.Coords) (v2273 : BitVec 32) (k0_hw109 : k0_chk109 i v2273), ∀ a, (k0_off428 i v2273) a + S1x32x128.size a ≤ S4x46784x128.size a := fun i v2273 k0_hw109 => k0_hw109.2

def k0_off429 (i : grid0.Coords) (v2289 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1064 : BitVec 32 := 1#32
  let v2580 : BitVec 32 := Scalar.addi v9 c1_i32_1064
  let v2582 : Index := Scalar.indexCast v2580
  let c4_i32_1065 : BitVec 32 := 4#32
  let v2581 : BitVec 32 := Scalar.muli c4_i32_1065 v2289
  let v2583 : Index := Scalar.indexCast v2581
  let c0_1066 : Index := 0#32
  ![v2582.toNat, v2583.toNat, 0]

def k0_chk110 (i : grid0.Coords) (v2289 : BitVec 32) : Prop :=
  (∀ a, (k0_off412 i v2289) a + S1x32x128.size a ≤ S4x46784x128.size a) ∧
  (∀ a, (k0_off429 i v2289) a + S1x32x128.size a ≤ S4x46784x128.size a)
theorem k0_off412_inb : ∀ (i : grid0.Coords) (v2289 : BitVec 32) (k0_hw110 : k0_chk110 i v2289), ∀ a, (k0_off412 i v2289) a + S1x32x128.size a ≤ S4x46784x128.size a := fun i v2289 k0_hw110 => k0_hw110.1
theorem k0_off429_inb : ∀ (i : grid0.Coords) (v2289 : BitVec 32) (k0_hw110 : k0_chk110 i v2289), ∀ a, (k0_off429 i v2289) a + S1x32x128.size a ≤ S4x46784x128.size a := fun i v2289 k0_hw110 => k0_hw110.2

def k0_off430 (i : grid0.Coords) (v2275 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1067 : BitVec 32 := 1#32
  let v2587 : BitVec 32 := Scalar.addi v9 c1_i32_1067
  let v2589 : Index := Scalar.indexCast v2587
  let c4_i32_1068 : BitVec 32 := 4#32
  let v2588 : BitVec 32 := Scalar.muli c4_i32_1068 v2275
  let v2590 : Index := Scalar.indexCast v2588
  let c0_1069 : Index := 0#32
  ![v2589.toNat, v2590.toNat, 0]

def k0_chk111 (i : grid0.Coords) (v2275 : BitVec 32) : Prop :=
  (∀ a, (k0_off413 i v2275) a + S1x32x128.size a ≤ S4x46784x128.size a) ∧
  (∀ a, (k0_off430 i v2275) a + S1x32x128.size a ≤ S4x46784x128.size a)
theorem k0_off413_inb : ∀ (i : grid0.Coords) (v2275 : BitVec 32) (k0_hw111 : k0_chk111 i v2275), ∀ a, (k0_off413 i v2275) a + S1x32x128.size a ≤ S4x46784x128.size a := fun i v2275 k0_hw111 => k0_hw111.1
theorem k0_off430_inb : ∀ (i : grid0.Coords) (v2275 : BitVec 32) (k0_hw111 : k0_chk111 i v2275), ∀ a, (k0_off430 i v2275) a + S1x32x128.size a ≤ S4x46784x128.size a := fun i v2275 k0_hw111 => k0_hw111.2

def k0_mult20 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let c16_i32_1074 : BitVec 32 := 16#32
  let v2604 : BitVec 32 := Scalar.muli v2257 c16_i32_1074
  v2604
def k0_off431 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let c16_i32_1074 : BitVec 32 := 16#32
  let v2604 : BitVec 32 := Scalar.muli v2257 c16_i32_1074
  let v2605 : BitVec 32 := v2604
  let v2611 : Index := Scalar.indexCast v2605
  let c0_1075 : Index := 0#32
  ![v2611.toNat, 0]
def k0_off432 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_922 : BitVec 32 := 8#32
  let v2256 : BitVec 32 := Scalar.muli arg11 c8_i32_922
  let c6_i32 : BitVec 32 := 6#32
  let v2257 : BitVec 32 := Scalar.addi v2256 c6_i32
  let c16_i32_1074 : BitVec 32 := 16#32
  let v2604 : BitVec 32 := Scalar.muli v2257 c16_i32_1074
  let v2605 : BitVec 32 := v2604
  let v2623 : Index := Scalar.indexCast v2605
  let c128_1077 : Index := 128#32
  ![v2623.toNat, 128]
def k0_off433 (i : grid0.Coords) (k0_t1 : Fin k0_t1_loop.trips) : Fin 2 → Nat :=
  let c0_1081 : Index := 0#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2634 : Index := Scalar.indexCast v2633
  ![0, v2634.toNat]
def k0_off434 (i : grid0.Coords) (k0_t1 : Fin k0_t1_loop.trips) : Fin 2 → Nat :=
  let c1_1082 : Index := 1#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2636 : Index := Scalar.indexCast v2633
  ![1, v2636.toNat]
def k0_off435 (i : grid0.Coords) (k0_t1 : Fin k0_t1_loop.trips) : Fin 2 → Nat :=
  let c2_1083 : Index := 2#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2638 : Index := Scalar.indexCast v2633
  ![2, v2638.toNat]
def k0_off436 (i : grid0.Coords) (k0_t1 : Fin k0_t1_loop.trips) : Fin 2 → Nat :=
  let c3_1084 : Index := 3#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2640 : Index := Scalar.indexCast v2633
  ![3, v2640.toNat]
def k0_off437 (i : grid0.Coords) (k0_t1 : Fin k0_t1_loop.trips) : Fin 2 → Nat :=
  let c4_1085 : Index := 4#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2642 : Index := Scalar.indexCast v2633
  ![4, v2642.toNat]
def k0_off438 (i : grid0.Coords) (k0_t1 : Fin k0_t1_loop.trips) : Fin 2 → Nat :=
  let c5_1086 : Index := 5#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2644 : Index := Scalar.indexCast v2633
  ![5, v2644.toNat]
def k0_off439 (i : grid0.Coords) (k0_t1 : Fin k0_t1_loop.trips) : Fin 2 → Nat :=
  let c6_1087 : Index := 6#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2646 : Index := Scalar.indexCast v2633
  ![6, v2646.toNat]
def k0_off440 (i : grid0.Coords) (k0_t1 : Fin k0_t1_loop.trips) : Fin 2 → Nat :=
  let c7_1088 : Index := 7#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2648 : Index := Scalar.indexCast v2633
  ![7, v2648.toNat]
def k0_off441 (i : grid0.Coords) (k0_t1 : Fin k0_t1_loop.trips) : Fin 2 → Nat :=
  let c8_1089 : Index := 8#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2650 : Index := Scalar.indexCast v2633
  ![8, v2650.toNat]
def k0_off442 (i : grid0.Coords) (k0_t1 : Fin k0_t1_loop.trips) : Fin 2 → Nat :=
  let c9_1090 : Index := 9#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2652 : Index := Scalar.indexCast v2633
  ![9, v2652.toNat]
def k0_off443 (i : grid0.Coords) (k0_t1 : Fin k0_t1_loop.trips) : Fin 2 → Nat :=
  let c10_1091 : Index := 10#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2654 : Index := Scalar.indexCast v2633
  ![10, v2654.toNat]
def k0_off444 (i : grid0.Coords) (k0_t1 : Fin k0_t1_loop.trips) : Fin 2 → Nat :=
  let c11_1092 : Index := 11#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2656 : Index := Scalar.indexCast v2633
  ![11, v2656.toNat]
def k0_off445 (i : grid0.Coords) (k0_t1 : Fin k0_t1_loop.trips) : Fin 2 → Nat :=
  let c12_1093 : Index := 12#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2658 : Index := Scalar.indexCast v2633
  ![12, v2658.toNat]
def k0_off446 (i : grid0.Coords) (k0_t1 : Fin k0_t1_loop.trips) : Fin 2 → Nat :=
  let c13_1094 : Index := 13#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2660 : Index := Scalar.indexCast v2633
  ![13, v2660.toNat]
def k0_off447 (i : grid0.Coords) (k0_t1 : Fin k0_t1_loop.trips) : Fin 2 → Nat :=
  let c14_1095 : Index := 14#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2662 : Index := Scalar.indexCast v2633
  ![14, v2662.toNat]
def k0_off448 (i : grid0.Coords) (k0_t1 : Fin k0_t1_loop.trips) : Fin 2 → Nat :=
  let c15_1096 : Index := 15#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2664 : Index := Scalar.indexCast v2633
  ![15, v2664.toNat]
def k0_off449 (i : grid0.Coords) (k0_t1 : Fin k0_t1_loop.trips) : Fin 2 → Nat :=
  let c16_1097 : Index := 16#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2666 : Index := Scalar.indexCast v2633
  ![16, v2666.toNat]
def k0_off450 (i : grid0.Coords) (k0_t1 : Fin k0_t1_loop.trips) : Fin 2 → Nat :=
  let c17_1098 : Index := 17#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2668 : Index := Scalar.indexCast v2633
  ![17, v2668.toNat]
def k0_off451 (i : grid0.Coords) (k0_t1 : Fin k0_t1_loop.trips) : Fin 2 → Nat :=
  let c18_1099 : Index := 18#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2670 : Index := Scalar.indexCast v2633
  ![18, v2670.toNat]
def k0_off452 (i : grid0.Coords) (k0_t1 : Fin k0_t1_loop.trips) : Fin 2 → Nat :=
  let c19_1100 : Index := 19#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2672 : Index := Scalar.indexCast v2633
  ![19, v2672.toNat]
def k0_off453 (i : grid0.Coords) (k0_t1 : Fin k0_t1_loop.trips) : Fin 2 → Nat :=
  let c20_1101 : Index := 20#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2674 : Index := Scalar.indexCast v2633
  ![20, v2674.toNat]
def k0_off454 (i : grid0.Coords) (k0_t1 : Fin k0_t1_loop.trips) : Fin 2 → Nat :=
  let c21_1102 : Index := 21#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2676 : Index := Scalar.indexCast v2633
  ![21, v2676.toNat]
def k0_off455 (i : grid0.Coords) (k0_t1 : Fin k0_t1_loop.trips) : Fin 2 → Nat :=
  let c22_1103 : Index := 22#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2678 : Index := Scalar.indexCast v2633
  ![22, v2678.toNat]
def k0_off456 (i : grid0.Coords) (k0_t1 : Fin k0_t1_loop.trips) : Fin 2 → Nat :=
  let c23_1104 : Index := 23#32
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let v2680 : Index := Scalar.indexCast v2633
  ![23, v2680.toNat]
def k0_mult21 (i : grid0.Coords) (k0_t1 : Fin k0_t1_loop.trips) : BitVec 32 :=
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let c8_i32_1113 : BitVec 32 := 8#32
  let v2706 : BitVec 32 := Scalar.muli v2633 c8_i32_1113
  v2706
def k0_off457 (i : grid0.Coords) (k0_t1 : Fin k0_t1_loop.trips) : Fin 2 → Nat :=
  let arg1 : BitVec 32 := BitVec.ofNat 32 (i 1).val
  let c128_i32_1080 : BitVec 32 := 128#32
  let v2632 : BitVec 32 := Scalar.muli arg1 c128_i32_1080
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let v2633 : BitVec 32 := Scalar.addi v2632 v2631
  let c8_i32_1113 : BitVec 32 := 8#32
  let v2706 : BitVec 32 := Scalar.muli v2633 c8_i32_1113
  let v2707 : BitVec 32 := v2706
  let v2708 : Index := Scalar.indexCast v2707
  let c0_1114 : Index := 0#32
  ![v2708.toNat, 0]
def k0_off458 (i : grid0.Coords) (v2635 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1125 : BitVec 32 := 0#32
  let v2739 : BitVec 32 := Scalar.addi v9 c0_i32_1125
  let v2741 : Index := Scalar.indexCast v2739
  let c4_i32_1126 : BitVec 32 := 4#32
  let v2740 : BitVec 32 := Scalar.muli c4_i32_1126 v2635
  let v2742 : Index := Scalar.indexCast v2740
  let c0_1127 : Index := 0#32
  ![v2741.toNat, v2742.toNat, 0]

def k0_off459 (i : grid0.Coords) (v2651 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1128 : BitVec 32 := 0#32
  let v2745 : BitVec 32 := Scalar.addi v9 c0_i32_1128
  let v2747 : Index := Scalar.indexCast v2745
  let c4_i32_1129 : BitVec 32 := 4#32
  let v2746 : BitVec 32 := Scalar.muli c4_i32_1129 v2651
  let v2748 : Index := Scalar.indexCast v2746
  let c0_1130 : Index := 0#32
  ![v2747.toNat, v2748.toNat, 0]

def k0_off460 (i : grid0.Coords) (v2637 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1131 : BitVec 32 := 0#32
  let v2752 : BitVec 32 := Scalar.addi v9 c0_i32_1131
  let v2754 : Index := Scalar.indexCast v2752
  let c4_i32_1132 : BitVec 32 := 4#32
  let v2753 : BitVec 32 := Scalar.muli c4_i32_1132 v2637
  let v2755 : Index := Scalar.indexCast v2753
  let c0_1133 : Index := 0#32
  ![v2754.toNat, v2755.toNat, 0]

def k0_off461 (i : grid0.Coords) (v2653 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1134 : BitVec 32 := 0#32
  let v2758 : BitVec 32 := Scalar.addi v9 c0_i32_1134
  let v2760 : Index := Scalar.indexCast v2758
  let c4_i32_1135 : BitVec 32 := 4#32
  let v2759 : BitVec 32 := Scalar.muli c4_i32_1135 v2653
  let v2761 : Index := Scalar.indexCast v2759
  let c0_1136 : Index := 0#32
  ![v2760.toNat, v2761.toNat, 0]

def k0_off462 (i : grid0.Coords) (v2639 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1137 : BitVec 32 := 0#32
  let v2765 : BitVec 32 := Scalar.addi v9 c0_i32_1137
  let v2767 : Index := Scalar.indexCast v2765
  let c4_i32_1138 : BitVec 32 := 4#32
  let v2766 : BitVec 32 := Scalar.muli c4_i32_1138 v2639
  let v2768 : Index := Scalar.indexCast v2766
  let c0_1139 : Index := 0#32
  ![v2767.toNat, v2768.toNat, 0]

def k0_off463 (i : grid0.Coords) (v2655 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1140 : BitVec 32 := 0#32
  let v2771 : BitVec 32 := Scalar.addi v9 c0_i32_1140
  let v2773 : Index := Scalar.indexCast v2771
  let c4_i32_1141 : BitVec 32 := 4#32
  let v2772 : BitVec 32 := Scalar.muli c4_i32_1141 v2655
  let v2774 : Index := Scalar.indexCast v2772
  let c0_1142 : Index := 0#32
  ![v2773.toNat, v2774.toNat, 0]

def k0_off464 (i : grid0.Coords) (v2641 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1143 : BitVec 32 := 0#32
  let v2778 : BitVec 32 := Scalar.addi v9 c0_i32_1143
  let v2780 : Index := Scalar.indexCast v2778
  let c4_i32_1144 : BitVec 32 := 4#32
  let v2779 : BitVec 32 := Scalar.muli c4_i32_1144 v2641
  let v2781 : Index := Scalar.indexCast v2779
  let c0_1145 : Index := 0#32
  ![v2780.toNat, v2781.toNat, 0]

def k0_off465 (i : grid0.Coords) (v2657 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1146 : BitVec 32 := 0#32
  let v2784 : BitVec 32 := Scalar.addi v9 c0_i32_1146
  let v2786 : Index := Scalar.indexCast v2784
  let c4_i32_1147 : BitVec 32 := 4#32
  let v2785 : BitVec 32 := Scalar.muli c4_i32_1147 v2657
  let v2787 : Index := Scalar.indexCast v2785
  let c0_1148 : Index := 0#32
  ![v2786.toNat, v2787.toNat, 0]

def k0_off466 (i : grid0.Coords) (v2643 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1149 : BitVec 32 := 0#32
  let v2791 : BitVec 32 := Scalar.addi v9 c0_i32_1149
  let v2793 : Index := Scalar.indexCast v2791
  let c4_i32_1150 : BitVec 32 := 4#32
  let v2792 : BitVec 32 := Scalar.muli c4_i32_1150 v2643
  let v2794 : Index := Scalar.indexCast v2792
  let c0_1151 : Index := 0#32
  ![v2793.toNat, v2794.toNat, 0]

def k0_off467 (i : grid0.Coords) (v2659 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1152 : BitVec 32 := 0#32
  let v2797 : BitVec 32 := Scalar.addi v9 c0_i32_1152
  let v2799 : Index := Scalar.indexCast v2797
  let c4_i32_1153 : BitVec 32 := 4#32
  let v2798 : BitVec 32 := Scalar.muli c4_i32_1153 v2659
  let v2800 : Index := Scalar.indexCast v2798
  let c0_1154 : Index := 0#32
  ![v2799.toNat, v2800.toNat, 0]

def k0_off468 (i : grid0.Coords) (v2645 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1155 : BitVec 32 := 0#32
  let v2804 : BitVec 32 := Scalar.addi v9 c0_i32_1155
  let v2806 : Index := Scalar.indexCast v2804
  let c4_i32_1156 : BitVec 32 := 4#32
  let v2805 : BitVec 32 := Scalar.muli c4_i32_1156 v2645
  let v2807 : Index := Scalar.indexCast v2805
  let c0_1157 : Index := 0#32
  ![v2806.toNat, v2807.toNat, 0]

def k0_off469 (i : grid0.Coords) (v2661 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1158 : BitVec 32 := 0#32
  let v2810 : BitVec 32 := Scalar.addi v9 c0_i32_1158
  let v2812 : Index := Scalar.indexCast v2810
  let c4_i32_1159 : BitVec 32 := 4#32
  let v2811 : BitVec 32 := Scalar.muli c4_i32_1159 v2661
  let v2813 : Index := Scalar.indexCast v2811
  let c0_1160 : Index := 0#32
  ![v2812.toNat, v2813.toNat, 0]

def k0_off470 (i : grid0.Coords) (v2647 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1161 : BitVec 32 := 0#32
  let v2817 : BitVec 32 := Scalar.addi v9 c0_i32_1161
  let v2819 : Index := Scalar.indexCast v2817
  let c4_i32_1162 : BitVec 32 := 4#32
  let v2818 : BitVec 32 := Scalar.muli c4_i32_1162 v2647
  let v2820 : Index := Scalar.indexCast v2818
  let c0_1163 : Index := 0#32
  ![v2819.toNat, v2820.toNat, 0]

def k0_off471 (i : grid0.Coords) (v2663 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1164 : BitVec 32 := 0#32
  let v2823 : BitVec 32 := Scalar.addi v9 c0_i32_1164
  let v2825 : Index := Scalar.indexCast v2823
  let c4_i32_1165 : BitVec 32 := 4#32
  let v2824 : BitVec 32 := Scalar.muli c4_i32_1165 v2663
  let v2826 : Index := Scalar.indexCast v2824
  let c0_1166 : Index := 0#32
  ![v2825.toNat, v2826.toNat, 0]

def k0_off472 (i : grid0.Coords) (v2649 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c0_i32_1167 : BitVec 32 := 0#32
  let v2830 : BitVec 32 := Scalar.addi v9 c0_i32_1167
  let v2832 : Index := Scalar.indexCast v2830
  let c4_i32_1168 : BitVec 32 := 4#32
  let v2831 : BitVec 32 := Scalar.muli c4_i32_1168 v2649
  let v2833 : Index := Scalar.indexCast v2831
  let c0_1169 : Index := 0#32
  ![v2832.toNat, v2833.toNat, 0]

def k0_off473 (i : grid0.Coords) (v2665 : BitVec 32) (c0_i32_1170 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let v2836 : BitVec 32 := Scalar.addi v9 c0_i32_1170
  let v2838 : Index := Scalar.indexCast v2836
  let c4_i32_1171 : BitVec 32 := 4#32
  let v2837 : BitVec 32 := Scalar.muli c4_i32_1171 v2665
  let v2839 : Index := Scalar.indexCast v2837
  let c0_1172 : Index := 0#32
  ![v2838.toNat, v2839.toNat, 0]

def k0_chk128 (i : grid0.Coords) (v2665 : BitVec 32) : Prop :=
  (∀ (r : Fin 2), ∀ a, (k0_off473 i v2665 (BitVec.ofNat 32 r.val)) a + S1x32x128.size a ≤ S4x46784x128.size a)
theorem k0_off473_inb : ∀ (i : grid0.Coords) (v2665 : BitVec 32) (k0_hw128 : k0_chk128 i v2665), ∀ (r : Fin 2), ∀ a, (k0_off473 i v2665 (BitVec.ofNat 32 r.val)) a + S1x32x128.size a ≤ S4x46784x128.size a := fun i v2665 k0_hw128 r => k0_hw128 r

def k0_off474 (k0_t1 : Fin k0_t1_loop.trips) : Fin 3 → Nat :=
  let c0_1175 : Index := 0#32
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let c2_i32_1173 : BitVec 32 := 2#32
  let v2844 : BitVec 32 := Scalar.muli v2631 c2_i32_1173
  let c1_i32_1174 : BitVec 32 := 1#32
  let v2845 : BitVec 32 := Scalar.addi v2844 c1_i32_1174
  let v2846 : Index := Scalar.indexCast v2845
  let c0_1176 : Index := 0#32
  ![0, v2846.toNat, 0]
def k0_off475 (i : grid0.Coords) (v2635 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1182 : BitVec 32 := 1#32
  let v2870 : BitVec 32 := Scalar.addi v9 c1_i32_1182
  let v2872 : Index := Scalar.indexCast v2870
  let c4_i32_1183 : BitVec 32 := 4#32
  let v2871 : BitVec 32 := Scalar.muli c4_i32_1183 v2635
  let v2873 : Index := Scalar.indexCast v2871
  let c0_1184 : Index := 0#32
  ![v2872.toNat, v2873.toNat, 0]

def k0_chk113 (i : grid0.Coords) (v2635 : BitVec 32) : Prop :=
  (∀ a, (k0_off458 i v2635) a + S1x32x128.size a ≤ S4x46784x128.size a) ∧
  (∀ a, (k0_off475 i v2635) a + S1x32x128.size a ≤ S4x46784x128.size a)
theorem k0_off458_inb : ∀ (i : grid0.Coords) (v2635 : BitVec 32) (k0_hw113 : k0_chk113 i v2635), ∀ a, (k0_off458 i v2635) a + S1x32x128.size a ≤ S4x46784x128.size a := fun i v2635 k0_hw113 => k0_hw113.1
theorem k0_off475_inb : ∀ (i : grid0.Coords) (v2635 : BitVec 32) (k0_hw113 : k0_chk113 i v2635), ∀ a, (k0_off475 i v2635) a + S1x32x128.size a ≤ S4x46784x128.size a := fun i v2635 k0_hw113 => k0_hw113.2

def k0_off476 (i : grid0.Coords) (v2651 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1185 : BitVec 32 := 1#32
  let v2876 : BitVec 32 := Scalar.addi v9 c1_i32_1185
  let v2878 : Index := Scalar.indexCast v2876
  let c4_i32_1186 : BitVec 32 := 4#32
  let v2877 : BitVec 32 := Scalar.muli c4_i32_1186 v2651
  let v2879 : Index := Scalar.indexCast v2877
  let c0_1187 : Index := 0#32
  ![v2878.toNat, v2879.toNat, 0]

def k0_chk114 (i : grid0.Coords) (v2651 : BitVec 32) : Prop :=
  (∀ a, (k0_off459 i v2651) a + S1x32x128.size a ≤ S4x46784x128.size a) ∧
  (∀ a, (k0_off476 i v2651) a + S1x32x128.size a ≤ S4x46784x128.size a)
theorem k0_off459_inb : ∀ (i : grid0.Coords) (v2651 : BitVec 32) (k0_hw114 : k0_chk114 i v2651), ∀ a, (k0_off459 i v2651) a + S1x32x128.size a ≤ S4x46784x128.size a := fun i v2651 k0_hw114 => k0_hw114.1
theorem k0_off476_inb : ∀ (i : grid0.Coords) (v2651 : BitVec 32) (k0_hw114 : k0_chk114 i v2651), ∀ a, (k0_off476 i v2651) a + S1x32x128.size a ≤ S4x46784x128.size a := fun i v2651 k0_hw114 => k0_hw114.2

def k0_off477 (i : grid0.Coords) (v2637 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1188 : BitVec 32 := 1#32
  let v2883 : BitVec 32 := Scalar.addi v9 c1_i32_1188
  let v2885 : Index := Scalar.indexCast v2883
  let c4_i32_1189 : BitVec 32 := 4#32
  let v2884 : BitVec 32 := Scalar.muli c4_i32_1189 v2637
  let v2886 : Index := Scalar.indexCast v2884
  let c0_1190 : Index := 0#32
  ![v2885.toNat, v2886.toNat, 0]

def k0_chk115 (i : grid0.Coords) (v2637 : BitVec 32) : Prop :=
  (∀ a, (k0_off460 i v2637) a + S1x32x128.size a ≤ S4x46784x128.size a) ∧
  (∀ a, (k0_off477 i v2637) a + S1x32x128.size a ≤ S4x46784x128.size a)
theorem k0_off460_inb : ∀ (i : grid0.Coords) (v2637 : BitVec 32) (k0_hw115 : k0_chk115 i v2637), ∀ a, (k0_off460 i v2637) a + S1x32x128.size a ≤ S4x46784x128.size a := fun i v2637 k0_hw115 => k0_hw115.1
theorem k0_off477_inb : ∀ (i : grid0.Coords) (v2637 : BitVec 32) (k0_hw115 : k0_chk115 i v2637), ∀ a, (k0_off477 i v2637) a + S1x32x128.size a ≤ S4x46784x128.size a := fun i v2637 k0_hw115 => k0_hw115.2

def k0_off478 (i : grid0.Coords) (v2653 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1191 : BitVec 32 := 1#32
  let v2889 : BitVec 32 := Scalar.addi v9 c1_i32_1191
  let v2891 : Index := Scalar.indexCast v2889
  let c4_i32_1192 : BitVec 32 := 4#32
  let v2890 : BitVec 32 := Scalar.muli c4_i32_1192 v2653
  let v2892 : Index := Scalar.indexCast v2890
  let c0_1193 : Index := 0#32
  ![v2891.toNat, v2892.toNat, 0]

def k0_chk116 (i : grid0.Coords) (v2653 : BitVec 32) : Prop :=
  (∀ a, (k0_off461 i v2653) a + S1x32x128.size a ≤ S4x46784x128.size a) ∧
  (∀ a, (k0_off478 i v2653) a + S1x32x128.size a ≤ S4x46784x128.size a)
theorem k0_off461_inb : ∀ (i : grid0.Coords) (v2653 : BitVec 32) (k0_hw116 : k0_chk116 i v2653), ∀ a, (k0_off461 i v2653) a + S1x32x128.size a ≤ S4x46784x128.size a := fun i v2653 k0_hw116 => k0_hw116.1
theorem k0_off478_inb : ∀ (i : grid0.Coords) (v2653 : BitVec 32) (k0_hw116 : k0_chk116 i v2653), ∀ a, (k0_off478 i v2653) a + S1x32x128.size a ≤ S4x46784x128.size a := fun i v2653 k0_hw116 => k0_hw116.2

def k0_off479 (i : grid0.Coords) (v2639 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1194 : BitVec 32 := 1#32
  let v2896 : BitVec 32 := Scalar.addi v9 c1_i32_1194
  let v2898 : Index := Scalar.indexCast v2896
  let c4_i32_1195 : BitVec 32 := 4#32
  let v2897 : BitVec 32 := Scalar.muli c4_i32_1195 v2639
  let v2899 : Index := Scalar.indexCast v2897
  let c0_1196 : Index := 0#32
  ![v2898.toNat, v2899.toNat, 0]

def k0_chk117 (i : grid0.Coords) (v2639 : BitVec 32) : Prop :=
  (∀ a, (k0_off462 i v2639) a + S1x32x128.size a ≤ S4x46784x128.size a) ∧
  (∀ a, (k0_off479 i v2639) a + S1x32x128.size a ≤ S4x46784x128.size a)
theorem k0_off462_inb : ∀ (i : grid0.Coords) (v2639 : BitVec 32) (k0_hw117 : k0_chk117 i v2639), ∀ a, (k0_off462 i v2639) a + S1x32x128.size a ≤ S4x46784x128.size a := fun i v2639 k0_hw117 => k0_hw117.1
theorem k0_off479_inb : ∀ (i : grid0.Coords) (v2639 : BitVec 32) (k0_hw117 : k0_chk117 i v2639), ∀ a, (k0_off479 i v2639) a + S1x32x128.size a ≤ S4x46784x128.size a := fun i v2639 k0_hw117 => k0_hw117.2

def k0_off480 (i : grid0.Coords) (v2655 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1197 : BitVec 32 := 1#32
  let v2902 : BitVec 32 := Scalar.addi v9 c1_i32_1197
  let v2904 : Index := Scalar.indexCast v2902
  let c4_i32_1198 : BitVec 32 := 4#32
  let v2903 : BitVec 32 := Scalar.muli c4_i32_1198 v2655
  let v2905 : Index := Scalar.indexCast v2903
  let c0_1199 : Index := 0#32
  ![v2904.toNat, v2905.toNat, 0]

def k0_chk118 (i : grid0.Coords) (v2655 : BitVec 32) : Prop :=
  (∀ a, (k0_off463 i v2655) a + S1x32x128.size a ≤ S4x46784x128.size a) ∧
  (∀ a, (k0_off480 i v2655) a + S1x32x128.size a ≤ S4x46784x128.size a)
theorem k0_off463_inb : ∀ (i : grid0.Coords) (v2655 : BitVec 32) (k0_hw118 : k0_chk118 i v2655), ∀ a, (k0_off463 i v2655) a + S1x32x128.size a ≤ S4x46784x128.size a := fun i v2655 k0_hw118 => k0_hw118.1
theorem k0_off480_inb : ∀ (i : grid0.Coords) (v2655 : BitVec 32) (k0_hw118 : k0_chk118 i v2655), ∀ a, (k0_off480 i v2655) a + S1x32x128.size a ≤ S4x46784x128.size a := fun i v2655 k0_hw118 => k0_hw118.2

def k0_off481 (i : grid0.Coords) (v2641 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1200 : BitVec 32 := 1#32
  let v2909 : BitVec 32 := Scalar.addi v9 c1_i32_1200
  let v2911 : Index := Scalar.indexCast v2909
  let c4_i32_1201 : BitVec 32 := 4#32
  let v2910 : BitVec 32 := Scalar.muli c4_i32_1201 v2641
  let v2912 : Index := Scalar.indexCast v2910
  let c0_1202 : Index := 0#32
  ![v2911.toNat, v2912.toNat, 0]

def k0_chk119 (i : grid0.Coords) (v2641 : BitVec 32) : Prop :=
  (∀ a, (k0_off464 i v2641) a + S1x32x128.size a ≤ S4x46784x128.size a) ∧
  (∀ a, (k0_off481 i v2641) a + S1x32x128.size a ≤ S4x46784x128.size a)
theorem k0_off464_inb : ∀ (i : grid0.Coords) (v2641 : BitVec 32) (k0_hw119 : k0_chk119 i v2641), ∀ a, (k0_off464 i v2641) a + S1x32x128.size a ≤ S4x46784x128.size a := fun i v2641 k0_hw119 => k0_hw119.1
theorem k0_off481_inb : ∀ (i : grid0.Coords) (v2641 : BitVec 32) (k0_hw119 : k0_chk119 i v2641), ∀ a, (k0_off481 i v2641) a + S1x32x128.size a ≤ S4x46784x128.size a := fun i v2641 k0_hw119 => k0_hw119.2

def k0_off482 (i : grid0.Coords) (v2657 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1203 : BitVec 32 := 1#32
  let v2915 : BitVec 32 := Scalar.addi v9 c1_i32_1203
  let v2917 : Index := Scalar.indexCast v2915
  let c4_i32_1204 : BitVec 32 := 4#32
  let v2916 : BitVec 32 := Scalar.muli c4_i32_1204 v2657
  let v2918 : Index := Scalar.indexCast v2916
  let c0_1205 : Index := 0#32
  ![v2917.toNat, v2918.toNat, 0]

def k0_chk120 (i : grid0.Coords) (v2657 : BitVec 32) : Prop :=
  (∀ a, (k0_off465 i v2657) a + S1x32x128.size a ≤ S4x46784x128.size a) ∧
  (∀ a, (k0_off482 i v2657) a + S1x32x128.size a ≤ S4x46784x128.size a)
theorem k0_off465_inb : ∀ (i : grid0.Coords) (v2657 : BitVec 32) (k0_hw120 : k0_chk120 i v2657), ∀ a, (k0_off465 i v2657) a + S1x32x128.size a ≤ S4x46784x128.size a := fun i v2657 k0_hw120 => k0_hw120.1
theorem k0_off482_inb : ∀ (i : grid0.Coords) (v2657 : BitVec 32) (k0_hw120 : k0_chk120 i v2657), ∀ a, (k0_off482 i v2657) a + S1x32x128.size a ≤ S4x46784x128.size a := fun i v2657 k0_hw120 => k0_hw120.2

def k0_off483 (i : grid0.Coords) (v2643 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1206 : BitVec 32 := 1#32
  let v2922 : BitVec 32 := Scalar.addi v9 c1_i32_1206
  let v2924 : Index := Scalar.indexCast v2922
  let c4_i32_1207 : BitVec 32 := 4#32
  let v2923 : BitVec 32 := Scalar.muli c4_i32_1207 v2643
  let v2925 : Index := Scalar.indexCast v2923
  let c0_1208 : Index := 0#32
  ![v2924.toNat, v2925.toNat, 0]

def k0_chk121 (i : grid0.Coords) (v2643 : BitVec 32) : Prop :=
  (∀ a, (k0_off466 i v2643) a + S1x32x128.size a ≤ S4x46784x128.size a) ∧
  (∀ a, (k0_off483 i v2643) a + S1x32x128.size a ≤ S4x46784x128.size a)
theorem k0_off466_inb : ∀ (i : grid0.Coords) (v2643 : BitVec 32) (k0_hw121 : k0_chk121 i v2643), ∀ a, (k0_off466 i v2643) a + S1x32x128.size a ≤ S4x46784x128.size a := fun i v2643 k0_hw121 => k0_hw121.1
theorem k0_off483_inb : ∀ (i : grid0.Coords) (v2643 : BitVec 32) (k0_hw121 : k0_chk121 i v2643), ∀ a, (k0_off483 i v2643) a + S1x32x128.size a ≤ S4x46784x128.size a := fun i v2643 k0_hw121 => k0_hw121.2

def k0_off484 (i : grid0.Coords) (v2659 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1209 : BitVec 32 := 1#32
  let v2928 : BitVec 32 := Scalar.addi v9 c1_i32_1209
  let v2930 : Index := Scalar.indexCast v2928
  let c4_i32_1210 : BitVec 32 := 4#32
  let v2929 : BitVec 32 := Scalar.muli c4_i32_1210 v2659
  let v2931 : Index := Scalar.indexCast v2929
  let c0_1211 : Index := 0#32
  ![v2930.toNat, v2931.toNat, 0]

def k0_chk122 (i : grid0.Coords) (v2659 : BitVec 32) : Prop :=
  (∀ a, (k0_off467 i v2659) a + S1x32x128.size a ≤ S4x46784x128.size a) ∧
  (∀ a, (k0_off484 i v2659) a + S1x32x128.size a ≤ S4x46784x128.size a)
theorem k0_off467_inb : ∀ (i : grid0.Coords) (v2659 : BitVec 32) (k0_hw122 : k0_chk122 i v2659), ∀ a, (k0_off467 i v2659) a + S1x32x128.size a ≤ S4x46784x128.size a := fun i v2659 k0_hw122 => k0_hw122.1
theorem k0_off484_inb : ∀ (i : grid0.Coords) (v2659 : BitVec 32) (k0_hw122 : k0_chk122 i v2659), ∀ a, (k0_off484 i v2659) a + S1x32x128.size a ≤ S4x46784x128.size a := fun i v2659 k0_hw122 => k0_hw122.2

def k0_off485 (i : grid0.Coords) (v2645 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1212 : BitVec 32 := 1#32
  let v2935 : BitVec 32 := Scalar.addi v9 c1_i32_1212
  let v2937 : Index := Scalar.indexCast v2935
  let c4_i32_1213 : BitVec 32 := 4#32
  let v2936 : BitVec 32 := Scalar.muli c4_i32_1213 v2645
  let v2938 : Index := Scalar.indexCast v2936
  let c0_1214 : Index := 0#32
  ![v2937.toNat, v2938.toNat, 0]

def k0_chk123 (i : grid0.Coords) (v2645 : BitVec 32) : Prop :=
  (∀ a, (k0_off468 i v2645) a + S1x32x128.size a ≤ S4x46784x128.size a) ∧
  (∀ a, (k0_off485 i v2645) a + S1x32x128.size a ≤ S4x46784x128.size a)
theorem k0_off468_inb : ∀ (i : grid0.Coords) (v2645 : BitVec 32) (k0_hw123 : k0_chk123 i v2645), ∀ a, (k0_off468 i v2645) a + S1x32x128.size a ≤ S4x46784x128.size a := fun i v2645 k0_hw123 => k0_hw123.1
theorem k0_off485_inb : ∀ (i : grid0.Coords) (v2645 : BitVec 32) (k0_hw123 : k0_chk123 i v2645), ∀ a, (k0_off485 i v2645) a + S1x32x128.size a ≤ S4x46784x128.size a := fun i v2645 k0_hw123 => k0_hw123.2

def k0_off486 (i : grid0.Coords) (v2661 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1215 : BitVec 32 := 1#32
  let v2941 : BitVec 32 := Scalar.addi v9 c1_i32_1215
  let v2943 : Index := Scalar.indexCast v2941
  let c4_i32_1216 : BitVec 32 := 4#32
  let v2942 : BitVec 32 := Scalar.muli c4_i32_1216 v2661
  let v2944 : Index := Scalar.indexCast v2942
  let c0_1217 : Index := 0#32
  ![v2943.toNat, v2944.toNat, 0]

def k0_chk124 (i : grid0.Coords) (v2661 : BitVec 32) : Prop :=
  (∀ a, (k0_off469 i v2661) a + S1x32x128.size a ≤ S4x46784x128.size a) ∧
  (∀ a, (k0_off486 i v2661) a + S1x32x128.size a ≤ S4x46784x128.size a)
theorem k0_off469_inb : ∀ (i : grid0.Coords) (v2661 : BitVec 32) (k0_hw124 : k0_chk124 i v2661), ∀ a, (k0_off469 i v2661) a + S1x32x128.size a ≤ S4x46784x128.size a := fun i v2661 k0_hw124 => k0_hw124.1
theorem k0_off486_inb : ∀ (i : grid0.Coords) (v2661 : BitVec 32) (k0_hw124 : k0_chk124 i v2661), ∀ a, (k0_off486 i v2661) a + S1x32x128.size a ≤ S4x46784x128.size a := fun i v2661 k0_hw124 => k0_hw124.2

def k0_off487 (i : grid0.Coords) (v2647 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1218 : BitVec 32 := 1#32
  let v2948 : BitVec 32 := Scalar.addi v9 c1_i32_1218
  let v2950 : Index := Scalar.indexCast v2948
  let c4_i32_1219 : BitVec 32 := 4#32
  let v2949 : BitVec 32 := Scalar.muli c4_i32_1219 v2647
  let v2951 : Index := Scalar.indexCast v2949
  let c0_1220 : Index := 0#32
  ![v2950.toNat, v2951.toNat, 0]

def k0_chk125 (i : grid0.Coords) (v2647 : BitVec 32) : Prop :=
  (∀ a, (k0_off470 i v2647) a + S1x32x128.size a ≤ S4x46784x128.size a) ∧
  (∀ a, (k0_off487 i v2647) a + S1x32x128.size a ≤ S4x46784x128.size a)
theorem k0_off470_inb : ∀ (i : grid0.Coords) (v2647 : BitVec 32) (k0_hw125 : k0_chk125 i v2647), ∀ a, (k0_off470 i v2647) a + S1x32x128.size a ≤ S4x46784x128.size a := fun i v2647 k0_hw125 => k0_hw125.1
theorem k0_off487_inb : ∀ (i : grid0.Coords) (v2647 : BitVec 32) (k0_hw125 : k0_chk125 i v2647), ∀ a, (k0_off487 i v2647) a + S1x32x128.size a ≤ S4x46784x128.size a := fun i v2647 k0_hw125 => k0_hw125.2

def k0_off488 (i : grid0.Coords) (v2663 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1221 : BitVec 32 := 1#32
  let v2954 : BitVec 32 := Scalar.addi v9 c1_i32_1221
  let v2956 : Index := Scalar.indexCast v2954
  let c4_i32_1222 : BitVec 32 := 4#32
  let v2955 : BitVec 32 := Scalar.muli c4_i32_1222 v2663
  let v2957 : Index := Scalar.indexCast v2955
  let c0_1223 : Index := 0#32
  ![v2956.toNat, v2957.toNat, 0]

def k0_chk126 (i : grid0.Coords) (v2663 : BitVec 32) : Prop :=
  (∀ a, (k0_off471 i v2663) a + S1x32x128.size a ≤ S4x46784x128.size a) ∧
  (∀ a, (k0_off488 i v2663) a + S1x32x128.size a ≤ S4x46784x128.size a)
theorem k0_off471_inb : ∀ (i : grid0.Coords) (v2663 : BitVec 32) (k0_hw126 : k0_chk126 i v2663), ∀ a, (k0_off471 i v2663) a + S1x32x128.size a ≤ S4x46784x128.size a := fun i v2663 k0_hw126 => k0_hw126.1
theorem k0_off488_inb : ∀ (i : grid0.Coords) (v2663 : BitVec 32) (k0_hw126 : k0_chk126 i v2663), ∀ a, (k0_off488 i v2663) a + S1x32x128.size a ≤ S4x46784x128.size a := fun i v2663 k0_hw126 => k0_hw126.2

def k0_off489 (i : grid0.Coords) (v2649 : BitVec 32) : Fin 3 → Nat :=
  let arg0 : BitVec 32 := BitVec.ofNat 32 (i 0).val
  let c2_i32 : BitVec 32 := 2#32
  let v8 : BitVec 32 := Scalar.remsi arg0 c2_i32
  let c2_i32_4 : BitVec 32 := 2#32
  let v9 : BitVec 32 := Scalar.muli v8 c2_i32_4
  let c1_i32_1224 : BitVec 32 := 1#32
  let v2961 : BitVec 32 := Scalar.addi v9 c1_i32_1224
  let v2963 : Index := Scalar.indexCast v2961
  let c4_i32_1225 : BitVec 32 := 4#32
  let v2962 : BitVec 32 := Scalar.muli c4_i32_1225 v2649
  let v2964 : Index := Scalar.indexCast v2962
  let c0_1226 : Index := 0#32
  ![v2963.toNat, v2964.toNat, 0]

def k0_chk127 (i : grid0.Coords) (v2649 : BitVec 32) : Prop :=
  (∀ a, (k0_off472 i v2649) a + S1x32x128.size a ≤ S4x46784x128.size a) ∧
  (∀ a, (k0_off489 i v2649) a + S1x32x128.size a ≤ S4x46784x128.size a)
theorem k0_off472_inb : ∀ (i : grid0.Coords) (v2649 : BitVec 32) (k0_hw127 : k0_chk127 i v2649), ∀ a, (k0_off472 i v2649) a + S1x32x128.size a ≤ S4x46784x128.size a := fun i v2649 k0_hw127 => k0_hw127.1
theorem k0_off489_inb : ∀ (i : grid0.Coords) (v2649 : BitVec 32) (k0_hw127 : k0_chk127 i v2649), ∀ a, (k0_off489 i v2649) a + S1x32x128.size a ≤ S4x46784x128.size a := fun i v2649 k0_hw127 => k0_hw127.2

def k0_mult22 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let c16_i32_1231 : BitVec 32 := 16#32
  let v2978 : BitVec 32 := Scalar.muli v2631 c16_i32_1231
  v2978
def k0_off490 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let c16_i32_1231 : BitVec 32 := 16#32
  let v2978 : BitVec 32 := Scalar.muli v2631 c16_i32_1231
  let v2979 : BitVec 32 := v2978
  let v2985 : Index := Scalar.indexCast v2979
  let c0_1232 : Index := 0#32
  ![v2985.toNat, 0]
def k0_off491 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c8_i32_1079 : BitVec 32 := 8#32
  let v2630 : BitVec 32 := Scalar.muli arg11 c8_i32_1079
  let c7_i32 : BitVec 32 := 7#32
  let v2631 : BitVec 32 := Scalar.addi v2630 c7_i32
  let c16_i32_1231 : BitVec 32 := 16#32
  let v2978 : BitVec 32 := Scalar.muli v2631 c16_i32_1231
  let v2979 : BitVec 32 := v2978
  let v2997 : Index := Scalar.indexCast v2979
  let c128_1234 : Index := 128#32
  ![v2997.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S32x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F]
-- ==== ReferenceIdeal.lean ====
abbrev S32x384 : Shape := ⟨2, ![32, 384]⟩
abbrev S6144x5120 : Shape := ⟨2, ![6144, 5120]⟩
abbrev S3072x256 : Shape := ⟨2, ![3072, 256]⟩
abbrev S20x768x256 : Shape := ⟨3, ![20, 768, 256]⟩
abbrev S46695x5120 : Shape := ⟨2, ![46695, 5120]⟩
abbrev S96x5120 : Shape := ⟨2, ![96, 5120]⟩
abbrev S46688x5120 : Shape := ⟨2, ![46688, 5120]⟩
abbrev S46784x5120 : Shape := ⟨2, ![46784, 5120]⟩
abbrev S256 : Shape := ⟨1, ![256]⟩
abbrev S1x256 : Shape := ⟨2, ![1, 256]⟩
abbrev S_ : Shape := ⟨0, ![]⟩
abbrev S8x384 : Shape := ⟨2, ![8, 384]⟩
abbrev S384x8 : Shape := ⟨2, ![384, 8]⟩
abbrev S384x8x32 : Shape := ⟨3, ![384, 8, 32]⟩
abbrev S384x256 : Shape := ⟨2, ![384, 256]⟩
abbrev S384x256x1 : Shape := ⟨3, ![384, 256, 1]⟩
abbrev S384x256x5120 : Shape := ⟨3, ![384, 256, 5120]⟩
abbrev S384x1x256x40x128 : Shape := ⟨5, ![384, 1, 256, 40, 128]⟩
abbrev S384x8x256 : Shape := ⟨3, ![384, 8, 256]⟩
abbrev S384x8x1x256 : Shape := ⟨4, ![384, 8, 1, 256]⟩
abbrev S384x8x2x256 : Shape := ⟨4, ![384, 8, 2, 256]⟩
abbrev S384x16x256 : Shape := ⟨3, ![384, 16, 256]⟩
abbrev S20x384x2x256 : Shape := ⟨4, ![20, 384, 2, 256]⟩
abbrev S384x256x20x2 : Shape := ⟨4, ![384, 256, 20, 2]⟩
abbrev S384x1x256x40x1 : Shape := ⟨5, ![384, 1, 256, 40, 1]⟩
abbrev S384x16x256x1x1 : Shape := ⟨5, ![384, 16, 256, 1, 1]⟩
abbrev S384x16x256x40x1 : Shape := ⟨5, ![384, 16, 256, 40, 1]⟩
abbrev S384x16x256x40x128 : Shape := ⟨5, ![384, 16, 256, 40, 128]⟩
abbrev S384x16x40x128 : Shape := ⟨4, ![384, 16, 40, 128]⟩

abbrev nBuf : Space → Nat
  | .hbm => 104
  | .vmem => 4
  | .smem => 0
  | _ => 0

abbrev bufTy : (tb : Table) → Fin (tcTables nBuf tb) → BufTy
  | .hbm, ⟨0, _⟩ => ⟨S32x384, .i32⟩
  | .hbm, ⟨1, _⟩ => ⟨S6144x5120, .bf16⟩
  | .hbm, ⟨2, _⟩ => ⟨S3072x256, .i32⟩
  | .hbm, ⟨3, _⟩ => ⟨S20x768x256, .f32⟩
  | .hbm, ⟨4, _⟩ => ⟨S46695x5120, .fp8e4m3⟩
  | .hbm, ⟨5, _⟩ => ⟨S96x5120, .fp8e4m3⟩
  | .hbm, ⟨6, _⟩ => ⟨S46695x5120, .f32⟩
  | .hbm, ⟨7, _⟩ => ⟨S96x5120, .f32⟩
  | .hbm, ⟨8, _⟩ => ⟨S46688x5120, .f32⟩
  | .hbm, ⟨9, _⟩ => ⟨S46784x5120, .f32⟩
  | .hbm, ⟨10, _⟩ => ⟨S256, .i32⟩
  | .hbm, ⟨11, _⟩ => ⟨S1x256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x256, .i32⟩
  | .hbm, ⟨19, _⟩ => ⟨S1x256, .i32⟩
  | .hbm, ⟨20, _⟩ => ⟨S_, .i32⟩
  | .hbm, ⟨21, _⟩ => ⟨S1x256, .i32⟩
  | .hbm, ⟨22, _⟩ => ⟨S1x256, .i1⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S_, .i1⟩
  | .hbm, ⟨28, _⟩ => ⟨S1x256, .i1⟩
  | .hbm, ⟨29, _⟩ => ⟨S1x256, .i1⟩
  | .hbm, ⟨30, _⟩ => ⟨S1x256, .i1⟩
  | .hbm, ⟨31, _⟩ => ⟨S1x256, .i32⟩
  | .hbm, ⟨32, _⟩ => ⟨S1x256, .i32⟩
  | .hbm, ⟨33, _⟩ => ⟨S1x256, .i32⟩
  | .hbm, ⟨34, _⟩ => ⟨S8x384, .i32⟩
  | .hbm, ⟨35, _⟩ => ⟨S384x8, .i32⟩
  | .hbm, ⟨36, _⟩ => ⟨S384x8x32, .i32⟩
  | .hbm, ⟨37, _⟩ => ⟨S384x256, .i32⟩
  | .hbm, ⟨38, _⟩ => ⟨S8x384, .i32⟩
  | .hbm, ⟨39, _⟩ => ⟨S384x8, .i32⟩
  | .hbm, ⟨40, _⟩ => ⟨S384x8x32, .i32⟩
  | .hbm, ⟨41, _⟩ => ⟨S384x256, .i32⟩
  | .hbm, ⟨42, _⟩ => ⟨S8x384, .i32⟩
  | .hbm, ⟨43, _⟩ => ⟨S384x8, .i32⟩
  | .hbm, ⟨44, _⟩ => ⟨S384x8x32, .i32⟩
  | .hbm, ⟨45, _⟩ => ⟨S384x256, .i32⟩
  | .hbm, ⟨46, _⟩ => ⟨S_, .i32⟩
  | .hbm, ⟨47, _⟩ => ⟨S384x256, .i32⟩
  | .hbm, ⟨48, _⟩ => ⟨S384x256, .i32⟩
  | .hbm, ⟨49, _⟩ => ⟨S384x256, .i32⟩
  | .hbm, ⟨50, _⟩ => ⟨S384x256, .i1⟩
  | .hbm, ⟨51, _⟩ => ⟨S384x256, .i32⟩
  | .hbm, ⟨52, _⟩ => ⟨S_, .i32⟩
  | .hbm, ⟨53, _⟩ => ⟨S384x256, .i32⟩
  | .hbm, ⟨54, _⟩ => ⟨S384x256, .i32⟩
  | .hbm, ⟨55, _⟩ => ⟨S384x256, .i32⟩
  | .hbm, ⟨56, _⟩ => ⟨S384x256, .i32⟩
  | .hbm, ⟨57, _⟩ => ⟨S_, .i32⟩
  | .hbm, ⟨58, _⟩ => ⟨S384x256, .i32⟩
  | .hbm, ⟨59, _⟩ => ⟨S384x256, .i1⟩
  | .hbm, ⟨60, _⟩ => ⟨S_, .i32⟩
  | .hbm, ⟨61, _⟩ => ⟨S384x256, .i32⟩
  | .hbm, ⟨62, _⟩ => ⟨S384x256, .i32⟩
  | .hbm, ⟨63, _⟩ => ⟨S384x256, .i32⟩
  | .hbm, ⟨64, _⟩ => ⟨S384x256x1, .i32⟩
  | .hbm, ⟨65, _⟩ => ⟨S384x256x5120, .f32⟩
  | .hbm, ⟨66, _⟩ => ⟨S384x1x256x40x128, .f32⟩
  | .hbm, ⟨67, _⟩ => ⟨S384x8x256, .i32⟩
  | .hbm, ⟨68, _⟩ => ⟨S_, .i32⟩
  | .hbm, ⟨69, _⟩ => ⟨S384x8x256, .i32⟩
  | .hbm, ⟨70, _⟩ => ⟨S384x8x256, .i32⟩
  | .hbm, ⟨71, _⟩ => ⟨S_, .i32⟩
  | .hbm, ⟨72, _⟩ => ⟨S384x8x256, .i32⟩
  | .hbm, ⟨73, _⟩ => ⟨S384x8x256, .i1⟩
  | .hbm, ⟨74, _⟩ => ⟨S_, .i32⟩
  | .hbm, ⟨75, _⟩ => ⟨S384x8x256, .i32⟩
  | .hbm, ⟨76, _⟩ => ⟨S384x8x256, .i32⟩
  | .hbm, ⟨77, _⟩ => ⟨S_, .i32⟩
  | .hbm, ⟨78, _⟩ => ⟨S384x8x256, .i32⟩
  | .hbm, ⟨79, _⟩ => ⟨S384x8x256, .i1⟩
  | .hbm, ⟨80, _⟩ => ⟨S384x8x1x256, .i1⟩
  | .hbm, ⟨81, _⟩ => ⟨S384x8x1x256, .i1⟩
  | .hbm, ⟨82, _⟩ => ⟨S384x8x2x256, .i1⟩
  | .hbm, ⟨83, _⟩ => ⟨S384x16x256, .i1⟩
  | .hbm, ⟨84, _⟩ => ⟨S20x384x2x256, .f32⟩
  | .hbm, ⟨85, _⟩ => ⟨S384x256x20x2, .f32⟩
  | .hbm, ⟨86, _⟩ => ⟨S384x1x256x40x1, .f32⟩
  | .hbm, ⟨87, _⟩ => ⟨S384x16x256x1x1, .i1⟩
  | .hbm, ⟨88, _⟩ => ⟨S_, .f32⟩
  | .hbm, ⟨89, _⟩ => ⟨S_, .f32⟩
  | .hbm, ⟨90, _⟩ => ⟨S384x16x256x40x1, .i1⟩
  | .hbm, ⟨91, _⟩ => ⟨S384x16x256x40x1, .f32⟩
  | .hbm, ⟨92, _⟩ => ⟨S384x16x256x40x1, .f32⟩
  | .hbm, ⟨93, _⟩ => ⟨S384x16x256x40x1, .f32⟩
  | .hbm, ⟨94, _⟩ => ⟨S384x16x256x40x128, .f32⟩
  | .hbm, ⟨95, _⟩ => ⟨S384x16x256x40x128, .f32⟩
  | .hbm, ⟨96, _⟩ => ⟨S384x16x256x40x128, .f32⟩
  | .hbm, ⟨97, _⟩ => ⟨S_, .f32⟩
  | .hbm, ⟨98, _⟩ => ⟨S384x16x40x128, .f32⟩
  | .hbm, ⟨99, _⟩ => ⟨S384x16x40x128, .bf16⟩
  | .hbm, ⟨100, _⟩ => ⟨S384x16x40x128, .f32⟩
  | .hbm, ⟨101, _⟩ => ⟨S384x16x40x128, .f32⟩
  | .hbm, ⟨102, _⟩ => ⟨S384x16x40x128, .bf16⟩
  | .hbm, ⟨103, _⟩ => ⟨S6144x5120, .bf16⟩
  | .local _ .vmem, ⟨0, _⟩ => ⟨S46695x5120, .fp8e4m3⟩
  | .local _ .vmem, ⟨1, _⟩ => ⟨S96x5120, .fp8e4m3⟩
  | .local _ .vmem, ⟨2, _⟩ => ⟨S46695x5120, .f32⟩
  | .local _ .vmem, ⟨3, _⟩ => ⟨S96x5120, .f32⟩
  | _, _ => ⟨S32x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_v27 : Ref sig .tc := ⟨.hbm, 58, rfl⟩
abbrev main_v28 : Ref sig .tc := ⟨.hbm, 59, rfl⟩
abbrev main_c_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_4 : Ref sig .tc := ⟨.hbm, 68, rfl⟩
abbrev main_v36 : Ref sig .tc := ⟨.hbm, 69, rfl⟩
abbrev main_v37 : Ref sig .tc := ⟨.hbm, 70, rfl⟩
abbrev main_c_5 : Ref sig .tc := ⟨.hbm, 71, rfl⟩
abbrev main_v38 : Ref sig .tc := ⟨.hbm, 72, rfl⟩
abbrev main_v39 : Ref sig .tc := ⟨.hbm, 73, rfl⟩
abbrev main_c_6 : Ref sig .tc := ⟨.hbm, 74, rfl⟩
abbrev main_v40 : Ref sig .tc := ⟨.hbm, 75, rfl⟩
abbrev main_v41 : Ref sig .tc := ⟨.hbm, 76, rfl⟩
abbrev main_c_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_8 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S46695x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S46695x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Pre.lean ====
/- What the precondition says: the places the table names are inside the buffer, and the coefficients are real. -/
module

public import proofs.«01_k».proof.Proof.Gen.Pre_tables_ok
public import Idealize.ShloMosaic.Lib.ReduceAll
public import Idealize.ShloMosaic.Lib.ValueIdx
public import Idealize.ShloMosaic.PureOps.Ideal

@[expose] public section
set_option maxRecDepth 16384

namespace Cert.Pre_tables_ok.Hand

open Cert.Pre_tables_ok Cert.Pre_tables_ok.Gen
open Idealize.ShloMosaic Idealize.ShloMosaic.ValueIdx

variable {F : FTy → Type} [FloatOps F]
variable (a0 : IVec S32x384 32) (a1 : FVec F S6144x5120 .bf16) (a2 : IVec S3072x256 32) (a3 : FVec F S20x768x256 .f32)
  (a4 : FVec F S46695x5120 .fp8e4m3) (a5 : FVec F S96x5120 .fp8e4m3)

instance : Subsingleton S_.Idx := ⟨fun i j => funext fun a => a.elim0⟩

theorem halves (h : fn a0 a1 a2 a3 a4 a5 = fun _ => 1#1) :
    (∀ y : S16x384.Idx, cmpi .sge (extractStridedSlice S16x384 ![0, 0] a0 slices_S32x384_S16x384_0_0) (broadcastInDim S16x384 ![] bcast_S_S16x384 (constantI S_ 32 0#32)) y = 1#1
      ∧ cmpi .sle (extractStridedSlice S16x384 ![0, 0] a0 slices_S32x384_S16x384_0_0) (broadcastInDim S16x384 ![] bcast_S_S16x384 (constantI S_ 32 11688#32)) y = 1#1)
    ∧ ∀ y : S20x768x256.Idx, cmpf .olt (Host.absf a3) (broadcastInDim S20x768x256 ![] bcast_S_S20x768x256 (constant (F := F) S_ .f32 0x7F800000#32)) y = 1#1 := by
  have e := congrFun h (fun a => a.elim0)
  have both (p q : BitVec 1) : IntOp.andi p q = 1#1 ↔ p = 1#1 ∧ q = 1#1 := by revert p q; decide
  obtain ⟨e1, e2⟩ := (both _ _).1 e
  refine ⟨fun y => ?_, fun y => ?_⟩
  · exact (both _ _).1 (Host.reduce_andi_all _ _ _ _ _ e1 y)
  · exact Host.reduce_andi_all _ _ _ _ _ e2 y

/-- A table word of the first sixteen rows is at most 11688. -/
theorem bound (h : fn a0 a1 a2 a3 a4 a5 = fun _ => 1#1) (y : S32x384.Idx) (hy : (y 0).val < 16) : (a0 y).toNat ≤ 11688 := by
  obtain ⟨h1, h2⟩ := (halves a0 a1 a2 a3 a4 a5 h).1 (ix2 ⟨(y 0).val, hy⟩ ⟨(y 1).val, (y 1).isLt⟩)
  have e : extractStridedSlice S16x384 ![0, 0] a0 slices_S32x384_S16x384_0_0 (ix2 ⟨(y 0).val, hy⟩ ⟨(y 1).val, (y 1).isLt⟩) = a0 y := by
    unfold extractStridedSlice
    refine congrArg a0 (funext fun a => Fin.ext ?_)
    match a with
    | ⟨0, _⟩ => simp
    | ⟨1, _⟩ => simp
  have g1 := IntOp.cmpi_sge.1 h1
  have g2 := IntOp.cmpi_sle.1 h2
  rw [e] at g1 g2
  simp only [broadcastInDim, constantI, BitVec.toInt, BitVec.toNat_ofNat] at g1 g2
  omega

/-- The largest word a comparison of the precondition reads is positive infinity. -/
theorem ofBits_top : Ideal.ofBits .f32 0x7F800000#32 = ⊤ := by
  simp [Ideal.ofBits, Ideal.ieee]

/-- A coefficient is a real number. -/
theorem finite (a0 : IVec S32x384 32) (a1 : FVec Ideal S6144x5120 .bf16) (a2 : IVec S3072x256 32) (a3 : FVec Ideal S20x768x256 .f32)
    (a4 : FVec Ideal S46695x5120 .fp8e4m3) (a5 : FVec Ideal S96x5120 .fp8e4m3)
    (h : fn a0 a1 a2 a3 a4 a5 = fun _ => 1#1) (y : S20x768x256.Idx) : a3 y ≠ (⊤ : EReal) ∧ a3 y ≠ (⊥ : EReal) := by
  have e := (halves a0 a1 a2 a3 a4 a5 h).2 y
  have e' : BitVec.ofBool (decide (max (a3 y : EReal) (-(a3 y : EReal)) < Ideal.ofBits .f32 0x7F800000#32)) = 1#1 := e
  have e2 : max (a3 y : EReal) (-(a3 y : EReal)) < ⊤ := by
    rw [ofBits_top] at e'
    by_contra hn
    rw [decide_eq_false hn] at e'
    exact absurd e' (by decide)
  constructor
  · intro ht; rw [ht] at e2; exact absurd e2 (by simp)
  · intro ht; rw [ht] at e2; exact absurd e2 (by simp)

end Cert.Pre_tables_ok.Hand
-- ==== Proof.Printed.Block.lean ====
/- One block of sixteen output rows, as the kernel's inner loop runs it eight times a trip, written once with the
   block's place in the trip as a parameter; and that a trip of the printed loop is eight of these. -/
module

public import proofs.«01_k».proof.Proof.Gen.Kernel
public import Idealize.ShloMosaic.Lib.Pipeline.Regions

@[expose] public section

namespace Cert.Kernel.Hand

open Cert.Kernel Cert.Kernel.Gen
open Idealize.ShloMosaic Idealize.SL.Sem Idealize.ShloMosaic.TcCoe

variable {F : FTy → Type} [BitOps F]

/-! ## The block's number and the rectangles it names -/

/-- Block `u` of trip `k`, within its chunk of 128. -/
def lb (k : Fin k0_t1_loop.trips) (u : BitVec 32) : BitVec 32 :=
  Scalar.addi (Scalar.muli (Scf.iv 0#32 1#32 k) 8#32) u

/-- The same block counted over the three chunks. -/
def gb (i : grid0.Coords) (k : Fin k0_t1_loop.trips) (u : BitVec 32) : BitVec 32 :=
  Scalar.addi (Scalar.muli (BitVec.ofNat 32 (i 1).val) 128#32) (lb k u)

/-- Word `r` of the block's column of the table. -/
def tabOff (r : ℕ) (i : grid0.Coords) (k : Fin k0_t1_loop.trips) (u : BitVec 32) : Fin 2 → ℕ :=
  ![r, (Scalar.indexCast (gb i k u)).toNat]
/-- The block's eight rows of mask words. -/
def maskOff (i : grid0.Coords) (k : Fin k0_t1_loop.trips) (u : BitVec 32) : Fin 2 → ℕ :=
  ![(Scalar.indexCast (Scalar.muli (gb i k u) 8#32)).toNat, 0]
/-- The block's row of coefficients for column group `g`. -/
def coefOff (k : Fin k0_t1_loop.trips) (u g : BitVec 32) : Fin 3 → ℕ :=
  ![0, (Scalar.indexCast (Scalar.addi (Scalar.muli (lb k u) 2#32) g)).toNat, 0]
/-- The block's rows of `x` and of the result, from column `col`. -/
def outOff (k : Fin k0_t1_loop.trips) (u : BitVec 32) (col : ℕ) : Fin 2 → ℕ :=
  ![(Scalar.indexCast (Scalar.muli (lb k u) 16#32)).toNat, col]

theorem lb_toNat (k : Fin k0_t1_loop.trips) (u : Fin 8) :
    (lb k (BitVec.ofNat 32 u.val)).toNat = 8 * k.val + u.val := by
  revert k u; decide +kernel

theorem trips_eq : k0_t1_loop.trips = 16 := by decide +kernel

theorem gb_toNat (i : grid0.Coords) (k : Fin k0_t1_loop.trips) (u : Fin 8) :
    (gb i k (BitVec.ofNat 32 u.val)).toNat = 128 * (i 1).val + (8 * k.val + u.val) := by
  have hi : (i 1).val < 3 := (i 1).isLt
  have hk : k.val < 16 := trips_eq ▸ k.isLt
  have hu : u.val < 8 := u.isLt
  have h := lb_toNat k u
  simp only [gb, Scalar.addi, Scalar.muli, IntOp.addi, IntOp.muli, BitVec.toNat_add, BitVec.toNat_mul, BitVec.toNat_ofNat, h]
  omega

theorem tabOff_eq (r : ℕ) (i : grid0.Coords) (k : Fin k0_t1_loop.trips) (u : Fin 8) :
    tabOff r i k (BitVec.ofNat 32 u.val) = ![r, 128 * (i 1).val + (8 * k.val + u.val)] := by
  simp only [tabOff, Scalar.indexCast, gb_toNat]
theorem maskOff_eq (i : grid0.Coords) (k : Fin k0_t1_loop.trips) (u : Fin 8) :
    maskOff i k (BitVec.ofNat 32 u.val) = ![8 * (128 * (i 1).val + (8 * k.val + u.val)), 0] := by
  have hi : (i 1).val < 3 := (i 1).isLt
  have hk : k.val < 16 := trips_eq ▸ k.isLt
  have hu : u.val < 8 := u.isLt
  simp only [maskOff, Scalar.indexCast, Scalar.muli, IntOp.muli, BitVec.toNat_mul, gb_toNat, BitVec.toNat_ofNat]
  congr 1; omega
theorem coefOff_eq (k : Fin k0_t1_loop.trips) (u : Fin 8) (g : Fin 2) :
    coefOff k (BitVec.ofNat 32 u.val) (BitVec.ofNat 32 g.val) = ![0, 2 * (8 * k.val + u.val) + g.val, 0] := by
  have hk : k.val < 16 := trips_eq ▸ k.isLt
  have hu : u.val < 8 := u.isLt
  have hg : g.val < 2 := g.isLt
  simp only [coefOff, Scalar.indexCast, Scalar.muli, Scalar.addi, IntOp.muli, IntOp.addi, BitVec.toNat_add, BitVec.toNat_mul, lb_toNat, BitVec.toNat_ofNat]
  congr 2; omega
theorem outOff_eq (k : Fin k0_t1_loop.trips) (u : Fin 8) (col : ℕ) :
    outOff k (BitVec.ofNat 32 u.val) col = ![16 * (8 * k.val + u.val), col] := by
  have hk : k.val < 16 := trips_eq ▸ k.isLt
  have hu : u.val < 8 := u.isLt
  simp only [outOff, Scalar.indexCast, Scalar.muli, IntOp.muli, BitVec.toNat_mul, lb_toNat, BitVec.toNat_ofNat]
  congr 1; omega

theorem tabOff_inb (r : Fin 24) (i : grid0.Coords) (k : Fin k0_t1_loop.trips) (u : Fin 8) :
    ∀ a, tabOff r.val i k (BitVec.ofNat 32 u.val) a + S1x1.size a ≤ S32x384.size a := by
  have hi : (i 1).val < 3 := (i 1).isLt
  have hk : k.val < 16 := trips_eq ▸ k.isLt
  rw [tabOff_eq]; intro a; fin_cases a <;> simp [S1x1, S32x384] <;> omega
theorem maskOff_inb (i : grid0.Coords) (k : Fin k0_t1_loop.trips) (u : Fin 8) :
    ∀ a, maskOff i k (BitVec.ofNat 32 u.val) a + S8x256.size a ≤ S3072x256.size a := by
  have hi : (i 1).val < 3 := (i 1).isLt
  have hk : k.val < 16 := trips_eq ▸ k.isLt
  rw [maskOff_eq]; intro a; fin_cases a <;> simp [S8x256, S3072x256]; omega
theorem coefOff_inb (k : Fin k0_t1_loop.trips) (u : Fin 8) (g : Fin 2) :
    ∀ a, coefOff k (BitVec.ofNat 32 u.val) (BitVec.ofNat 32 g.val) a + S1x1x256.size a ≤ S1x256x256.size a := by
  have hk : k.val < 16 := trips_eq ▸ k.isLt
  rw [coefOff_eq]; intro a; fin_cases a <;> simp [S1x1x256, S1x256x256]; omega
theorem outOff_inb (k : Fin k0_t1_loop.trips) (u : Fin 8) (g : Fin 2) :
    ∀ a, outOff k (BitVec.ofNat 32 u.val) (128 * g.val) a + S16x128.size a ≤ S2048x256.size a := by
  have hk : k.val < 16 := trips_eq ▸ k.isLt
  rw [outOff_eq]; intro a; fin_cases a <;> simp [S16x128, S2048x256] <;> omega
theorem outOff_packed (k : Fin k0_t1_loop.trips) (u : Fin 8) (g : Fin 2) :
    (Rect.unit (s := S2048x256) (outOff k (BitVec.ofNat 32 u.val) (128 * g.val)) S16x128.size
      (outOff_inb k u g)).PackedRows (EltTy.packing .bf16) := by
  revert k u g; decide +kernel

/-- The block's rectangles. -/
abbrev tabRect (r : Fin 24) (i : grid0.Coords) (k : Fin k0_t1_loop.trips) (u : Fin 8) : Rect S32x384 :=
  Rect.unit (s := S32x384) (tabOff r.val i k (BitVec.ofNat 32 u.val)) S1x1.size (tabOff_inb r i k u)
abbrev maskRect (i : grid0.Coords) (k : Fin k0_t1_loop.trips) (u : Fin 8) : Rect S3072x256 :=
  Rect.unit (s := S3072x256) (maskOff i k (BitVec.ofNat 32 u.val)) S8x256.size (maskOff_inb i k u)
abbrev coefRect (k : Fin k0_t1_loop.trips) (u : Fin 8) (g : Fin 2) : Rect S1x256x256 :=
  Rect.unit (s := S1x256x256) (coefOff k (BitVec.ofNat 32 u.val) (BitVec.ofNat 32 g.val)) S1x1x256.size (coefOff_inb k u g)
abbrev outRect (k : Fin k0_t1_loop.trips) (u : Fin 8) (g : Fin 2) : Rect S2048x256 :=
  Rect.unit (s := S2048x256) (outOff k (BitVec.ofNat 32 u.val) (128 * g.val)) S16x128.size (outOff_inb k u g)
/-- The 32 rows of plane `g` of the buffer from row `4 w`. -/
abbrev bufRect (i : grid0.Coords) (w : BitVec 32) (g : Fin 2) (h : k0_chk16 i w) : Rect S4x46784x128 :=
  Rect.unit (s := S4x46784x128) (k0_off60 i w (BitVec.ofNat 32 g.val)) S1x32x128.size (k0_off60_inb i w h g)

/-- Rows `4 w` to `4 w + 31` of both planes are inside the buffer, written as the kernel assumes it of the word `w`. -/
def Fits (i : grid0.Coords) (w : BitVec 32) : Prop :=
  (∀ a, (k0_off60 i w 0#32) a + S1x32x128.size a ≤ S4x46784x128.size a) ∧
  (∀ a, (k0_off60 i w 1#32) a + S1x32x128.size a ≤ S4x46784x128.size a)

noncomputable instance Fits.dec : ∀ (i : grid0.Coords) (w : BitVec 32), Decidable (Fits i w) :=
  fun i w => decidable_of_iff' _ (Iff.of_eq (Fits.eq_1 i w))

theorem Fits.both {i : grid0.Coords} {w : BitVec 32} (h : Fits i w) : k0_chk16 i w := fun r => by
  match r with
  | 0 => exact h.1
  | 1 => exact h.2

/-! ## What a block computes from what it reads -/

/-- Which of 32 buffer rows come from the first of the two places. -/
noncomputable def below (v10 : IVec S32x128 32) (t : Elt F .i32) : IVec S32x128 1 :=
  cmpi .slt v10 (broadcast S32x128 (Scalar.muli 4#32 t))

/-- The 32 rows of one slot: those above the cut from one place, the rest from another. -/
noncomputable def mix (v10 : IVec S32x128 32) (t : Elt F .i32) (a b : Vec F S1x32x128 .fp8e4m3) : FVec F S32x128 .fp8e4m3 :=
  select (below (F := F) v10 t) (shapeCast S32x128 a shapeCasts_S1x32x128_S32x128) (shapeCast S32x128 b shapeCasts_S1x32x128_S32x128)

/-- The mask words read as sixteen rows of half words. -/
noncomputable def maskBits (m : Vec F S8x256 .i32) : IVec S16x256 1 :=
  cmpi .ne (bitcast S16x256 16 m bitcasts_S8x256_w32_S16x256_w16) (broadcast S16x256 0#16)

/-- The coefficient row over the sixteen rows. -/
noncomputable def coefRow (c : Vec F S1x1x256 .f32) : FVec F S16x256 .f32 :=
  broadcastTo S16x256 (shapeCast S1x256 (shapeCast S1x256 c shapeCasts_S1x1x256_S1x256) shapeCasts_S1x256_S1x256) broadcasts_S1x256_S16x256

/-- The coefficient's leading part: its word with the low half cleared. -/
noncomputable def head (v : FVec F S16x256 .f32) : FVec F S16x256 .f32 := bitcastToFloat .f32 (andi (bitcastToInt v) (broadcast S16x256 4294901760#32))
noncomputable def rest (v : FVec F S16x256 .f32) : FVec F S16x256 .f32 := subf v (head v)
noncomputable def masked (b : IVec S16x256 1) (v : FVec F S16x256 .f32) : FVec F S16x256 .bf16 :=
  select b (truncf .bf16 v bitsLt_bf16_f32) (broadcast S16x256 (Scalar.ofBits .bf16 0x0000#16))

/-- The left operand: three parts of each group's masked coefficients. -/
noncomputable def lhs (m : Vec F S8x256 .i32) (c0 c1 : Vec F S1x1x256 .f32) : FVec F S96x256 .bf16 :=
  concatenate S96x256 0 [⟨S16x256, masked (maskBits m) (head (coefRow c0))⟩, ⟨S16x256, masked (maskBits m) (head (rest (coefRow c0)))⟩,
    ⟨S16x256, masked (maskBits m) (rest (rest (coefRow c0)))⟩, ⟨S16x256, masked (maskBits m) (head (coefRow c1))⟩,
    ⟨S16x256, masked (maskBits m) (head (rest (coefRow c1)))⟩, ⟨S16x256, masked (maskBits m) (rest (rest (coefRow c1)))⟩]
    concatenates_S16x256_S16x256_S16x256_S16x256_S16x256_S16x256_S96x256_d0

/-- The product of the block. -/
noncomputable def prod (m : Vec F S8x256 .i32) (c0 c1 : Vec F S1x1x256 .f32) (p0 p1 : FVec F S256x128 .fp8e4m3) : FVec F S96x256 .f32 :=
  matmul dot_S96x256_S256x256_S96x256_1_0_0_1_n_n none (lhs m c0 c1)
    (concatenate S256x256 1 [⟨S256x128, p0⟩, ⟨S256x128, p1⟩] concatenates_S256x128_S256x128_S256x256_d1)
    (constant S96x256 .f32 0x00000000#32)

/-- What is stored in each column group. -/
noncomputable def out0 (x : Vec F S16x128 .bf16) (r : FVec F S96x256 .f32) : Vec F S16x128 .bf16 :=
  truncf .bf16 (addf (extf .f32 x bitsLt_bf16_f32)
    (addf (addf (extractStridedSlice S16x128 ![0, 0] r slices_S96x256_o0_0_S16x128)
      (extractStridedSlice S16x128 ![16, 0] r slices_S96x256_o16_0_S16x128))
      (extractStridedSlice S16x128 ![32, 0] r slices_S96x256_o32_0_S16x128))) bitsLt_bf16_f32
noncomputable def out1 (x : Vec F S16x128 .bf16) (r : FVec F S96x256 .f32) : Vec F S16x128 .bf16 :=
  truncf .bf16 (addf (extf .f32 x bitsLt_bf16_f32)
    (addf (addf (extractStridedSlice S16x128 ![48, 128] r slices_S96x256_o48_128_S16x128)
      (extractStridedSlice S16x128 ![64, 128] r slices_S96x256_o64_128_S16x128))
      (extractStridedSlice S16x128 ![80, 128] r slices_S96x256_o80_128_S16x128))) bitsLt_bf16_f32

/-! ## The block as a program -/

/-- One word of the table, with the fact the kernel assumes of it. -/
noncomputable def place (C : BitVec 32 → Prop) (dec : ∀ w, Decidable (C w)) (arg2 : Memref sig .tc .smem S32x384 .i32)
    (r : Rect S32x384) (h1 : r.shape.numel = 1) :
    Prog (TpuEff nD τ sig (Elt F) Λ₀ .tc) (PSigma C) := do
  let w : Elt F .i32 ← smemLoad arg2 r h1 rfl
  have h : C w := (← Prog.lift (TpuEff.assume (C w) (dec w))).down
  pure ⟨w, h⟩

/-- One slot's 32 rows of plane `g`. -/
noncomputable def pick (i : grid0.Coords) (arg9 : Memref sig .tc .vmem S4x46784x128 .fp8e4m3) (v10 : IVec S32x128 32) (g : Fin 2)
    (t : Elt F .i32) (wa : BitVec 32) (ha : k0_chk16 i wa) (wb : BitVec 32) (hb : k0_chk16 i wb) :
    Prog (TpuEff nD τ sig (Elt F) Λ₀ .tc) (FVec F S32x128 .fp8e4m3) := do
  let a : Vec F S1x32x128 .fp8e4m3 ← Prog.lift (.load arg9 (bufRect i wa g ha).toLoadRect (View.loadsAt_vmem h_S1x32x128))
  let b : Vec F S1x32x128 .fp8e4m3 ← Prog.lift (.load arg9 (bufRect i wb g hb).toLoadRect (View.loadsAt_vmem h_S1x32x128))
  pure (mix v10 t a b)

/-- The eight slots of plane `g`. -/
noncomputable def plane (i : grid0.Coords) (arg9 : Memref sig .tc .vmem S4x46784x128 .fp8e4m3) (v10 : IVec S32x128 32) (g : Fin 2)
    (t0 t1 t2 t3 t4 t5 t6 t7 : Elt F .i32) (a0 b0 a1 b1 a2 b2 a3 b3 a4 b4 a5 b5 a6 b6 a7 b7 : BitVec 32)
    (ha0 : k0_chk16 i a0) (hb0 : k0_chk16 i b0) (ha1 : k0_chk16 i a1) (hb1 : k0_chk16 i b1) (ha2 : k0_chk16 i a2) (hb2 : k0_chk16 i b2) (ha3 : k0_chk16 i a3) (hb3 : k0_chk16 i b3) (ha4 : k0_chk16 i a4) (hb4 : k0_chk16 i b4) (ha5 : k0_chk16 i a5) (hb5 : k0_chk16 i b5) (ha6 : k0_chk16 i a6) (hb6 : k0_chk16 i b6) (ha7 : k0_chk16 i a7) (hb7 : k0_chk16 i b7) :
    Prog (TpuEff nD τ sig (Elt F) Λ₀ .tc) (FVec F S256x128 .fp8e4m3) := do
  let r0 ← pick i arg9 v10 g t0 a0 ha0 b0 hb0
  let r1 ← pick i arg9 v10 g t1 a1 ha1 b1 hb1
  let r2 ← pick i arg9 v10 g t2 a2 ha2 b2 hb2
  let r3 ← pick i arg9 v10 g t3 a3 ha3 b3 hb3
  let r4 ← pick i arg9 v10 g t4 a4 ha4 b4 hb4
  let r5 ← pick i arg9 v10 g t5 a5 ha5 b5 hb5
  let r6 ← pick i arg9 v10 g t6 a6 ha6 b6 hb6
  let r7 ← pick i arg9 v10 g t7 a7 ha7 b7 hb7
  pure (concatenate S256x128 0 [⟨S32x128, r0⟩, ⟨S32x128, r1⟩, ⟨S32x128, r2⟩, ⟨S32x128, r3⟩, ⟨S32x128, r4⟩, ⟨S32x128, r5⟩, ⟨S32x128, r6⟩, ⟨S32x128, r7⟩]
    concatenates_S32x128_S32x128_S32x128_S32x128_S32x128_S32x128_S32x128_S32x128_S256x128_d0)

/-- Block `u` of trip `k`. -/
noncomputable def blk (i : grid0.Coords) (arg2 : Memref sig .tc .smem S32x384 .i32) (arg3 : Memref sig .tc .vmem S2048x256 .bf16)
    (arg4 : Memref sig .tc .vmem S3072x256 .i32) (arg5 : Memref sig .tc .vmem S1x256x256 .f32)
    (arg8 : Memref sig .tc .vmem S2048x256 .bf16) (harg8 : arg8.IsWhole) (arg9 : Memref sig .tc .vmem S4x46784x128 .fp8e4m3)
    (v10 : IVec S32x128 32) (k : Fin k0_t1_loop.trips) (u : Fin 8) :
    Prog (TpuEff nD τ sig (Elt F) Λ₀ .tc) PUnit := do
  let ⟨a0, ha0⟩ ← place (Fits i) (Fits.dec i) arg2 (tabRect 0 i k u) numel1_S1x1
  let ⟨a1, ha1⟩ ← place (Fits i) (Fits.dec i) arg2 (tabRect 1 i k u) numel1_S1x1
  let ⟨a2, ha2⟩ ← place (Fits i) (Fits.dec i) arg2 (tabRect 2 i k u) numel1_S1x1
  let ⟨a3, ha3⟩ ← place (Fits i) (Fits.dec i) arg2 (tabRect 3 i k u) numel1_S1x1
  let ⟨a4, ha4⟩ ← place (Fits i) (Fits.dec i) arg2 (tabRect 4 i k u) numel1_S1x1
  let ⟨a5, ha5⟩ ← place (Fits i) (Fits.dec i) arg2 (tabRect 5 i k u) numel1_S1x1
  let ⟨a6, ha6⟩ ← place (Fits i) (Fits.dec i) arg2 (tabRect 6 i k u) numel1_S1x1
  let ⟨a7, ha7⟩ ← place (Fits i) (Fits.dec i) arg2 (tabRect 7 i k u) numel1_S1x1
  let ⟨b0, hb0⟩ ← place (Fits i) (Fits.dec i) arg2 (tabRect 8 i k u) numel1_S1x1
  let ⟨b1, hb1⟩ ← place (Fits i) (Fits.dec i) arg2 (tabRect 9 i k u) numel1_S1x1
  let ⟨b2, hb2⟩ ← place (Fits i) (Fits.dec i) arg2 (tabRect 10 i k u) numel1_S1x1
  let ⟨b3, hb3⟩ ← place (Fits i) (Fits.dec i) arg2 (tabRect 11 i k u) numel1_S1x1
  let ⟨b4, hb4⟩ ← place (Fits i) (Fits.dec i) arg2 (tabRect 12 i k u) numel1_S1x1
  let ⟨b5, hb5⟩ ← place (Fits i) (Fits.dec i) arg2 (tabRect 13 i k u) numel1_S1x1
  let ⟨b6, hb6⟩ ← place (Fits i) (Fits.dec i) arg2 (tabRect 14 i k u) numel1_S1x1
  let ⟨b7, hb7⟩ ← place (k0_chk16 i) (k0_chk16.dec i) arg2 (tabRect 15 i k u) numel1_S1x1
  let t0 : Elt F .i32 ← smemLoad arg2 (tabRect 16 i k u) numel1_S1x1 rfl
  let t1 : Elt F .i32 ← smemLoad arg2 (tabRect 17 i k u) numel1_S1x1 rfl
  let t2 : Elt F .i32 ← smemLoad arg2 (tabRect 18 i k u) numel1_S1x1 rfl
  let t3 : Elt F .i32 ← smemLoad arg2 (tabRect 19 i k u) numel1_S1x1 rfl
  let t4 : Elt F .i32 ← smemLoad arg2 (tabRect 20 i k u) numel1_S1x1 rfl
  let t5 : Elt F .i32 ← smemLoad arg2 (tabRect 21 i k u) numel1_S1x1 rfl
  let t6 : Elt F .i32 ← smemLoad arg2 (tabRect 22 i k u) numel1_S1x1 rfl
  let t7 : Elt F .i32 ← smemLoad arg2 (tabRect 23 i k u) numel1_S1x1 rfl
  let m : Vec F S8x256 .i32 ← Prog.lift (.load arg4 (maskRect i k u).toLoadRect (View.loadsAt_vmem h_S8x256))
  let c0 : Vec F S1x1x256 .f32 ← Prog.lift (.load arg5 (coefRect k u 0).toLoadRect (View.loadsAt_vmem h_S1x1x256))
  let p0 ← plane i arg9 v10 0 t0 t1 t2 t3 t4 t5 t6 t7 a0 b0 a1 b1 a2 b2 a3 b3 a4 b4 a5 b5 a6 b6 a7 b7 ha0.both hb0.both ha1.both hb1.both ha2.both hb2.both ha3.both hb3.both ha4.both hb4.both ha5.both hb5.both ha6.both hb6.both ha7.both hb7
  let c1 : Vec F S1x1x256 .f32 ← Prog.lift (.load arg5 (coefRect k u 1).toLoadRect (View.loadsAt_vmem h_S1x1x256))
  let p1 ← plane i arg9 v10 1 t0 t1 t2 t3 t4 t5 t6 t7 a0 b0 a1 b1 a2 b2 a3 b3 a4 b4 a5 b5 a6 b6 a7 b7 ha0.both hb0.both ha1.both hb1.both ha2.both hb2.both ha3.both hb3.both ha4.both hb4.both ha5.both hb5.both ha6.both hb6.both ha7.both hb7
  let x0 : Vec F S16x128 .bf16 ← Prog.lift (.load arg3 (outRect k u 0).toLoadRect (View.loadsAt_vmem h_S16x128))
  let _o0 : Vec F S16x128 .bf16 ← Prog.lift (.load arg8 (outRect k u 0).toLoadRect (View.loadsAt_vmem h_S16x128))
  Prog.lift (.store arg8 (outRect k u 0) (out0 x0 (prod m c0 c1 p0 p1)) Finset.univ
    (View.stores_vmem h_S16x128 (harg8.storeExact_slice rfl _ (outOff_packed k u 0)) (fun _ => rfl)) (.inl rfl))
  let x1 : Vec F S16x128 .bf16 ← Prog.lift (.load arg3 (outRect k u 1).toLoadRect (View.loadsAt_vmem h_S16x128))
  let _o1 : Vec F S16x128 .bf16 ← Prog.lift (.load arg8 (outRect k u 1).toLoadRect (View.loadsAt_vmem h_S16x128))
  Prog.lift (.store arg8 (outRect k u 1) (out1 x1 (prod m c0 c1 p0 p1)) Finset.univ
    (View.stores_vmem h_S16x128 (harg8.storeExact_slice rfl _ (outOff_packed k u 1)) (fun _ => rfl)) (.inl rfl))

/-- A trip of the loop: eight blocks. -/
noncomputable def k0_t1_body (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg1 v9 : BitVec 32) (v10 : IVec S32x128 32) (k : Fin k0_t1_loop.trips) (_ : PUnit) :
    Prog (TpuEff nD τ sig (Elt F) Λ₀ .tc) PUnit := do
      blk i arg2 arg3 arg4 arg5 arg8 harg8 arg9 v10 k 0
      blk i arg2 arg3 arg4 arg5 arg8 harg8 arg9 v10 k 1
      blk i arg2 arg3 arg4 arg5 arg8 harg8 arg9 v10 k 2
      blk i arg2 arg3 arg4 arg5 arg8 harg8 arg9 v10 k 3
      blk i arg2 arg3 arg4 arg5 arg8 harg8 arg9 v10 k 4
      blk i arg2 arg3 arg4 arg5 arg8 harg8 arg9 v10 k 5
      blk i arg2 arg3 arg4 arg5 arg8 harg8 arg9 v10 k 6
      blk i arg2 arg3 arg4 arg5 arg8 harg8 arg9 v10 k 7

set_option maxHeartbeats 0 in
set_option maxRecDepth 100000 in
/-- A trip of the loop is its eight blocks. -/
theorem body_eq (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg1 v9 : BitVec 32) (v10 : IVec S32x128 32) (k : Fin k0_t1_loop.trips) :
    k0_t1_body (F := F) i arg2 harg2 arg3 harg3 arg4 harg4 arg5 harg5 arg6 harg6 arg7 harg7 arg8 harg8 arg9 harg9 arg10 arg1 v9 v10 k ⟨⟩ = (do
      blk i arg2 arg3 arg4 arg5 arg8 harg8 arg9 v10 k 0
      blk i arg2 arg3 arg4 arg5 arg8 harg8 arg9 v10 k 1
      blk i arg2 arg3 arg4 arg5 arg8 harg8 arg9 v10 k 2
      blk i arg2 arg3 arg4 arg5 arg8 harg8 arg9 v10 k 3
      blk i arg2 arg3 arg4 arg5 arg8 harg8 arg9 v10 k 4
      blk i arg2 arg3 arg4 arg5 arg8 harg8 arg9 v10 k 5
      blk i arg2 arg3 arg4 arg5 arg8 harg8 arg9 v10 k 6
      blk i arg2 arg3 arg4 arg5 arg8 harg8 arg9 v10 k 7
      ) := rfl

end Cert.Kernel.Hand
-- ==== Proof.Printed.Copies.lean ====
/- The copies that fill the row buffer: each of the buffer's two slots takes the two planes of one 256 column group by four
   transfers on the slot's semaphore; what each transfer leaves, and the rule for issuing one. -/
module

public import proofs.«01_k».proof.Proof.Printed.Block
public import proofs.«01_k».proof.Proof.Gen.Kernel.Launch
public import proofs.«01_k».proof.Proof.Gen.Kernel.Points
public import Idealize.ShloMosaic.Lib.Pipeline.FrameBody
public import Idealize.ShloMosaic.Lib.MixedBatch
public import Idealize.ShloMosaic.Lib.ViewIndex
public import Idealize.ShloMosaic.Lib.ValueLayout
public import Idealize.ShloMosaic.Lib.Tactic

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The transfers' ends -/

/-- The expert rows, the tail rows and the row buffer, whole. -/
abbrev rowsM : Memref sig .tc .hbm S46695x5120 .fp8e4m3 := Memref.whole main_arg4
abbrev tailM : Memref sig .tc .hbm S96x5120 .fp8e4m3 := Memref.whole main_arg5
abbrev bufM : Memref sig .tc .vmem S4x46784x128 .fp8e4m3 := Memref.whole cc0_scratch0

abbrev rowsSrc (o : Fin 2 → ℕ) (h : ∀ a, o a + S46688x128.size a ≤ S46695x5120.size a) : Memref sig .tc .hbm S46688x128 .fp8e4m3 :=
  rowsM.slice (Rect.unit (s := S46695x5120) o S46688x128.size h) (fun _ => rfl)
abbrev tailSrc (o : Fin 2 → ℕ) (h : ∀ a, o a + S96x128.size a ≤ S96x5120.size a) : Memref sig .tc .hbm S96x128 .fp8e4m3 :=
  tailM.slice (Rect.unit (s := S96x5120) o S96x128.size h) (fun _ => rfl)
abbrev rowsDst (o : Fin 3 → ℕ) (h : ∀ a, o a + S1x46688x128.size a ≤ S4x46784x128.size a) : Memref sig .tc .vmem S46688x128 .fp8e4m3 :=
  (bufM.slice (Rect.unit (s := S4x46784x128) o S1x46688x128.size h) (fun _ => rfl)).squeeze S46688x128 squeezes_S1x46688x128_S46688x128
abbrev tailDst (o : Fin 3 → ℕ) (h : ∀ a, o a + S1x96x128.size a ≤ S4x46784x128.size a) : Memref sig .tc .vmem S96x128 .fp8e4m3 :=
  (bufM.slice (Rect.unit (s := S4x46784x128) o S1x96x128.size h) (fun _ => rfl)).squeeze S96x128 squeezes_S1x96x128_S96x128

/-- The offsets in closed form: column group `p`'s half `g`, slot `sl`'s plane `g` from row `r`. -/
abbrev srcOff (p : Fin 20) (g : Fin 2) : Fin 2 → ℕ := ![0, 256 * p.val + 128 * g.val]
abbrev dstOff (sl g : Fin 2) (r : ℕ) : Fin 3 → ℕ := ![2 * sl.val + g.val, r, 0]

theorem rowsSrc_inb (p : Fin 20) (g : Fin 2) : ∀ a, srcOff p g a + S46688x128.size a ≤ S46695x5120.size a := by
  intro a; fin_cases a <;> simp [srcOff, S46688x128, S46695x5120]; omega
theorem tailSrc_inb (p : Fin 20) (g : Fin 2) : ∀ a, srcOff p g a + S96x128.size a ≤ S96x5120.size a := by
  intro a; fin_cases a <;> simp [srcOff, S96x128, S96x5120]; omega

/-- The elements of plane `g` of slot `sl` that come from the expert rows, and those that come from the tail. -/
noncomputable def mainPart (sl g : Fin 2) : Finset S4x46784x128.Idx :=
  Finset.univ.filter fun x => (x 0).val = 2 * sl.val + g.val ∧ (x 1).val < 46688
noncomputable def tailPart (sl g : Fin 2) : Finset S4x46784x128.Idx :=
  Finset.univ.filter fun x => (x 0).val = 2 * sl.val + g.val ∧ 46688 ≤ (x 1).val
/-- The elements of slot `sl`. -/
noncomputable def slotPart (sl : Fin 2) : Finset S4x46784x128.Idx :=
  Finset.univ.filter fun x => (x 0).val / 2 = sl.val

/-- What a slot holds of column group `p`: the expert rows' columns, then the tail's. -/
noncomputable def filled (fy : S46695x5120.Idx → Elt F .fp8e4m3) (ft : S96x5120.Idx → Elt F .fp8e4m3) (p : Fin 20) :
    S4x46784x128.Idx → Elt F .fp8e4m3 := fun x =>
  have h0 : (x 0).val < 4 := (x 0).isLt
  have h1 : (x 1).val < 46784 := (x 1).isLt
  have h2 : (x 2).val < 128 := (x 2).isLt
  if h : (x 1).val < 46688 then
    fy (ix2 (⟨(x 1).val, by omega⟩ : Fin 46695) (⟨256 * p.val + 128 * ((x 0).val % 2) + (x 2).val, by omega⟩ : Fin 5120))
  else ft (ix2 (⟨(x 1).val - 46688, by omega⟩ : Fin 96) (⟨256 * p.val + 128 * ((x 0).val % 2) + (x 2).val, by omega⟩ : Fin 5120))

theorem rowsDst_emb (sl g : Fin 2) (o : Fin 3 → ℕ) (h) (e : o = dstOff sl g 0) (r : Fin 46688) (l : Fin 128) (x : S4x46784x128.Idx)
    (h0 : (x 0).val = 2 * sl.val + g.val) (h1 : (x 1).val = r.val) (h2 : (x 2).val = l.val) :
    (rowsDst o h).view.emb (ix2 r l) = x := by
  subst e
  show (Rect.unit (s := S4x46784x128) (dstOff sl g 0) S1x46688x128.size h).emb (Shape.reshapeEquiv _ (ix2 r l)) = x
  rw [reshapeEquiv_ix2_1ab]
  funext a; apply Fin.ext
  rw [Rect.emb_apply]
  match a with
  | 0 => show 2 * sl.val + g.val + 1 * 0 = (x 0).val; omega
  | 1 => show 0 + 1 * r.val = (x 1).val; omega
  | 2 => show 0 + 1 * l.val = (x 2).val; omega

theorem tailDst_emb (sl g : Fin 2) (o : Fin 3 → ℕ) (h) (e : o = dstOff sl g 46688) (r : Fin 96) (l : Fin 128) (x : S4x46784x128.Idx)
    (h0 : (x 0).val = 2 * sl.val + g.val) (h1 : (x 1).val = 46688 + r.val) (h2 : (x 2).val = l.val) :
    (tailDst o h).view.emb (ix2 r l) = x := by
  subst e
  show (Rect.unit (s := S4x46784x128) (dstOff sl g 46688) S1x96x128.size h).emb (Shape.reshapeEquiv _ (ix2 r l)) = x
  rw [reshapeEquiv_ix2_1ab]
  funext a; apply Fin.ext
  rw [Rect.emb_apply]
  match a with
  | 0 => show 2 * sl.val + g.val + 1 * 0 = (x 0).val; omega
  | 1 => show 46688 + 1 * r.val = (x 1).val; omega
  | 2 => show 0 + 1 * l.val = (x 2).val; omega

/-- What a transfer of expert rows writes. -/
theorem rows_written (fy : S46695x5120.Idx → Elt F .fp8e4m3) (ft : S96x5120.Idx → Elt F .fp8e4m3) (p : Fin 20) (sl g : Fin 2)
    (o : Fin 3 → ℕ) (h) (e : o = dstOff sl g 0) (o' : Fin 2 → ℕ) (h') (e' : o' = srcOff p g)
    (fd : S4x46784x128.Idx → Elt F .fp8e4m3) :
    ∀ x ∈ mainPart sl g, (rowsDst o h).view.write (Elt F) fd (ReadAs.same.apply ((rowsSrc o' h').view.read (Elt F) fy)) Finset.univ x
      = filled fy ft p x := by
  intro x hx
  obtain ⟨hx0, hx1⟩ := (Finset.mem_filter.mp hx).2
  have h0 : (x 0).val < 4 := (x 0).isLt
  have h2 : (x 2).val < 128 := (x 2).isLt
  have hg := g.isLt
  have hr := rowsDst_emb sl g o h e ⟨(x 1).val, hx1⟩ ⟨(x 2).val, h2⟩ x hx0 rfl rfl
  conv_lhs => rw [← hr]
  rw [View.write_emb_of_mem _ _ (Finset.mem_univ _)]
  unfold filled
  rw [dif_pos hx1]
  subst e'
  refine congrArg fy (funext fun a => Fin.ext ?_)
  show ((Rect.unit (s := S46695x5120) (srcOff p g) S46688x128.size h').emb _ a).val = _
  rw [Rect.emb_apply]
  match a with
  | 0 => show 0 + 1 * (x 1).val = (x 1).val; omega
  | 1 => show 256 * p.val + 128 * g.val + 1 * (x 2).val = 256 * p.val + 128 * ((x 0).val % 2) + (x 2).val; omega

/-- What a transfer of tail rows writes. -/
theorem tail_written (fy : S46695x5120.Idx → Elt F .fp8e4m3) (ft : S96x5120.Idx → Elt F .fp8e4m3) (p : Fin 20) (sl g : Fin 2)
    (o : Fin 3 → ℕ) (h) (e : o = dstOff sl g 46688) (o' : Fin 2 → ℕ) (h') (e' : o' = srcOff p g)
    (fd : S4x46784x128.Idx → Elt F .fp8e4m3) :
    ∀ x ∈ tailPart sl g, (tailDst o h).view.write (Elt F) fd (ReadAs.same.apply ((tailSrc o' h').view.read (Elt F) ft)) Finset.univ x
      = filled fy ft p x := by
  intro x hx
  obtain ⟨hx0, hx1⟩ := (Finset.mem_filter.mp hx).2
  have h0 : (x 0).val < 4 := (x 0).isLt
  have h1 : (x 1).val < 46784 := (x 1).isLt
  have h2 : (x 2).val < 128 := (x 2).isLt
  have hg := g.isLt
  have hr := tailDst_emb sl g o h e ⟨(x 1).val - 46688, by omega⟩ ⟨(x 2).val, h2⟩ x hx0 (by show _ = 46688 + ((x 1).val - 46688); omega) rfl
  conv_lhs => rw [← hr]
  rw [View.write_emb_of_mem _ _ (Finset.mem_univ _)]
  unfold filled
  rw [dif_neg (by omega)]
  subst e'
  refine congrArg ft (funext fun a => Fin.ext ?_)
  show ((Rect.unit (s := S96x5120) (srcOff p g) S96x128.size h').emb _ a).val = _
  rw [Rect.emb_apply]
  match a with
  | 0 => show 0 + 1 * ((x 1).val - 46688) = (x 1).val - 46688; omega
  | 1 => show 256 * p.val + 128 * g.val + 1 * (x 2).val = 256 * p.val + 128 * ((x 0).val % 2) + (x 2).val; omega

theorem rowsDst_sub (sl g : Fin 2) (o : Fin 3 → ℕ) (h) (e : o = dstOff sl g 0) : (rowsDst o h).view.set ⊆ mainPart sl g := by
  subst e
  intro x hx
  have hx' : x ∈ (Rect.unit (s := S4x46784x128) (dstOff sl g 0) S1x46688x128.size h).set := by
    have hs : (rowsDst (dstOff sl g 0) h).view.set = (Rect.unit (s := S4x46784x128) (dstOff sl g 0) S1x46688x128.size h).set :=
      (View.set_reshape _ _).trans (View.set_slice_whole _ _)
    rw [← hs]; exact hx
  have hm := Rect.mem_set_unit.mp hx'
  have a0 : 2 * sl.val + g.val ≤ (x 0).val ∧ (x 0).val < 2 * sl.val + g.val + 1 := hm 0
  have a1 : 0 ≤ (x 1).val ∧ (x 1).val < 0 + 46688 := hm 1
  exact Finset.mem_filter.mpr ⟨Finset.mem_univ _, by omega, by omega⟩

theorem tailDst_sub (sl g : Fin 2) (o : Fin 3 → ℕ) (h) (e : o = dstOff sl g 46688) : (tailDst o h).view.set ⊆ tailPart sl g := by
  subst e
  intro x hx
  have hx' : x ∈ (Rect.unit (s := S4x46784x128) (dstOff sl g 46688) S1x96x128.size h).set := by
    have hs : (tailDst (dstOff sl g 46688) h).view.set = (Rect.unit (s := S4x46784x128) (dstOff sl g 46688) S1x96x128.size h).set :=
      (View.set_reshape _ _).trans (View.set_slice_whole _ _)
    rw [← hs]; exact hx
  have hm := Rect.mem_set_unit.mp hx'
  have a0 : 2 * sl.val + g.val ≤ (x 0).val ∧ (x 0).val < 2 * sl.val + g.val + 1 := hm 0
  have a1 : 46688 ≤ (x 1).val ∧ (x 1).val < 46688 + 96 := hm 1
  exact Finset.mem_filter.mpr ⟨Finset.mem_univ _, by omega, by omega⟩

/-! ## One transfer -/

/-- A transfer's credit: it counts the bytes written. -/
noncomputable def rowsCredit : ℕ := cc0_scratch0.dmaCredit S46688x128 .fp8e4m3
noncomputable def tailCredit : ℕ := cc0_scratch0.dmaCredit S96x128 .fp8e4m3

/-- The four transfers of a slot: for each half, the expert rows and then the tail. -/
noncomputable def credits : Fin 4 → ℕ := fun t => if t.val % 2 = 0 then rowsCredit else tailCredit

theorem rows_amount (o : Fin 3 → ℕ) (h) (sem : DmaSem sig) : (rowsDst o h).view.amount (.dma sem) = rowsCredit := rfl
theorem tail_amount (o : Fin 3 → ℕ) (h) (sem : DmaSem sig) : (tailDst o h).view.amount (.dma sem) = tailCredit := rfl

theorem rows_credit (o : Fin 3 → ℕ) (h) : (rowsDst o h).view.dmaCredit = rowsCredit := rfl
theorem tail_credit (o : Fin 3 → ℕ) (h) : (tailDst o h).view.dmaCredit = tailCredit := rfl

/-- The slots' semaphores. -/
def semOf (sl : Fin 2) : DmaSem sig := (![8, 9] : Fin 2 → DmaSem sig) sl

/-- A quarter of an argument array, for one half of one slot. -/
noncomputable def quarter (sl g : Fin 2) : PosShare TreeShare :=
  if sl = 0 then (if g = 0 then fullShare.left.left else fullShare.left.right)
  else (if g = 0 then fullShare.right.left else fullShare.right.right)

section
variable (𝒱 : Variants) (c : Dev nD) (bd : Option 𝒱.V)

/-- The row buffer, the expert rows and the tail, as this core's locations. -/
abbrev locB : Loc nD τ sig := (c : Thread nD τ).loc cc0_scratch0
abbrev locY : Loc nD τ sig := (c : Thread nD τ).loc main_arg4
abbrev locT : Loc nD τ sig := (c : Thread nD τ).loc main_arg5

variable (fy : S46695x5120.Idx → Elt F .fp8e4m3) (ft : S96x5120.Idx → Elt F .fp8e4m3)

/-- The elements a transfer reads. -/
noncomputable abbrev rowsRead (p : Fin 20) (g : Fin 2) : Finset S46695x5120.Idx := (rowsSrc (srcOff p g) (rowsSrc_inb p g)).view.set
noncomputable abbrev tailRead (p : Fin 20) (g : Fin 2) : Finset S96x5120.Idx := (tailSrc (srcOff p g) (tailSrc_inb p g)).view.set

/-- What the slot's transfers deliver: its part of the buffer filled, and the share of what was read. -/
noncomputable def delivered (sl : Fin 2) (p : Fin 20) (t : Fin 4) : sProp 𝕄 :=
  match t with
  | 0 => iprop((locB c ↦[mainPart sl 0]{fullShare} filled fy ft p) ∗ (locY c ↦[rowsRead p 0]{quarter sl 0} fy))
  | 1 => iprop((locB c ↦[tailPart sl 0]{fullShare} filled fy ft p) ∗ (locT c ↦[tailRead p 0]{quarter sl 0} ft))
  | 2 => iprop((locB c ↦[mainPart sl 1]{fullShare} filled fy ft p) ∗ (locY c ↦[rowsRead p 1]{quarter sl 1} fy))
  | 3 => iprop((locB c ↦[tailPart sl 1]{fullShare} filled fy ft p) ∗ (locT c ↦[tailRead p 1]{quarter sl 1} ft))

instance (sl : Fin 2) (p : Fin 20) (t : Fin 4) : Storable (upEmb : UEmb _ 𝕄) (delivered c fy ft sl p t) := by
  fin_cases t <;> simp only [delivered] <;> infer_instance

/-- ISSUING a transfer of expert rows: from a share of the expert rows and the part of the buffer it fills, the slot's
batch of transfers grows by one; the share of the columns not read stays. -/
theorem issue_rows (p : Fin 20) (sl g : Fin 2) (o : Fin 3 → ℕ) (h) (e : o = dstOff sl g 0) (o' : Fin 2 → ℕ) (h') (e' : o' = srcOff p g)
    (sem : DmaSem sig) (h1 : (rowsSrc o' h').view.WordExact) (h2 : (rowsDst o h).view.WordExact)
    (h3 : DmaTarget.Typed (nD := nD) .hbm (.dma sem) (.here (p := ((c : Thread nD τ)).2) (rowsDst o h))) (q : PosShare TreeShare)
    (D : Fin 4 → sProp 𝕄) (j : ℕ) (hj : j < 4) (hA : credits ⟨j, hj⟩ = rowsCredit)
    (hD : iprop((locB c ↦[mainPart sl g]{fullShare} filled fy ft p) ∗ (locY c ↦[rowsRead p g]{q} fy)) ⊢ D ⟨j, hj⟩) {α : Type}
    (K : PUnit → Prog (TpuEff nD τ sig (Elt F) Λ₀ .tc) α) (Q : α → sProp 𝕄) (fd : S4x46784x128.Idx → Elt F .fp8e4m3) :
    iprop((locY c ↦{q} fy) ∗ (locB c ↦[mainPart sl g]{fullShare} fd) ∗ Transfers.MixedBatch (countersEmb (U := Pipeline.UD sig nD τ)) (c : Thread nD τ) (.dma sem) () credits D j 0
      ∗ ((locY c ↦[Finset.univ \ rowsRead p g]{q} fy)
          -∗ Transfers.MixedBatch (countersEmb (U := Pipeline.UD sig nD τ)) (c : Thread nD τ) (.dma sem) () credits D (j + 1) 0
          -∗ wp frame (wpE (defs₀ (F := F)) 𝒱 (c : Thread nD τ) bd) Set.univ (K ⟨⟩) Q))
    ⊢ wp frame (wpE (defs₀ (F := F)) 𝒱 (c : Thread nD τ) bd) Set.univ
        (Prog.lift (.enqueueDma (rowsSrc o' h') (.here (rowsDst o h)) (.dma sem) h1 h2 h3) >>= K) Q := by
  subst e'
  iintro ⟨HY, HB, HM, HK⟩
  ihave HY := (pointsTo_split_subset (Finset.subset_univ (rowsSrc (srcOff p g) h').view.set)).mp $$ HY
  icases HY with ⟨HY, Hrest⟩
  iapply (Transfers.wp_dmaMixedBatch (countersEmb (U := Pipeline.UD sig nD τ)) 𝒱 (c : Thread nD τ) bd () credits (src := rowsSrc (srcOff p g) h') (dst := rowsDst o h) (fs := fy) (fd := fd) (q := q)
    (rowsDst_sub sl g o h e) hj (hA := (rows_amount o h sem).trans hA.symm) (hu := Nat.zero_le _)
    (hD := (sep_mono_l (BIBase.Entails.of_eq (pointsTo_congr (rows_written fy ft p sl g o h e (srcOff p g) h' rfl fd)))).trans hD)) $$ [HY HB HM]
  · isplitl [HY]; iexact HY
    isplitl [HB]; iexact HB
    iexact HM
  iintro HM
  iapply HK $$ Hrest HM

/-- ISSUING a transfer of tail rows. -/
theorem issue_tail (p : Fin 20) (sl g : Fin 2) (o : Fin 3 → ℕ) (h) (e : o = dstOff sl g 46688) (o' : Fin 2 → ℕ) (h') (e' : o' = srcOff p g)
    (sem : DmaSem sig) (h1 : (tailSrc o' h').view.WordExact) (h2 : (tailDst o h).view.WordExact)
    (h3 : DmaTarget.Typed (nD := nD) .hbm (.dma sem) (.here (p := ((c : Thread nD τ)).2) (tailDst o h))) (q : PosShare TreeShare)
    (D : Fin 4 → sProp 𝕄) (j : ℕ) (hj : j < 4) (hA : credits ⟨j, hj⟩ = tailCredit)
    (hD : iprop((locB c ↦[tailPart sl g]{fullShare} filled fy ft p) ∗ (locT c ↦[tailRead p g]{q} ft)) ⊢ D ⟨j, hj⟩) {α : Type}
    (K : PUnit → Prog (TpuEff nD τ sig (Elt F) Λ₀ .tc) α) (Q : α → sProp 𝕄) (fd : S4x46784x128.Idx → Elt F .fp8e4m3) :
    iprop((locT c ↦{q} ft) ∗ (locB c ↦[tailPart sl g]{fullShare} fd) ∗ Transfers.MixedBatch (countersEmb (U := Pipeline.UD sig nD τ)) (c : Thread nD τ) (.dma sem) () credits D j 0
      ∗ ((locT c ↦[Finset.univ \ tailRead p g]{q} ft)
          -∗ Transfers.MixedBatch (countersEmb (U := Pipeline.UD sig nD τ)) (c : Thread nD τ) (.dma sem) () credits D (j + 1) 0
          -∗ wp frame (wpE (defs₀ (F := F)) 𝒱 (c : Thread nD τ) bd) Set.univ (K ⟨⟩) Q))
    ⊢ wp frame (wpE (defs₀ (F := F)) 𝒱 (c : Thread nD τ) bd) Set.univ
        (Prog.lift (.enqueueDma (tailSrc o' h') (.here (tailDst o h)) (.dma sem) h1 h2 h3) >>= K) Q := by
  subst e'
  iintro ⟨HY, HB, HM, HK⟩
  ihave HY := (pointsTo_split_subset (Finset.subset_univ (tailSrc (srcOff p g) h').view.set)).mp $$ HY
  icases HY with ⟨HY, Hrest⟩
  iapply (Transfers.wp_dmaMixedBatch (countersEmb (U := Pipeline.UD sig nD τ)) 𝒱 (c : Thread nD τ) bd () credits (src := tailSrc (srcOff p g) h') (dst := tailDst o h) (fs := ft) (fd := fd) (q := q)
    (tailDst_sub sl g o h e) hj (hA := (tail_amount o h sem).trans hA.symm) (hu := Nat.zero_le _)
    (hD := (sep_mono_l (BIBase.Entails.of_eq (pointsTo_congr (tail_written fy ft p sl g o h e (srcOff p g) h' rfl fd)))).trans hD)) $$ [HY HB HM]
  · isplitl [HY]; iexact HY
    isplitl [HB]; iexact HB
    iexact HM
  iintro HM
  iapply HK $$ Hrest HM

/-! ## A slot's three states -/

/-- The shares of the argument arrays a slot's transfers read from. -/
noncomputable def quarters (sl : Fin 2) : sProp 𝕄 :=
  iprop((locY c ↦{quarter sl 0} fy) ∗ (locT c ↦{quarter sl 0} ft) ∗ (locY c ↦{quarter sl 1} fy) ∗ (locT c ↦{quarter sl 1} ft))

/-- A slot nothing is being copied to, of any contents. -/
noncomputable def free (sl : Fin 2) : sProp 𝕄 :=
  iprop((∃ f, locB c ↦[slotPart sl]{fullShare} f) ∗ semVal ((c : Thread nD τ), SemLoc.dma (semOf sl)) 0 ∗ quarters c fy ft sl)
/-- A slot holding column group `p`. -/
noncomputable def ready (sl : Fin 2) (p : Fin 20) : sProp 𝕄 :=
  iprop((locB c ↦[slotPart sl]{fullShare} filled fy ft p) ∗ semVal ((c : Thread nD τ), SemLoc.dma (semOf sl)) 0 ∗ quarters c fy ft sl)
/-- A slot column group `p` is being copied to. -/
noncomputable def inflight (sl : Fin 2) (p : Fin 20) : sProp 𝕄 :=
  iprop(Transfers.MixedBatch (countersEmb (U := Pipeline.UD sig nD τ)) (c : Thread nD τ) (.dma (semOf sl)) () credits (delivered c fy ft sl p) 4 0
    ∗ (locY c ↦[Finset.univ \ rowsRead p 0]{quarter sl 0} fy) ∗ (locT c ↦[Finset.univ \ tailRead p 0]{quarter sl 0} ft)
    ∗ (locY c ↦[Finset.univ \ rowsRead p 1]{quarter sl 1} fy) ∗ (locT c ↦[Finset.univ \ tailRead p 1]{quarter sl 1} ft))

theorem ready_free (sl : Fin 2) (p : Fin 20) : ready c fy ft sl p ⊢ free c fy ft sl := by
  unfold ready free
  iintro ⟨H, HS, HQ⟩
  isplitl [H]
  · iexists _; iexact H
  iframe HS
  iexact HQ

theorem slot_split (sl : Fin 2) (f : S4x46784x128.Idx → Elt F .fp8e4m3) :
    (locB c ↦[slotPart sl]{fullShare} f : sProp 𝕄) ⊣⊢ iprop((locB c ↦[mainPart sl 0]{fullShare} f) ∗ (locB c ↦[tailPart sl 0]{fullShare} f)
      ∗ (locB c ↦[mainPart sl 1]{fullShare} f) ∗ (locB c ↦[tailPart sl 1]{fullShare} f)) := by
  have hs : slotPart sl = mainPart sl 0 ∪ (tailPart sl 0 ∪ (mainPart sl 1 ∪ tailPart sl 1)) := by
    ext x
    have h0 : (x 0).val < 4 := (x 0).isLt
    simp only [slotPart, mainPart, tailPart, Finset.mem_union, Finset.mem_filter, Finset.mem_univ, true_and, Fin.val_zero, Fin.val_one]
    omega
  have d3 : Disjoint (mainPart sl 1) (tailPart sl 1) := by
    rw [Finset.disjoint_left]; intro x
    simp only [mainPart, tailPart, Finset.mem_filter, Finset.mem_univ, true_and]; omega
  have d2 : Disjoint (tailPart sl 0) (mainPart sl 1 ∪ tailPart sl 1) := by
    rw [Finset.disjoint_left]; intro x
    simp only [mainPart, tailPart, Finset.mem_union, Finset.mem_filter, Finset.mem_univ, true_and, Fin.val_zero, Fin.val_one]; omega
  have d1 : Disjoint (mainPart sl 0) (tailPart sl 0 ∪ (mainPart sl 1 ∪ tailPart sl 1)) := by
    rw [Finset.disjoint_left]; intro x
    simp only [mainPart, tailPart, Finset.mem_union, Finset.mem_filter, Finset.mem_univ, true_and, Fin.val_zero, Fin.val_one]; omega
  rw [hs]
  exact (pointsTo_union d1).trans (sep_congr .rfl ((pointsTo_union d2).trans (sep_congr .rfl (pointsTo_union d3))))

end

end Cert.Kernel.Hand
-- ==== Proof.Printed.Skeleton.lean ====
/- The kernel function as printed, restated with its loop over trips of eight blocks. -/
module

public import proofs.«01_k».proof.Proof.Printed.Block
public import Idealize.ShloMosaic.Lib.Pipeline.Regions

@[expose] public section

noncomputable section
namespace Cert.Kernel.Hand

open Cert.Kernel Cert.Kernel.Gen
open Idealize.ShloMosaic Idealize.SL.Sem Idealize.ShloMosaic.TcCoe

variable {F : FTy → Type} [BitOps F]

set_option cleanup.letToHave false in set_option maxHeartbeats 40000000 in
/-- `k0_part1` as its memory operations. -/
noncomputable def k0_part1_skel (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg0 : BitVec 32) (k0_h1 : k0_cond1 i = 1#1) :
    Prog (TpuEff nD τ sig (Elt F) Λ₀ .tc) (PUnit) := do
  let v19 : DmaSems sig S1 := arg10.slice (Rect.unit (s := S2) (k0_off1 i) S1.size (k0_off1_inb i k0_h1))
  let v20 : DmaSems sig S_ := v19.squeeze S_ squeezes_S1_S_
  let v24 : Memref sig .tc .hbm S46688x128 .fp8e4m3 := arg6.slice (Rect.unit (s := S46695x5120) (k0_off3 i 0#32) S46688x128.size (k0_off3_inb i k0_h1 0)) (fun _ => rfl)
  Prog.lift (.enqueueDma v24 (.here ((arg9.slice (Rect.unit (s := S4x46784x128) (k0_off4 i 0#32) S1x46688x128.size (k0_off4_inb i k0_h1 0)) (fun _ => rfl)).squeeze S46688x128 squeezes_S1x46688x128_S46688x128)) (.dma v20.sem) (harg6.wordExact_slice rfl _ (k0_off3_wordsfp8e4m3 i k0_h1 0)) ((harg9.wordExact_slice rfl _ (k0_off4_wordsfp8e4m3 i k0_h1 0)).reshape _ _) ⟨Or.inl rfl, trivial⟩)
  let v25 : DmaSems sig S1 := arg10.slice (Rect.unit (s := S2) (k0_off1 i) S1.size (k0_off1_inb i k0_h1))
  let v26 : DmaSems sig S_ := v25.squeeze S_ squeezes_S1_S_
  let v30 : Memref sig .tc .hbm S96x128 .fp8e4m3 := arg7.slice (Rect.unit (s := S96x5120) (k0_off5 i 0#32) S96x128.size (k0_off5_inb i k0_h1 0)) (fun _ => rfl)
  Prog.lift (.enqueueDma v30 (.here ((arg9.slice (Rect.unit (s := S4x46784x128) (k0_off6 i 0#32) S1x96x128.size (k0_off6_inb i k0_h1 0)) (fun _ => rfl)).squeeze S96x128 squeezes_S1x96x128_S96x128)) (.dma v26.sem) (harg7.wordExact_slice rfl _ (k0_off5_wordsfp8e4m3 i k0_h1 0)) ((harg9.wordExact_slice rfl _ (k0_off6_wordsfp8e4m3 i k0_h1 0)).reshape _ _) ⟨Or.inl rfl, trivial⟩)
  let v37 : DmaSems sig S1 := arg10.slice (Rect.unit (s := S2) (k0_off1 i) S1.size (k0_off1_inb i k0_h1))
  let v38 : DmaSems sig S_ := v37.squeeze S_ squeezes_S1_S_
  let v42 : Memref sig .tc .hbm S46688x128 .fp8e4m3 := arg6.slice (Rect.unit (s := S46695x5120) (k0_off3 i 1#32) S46688x128.size (k0_off3_inb i k0_h1 1)) (fun _ => rfl)
  Prog.lift (.enqueueDma v42 (.here ((arg9.slice (Rect.unit (s := S4x46784x128) (k0_off4 i 1#32) S1x46688x128.size (k0_off4_inb i k0_h1 1)) (fun _ => rfl)).squeeze S46688x128 squeezes_S1x46688x128_S46688x128)) (.dma v38.sem) (harg6.wordExact_slice rfl _ (k0_off3_wordsfp8e4m3 i k0_h1 1)) ((harg9.wordExact_slice rfl _ (k0_off4_wordsfp8e4m3 i k0_h1 1)).reshape _ _) ⟨Or.inl rfl, trivial⟩)
  pure ⟨⟩

set_option maxRecDepth 65536 in
/-- The printed `k0_part1` is these memory operations. -/
theorem k0_part1_eq_skeleton : k0_part1 (F := F) = k0_part1_skel (F := F) := rfl

set_option cleanup.letToHave false in set_option maxHeartbeats 40000000 in
/-- `k0_part2` as its memory operations. -/
noncomputable def k0_part2_skel (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg0 : BitVec 32) (k0_h2 : k0_cond2 i = 1#1) (k0_h3 : k0_cond3 i = 1#1) :
    Prog (TpuEff nD τ sig (Elt F) Λ₀ .tc) (PUnit) := do
  let v61 : DmaSems sig S1 := arg10.slice (Rect.unit (s := S2) (k0_off7 i) S1.size (k0_off7_inb i k0_h2 k0_h3))
  let v62 : DmaSems sig S_ := v61.squeeze S_ squeezes_S1_S_
  let v66 : Memref sig .tc .hbm S46688x128 .fp8e4m3 := arg6.slice (Rect.unit (s := S46695x5120) (k0_off9 i 0#32) S46688x128.size (k0_off9_inb i k0_h2 k0_h3 0)) (fun _ => rfl)
  Prog.lift (.enqueueDma v66 (.here ((arg9.slice (Rect.unit (s := S4x46784x128) (k0_off10 i 0#32) S1x46688x128.size (k0_off10_inb i k0_h2 k0_h3 0)) (fun _ => rfl)).squeeze S46688x128 squeezes_S1x46688x128_S46688x128)) (.dma v62.sem) (harg6.wordExact_slice rfl _ (k0_off9_wordsfp8e4m3 i k0_h2 k0_h3 0)) ((harg9.wordExact_slice rfl _ (k0_off10_wordsfp8e4m3 i k0_h2 k0_h3 0)).reshape _ _) ⟨Or.inl rfl, trivial⟩)
  let v67 : DmaSems sig S1 := arg10.slice (Rect.unit (s := S2) (k0_off7 i) S1.size (k0_off7_inb i k0_h2 k0_h3))
  let v68 : DmaSems sig S_ := v67.squeeze S_ squeezes_S1_S_
  let v72 : Memref sig .tc .hbm S96x128 .fp8e4m3 := arg7.slice (Rect.unit (s := S96x5120) (k0_off11 i 0#32) S96x128.size (k0_off11_inb i k0_h2 k0_h3 0)) (fun _ => rfl)
  Prog.lift (.enqueueDma v72 (.here ((arg9.slice (Rect.unit (s := S4x46784x128) (k0_off12 i 0#32) S1x96x128.size (k0_off12_inb i k0_h2 k0_h3 0)) (fun _ => rfl)).squeeze S96x128 squeezes_S1x96x128_S96x128)) (.dma v68.sem) (harg7.wordExact_slice rfl _ (k0_off11_wordsfp8e4m3 i k0_h2 k0_h3 0)) ((harg9.wordExact_slice rfl _ (k0_off12_wordsfp8e4m3 i k0_h2 k0_h3 0)).reshape _ _) ⟨Or.inl rfl, trivial⟩)
  pure ⟨⟩

set_option maxRecDepth 65536 in
/-- The printed `k0_part2` is these memory operations. -/
theorem k0_part2_eq_skeleton : k0_part2 (F := F) = k0_part2_skel (F := F) := rfl

set_option cleanup.letToHave false in set_option maxHeartbeats 40000000 in
/-- `k0_part3` as its memory operations. -/
noncomputable def k0_part3_skel (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg0 : BitVec 32) (k0_h2 : k0_cond2 i = 1#1) :
    Prog (TpuEff nD τ sig (Elt F) Λ₀ .tc) (PUnit) := do
  if k0_h3 : k0_cond3 i = 1#1 then do
    k0_part2 i arg2 harg2 arg3 harg3 arg4 harg4 arg5 harg5 arg6 harg6 arg7 harg7 arg8 harg8 arg9 harg9 arg10 arg0 k0_h2 k0_h3
    let v84 : Memref sig .tc .hbm S46688x128 .fp8e4m3 := arg6.slice (Rect.unit (s := S46695x5120) (k0_off9 i 1#32) S46688x128.size (k0_off9_inb i k0_h2 k0_h3 1)) (fun _ => rfl)
    let v79 : DmaSems sig S1 := arg10.slice (Rect.unit (s := S2) (k0_off7 i) S1.size (k0_off7_inb i k0_h2 k0_h3))
    let v80 : DmaSems sig S_ := v79.squeeze S_ squeezes_S1_S_
    Prog.lift (.enqueueDma v84 (.here ((arg9.slice (Rect.unit (s := S4x46784x128) (k0_off10 i 1#32) S1x46688x128.size (k0_off10_inb i k0_h2 k0_h3 1)) (fun _ => rfl)).squeeze S46688x128 squeezes_S1x46688x128_S46688x128)) (.dma v80.sem) (harg6.wordExact_slice rfl _ (k0_off9_wordsfp8e4m3 i k0_h2 k0_h3 1)) ((harg9.wordExact_slice rfl _ (k0_off10_wordsfp8e4m3 i k0_h2 k0_h3 1)).reshape _ _) ⟨Or.inl rfl, trivial⟩)
    let v85 : DmaSems sig S1 := arg10.slice (Rect.unit (s := S2) (k0_off7 i) S1.size (k0_off7_inb i k0_h2 k0_h3))
    let v86 : DmaSems sig S_ := v85.squeeze S_ squeezes_S1_S_
    let v90 : Memref sig .tc .hbm S96x128 .fp8e4m3 := arg7.slice (Rect.unit (s := S96x5120) (k0_off11 i 1#32) S96x128.size (k0_off11_inb i k0_h2 k0_h3 1)) (fun _ => rfl)
    Prog.lift (.enqueueDma v90 (.here ((arg9.slice (Rect.unit (s := S4x46784x128) (k0_off12 i 1#32) S1x96x128.size (k0_off12_inb i k0_h2 k0_h3 1)) (fun _ => rfl)).squeeze S96x128 squeezes_S1x96x128_S96x128)) (.dma v86.sem) (harg7.wordExact_slice rfl _ (k0_off11_wordsfp8e4m3 i k0_h2 k0_h3 1)) ((harg9.wordExact_slice rfl _ (k0_off12_wordsfp8e4m3 i k0_h2 k0_h3 1)).reshape _ _) ⟨Or.inl rfl, trivial⟩)
    pure ⟨⟩
  else do
    pure ⟨⟩
  let v23 : DmaSems sig S1 := arg10.slice (Rect.unit (s := S2) (k0_off13 i) S1.size (k0_off13_inb i k0_h2))
  let v24 : DmaSems sig S_ := v23.squeeze S_ squeezes_S1_S_
  let v28 : Memref sig .tc .hbm S46688x128 .fp8e4m3 := arg6.slice (Rect.unit (s := S46695x5120) (k0_off15 i 0#32) S46688x128.size (k0_off15_inb i k0_h2 0)) (fun _ => rfl)
  Prog.lift (.waitDma2 v24.sem v28 ((arg9.slice (Rect.unit (s := S4x46784x128) (k0_off16 i 0#32) S1x46688x128.size (k0_off16_inb i k0_h2 0)) (fun _ => rfl)).squeeze S46688x128 squeezes_S1x46688x128_S46688x128) (harg6.wordExact_slice rfl _ (k0_off15_wordsfp8e4m3 i k0_h2 0)) ((harg9.wordExact_slice rfl _ (k0_off16_wordsfp8e4m3 i k0_h2 0)).reshape _ _))
  let v29 : DmaSems sig S1 := arg10.slice (Rect.unit (s := S2) (k0_off13 i) S1.size (k0_off13_inb i k0_h2))
  let v30 : DmaSems sig S_ := v29.squeeze S_ squeezes_S1_S_
  let v34 : Memref sig .tc .hbm S96x128 .fp8e4m3 := arg7.slice (Rect.unit (s := S96x5120) (k0_off17 i 0#32) S96x128.size (k0_off17_inb i k0_h2 0)) (fun _ => rfl)
  Prog.lift (.waitDma2 v30.sem v34 ((arg9.slice (Rect.unit (s := S4x46784x128) (k0_off18 i 0#32) S1x96x128.size (k0_off18_inb i k0_h2 0)) (fun _ => rfl)).squeeze S96x128 squeezes_S1x96x128_S96x128) (harg7.wordExact_slice rfl _ (k0_off17_wordsfp8e4m3 i k0_h2 0)) ((harg9.wordExact_slice rfl _ (k0_off18_wordsfp8e4m3 i k0_h2 0)).reshape _ _))
  pure ⟨⟩

set_option maxRecDepth 65536 in
/-- The printed `k0_part3` is these memory operations. -/
theorem k0_part3_eq_skeleton : k0_part3 (F := F) = k0_part3_skel (F := F) := rfl

set_option cleanup.letToHave false in set_option maxHeartbeats 40000000 in
/-- `cc0_combine` as its memory operations. -/
noncomputable def cc0_combine_skel (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) :
    Prog (TpuEff nD τ sig (Elt F) Λ₀ .tc) PUnit := do
  let arg0 : BitVec 32 := BitVec.ofNat 32 (i 0).val
  let arg1 : BitVec 32 := BitVec.ofNat 32 (i 1).val
  if k0_h1 : k0_cond1 i = 1#1 then do
    k0_part1 i arg2 harg2 arg3 harg3 arg4 harg4 arg5 harg5 arg6 harg6 arg7 harg7 arg8 harg8 arg9 harg9 arg10 arg0 k0_h1
    let v43 : DmaSems sig S1 := arg10.slice (Rect.unit (s := S2) (k0_off1 i) S1.size (k0_off1_inb i k0_h1))
    let v44 : DmaSems sig S_ := v43.squeeze S_ squeezes_S1_S_
    let v48 : Memref sig .tc .hbm S96x128 .fp8e4m3 := arg7.slice (Rect.unit (s := S96x5120) (k0_off5 i 1#32) S96x128.size (k0_off5_inb i k0_h1 1)) (fun _ => rfl)
    Prog.lift (.enqueueDma v48 (.here ((arg9.slice (Rect.unit (s := S4x46784x128) (k0_off6 i 1#32) S1x96x128.size (k0_off6_inb i k0_h1 1)) (fun _ => rfl)).squeeze S96x128 squeezes_S1x96x128_S96x128)) (.dma v44.sem) (harg7.wordExact_slice rfl _ (k0_off5_wordsfp8e4m3 i k0_h1 1)) ((harg9.wordExact_slice rfl _ (k0_off6_wordsfp8e4m3 i k0_h1 1)).reshape _ _) ⟨Or.inl rfl, trivial⟩)
    pure ⟨⟩
  else do
    pure ⟨⟩
  if k0_h2 : k0_cond2 i = 1#1 then do
    k0_part3 i arg2 harg2 arg3 harg3 arg4 harg4 arg5 harg5 arg6 harg6 arg7 harg7 arg8 harg8 arg9 harg9 arg10 arg0 k0_h2
    let v46 : Memref sig .tc .hbm S46688x128 .fp8e4m3 := arg6.slice (Rect.unit (s := S46695x5120) (k0_off15 i 1#32) S46688x128.size (k0_off15_inb i k0_h2 1)) (fun _ => rfl)
    let v41 : DmaSems sig S1 := arg10.slice (Rect.unit (s := S2) (k0_off13 i) S1.size (k0_off13_inb i k0_h2))
    let v42 : DmaSems sig S_ := v41.squeeze S_ squeezes_S1_S_
    Prog.lift (.waitDma2 v42.sem v46 ((arg9.slice (Rect.unit (s := S4x46784x128) (k0_off16 i 1#32) S1x46688x128.size (k0_off16_inb i k0_h2 1)) (fun _ => rfl)).squeeze S46688x128 squeezes_S1x46688x128_S46688x128) (harg6.wordExact_slice rfl _ (k0_off15_wordsfp8e4m3 i k0_h2 1)) ((harg9.wordExact_slice rfl _ (k0_off16_wordsfp8e4m3 i k0_h2 1)).reshape _ _))
    let v47 : DmaSems sig S1 := arg10.slice (Rect.unit (s := S2) (k0_off13 i) S1.size (k0_off13_inb i k0_h2))
    let v48 : DmaSems sig S_ := v47.squeeze S_ squeezes_S1_S_
    let v52 : Memref sig .tc .hbm S96x128 .fp8e4m3 := arg7.slice (Rect.unit (s := S96x5120) (k0_off17 i 1#32) S96x128.size (k0_off17_inb i k0_h2 1)) (fun _ => rfl)
    Prog.lift (.waitDma2 v48.sem v52 ((arg9.slice (Rect.unit (s := S4x46784x128) (k0_off18 i 1#32) S1x96x128.size (k0_off18_inb i k0_h2 1)) (fun _ => rfl)).squeeze S96x128 squeezes_S1x96x128_S96x128) (harg7.wordExact_slice rfl _ (k0_off17_wordsfp8e4m3 i k0_h2 1)) ((harg9.wordExact_slice rfl _ (k0_off18_wordsfp8e4m3 i k0_h2 1)).reshape _ _))
    pure ⟨⟩
  else do
    pure ⟨⟩
  let v8 : BitVec 32 := Scalar.remsi arg0 2#32
  let v9 : BitVec 32 := Scalar.muli v8 2#32
  have v10 : IVec S32x128 32 := iota .tc S32x128 32 [0] iota_S32x128_d0_w32
  Scf.Loop.for k0_t1_loop k0_t1_ok ⟨⟩ (k0_t1_body i arg2 harg2 arg3 harg3 arg4 harg4 arg5 harg5 arg6 harg6 arg7 harg7 arg8 harg8 arg9 harg9 arg10 arg1 v9 v10)
  pure ⟨⟩

set_option maxHeartbeats 0 in
set_option maxRecDepth 100000 in
/-- The printed function is this one: its loop's trip is eight blocks. -/
theorem cc0_combine_eq_skeleton (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) :
    cc0_combine (F := F) i arg2 harg2 arg3 harg3 arg4 harg4 arg5 harg5 arg6 harg6 arg7 harg7 arg8 harg8 arg9 harg9 arg10
      = cc0_combine_skel (F := F) i arg2 harg2 arg3 harg3 arg4 harg4 arg5 harg5 arg6 harg6 arg7 harg7 arg8 harg8 arg9 harg9 arg10 := by chain_rfl

end Cert.Kernel.Hand
end
-- ==== Proof.Printed.Slot.lean ====
/- The four transfers that fill a slot, issued together and waited for together, as the kernel does both; and the kernel's
   body as those and the loop. -/
module

public import proofs.«01_k».proof.Proof.Printed.Copies
public import proofs.«01_k».proof.Proof.Printed.Skeleton
public import Idealize.ShloMosaic.Lib.Pipeline.Regions

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- Where the four transfers of a slot read and write: for each half, of the expert rows and of the tail. -/
structure Ends where
  oy : Fin 2 → Fin 2 → ℕ
  hy : ∀ g a, oy g a + S46688x128.size a ≤ S46695x5120.size a
  ot : Fin 2 → Fin 2 → ℕ
  ht : ∀ g a, ot g a + S96x128.size a ≤ S96x5120.size a
  om : Fin 2 → Fin 3 → ℕ
  hm : ∀ g a, om g a + S1x46688x128.size a ≤ S4x46784x128.size a
  ou : Fin 2 → Fin 3 → ℕ
  hu : ∀ g a, ou g a + S1x96x128.size a ≤ S4x46784x128.size a
  wy : ∀ g, (rowsSrc (oy g) (hy g)).view.WordExact
  wt : ∀ g, (tailSrc (ot g) (ht g)).view.WordExact
  wm : ∀ g, (rowsDst (om g) (hm g)).view.WordExact
  wu : ∀ g, (tailDst (ou g) (hu g)).view.WordExact

/-- They are slot `sl`'s for column group `p`. -/
def Ends.Of (E : Ends) (sl : Fin 2) (p : Fin 20) : Prop :=
  ∀ g, E.oy g = srcOff p g ∧ E.ot g = srcOff p g ∧ E.om g = dstOff sl g 0 ∧ E.ou g = dstOff sl g 46688

/-- Issuing the four transfers. -/
def fill (E : Ends) (sem : DmaSem sig) : Prog (TpuEff nD τ sig (Elt F) Λ₀ .tc) PUnit := do
  Prog.lift (.enqueueDma (rowsSrc (E.oy 0) (E.hy 0)) (.here (rowsDst (E.om 0) (E.hm 0))) (.dma sem) (E.wy 0) (E.wm 0) ⟨Or.inl rfl, trivial⟩)
  Prog.lift (.enqueueDma (tailSrc (E.ot 0) (E.ht 0)) (.here (tailDst (E.ou 0) (E.hu 0))) (.dma sem) (E.wt 0) (E.wu 0) ⟨Or.inl rfl, trivial⟩)
  Prog.lift (.enqueueDma (rowsSrc (E.oy 1) (E.hy 1)) (.here (rowsDst (E.om 1) (E.hm 1))) (.dma sem) (E.wy 1) (E.wm 1) ⟨Or.inl rfl, trivial⟩)
  Prog.lift (.enqueueDma (tailSrc (E.ot 1) (E.ht 1)) (.here (tailDst (E.ou 1) (E.hu 1))) (.dma sem) (E.wt 1) (E.wu 1) ⟨Or.inl rfl, trivial⟩)
  pure ⟨⟩

/-- Waiting for the four transfers. -/
def drain (E : Ends) (sem : DmaSem sig) : Prog (TpuEff nD τ sig (Elt F) Λ₀ .tc) PUnit := do
  Prog.lift (.waitDma2 sem (rowsSrc (E.oy 0) (E.hy 0)) (rowsDst (E.om 0) (E.hm 0)) (E.wy 0) (E.wm 0))
  Prog.lift (.waitDma2 sem (tailSrc (E.ot 0) (E.ht 0)) (tailDst (E.ou 0) (E.hu 0)) (E.wt 0) (E.wu 0))
  Prog.lift (.waitDma2 sem (rowsSrc (E.oy 1) (E.hy 1)) (rowsDst (E.om 1) (E.hm 1)) (E.wy 1) (E.wm 1))
  Prog.lift (.waitDma2 sem (tailSrc (E.ot 1) (E.ht 1)) (tailDst (E.ou 1) (E.hu 1)) (E.wt 1) (E.wu 1))
  pure ⟨⟩

section
variable (𝒱 : Variants) (c : Dev nD) (bd : Option 𝒱.V)
variable (fy : S46695x5120.Idx → Elt F .fp8e4m3) (ft : S96x5120.Idx → Elt F .fp8e4m3)

theorem fill_spec (E : Ends) (sl : Fin 2) (p : Fin 20) (hE : E.Of sl p) {α : Type}
    (K : PUnit → Prog (TpuEff nD τ sig (Elt F) Λ₀ .tc) α) (Q : α → sProp 𝕄) :
    iprop(free c fy ft sl ∗ (inflight c fy ft sl p -∗ wp frame (wpE (defs₀ (F := F)) 𝒱 (c : Thread nD τ) bd) Set.univ (K ⟨⟩) Q))
    ⊢ wp frame (wpE (defs₀ (F := F)) 𝒱 (c : Thread nD τ) bd) Set.univ (fill E (semOf sl) >>= K) Q := by
  obtain ⟨e0, e1, e2, e3⟩ := hE 0
  obtain ⟨f0, f1, f2, f3⟩ := hE 1
  unfold fill free quarters inflight
  simp only [bind_assoc, pure_bind]
  iintro ⟨⟨⟨%f, HB⟩, HS, HY0, HT0, HY1, HT1⟩, HK⟩
  ihave HB := (slot_split c sl f).mp $$ HB
  icases HB with ⟨B0, B1, B2, B3⟩
  imod (Transfers.mixedBatch_alloc' (Lvl := ℕ) (countersEmb (U := Pipeline.UD sig nD τ)) (c : Thread nD τ) () credits
    (delivered c fy ft sl p) (sm := SemLoc.dma (semOf sl)) (E := Set.univ)) $$ HS with HM
  iapply (issue_rows 𝒱 c bd fy ft p sl 0 _ _ e2 _ _ e0 _ _ _ _ (quarter sl 0) (delivered c fy ft sl p) 0 (by omega) rfl .rfl)
  iframe HY0 B0 HM
  iintro R0 HM
  iapply (issue_tail 𝒱 c bd fy ft p sl 0 _ _ e3 _ _ e1 _ _ _ _ (quarter sl 0) (delivered c fy ft sl p) 1 (by omega) rfl .rfl)
  iframe HT0 B1 HM
  iintro R1 HM
  iapply (issue_rows 𝒱 c bd fy ft p sl 1 _ _ f2 _ _ f0 _ _ _ _ (quarter sl 1) (delivered c fy ft sl p) 2 (by omega) rfl .rfl)
  iframe HY1 B2 HM
  iintro R2 HM
  iapply (issue_tail 𝒱 c bd fy ft p sl 1 _ _ f3 _ _ f1 _ _ _ _ (quarter sl 1) (delivered c fy ft sl p) 3 (by omega) rfl .rfl)
  iframe HT1 B3 HM
  iintro R3 HM
  iapply HK
  iframe HM R0 R1 R2
  iexact R3

theorem credits_total : Transfers.sumTo credits 4 = rowsCredit + tailCredit + rowsCredit + tailCredit := by
  simp [Transfers.sumTo, credits]

theorem credits_pos (t : Fin 4) : 0 < credits t := by
  unfold credits
  split
  · exact View.dmaCredit_pos (v := (rowsDst (dstOff 0 0 0) (by decide)).view) (by decide)
  · exact View.dmaCredit_pos (v := (tailDst (dstOff 0 0 0) (by decide)).view) (by decide)

theorem delivered_all (sl : Fin 2) (p : Fin 20) : bigSep Finset.univ (delivered c fy ft sl p) ⊢
    iprop(((locB c ↦[mainPart sl 0]{fullShare} filled fy ft p) ∗ (locY c ↦[rowsRead p 0]{quarter sl 0} fy))
      ∗ ((locB c ↦[tailPart sl 0]{fullShare} filled fy ft p) ∗ (locT c ↦[tailRead p 0]{quarter sl 0} ft))
      ∗ ((locB c ↦[mainPart sl 1]{fullShare} filled fy ft p) ∗ (locY c ↦[rowsRead p 1]{quarter sl 1} fy))
      ∗ ((locB c ↦[tailPart sl 1]{fullShare} filled fy ft p) ∗ (locT c ↦[tailRead p 1]{quarter sl 1} ft))) := by
  rw [BI.bigSep_eq_bigSepL_of_eq [(0 : Fin 4), 1, 2, 3] (by decide) (by decide) (delivered c fy ft sl p)]
  exact .rfl

theorem drain_spec (E : Ends) (sl : Fin 2) (p : Fin 20) (W : Waits sig Unit) {α : Type}
    (K : PUnit → Prog (TpuEff nD τ sig (Elt F) Λ₀ .tc) α) (Q : α → sProp 𝕄) :
    iprop(inflight c fy ft sl p ∗ owes (c : Thread nD τ) 0 W
      ∗ (ready c fy ft sl p -∗ (∃ W', owes (c : Thread nD τ) 0 W') -∗ wp frame (wpE (defs₀ (F := F)) 𝒱 (c : Thread nD τ) bd) Set.univ (K ⟨⟩) Q))
    ⊢ wp frame (wpE (defs₀ (F := F)) 𝒱 (c : Thread nD τ) bd) Set.univ (drain E (semOf sl) >>= K) Q := by
  unfold drain ready quarters inflight
  simp only [bind_assoc, pure_bind]
  iintro ⟨⟨HM, R0, R1, R2, R3⟩, HO, HK⟩
  iapply (Transfers.wp_waitMixedBatch (countersEmb (U := Pipeline.UD sig nD τ)) 𝒱 (c : Thread nD τ) bd () (A := credits) (J := rowsCredit) (rows_credit _ _) (j := 4) (u := 0)
    (by rw [credits_total]; omega)) $$ [HM HO]
  · isplitl [HM]; iexact HM
    iexact HO
  iintro ⟨HM, HO⟩
  iapply (Transfers.wp_waitMixedBatch (countersEmb (U := Pipeline.UD sig nD τ)) 𝒱 (c : Thread nD τ) bd () (A := credits) (J := tailCredit) (tail_credit _ _) (j := 4) (u := 0 + rowsCredit)
    (by rw [credits_total]; omega)) $$ [HM HO]
  · isplitl [HM]; iexact HM
    iexact HO
  iintro ⟨HM, HO⟩
  iapply (Transfers.wp_waitMixedBatch (countersEmb (U := Pipeline.UD sig nD τ)) 𝒱 (c : Thread nD τ) bd () (A := credits) (J := rowsCredit) (rows_credit _ _) (j := 4) (u := 0 + rowsCredit + tailCredit)
    (by rw [credits_total]; omega)) $$ [HM HO]
  · isplitl [HM]; iexact HM
    iexact HO
  iintro ⟨HM, HO⟩
  iapply (Transfers.wp_waitMixedBatchAll (countersEmb (U := Pipeline.UD sig nD τ)) 𝒱 (c : Thread nD τ) bd () (A := credits) (J := tailCredit) (tail_credit _ _) credits_pos (u := 0 + rowsCredit + tailCredit + rowsCredit)
    (by rw [credits_total]; omega)) $$ [HM HO]
  · isplitl [HM]; iexact HM
    iexact HO
  iintro ⟨HD, HS, HO⟩
  ihave HD := (delivered_all c fy ft sl p) $$ HD
  icases HD with ⟨⟨B0, Y0⟩, ⟨B1, T0⟩, ⟨B2, Y1⟩, ⟨B3, T1⟩⟩
  ihave Y0 := (pointsTo_split_subset (ℓ := locY c) (Finset.subset_univ (rowsRead p 0))).mpr $$ [Y0 R0]
  · iframe Y0; iexact R0
  ihave T0 := (pointsTo_split_subset (ℓ := locT c) (Finset.subset_univ (tailRead p 0))).mpr $$ [T0 R1]
  · iframe T0; iexact R1
  ihave Y1 := (pointsTo_split_subset (ℓ := locY c) (Finset.subset_univ (rowsRead p 1))).mpr $$ [Y1 R2]
  · iframe Y1; iexact R2
  ihave T1 := (pointsTo_split_subset (ℓ := locT c) (Finset.subset_univ (tailRead p 1))).mpr $$ [T1 R3]
  · iframe T1; iexact R3
  ihave HB := (slot_split c sl (filled fy ft p)).mpr $$ [B0 B1 B2 B3]
  · iframe B0 B1 B2; iexact B3
  iapply HK $$ [HB HS Y0 T0 Y1 T1] [HO]
  · iframe HB HS Y0 T0 Y1; iexact T1
  · iexists _; iexact HO

end

end Cert.Kernel.Hand
-- ==== Proof.Printed.BlockSpec.lean ====
/- What one block stores, as a rule for its program: the words it reads name places inside the part of the buffer that is
   held, and the two column groups of its sixteen rows are overwritten. -/
module

public import proofs.«01_k».proof.Proof.Printed.Block
public import Idealize.ShloMosaic.Lib.Tactic
public import Idealize.ShloMosaic.Lib.Exec

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable {U : Type} [URA U]

/-- The word a one-element rectangle of the table holds. -/
noncomputable def wordAt (c : Dev nD) (arg2 : Memref sig .tc .smem S32x384 .i32) (f : Buf (Elt F) (arg2.view.loc (c : Thread nD τ)))
    (r : Rect S32x384) (h1 : r.shape.numel = 1) : BitVec 32 :=
  (arg2.access r).read (Elt F) f (Shape.Idx.first (h1.symm ▸ Nat.one_pos))

variable (𝒱 : Variants) (c : Dev nD) (bd : Option 𝒱.V)

/-- Holding the table, its word is read. -/
theorem word_spec (arg2 : Memref sig .tc .smem S32x384 .i32) (f : Buf (Elt F) (arg2.view.loc (c : Thread nD τ)))
    (r : Rect S32x384) (h1 : r.shape.numel = 1) (w : BitVec 32) (hw : wordAt c arg2 f r h1 = w) {α : Type}
    (K : Elt F .i32 → Prog (TpuEff nD τ sig (Elt F) Λ₀ .tc) α) (Q : α → sProp (MT nD τ sig Unit (Elt F) ℕ U ℕ)) (q : PosShare TreeShare) :
    iprop((arg2.view.loc (c : Thread nD τ) ↦{q} f) ∗ ((arg2.view.loc (c : Thread nD τ) ↦{q} f) -∗
        wp frame (wpE (defs₀ (F := F)) 𝒱 (c : Thread nD τ) bd) Set.univ (K w) Q))
      ⊢ wp frame (wpE (defs₀ (F := F)) 𝒱 (c : Thread nD τ) bd) Set.univ (smemLoad arg2 r h1 rfl >>= K) Q := by
  subst hw
  iintro ⟨H, HR⟩
  iapply (wp_load_rect 𝒱 (c : Thread nD τ) bd Set.univ (m := arg2) (r := r) (Finset.subset_univ _)) $$ H
  iintro H
  iapply HR $$ H

/-- Holding the table, a word of which the assumed fact is true is read. -/
theorem place_spec (C : BitVec 32 → Prop) (dec : ∀ w, Decidable (C w)) (arg2 : Memref sig .tc .smem S32x384 .i32)
    (f : Buf (Elt F) (arg2.view.loc (c : Thread nD τ)))
    (r : Rect S32x384) (h1 : r.shape.numel = 1) (w : BitVec 32) (hw : wordAt c arg2 f r h1 = w) (hC : C w) {α : Type}
    (K : PSigma C → Prog (TpuEff nD τ sig (Elt F) Λ₀ .tc) α) (Q : α → sProp (MT nD τ sig Unit (Elt F) ℕ U ℕ)) (q : PosShare TreeShare) :
    iprop((arg2.view.loc (c : Thread nD τ) ↦{q} f) ∗ ((arg2.view.loc (c : Thread nD τ) ↦{q} f) -∗
        wp frame (wpE (defs₀ (F := F)) 𝒱 (c : Thread nD τ) bd) Set.univ (K ⟨w, hC⟩) Q))
      ⊢ wp frame (wpE (defs₀ (F := F)) 𝒱 (c : Thread nD τ) bd) Set.univ (place C dec arg2 r h1 >>= K) Q := by
  subst hw
  unfold place
  iintro ⟨H, HR⟩
  iapply (wp_load_rect 𝒱 (c : Thread nD τ) bd Set.univ (m := arg2) (r := r) (Finset.subset_univ _)) $$ H
  iintro H
  iapply (wp_assume 𝒱 (c : Thread nD τ) bd Set.univ hC)
  iapply HR $$ H

/-- Holding the part of the buffer two places lie in, the mixed rows are read. -/
theorem pick_spec (i : grid0.Coords) (arg9 : Memref sig .tc .vmem S4x46784x128 .fp8e4m3) (v10 : IVec S32x128 32) (g : Fin 2)
    (t : Elt F .i32) (wa : BitVec 32) (ha : k0_chk16 i wa) (wb : BitVec 32) (hb : k0_chk16 i wb)
    (S : Finset (Idx (arg9.view.loc (c : Thread nD τ)))) (f : Buf (Elt F) (arg9.view.loc (c : Thread nD τ)))
    (hA : (arg9.access (bufRect i wa g ha)).set ⊆ S) (hB : (arg9.access (bufRect i wb g hb)).set ⊆ S) {α : Type}
    (K : FVec F S32x128 .fp8e4m3 → Prog (TpuEff nD τ sig (Elt F) Λ₀ .tc) α) (Q : α → sProp (MT nD τ sig Unit (Elt F) ℕ U ℕ))
    (q : PosShare TreeShare) :
    iprop((arg9.view.loc (c : Thread nD τ) ↦[S]{q} f) ∗ ((arg9.view.loc (c : Thread nD τ) ↦[S]{q} f) -∗
        wp frame (wpE (defs₀ (F := F)) 𝒱 (c : Thread nD τ) bd) Set.univ (K (mix v10 t ((arg9.access (bufRect i wa g ha)).read (Elt F) f)
          ((arg9.access (bufRect i wb g hb)).read (Elt F) f))) Q))
      ⊢ wp frame (wpE (defs₀ (F := F)) 𝒱 (c : Thread nD τ) bd) Set.univ (pick i arg9 v10 g t wa ha wb hb >>= K) Q := by
  unfold pick
  iintro ⟨H, HR⟩
  iapply (wp_load_rect 𝒱 (c : Thread nD τ) bd Set.univ (m := arg9) (r := bufRect i wa g ha) hA) $$ H
  iintro H
  iapply (wp_load_rect 𝒱 (c : Thread nD τ) bd Set.univ (m := arg9) (r := bufRect i wb g hb) hB) $$ H
  iintro H
  iapply HR $$ H

/-- The 32 rows slot `v` takes of plane `g`: from the places `wa v` and `wb v`, cut at `wt v`. -/
noncomputable def slotOf (i : grid0.Coords) (arg9 : Memref sig .tc .vmem S4x46784x128 .fp8e4m3) (v10 : IVec S32x128 32) (g : Fin 2)
    (f : Buf (Elt F) (arg9.view.loc (c : Thread nD τ))) (wa wb wt : Fin 8 → BitVec 32)
    (ha : ∀ v, Fits i (wa v)) (hb : ∀ v, Fits i (wb v)) (v : Fin 8) : FVec F S32x128 .fp8e4m3 :=
  mix v10 (wt v) ((arg9.access (bufRect i (wa v) g (ha v).both)).read (Elt F) f)
    ((arg9.access (bufRect i (wb v) g (hb v).both)).read (Elt F) f)

/-- The 256 rows of eight slots. -/
noncomputable def stack (s : Fin 8 → FVec F S32x128 .fp8e4m3) : FVec F S256x128 .fp8e4m3 :=
  concatenate S256x128 0 [⟨S32x128, s 0⟩, ⟨S32x128, s 1⟩, ⟨S32x128, s 2⟩, ⟨S32x128, s 3⟩, ⟨S32x128, s 4⟩, ⟨S32x128, s 5⟩,
    ⟨S32x128, s 6⟩, ⟨S32x128, s 7⟩]
    concatenates_S32x128_S32x128_S32x128_S32x128_S32x128_S32x128_S32x128_S32x128_S256x128_d0

/-- Holding the part of the buffer all the places lie in, a plane's 256 rows are read. -/
theorem plane_spec (i : grid0.Coords) (arg9 : Memref sig .tc .vmem S4x46784x128 .fp8e4m3) (v10 : IVec S32x128 32) (g : Fin 2)
    (wa wb wt : Fin 8 → BitVec 32) (ha : ∀ v, Fits i (wa v)) (hb : ∀ v, Fits i (wb v))
    (S : Finset (Idx (arg9.view.loc (c : Thread nD τ)))) (f : Buf (Elt F) (arg9.view.loc (c : Thread nD τ)))
    (hS : ∀ v h, (arg9.access (bufRect i v g h)).set ⊆ S) {α : Type}
    (K : FVec F S256x128 .fp8e4m3 → Prog (TpuEff nD τ sig (Elt F) Λ₀ .tc) α) (Q : α → sProp (MT nD τ sig Unit (Elt F) ℕ U ℕ))
    (q : PosShare TreeShare) :
    iprop((arg9.view.loc (c : Thread nD τ) ↦[S]{q} f) ∗ ((arg9.view.loc (c : Thread nD τ) ↦[S]{q} f) -∗
        wp frame (wpE (defs₀ (F := F)) 𝒱 (c : Thread nD τ) bd) Set.univ (K (stack (slotOf c i arg9 v10 g f wa wb wt ha hb))) Q))
      ⊢ wp frame (wpE (defs₀ (F := F)) 𝒱 (c : Thread nD τ) bd) Set.univ
        (plane (F := F) i arg9 v10 g (wt 0) (wt 1) (wt 2) (wt 3) (wt 4) (wt 5) (wt 6) (wt 7)
          (wa 0) (wb 0) (wa 1) (wb 1) (wa 2) (wb 2) (wa 3) (wb 3) (wa 4) (wb 4) (wa 5) (wb 5) (wa 6) (wb 6) (wa 7) (wb 7)
          (ha 0).both (hb 0).both (ha 1).both (hb 1).both (ha 2).both (hb 2).both (ha 3).both (hb 3).both (ha 4).both (hb 4).both (ha 5).both (hb 5).both (ha 6).both (hb 6).both (ha 7).both (hb 7).both >>= K) Q := by
  unfold plane
  simp only [bind_assoc, pure_bind]
  iintro ⟨H, HR⟩
  iapply (pick_spec 𝒱 c bd i arg9 v10 g (wt 0) (wa 0) (ha 0).both (wb 0) (hb 0).both S f (hS _ _) (hS _ _))
  iframe H
  iintro H
  iapply (pick_spec 𝒱 c bd i arg9 v10 g (wt 1) (wa 1) (ha 1).both (wb 1) (hb 1).both S f (hS _ _) (hS _ _))
  iframe H
  iintro H
  iapply (pick_spec 𝒱 c bd i arg9 v10 g (wt 2) (wa 2) (ha 2).both (wb 2) (hb 2).both S f (hS _ _) (hS _ _))
  iframe H
  iintro H
  iapply (pick_spec 𝒱 c bd i arg9 v10 g (wt 3) (wa 3) (ha 3).both (wb 3) (hb 3).both S f (hS _ _) (hS _ _))
  iframe H
  iintro H
  iapply (pick_spec 𝒱 c bd i arg9 v10 g (wt 4) (wa 4) (ha 4).both (wb 4) (hb 4).both S f (hS _ _) (hS _ _))
  iframe H
  iintro H
  iapply (pick_spec 𝒱 c bd i arg9 v10 g (wt 5) (wa 5) (ha 5).both (wb 5) (hb 5).both S f (hS _ _) (hS _ _))
  iframe H
  iintro H
  iapply (pick_spec 𝒱 c bd i arg9 v10 g (wt 6) (wa 6) (ha 6).both (wb 6) (hb 6).both S f (hS _ _) (hS _ _))
  iframe H
  iintro H
  iapply (pick_spec 𝒱 c bd i arg9 v10 g (wt 7) (wa 7) (ha 7).both (wb 7) (hb 7).both S f (hS _ _) (hS _ _))
  iframe H
  iintro H
  iapply HR $$ H

/-- A block: holding the table, the mask, the coefficients, `x`, the part of the buffer its places lie in, and the result,
    it leaves all as they were but the result, whose two column groups of the block's rows it overwrites. -/
theorem blk_spec (i : grid0.Coords) (arg2 : Memref sig .tc .smem S32x384 .i32) (arg3 : Memref sig .tc .vmem S2048x256 .bf16)
    (arg4 : Memref sig .tc .vmem S3072x256 .i32) (arg5 : Memref sig .tc .vmem S1x256x256 .f32)
    (arg8 : Memref sig .tc .vmem S2048x256 .bf16) (harg8 : arg8.IsWhole) (arg9 : Memref sig .tc .vmem S4x46784x128 .fp8e4m3)
    (v10 : IVec S32x128 32) (k : Fin k0_t1_loop.trips) (u : Fin 8)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f8 : Buf (Elt F) (arg8.view.loc (c : Thread nD τ))) (f9 : Buf (Elt F) (arg9.view.loc (c : Thread nD τ)))
    (S : Finset (Idx (arg9.view.loc (c : Thread nD τ))))
    (wa wb wt : Fin 8 → BitVec 32)
    (ra : ∀ v : Fin 8, wordAt c arg2 f2 (tabRect ⟨v.val, by omega⟩ i k u) numel1_S1x1 = wa v)
    (rb : ∀ v : Fin 8, wordAt c arg2 f2 (tabRect ⟨8 + v.val, by omega⟩ i k u) numel1_S1x1 = wb v)
    (rt : ∀ v : Fin 8, wordAt c arg2 f2 (tabRect ⟨16 + v.val, by omega⟩ i k u) numel1_S1x1 = wt v)
    (ha : ∀ v, Fits i (wa v)) (hb : ∀ v, Fits i (wb v))
    (hS : ∀ v g h, (arg9.access (bufRect i v g h)).set ⊆ S) {α : Type}
    (K : PUnit → Prog (TpuEff nD τ sig (Elt F) Λ₀ .tc) α) (Q : α → sProp (MT nD τ sig Unit (Elt F) ℕ U ℕ))
    (q2 q3 q4 q5 q9 : PosShare TreeShare)
    (y : Fin 2 → Vec F S16x128 .bf16)
    (hy : ∀ r, r = prod ((arg4.access (maskRect i k u)).read (Elt F) f4) ((arg5.access (coefRect k u 0)).read (Elt F) f5)
        ((arg5.access (coefRect k u 1)).read (Elt F) f5) (stack (slotOf c i arg9 v10 0 f9 wa wb wt ha hb))
        (stack (slotOf c i arg9 v10 1 f9 wa wb wt ha hb)) →
      y 0 = out0 ((arg3.access (outRect k u 0)).read (Elt F) f3) r ∧ y 1 = out1 ((arg3.access (outRect k u 1)).read (Elt F) f3) r) :
    iprop((arg2.view.loc (c : Thread nD τ) ↦{q2} f2) ∗ (arg3.view.loc (c : Thread nD τ) ↦{q3} f3) ∗
        (arg4.view.loc (c : Thread nD τ) ↦{q4} f4) ∗ (arg5.view.loc (c : Thread nD τ) ↦{q5} f5) ∗
        (arg8.view.loc (c : Thread nD τ) ↦{fullShare} f8) ∗ (arg9.view.loc (c : Thread nD τ) ↦[S]{q9} f9) ∗
        ((arg2.view.loc (c : Thread nD τ) ↦{q2} f2) -∗ (arg3.view.loc (c : Thread nD τ) ↦{q3} f3) -∗
          (arg4.view.loc (c : Thread nD τ) ↦{q4} f4) -∗ (arg5.view.loc (c : Thread nD τ) ↦{q5} f5) -∗
          (arg8.view.loc (c : Thread nD τ) ↦{fullShare} ((arg8.access (outRect k u 1)).write (Elt F) ((arg8.access (outRect k u 0)).write (Elt F) f8 (y 0) Finset.univ)
            (y 1) Finset.univ)) -∗
          (arg9.view.loc (c : Thread nD τ) ↦[S]{q9} f9) -∗
          wp frame (wpE (defs₀ (F := F)) 𝒱 (c : Thread nD τ) bd) Set.univ (K ⟨⟩) Q))
      ⊢ wp frame (wpE (defs₀ (F := F)) 𝒱 (c : Thread nD τ) bd) Set.univ
        (blk i arg2 arg3 arg4 arg5 arg8 harg8 arg9 v10 k u >>= K) Q := by
  obtain ⟨hy0, hy1⟩ := hy _ rfl
  unfold blk
  simp only [bind_assoc, pure_bind]
  iintro ⟨H2, H3, H4, H5, H8, H9, HR⟩
  iapply (place_spec 𝒱 c bd _ _ arg2 f2 (tabRect 0 i k u) numel1_S1x1 (wa 0) (ra 0) (ha 0))
  iframe H2
  iintro H2
  iapply (place_spec 𝒱 c bd _ _ arg2 f2 (tabRect 1 i k u) numel1_S1x1 (wa 1) (ra 1) (ha 1))
  iframe H2
  iintro H2
  iapply (place_spec 𝒱 c bd _ _ arg2 f2 (tabRect 2 i k u) numel1_S1x1 (wa 2) (ra 2) (ha 2))
  iframe H2
  iintro H2
  iapply (place_spec 𝒱 c bd _ _ arg2 f2 (tabRect 3 i k u) numel1_S1x1 (wa 3) (ra 3) (ha 3))
  iframe H2
  iintro H2
  iapply (place_spec 𝒱 c bd _ _ arg2 f2 (tabRect 4 i k u) numel1_S1x1 (wa 4) (ra 4) (ha 4))
  iframe H2
  iintro H2
  iapply (place_spec 𝒱 c bd _ _ arg2 f2 (tabRect 5 i k u) numel1_S1x1 (wa 5) (ra 5) (ha 5))
  iframe H2
  iintro H2
  iapply (place_spec 𝒱 c bd _ _ arg2 f2 (tabRect 6 i k u) numel1_S1x1 (wa 6) (ra 6) (ha 6))
  iframe H2
  iintro H2
  iapply (place_spec 𝒱 c bd _ _ arg2 f2 (tabRect 7 i k u) numel1_S1x1 (wa 7) (ra 7) (ha 7))
  iframe H2
  iintro H2
  iapply (place_spec 𝒱 c bd _ _ arg2 f2 (tabRect 8 i k u) numel1_S1x1 (wb 0) (rb 0) (hb 0))
  iframe H2
  iintro H2
  iapply (place_spec 𝒱 c bd _ _ arg2 f2 (tabRect 9 i k u) numel1_S1x1 (wb 1) (rb 1) (hb 1))
  iframe H2
  iintro H2
  iapply (place_spec 𝒱 c bd _ _ arg2 f2 (tabRect 10 i k u) numel1_S1x1 (wb 2) (rb 2) (hb 2))
  iframe H2
  iintro H2
  iapply (place_spec 𝒱 c bd _ _ arg2 f2 (tabRect 11 i k u) numel1_S1x1 (wb 3) (rb 3) (hb 3))
  iframe H2
  iintro H2
  iapply (place_spec 𝒱 c bd _ _ arg2 f2 (tabRect 12 i k u) numel1_S1x1 (wb 4) (rb 4) (hb 4))
  iframe H2
  iintro H2
  iapply (place_spec 𝒱 c bd _ _ arg2 f2 (tabRect 13 i k u) numel1_S1x1 (wb 5) (rb 5) (hb 5))
  iframe H2
  iintro H2
  iapply (place_spec 𝒱 c bd _ _ arg2 f2 (tabRect 14 i k u) numel1_S1x1 (wb 6) (rb 6) (hb 6))
  iframe H2
  iintro H2
  iapply (place_spec 𝒱 c bd _ _ arg2 f2 (tabRect 15 i k u) numel1_S1x1 (wb 7) (rb 7) (hb 7).both)
  iframe H2
  iintro H2
  iapply (word_spec 𝒱 c bd arg2 f2 (tabRect 16 i k u) numel1_S1x1 (wt 0) (rt 0))
  iframe H2
  iintro H2
  iapply (word_spec 𝒱 c bd arg2 f2 (tabRect 17 i k u) numel1_S1x1 (wt 1) (rt 1))
  iframe H2
  iintro H2
  iapply (word_spec 𝒱 c bd arg2 f2 (tabRect 18 i k u) numel1_S1x1 (wt 2) (rt 2))
  iframe H2
  iintro H2
  iapply (word_spec 𝒱 c bd arg2 f2 (tabRect 19 i k u) numel1_S1x1 (wt 3) (rt 3))
  iframe H2
  iintro H2
  iapply (word_spec 𝒱 c bd arg2 f2 (tabRect 20 i k u) numel1_S1x1 (wt 4) (rt 4))
  iframe H2
  iintro H2
  iapply (word_spec 𝒱 c bd arg2 f2 (tabRect 21 i k u) numel1_S1x1 (wt 5) (rt 5))
  iframe H2
  iintro H2
  iapply (word_spec 𝒱 c bd arg2 f2 (tabRect 22 i k u) numel1_S1x1 (wt 6) (rt 6))
  iframe H2
  iintro H2
  iapply (word_spec 𝒱 c bd arg2 f2 (tabRect 23 i k u) numel1_S1x1 (wt 7) (rt 7))
  iframe H2
  iintro H2
  iapply (wp_load_rect 𝒱 (c : Thread nD τ) bd Set.univ (m := arg4) (r := maskRect i k u) (Finset.subset_univ _)) $$ H4
  iintro H4
  iapply (wp_load_rect 𝒱 (c : Thread nD τ) bd Set.univ (m := arg5) (r := coefRect k u 0) (Finset.subset_univ _)) $$ H5
  iintro H5
  iapply (plane_spec 𝒱 c bd i arg9 v10 0 wa wb wt ha hb S f9 (fun v h => hS v 0 h))
  iframe H9
  iintro H9
  iapply (wp_load_rect 𝒱 (c : Thread nD τ) bd Set.univ (m := arg5) (r := coefRect k u 1) (Finset.subset_univ _)) $$ H5
  iintro H5
  iapply (plane_spec 𝒱 c bd i arg9 v10 1 wa wb wt ha hb S f9 (fun v h => hS v 1 h))
  iframe H9
  iintro H9
  iapply (wp_load_rect 𝒱 (c : Thread nD τ) bd Set.univ (m := arg3) (r := outRect k u 0) (Finset.subset_univ _)) $$ H3
  iintro H3
  iapply (wp_load_rect 𝒱 (c : Thread nD τ) bd Set.univ (m := arg8) (r := outRect k u 0) (Finset.subset_univ _)) $$ H8
  iintro H8
  iapply (wp_store 𝒱 (c : Thread nD τ) bd Set.univ (m := arg8) (r := outRect k u 0) (Finset.subset_univ _)) $$ H8
  iintro H8
  iapply (wp_load_rect 𝒱 (c : Thread nD τ) bd Set.univ (m := arg3) (r := outRect k u 1) (Finset.subset_univ _)) $$ H3
  iintro H3
  iapply (wp_load_rect 𝒱 (c : Thread nD τ) bd Set.univ (m := arg8) (r := outRect k u 1) (Finset.subset_univ _)) $$ H8
  iintro H8
  iapply (wp_store 𝒱 (c : Thread nD τ) bd Set.univ (m := arg8) (r := outRect k u 1) (Finset.subset_univ _)) $$ H8
  iintro H8
  rw [hy0, hy1]
  iapply HR $$ H2 H3 H4 H5 H8 H9

end Cert.Kernel.Hand
-- ==== Proof.Printed.Loop.lean ====
/- The loop over the blocks of one chunk, as a rule: from the buffers a point works on, it leaves the result at one function
   of what it read. -/
module

public import proofs.«01_k».proof.Proof.Printed.BlockSpec

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
variable {U : Type} [URA U]
variable (𝒱 : Variants) (c : Dev nD) (bd : Option 𝒱.V)
variable (i : grid0.Coords) (arg2 : Memref sig .tc .smem S32x384 .i32) (harg2 : arg2.IsWhole)
  (arg3 : Memref sig .tc .vmem S2048x256 .bf16) (harg3 : arg3.IsWhole)
  (arg4 : Memref sig .tc .vmem S3072x256 .i32) (harg4 : arg4.IsWhole) (arg5 : Memref sig .tc .vmem S1x256x256 .f32) (harg5 : arg5.IsWhole)
  (arg6 : Memref sig .tc .hbm S46695x5120 .fp8e4m3) (harg6 : arg6.IsWhole) (arg7 : Memref sig .tc .hbm S96x5120 .fp8e4m3) (harg7 : arg7.IsWhole)
  (arg8 : Memref sig .tc .vmem S2048x256 .bf16) (harg8 : arg8.IsWhole) (arg9 : Memref sig .tc .vmem S4x46784x128 .fp8e4m3) (harg9 : arg9.IsWhole)
  (arg10 : DmaSems sig S2) (arg1 v9 : BitVec 32) (v10 : IVec S32x128 32)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f9 : Buf (Elt F) (arg9.view.loc (c : Thread nD τ)))

/-- The words a block reads of the table: word `r` of its column. -/
noncomputable def tabWord (k : Fin k0_t1_loop.trips) (u : Fin 8) (r : Fin 24) : BitVec 32 :=
  wordAt c arg2 f2 (tabRect r i k u) numel1_S1x1
noncomputable def firstAt (k : Fin k0_t1_loop.trips) (u v : Fin 8) : BitVec 32 := tabWord c i arg2 f2 k u ⟨v.val, by omega⟩
noncomputable def secondAt (k : Fin k0_t1_loop.trips) (u v : Fin 8) : BitVec 32 := tabWord c i arg2 f2 k u ⟨8 + v.val, by omega⟩
noncomputable def cutAt (k : Fin k0_t1_loop.trips) (u v : Fin 8) : BitVec 32 := tabWord c i arg2 f2 k u ⟨16 + v.val, by omega⟩

/-- Every place the table names is inside the buffer. -/
def AllFit : Prop := ∀ k u v, Fits i (firstAt c i arg2 f2 k u v) ∧ Fits i (secondAt c i arg2 f2 k u v)

variable (hfit : AllFit c i arg2 f2)

/-- The product of block `u` of trip `k`, of what the buffers hold. -/
noncomputable def blkProd (k : Fin k0_t1_loop.trips) (u : Fin 8) : FVec F S96x256 .f32 :=
  prod ((arg4.access (maskRect i k u)).read (Elt F) f4) ((arg5.access (coefRect k u 0)).read (Elt F) f5)
    ((arg5.access (coefRect k u 1)).read (Elt F) f5)
    (stack (slotOf c i arg9 v10 0 f9 (firstAt c i arg2 f2 k u) (secondAt c i arg2 f2 k u) (cutAt c i arg2 f2 k u)
      (fun v => (hfit k u v).1) (fun v => (hfit k u v).2)))
    (stack (slotOf c i arg9 v10 1 f9 (firstAt c i arg2 f2 k u) (secondAt c i arg2 f2 k u) (cutAt c i arg2 f2 k u)
      (fun v => (hfit k u v).1) (fun v => (hfit k u v).2)))

/-- What the block stores in column group `g`. -/
noncomputable def blkOut (k : Fin k0_t1_loop.trips) (u : Fin 8) (g : Fin 2) : Vec F S16x128 .bf16 :=
  match g with
  | 0 => out0 ((arg3.access (outRect k u 0)).read (Elt F) f3) (blkProd c i arg2 arg4 arg5 arg9 v10 f2 f4 f5 f9 hfit k u)
  | 1 => out1 ((arg3.access (outRect k u 1)).read (Elt F) f3) (blkProd c i arg2 arg4 arg5 arg9 v10 f2 f4 f5 f9 hfit k u)

/-- The place of element `j` of column group `g` of block `u` of trip `k` in the chunk's result. -/
abbrev outPlace (k : Fin k0_t1_loop.trips) (u : Fin 8) (g : Fin 2) (j : S16x128.Idx) : S2048x256.Idx := (outRect k u g).emb j

theorem outPlace_row (k : Fin k0_t1_loop.trips) (u : Fin 8) (g : Fin 2) (j : S16x128.Idx) :
    (outPlace k u g j 0).val = 16 * (8 * k.val + u.val) + (j 0).val := by
  rw [Rect.emb_apply]
  show (outOff k (BitVec.ofNat 32 u.val) (128 * g.val)) 0 + 1 * (j 0).val = _
  rw [outOff_eq, Nat.one_mul]; rfl
theorem outPlace_col (k : Fin k0_t1_loop.trips) (u : Fin 8) (g : Fin 2) (j : S16x128.Idx) :
    (outPlace k u g j 1).val = 128 * g.val + (j 1).val := by
  rw [Rect.emb_apply]
  show (outOff k (BitVec.ofNat 32 u.val) (128 * g.val)) 1 + 1 * (j 1).val = _
  rw [outOff_eq, Nat.one_mul]; rfl

theorem outPlace_inj {k k' : Fin k0_t1_loop.trips} {u u' : Fin 8} {g g' : Fin 2} {j j' : S16x128.Idx}
    (h : outPlace k u g j = outPlace k' u' g' j') : k = k' ∧ u = u' ∧ g = g' := by
  have h0 := congrArg (fun y : S2048x256.Idx => (y 0).val) h
  have h1 := congrArg (fun y : S2048x256.Idx => (y 1).val) h
  simp only [outPlace_row, outPlace_col] at h0 h1
  have a0 : (j 0).val < 16 := (j 0).isLt
  have a1 : (j 1).val < 128 := (j 1).isLt
  have b0 : (j' 0).val < 16 := (j' 0).isLt
  have b1 : (j' 1).val < 128 := (j' 1).isLt
  have := u.isLt; have := u'.isLt
  refine ⟨Fin.ext ?_, Fin.ext ?_, Fin.ext ?_⟩ <;> omega

/-- A write of one block's column group leaves every other block and group as it was, and is read back where it was made. -/
theorem outWrite_read (f8 : Buf (Elt F) (arg8.view.loc (c : Thread nD τ))) (y : Vec F S16x128 .bf16)
    (k k' : Fin k0_t1_loop.trips) (u u' : Fin 8) (g g' : Fin 2) (j : S16x128.Idx) :
    arg8.view.read (Elt F) ((arg8.access (outRect k u g)).write (Elt F) f8 y Finset.univ) (outPlace k' u' g' j)
      = if k = k' ∧ u = u' ∧ g = g' then y j else arg8.view.read (Elt F) f8 (outPlace k' u' g' j) := by
  split
  · rename_i h; obtain ⟨rfl, rfl, rfl⟩ := h
    exact View.read_slice_write_emb (v := arg8.view) (outRect k u g) f8 y (Finset.mem_univ j)
  · rename_i h
    refine View.read_slice_write_of_not_mem (v := arg8.view) (outRect k u g) f8 y Finset.univ fun hm => h ?_
    obtain ⟨x, -, hx⟩ := Finset.mem_map.mp hm
    exact outPlace_inj hx

/-- The blocks done before block `n` of the chunk: the result holds theirs. -/
def Done (n : ℕ) (f8 : Buf (Elt F) (arg8.view.loc (c : Thread nD τ))) : Prop :=
  ∀ (k : Fin k0_t1_loop.trips) (u : Fin 8), 8 * k.val + u.val < n → ∀ g j,
    arg8.view.read (Elt F) f8 (outPlace k u g j) = blkOut c i arg2 arg3 arg4 arg5 arg9 v10 f2 f3 f4 f5 f9 hfit k u g j

theorem Done.step {n : ℕ} {f8 : Buf (Elt F) (arg8.view.loc (c : Thread nD τ))} (k : Fin k0_t1_loop.trips) (u : Fin 8)
    (hn : n = 8 * k.val + u.val)
    (h : Done c i arg2 arg3 arg4 arg5 arg8 arg9 v10 f2 f3 f4 f5 f9 hfit n f8) :
    Done c i arg2 arg3 arg4 arg5 arg8 arg9 v10 f2 f3 f4 f5 f9 hfit (n + 1)
      ((arg8.access (outRect k u 1)).write (Elt F) ((arg8.access (outRect k u 0)).write (Elt F) f8
        (blkOut c i arg2 arg3 arg4 arg5 arg9 v10 f2 f3 f4 f5 f9 hfit k u 0) Finset.univ)
        (blkOut c i arg2 arg3 arg4 arg5 arg9 v10 f2 f3 f4 f5 f9 hfit k u 1) Finset.univ) := by
  intro k' u' hk' g j
  rw [outWrite_read c, outWrite_read c]
  by_cases e : k = k' ∧ u = u'
  · obtain ⟨rfl, rfl⟩ := e
    match g with
    | 0 => simp
    | 1 => simp
  · rw [if_neg (fun h => e ⟨h.1, h.2.1⟩), if_neg (fun h => e ⟨h.1, h.2.1⟩)]
    refine h k' u' ?_ g j
    by_contra hc
    have := u.isLt; have := u'.isLt
    exact e ⟨Fin.ext (by omega), Fin.ext (by omega)⟩

variable (S : Finset (Idx (arg9.view.loc (c : Thread nD τ)))) (q2 q3 q4 q5 q9 : PosShare TreeShare)

/-- What the loop holds after `n` blocks. -/
noncomputable def loopRes (n : ℕ) : sProp (MT nD τ sig Unit (Elt F) ℕ U ℕ) :=
  iprop((arg2.view.loc (c : Thread nD τ) ↦{q2} f2) ∗ (arg3.view.loc (c : Thread nD τ) ↦{q3} f3) ∗
    (arg4.view.loc (c : Thread nD τ) ↦{q4} f4) ∗ (arg5.view.loc (c : Thread nD τ) ↦{q5} f5) ∗
    (∃ f8, (arg8.view.loc (c : Thread nD τ) ↦{fullShare} f8) ∗ ⌜Done c i arg2 arg3 arg4 arg5 arg8 arg9 v10 f2 f3 f4 f5 f9 hfit n f8⌝) ∗
    (arg9.view.loc (c : Thread nD τ) ↦[S]{q9} f9))

/-- A block takes the loop's holding one block on. -/
theorem blk_step (hS : ∀ w g h, (arg9.access (bufRect i w g h)).set ⊆ S) (k : Fin k0_t1_loop.trips) (u : Fin 8) (n : ℕ)
    (hn : n = 8 * k.val + u.val) {α : Type}
    (K : PUnit → Prog (TpuEff nD τ sig (Elt F) Λ₀ .tc) α) (Q : α → sProp (MT nD τ sig Unit (Elt F) ℕ U ℕ)) :
    iprop(loopRes c i arg2 arg3 arg4 arg5 arg8 arg9 v10 f2 f3 f4 f5 f9 hfit S q2 q3 q4 q5 q9 n ∗
        (loopRes c i arg2 arg3 arg4 arg5 arg8 arg9 v10 f2 f3 f4 f5 f9 hfit S q2 q3 q4 q5 q9 (n + 1) -∗
          wp frame (wpE (defs₀ (F := F)) 𝒱 (c : Thread nD τ) bd) Set.univ (K ⟨⟩) Q))
      ⊢ wp frame (wpE (defs₀ (F := F)) 𝒱 (c : Thread nD τ) bd) Set.univ
        (blk i arg2 arg3 arg4 arg5 arg8 harg8 arg9 v10 k u >>= K) Q := by
  unfold loopRes
  iintro ⟨⟨H2, H3, H4, H5, ⟨%f8, H8, %h8⟩, H9⟩, HR⟩
  iapply (blk_spec 𝒱 c bd i arg2 arg3 arg4 arg5 arg8 harg8 arg9 v10 k u f2 f3 f4 f5 f8 f9 S
    (firstAt c i arg2 f2 k u) (secondAt c i arg2 f2 k u) (cutAt c i arg2 f2 k u) (fun _ => rfl) (fun _ => rfl) (fun _ => rfl)
    (fun v => (hfit k u v).1) (fun v => (hfit k u v).2)
    hS K Q q2 q3 q4 q5 q9
    (blkOut c i arg2 arg3 arg4 arg5 arg9 v10 f2 f3 f4 f5 f9 hfit k u) (fun r hr => by subst hr; exact ⟨rfl, rfl⟩))
  iframe H2 H3 H4 H5 H8 H9
  iintro H2 H3 H4 H5 H8 H9
  iapply HR
  iframe H2 H3 H4 H5 H9
  iexists _
  iframe H8
  ipureintro
  exact h8.step c i arg2 arg3 arg4 arg5 arg8 arg9 v10 f2 f3 f4 f5 f9 hfit k u hn

/-- A trip takes it eight blocks on. -/
theorem trip_step (hS : ∀ w g h, (arg9.access (bufRect i w g h)).set ⊆ S) (k : Fin k0_t1_loop.trips) :
    loopRes (U := U) c i arg2 arg3 arg4 arg5 arg8 arg9 v10 f2 f3 f4 f5 f9 hfit S q2 q3 q4 q5 q9 (8 * k.val)
      ⊢ wp frame (wpE (defs₀ (F := F)) 𝒱 (c : Thread nD τ) bd) Set.univ
        (k0_t1_body (F := F) i arg2 harg2 arg3 harg3 arg4 harg4 arg5 harg5 arg6 harg6 arg7 harg7 arg8 harg8 arg9 harg9 arg10 arg1 v9 v10 k ⟨⟩)
        (fun _ => loopRes c i arg2 arg3 arg4 arg5 arg8 arg9 v10 f2 f3 f4 f5 f9 hfit S q2 q3 q4 q5 q9 (8 * (k.val + 1))) := by
  rw [body_eq, ← bind_pure (blk i arg2 arg3 arg4 arg5 arg8 harg8 arg9 v10 k 7)]
  iintro H
  iapply (blk_step 𝒱 c bd i arg2 arg3 arg4 arg5 arg8 harg8 arg9 v10 f2 f3 f4 f5 f9 hfit S q2 q3 q4 q5 q9 hS k 0 (8 * k.val) rfl)
  iframe H
  iintro H
  iapply (blk_step 𝒱 c bd i arg2 arg3 arg4 arg5 arg8 harg8 arg9 v10 f2 f3 f4 f5 f9 hfit S q2 q3 q4 q5 q9 hS k 1 (8 * k.val + 1) rfl)
  iframe H
  iintro H
  iapply (blk_step 𝒱 c bd i arg2 arg3 arg4 arg5 arg8 harg8 arg9 v10 f2 f3 f4 f5 f9 hfit S q2 q3 q4 q5 q9 hS k 2 (8 * k.val + 2) rfl)
  iframe H
  iintro H
  iapply (blk_step 𝒱 c bd i arg2 arg3 arg4 arg5 arg8 harg8 arg9 v10 f2 f3 f4 f5 f9 hfit S q2 q3 q4 q5 q9 hS k 3 (8 * k.val + 3) rfl)
  iframe H
  iintro H
  iapply (blk_step 𝒱 c bd i arg2 arg3 arg4 arg5 arg8 harg8 arg9 v10 f2 f3 f4 f5 f9 hfit S q2 q3 q4 q5 q9 hS k 4 (8 * k.val + 4) rfl)
  iframe H
  iintro H
  iapply (blk_step 𝒱 c bd i arg2 arg3 arg4 arg5 arg8 harg8 arg9 v10 f2 f3 f4 f5 f9 hfit S q2 q3 q4 q5 q9 hS k 5 (8 * k.val + 5) rfl)
  iframe H
  iintro H
  iapply (blk_step 𝒱 c bd i arg2 arg3 arg4 arg5 arg8 harg8 arg9 v10 f2 f3 f4 f5 f9 hfit S q2 q3 q4 q5 q9 hS k 6 (8 * k.val + 6) rfl)
  iframe H
  iintro H
  iapply (blk_step 𝒱 c bd i arg2 arg3 arg4 arg5 arg8 harg8 arg9 v10 f2 f3 f4 f5 f9 hfit S q2 q3 q4 q5 q9 hS k 7 (8 * k.val + 7) rfl)
  iframe H
  iintro H
  rw [show 8 * k.val + 7 + 1 = 8 * (k.val + 1) by omega]
  rw [wp_pure]
  iexact H

/-! ## The chunk's result as one function of the place -/

/-- The block, column group and place in it of an element of the chunk's result. -/
def tripOf (x : S2048x256.Idx) : Fin k0_t1_loop.trips :=
  ⟨(x 0).val / 128, by have h : (x 0).val < 2048 := (x 0).isLt; rw [trips_eq]; omega⟩
def unitOf (x : S2048x256.Idx) : Fin 8 := ⟨(x 0).val / 16 % 8, by omega⟩
def groupOf (x : S2048x256.Idx) : Fin 2 := ⟨(x 1).val / 128, by have h : (x 1).val < 256 := (x 1).isLt; omega⟩
def withinOf (x : S2048x256.Idx) : S16x128.Idx := fun a => match a with
  | 0 => ⟨(x 0).val % 16, by show _ < 16; omega⟩
  | 1 => ⟨(x 1).val % 128, by show _ < 128; omega⟩

theorem outPlace_of (x : S2048x256.Idx) : outPlace (tripOf x) (unitOf x) (groupOf x) (withinOf x) = x := by
  funext a
  apply Fin.ext
  match a with
  | 0 => rw [outPlace_row]; show 16 * (8 * ((x 0).val / 128) + (x 0).val / 16 % 8) + (x 0).val % 16 = (x 0).val; omega
  | 1 => rw [outPlace_col]; show 128 * ((x 1).val / 128) + (x 1).val % 128 = (x 1).val; omega

/-- What the loop leaves in the chunk's result. -/
noncomputable def chunkOut (x : S2048x256.Idx) : Elt F .bf16 :=
  blkOut c i arg2 arg3 arg4 arg5 arg9 v10 f2 f3 f4 f5 f9 hfit (tripOf x) (unitOf x) (groupOf x) (withinOf x)

theorem Done.all {n : ℕ} (hn : n = 128) {f8 : Buf (Elt F) (arg8.view.loc (c : Thread nD τ))}
    (h : Done c i arg2 arg3 arg4 arg5 arg8 arg9 v10 f2 f3 f4 f5 f9 hfit n f8) :
    arg8.view.read (Elt F) f8 = chunkOut c i arg2 arg3 arg4 arg5 arg9 v10 f2 f3 f4 f5 f9 hfit := by
  subst hn
  funext x
  have h' := h (tripOf x) (unitOf x) (by
    have h1 : (x 0).val < 2048 := (x 0).isLt
    show 8 * ((x 0).val / 128) + (x 0).val / 16 % 8 < 128
    omega) (groupOf x) (withinOf x)
  rw [outPlace_of] at h'
  exact h'

/-- The loop: holding what a point works on, it leaves the result at the chunk's function and all else as it was. -/
theorem loop_spec (hS : ∀ w g h, (arg9.access (bufRect i w g h)).set ⊆ S) :
    iprop((arg2.view.loc (c : Thread nD τ) ↦{q2} f2) ∗ (arg3.view.loc (c : Thread nD τ) ↦{q3} f3) ∗
      (arg4.view.loc (c : Thread nD τ) ↦{q4} f4) ∗ (arg5.view.loc (c : Thread nD τ) ↦{q5} f5) ∗
      (∃ f8, (arg8.view.loc (c : Thread nD τ) ↦{fullShare} f8)) ∗ (arg9.view.loc (c : Thread nD τ) ↦[S]{q9} f9))
      ⊢ (wp frame (wpE (defs₀ (F := F)) 𝒱 (c : Thread nD τ) bd) Set.univ
        (Scf.Loop.for k0_t1_loop k0_t1_ok ⟨⟩
          (k0_t1_body (F := F) i arg2 harg2 arg3 harg3 arg4 harg4 arg5 harg5 arg6 harg6 arg7 harg7 arg8 harg8 arg9 harg9 arg10 arg1 v9 v10))
        (fun _ => iprop((arg2.view.loc (c : Thread nD τ) ↦{q2} f2) ∗ (arg3.view.loc (c : Thread nD τ) ↦{q3} f3) ∗
          (arg4.view.loc (c : Thread nD τ) ↦{q4} f4) ∗ (arg5.view.loc (c : Thread nD τ) ↦{q5} f5) ∗
          (∃ f8, (arg8.view.loc (c : Thread nD τ) ↦{fullShare} f8) ∗
            ⌜arg8.view.read (Elt F) f8 = chunkOut c i arg2 arg3 arg4 arg5 arg9 v10 f2 f3 f4 f5 f9 hfit⌝) ∗
          (arg9.view.loc (c : Thread nD τ) ↦[S]{q9} f9))) : sProp (MT nD τ sig Unit (Elt F) ℕ U ℕ)) := by
  iintro ⟨H2, H3, H4, H5, ⟨%f8, H8⟩, H9⟩
  iapply (Scf.wp_for frame (wpE (defs₀ (F := F)) 𝒱 (c : Thread nD τ) bd) Set.univ k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 arg1 v9 v10)
    (fun n _ => loopRes (U := U) c i arg2 arg3 arg4 arg5 arg8 arg9 v10 f2 f3 f4 f5 f9 hfit S q2 q3 q4 q5 q9 (8 * n))
    (by
      intro k acc
      cases acc
      have h := trip_step (U := U) 𝒱 c bd i arg2 harg2 arg3 harg3 arg4 harg4 arg5 harg5 arg6 harg6 arg7 harg7 arg8 harg8 arg9 harg9 arg10 arg1 v9 v10
        f2 f3 f4 f5 f9 hfit S q2 q3 q4 q5 q9 hS k
      dsimp only
      convert h using 1))
  isplitl
  · unfold loopRes
    iframe H2 H3 H4 H5 H9
    iexists f8
    iframe H8
    ipureintro
    intro k u h
    omega
  · iintro %_ H
    unfold loopRes
    icases H with ⟨H2, H3, H4, H5, ⟨%f8, H8, %h8⟩, H9⟩
    iframe H2 H3 H4 H5 H9
    iexists f8
    iframe H8
    ipureintro
    exact Done.all c i arg2 arg3 arg4 arg5 arg8 arg9 v10 f2 f3 f4 f5 f9 hfit
      (show 8 * k0_t1_loop.trips = 128 by rw [trips_eq]) h8

end Cert.Kernel.Hand
-- ==== Proof.Printed.Body.lean ====
/- The kernel's body as three programs in a row: issue the first slot's transfers at the first point, at the first chunk of a
   column group issue the next group's and wait for this group's, and the loop over the chunk's blocks. -/
module

public import proofs.«01_k».proof.Proof.Printed.Slot
public import proofs.«01_k».proof.Proof.Printed.Loop

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

/-- Element `o` of the kernel's two semaphores. -/
abbrev semAt (o : Fin 1 → ℕ) (h : ∀ a, o a + S1.size a ≤ S2.size a) : DmaSem sig :=
  (SemArray.squeeze (SemArray.slice cc0_scratch1 (Rect.unit (s := S2) o S1.size h)) S_ squeezes_S1_S_).sem

theorem semAt_eq (sl : Fin 2) (o : Fin 1 → ℕ) (h) (e : o = ![sl.val]) : semAt o h = semOf sl := by
  subst e
  refine (Fin.ext ?_).trans (show (⟨8 + sl.val, by have := sl.isLt; show _ < 10; omega⟩ : DmaSem sig) = semOf sl from by revert sl; decide)
  show 8 + (S2.rowMajor ((Rect.unit (s := S2) ![sl.val] S1.size h).emb (Shape.reshapeEquiv squeezes_S1_S_.numel_eq fun i => i.elim0))).val = 8 + sl.val
  have h0 : ((Shape.reshapeEquiv squeezes_S1_S_.numel_eq (fun i => i.elim0) : S1.Idx) 0).val < 1 := Fin.isLt _
  rw [Shape.rowMajor_val_one, Rect.emb_apply]
  show 8 + (sl.val + 1 * _) = _
  omega

/-- The transfers issued at the first point. -/
def firstEnds (i : grid0.Coords) (h1 : k0_cond1 i = 1#1) : Ends where
  oy g := k0_off3 i (BitVec.ofNat 32 g.val)
  hy g := k0_off3_inb i h1 g
  ot g := k0_off5 i (BitVec.ofNat 32 g.val)
  ht g := k0_off5_inb i h1 g
  om g := k0_off4 i (BitVec.ofNat 32 g.val)
  hm g := k0_off4_inb i h1 g
  ou g := k0_off6 i (BitVec.ofNat 32 g.val)
  hu g := k0_off6_inb i h1 g
  wy g := (Memref.isWhole_whole _).wordExact_slice rfl _ (k0_off3_wordsfp8e4m3 i h1 g)
  wt g := (Memref.isWhole_whole _).wordExact_slice rfl _ (k0_off5_wordsfp8e4m3 i h1 g)
  wm g := ((Memref.isWhole_whole _).wordExact_slice rfl _ (k0_off4_wordsfp8e4m3 i h1 g)).reshape _ _
  wu g := ((Memref.isWhole_whole _).wordExact_slice rfl _ (k0_off6_wordsfp8e4m3 i h1 g)).reshape _ _

/-- The next column group's transfers. -/
def nextEnds (i : grid0.Coords) (h2 : k0_cond2 i = 1#1) (h3 : k0_cond3 i = 1#1) : Ends where
  oy g := k0_off9 i (BitVec.ofNat 32 g.val)
  hy g := k0_off9_inb i h2 h3 g
  ot g := k0_off11 i (BitVec.ofNat 32 g.val)
  ht g := k0_off11_inb i h2 h3 g
  om g := k0_off10 i (BitVec.ofNat 32 g.val)
  hm g := k0_off10_inb i h2 h3 g
  ou g := k0_off12 i (BitVec.ofNat 32 g.val)
  hu g := k0_off12_inb i h2 h3 g
  wy g := (Memref.isWhole_whole _).wordExact_slice rfl _ (k0_off9_wordsfp8e4m3 i h2 h3 g)
  wt g := (Memref.isWhole_whole _).wordExact_slice rfl _ (k0_off11_wordsfp8e4m3 i h2 h3 g)
  wm g := ((Memref.isWhole_whole _).wordExact_slice rfl _ (k0_off10_wordsfp8e4m3 i h2 h3 g)).reshape _ _
  wu g := ((Memref.isWhole_whole _).wordExact_slice rfl _ (k0_off12_wordsfp8e4m3 i h2 h3 g)).reshape _ _

/-- This column group's transfers, as waited for. -/
def thisEnds (i : grid0.Coords) (h2 : k0_cond2 i = 1#1) : Ends where
  oy g := k0_off15 i (BitVec.ofNat 32 g.val)
  hy g := k0_off15_inb i h2 g
  ot g := k0_off17 i (BitVec.ofNat 32 g.val)
  ht g := k0_off17_inb i h2 g
  om g := k0_off16 i (BitVec.ofNat 32 g.val)
  hm g := k0_off16_inb i h2 g
  ou g := k0_off18 i (BitVec.ofNat 32 g.val)
  hu g := k0_off18_inb i h2 g
  wy g := (Memref.isWhole_whole _).wordExact_slice rfl _ (k0_off15_wordsfp8e4m3 i h2 g)
  wt g := (Memref.isWhole_whole _).wordExact_slice rfl _ (k0_off17_wordsfp8e4m3 i h2 g)
  wm g := ((Memref.isWhole_whole _).wordExact_slice rfl _ (k0_off16_wordsfp8e4m3 i h2 g)).reshape _ _
  wu g := ((Memref.isWhole_whole _).wordExact_slice rfl _ (k0_off18_wordsfp8e4m3 i h2 g)).reshape _ _

/-- What the body does before its loop. -/
def first (i : grid0.Coords) : Prog (TpuEff nD τ sig (Elt F) Λ₀ .tc) PUnit :=
  if h1 : k0_cond1 i = 1#1 then fill (firstEnds i h1) (semAt (k0_off1 i) (k0_off1_inb i h1)) else pure ⟨⟩

def next (i : grid0.Coords) (h2 : k0_cond2 i = 1#1) : Prog (TpuEff nD τ sig (Elt F) Λ₀ .tc) PUnit :=
  if h3 : k0_cond3 i = 1#1 then fill (nextEnds i h2 h3) (semAt (k0_off7 i) (k0_off7_inb i h2 h3)) else pure ⟨⟩

def turn (i : grid0.Coords) : Prog (TpuEff nD τ sig (Elt F) Λ₀ .tc) PUnit :=
  if h2 : k0_cond2 i = 1#1 then next i h2 >>= fun _ => drain (thisEnds i h2) (semAt (k0_off13 i) (k0_off13_inb i h2)) else pure ⟨⟩

/-- The multiplier and the row counter the loop is given. -/
abbrev v9At (i : grid0.Coords) : BitVec 32 := Scalar.muli (Scalar.remsi (BitVec.ofNat 32 (i 0).val) 2#32) 2#32
noncomputable abbrev rowIota : IVec S32x128 32 := iota .tc S32x128 32 [0] iota_S32x128_d0_w32

set_option maxRecDepth 65536 in
theorem combine_eq (i : grid0.Coords) (arg2 : Memref sig .tc .smem S32x384 .i32) (harg2 : arg2.IsWhole)
  (arg3 : Memref sig .tc .vmem S2048x256 .bf16) (harg3 : arg3.IsWhole)
  (arg4 : Memref sig .tc .vmem S3072x256 .i32) (harg4 : arg4.IsWhole) (arg5 : Memref sig .tc .vmem S1x256x256 .f32) (harg5 : arg5.IsWhole)
  (arg8 : Memref sig .tc .vmem S2048x256 .bf16) (harg8 : arg8.IsWhole) :
    cc0_combine (F := F) i arg2 harg2 arg3 harg3 arg4 harg4 arg5 harg5 rowsM (Memref.isWhole_whole _) tailM (Memref.isWhole_whole _)
      arg8 harg8 bufM (Memref.isWhole_whole _) cc0_scratch1
    = (first i >>= fun _ => turn i >>= fun _ => Scf.Loop.for k0_t1_loop k0_t1_ok ⟨⟩
        (k0_t1_body i arg2 harg2 arg3 harg3 arg4 harg4 arg5 harg5 rowsM (Memref.isWhole_whole _) tailM (Memref.isWhole_whole _)
          arg8 harg8 bufM (Memref.isWhole_whole _) cc0_scratch1 (BitVec.ofNat 32 (i 1).val) (v9At i) rowIota)) := by
  rw [cc0_combine_eq_skeleton]
  unfold cc0_combine_skel
  rw [k0_part1_eq_skeleton, k0_part3_eq_skeleton]
  unfold k0_part1_skel k0_part3_skel
  rw [k0_part2_eq_skeleton]
  unfold k0_part2_skel first turn next fill drain
  dsimp only
  by_cases h1 : k0_cond1 i = 1#1 <;> by_cases h2 : k0_cond2 i = 1#1 <;> by_cases h3 : k0_cond3 i = 1#1 <;>
    simp only [h1, h2, h3, dite_true, dite_false, ↓reduceDIte, bind_assoc, pure_bind, bind_pure_unit] <;> rfl

/-! ## The offsets and the conditions -/

/-- The slot of column group `p`. -/
def slotNo (p : Fin 20) : Fin 2 := ⟨p.val % 2, by omega⟩

theorem firstEnds_of (i : grid0.Coords) (h1) : (firstEnds i h1).Of (slotNo (i 0)) (i 0) := by
  intro g
  have a := (by decide : ∀ (p : Fin 20) (g : Fin 2), (Scalar.muli (Scalar.addi (Scalar.muli (BitVec.ofNat 32 p.val) 2#32) (BitVec.ofNat 32 g.val)) 128#32).toNat
    = 256 * p.val + 128 * g.val) (i 0) g
  have b := (by decide : ∀ (p : Fin 20) (g : Fin 2), (Scalar.addi (Scalar.muli (Scalar.remsi (BitVec.ofNat 32 p.val) 2#32) 2#32) (BitVec.ofNat 32 g.val)).toNat
    = 2 * (slotNo p).val + g.val) (i 0) g
  exact ⟨congrArg (fun n => ![0, n]) a, congrArg (fun n => ![0, n]) a, congrArg (fun n => ![n, 0, 0]) b, congrArg (fun n => ![n, 46688, 0]) b⟩

theorem thisEnds_of (i : grid0.Coords) (h2) : (thisEnds i h2).Of (slotNo (i 0)) (i 0) := by
  intro g
  have a := (by decide : ∀ (p : Fin 20) (g : Fin 2), (Scalar.muli (Scalar.addi (Scalar.muli (BitVec.ofNat 32 p.val) 2#32) (BitVec.ofNat 32 g.val)) 128#32).toNat
    = 256 * p.val + 128 * g.val) (i 0) g
  have b := (by decide : ∀ (p : Fin 20) (g : Fin 2), (Scalar.addi (Scalar.muli (Scalar.remsi (BitVec.ofNat 32 p.val) 2#32) 2#32) (BitVec.ofNat 32 g.val)).toNat
    = 2 * (slotNo p).val + g.val) (i 0) g
  exact ⟨congrArg (fun n => ![0, n]) a, congrArg (fun n => ![0, n]) a, congrArg (fun n => ![n, 0, 0]) b, congrArg (fun n => ![n, 46688, 0]) b⟩

theorem nextEnds_of (i : grid0.Coords) (h2 h3) (p' : Fin 20) (hp : p'.val = (i 0).val + 1) : (nextEnds i h2 h3).Of (slotNo p') p' := by
  intro g
  have a := (by decide : ∀ (p : Fin 20) (p' : Fin 20) (g : Fin 2), p'.val = p.val + 1 →
    (Scalar.muli (Scalar.addi (Scalar.muli (Scalar.addi (BitVec.ofNat 32 p.val) 1#32) 2#32) (BitVec.ofNat 32 g.val)) 128#32).toNat
    = 256 * p'.val + 128 * g.val) (i 0) p' g hp
  have b := (by decide : ∀ (p : Fin 20) (p' : Fin 20) (g : Fin 2), p'.val = p.val + 1 →
    (Scalar.addi (Scalar.muli (Scalar.remsi (Scalar.addi (BitVec.ofNat 32 p.val) 1#32) 2#32) 2#32) (BitVec.ofNat 32 g.val)).toNat
    = 2 * (slotNo p').val + g.val) (i 0) p' g hp
  exact ⟨congrArg (fun n => ![0, n]) a, congrArg (fun n => ![0, n]) a, congrArg (fun n => ![n, 0, 0]) b, congrArg (fun n => ![n, 46688, 0]) b⟩

theorem firstSem (i : grid0.Coords) (h1) : semAt (k0_off1 i) (k0_off1_inb i h1) = semOf (slotNo (i 0)) :=
  semAt_eq _ _ _ (congrArg (fun n => ![n]) ((by decide : ∀ (p : Fin 20), (Scalar.remsi (BitVec.ofNat 32 p.val) 2#32).toNat = (slotNo p).val) (i 0)))
theorem thisSem (i : grid0.Coords) (h2) : semAt (k0_off13 i) (k0_off13_inb i h2) = semOf (slotNo (i 0)) :=
  semAt_eq _ _ _ (congrArg (fun n => ![n]) ((by decide : ∀ (p : Fin 20), (Scalar.remsi (BitVec.ofNat 32 p.val) 2#32).toNat = (slotNo p).val) (i 0)))
theorem nextSem (i : grid0.Coords) (h2 h3) (p' : Fin 20) (hp : p'.val = (i 0).val + 1) :
    semAt (k0_off7 i) (k0_off7_inb i h2 h3) = semOf (slotNo p') :=
  semAt_eq _ _ _ (congrArg (fun n => ![n]) ((by decide : ∀ (p p' : Fin 20), p'.val = p.val + 1 →
    (Scalar.remsi (Scalar.addi (BitVec.ofNat 32 p.val) 1#32) 2#32).toNat = (slotNo p').val) (i 0) p' hp))

theorem cond1_iff (i : grid0.Coords) : k0_cond1 i = 1#1 ↔ (i 0).val = 0 ∧ (i 1).val = 0 :=
  (by decide : ∀ (p : Fin 20) (s : Fin 3), Scalar.cmpi .ne (Scalar.extui (Scalar.andi (Scalar.cmpi .eq (BitVec.ofNat 32 p.val) 0#32)
    (Scalar.cmpi .eq (BitVec.ofNat 32 s.val) 0#32)) : BitVec 32) 0#32 = 1#1 ↔ p.val = 0 ∧ s.val = 0) (i 0) (i 1)
theorem cond2_iff (i : grid0.Coords) : k0_cond2 i = 1#1 ↔ (i 1).val = 0 :=
  (by decide : ∀ (s : Fin 3), Scalar.cmpi .ne (Scalar.extui (Scalar.cmpi .eq (BitVec.ofNat 32 s.val) 0#32) : BitVec 32) 0#32 = 1#1 ↔ s.val = 0) (i 1)
theorem cond3_iff (i : grid0.Coords) : k0_cond3 i = 1#1 ↔ (i 0).val + 1 < 20 :=
  (by decide : ∀ (p : Fin 20), Scalar.cmpi .ne (Scalar.extui (Scalar.cmpi .slt (Scalar.addi (BitVec.ofNat 32 p.val) 1#32) 20#32) : BitVec 32) 0#32 = 1#1
    ↔ p.val + 1 < 20) (i 0)

/-- The loop reads only this column group's slot. -/
theorem bufRect_sub (i : grid0.Coords) (w : BitVec 32) (g : Fin 2) (h) :
    (bufM.access (bufRect i w g h)).set ⊆ slotPart (slotNo (i 0)) := by
  intro x hx
  have hx' : x ∈ (bufRect i w g h).set := by
    have hs : (bufM.access (bufRect i w g h)).set = (bufRect i w g h).set := View.set_slice_whole _ _
    rw [← hs]; exact hx
  have hm := (Rect.mem_set_unit.mp hx') 0
  have b := (by decide : ∀ (p : Fin 20) (g : Fin 2), (Scalar.indexCast (Scalar.addi (Scalar.muli (Scalar.remsi (BitVec.ofNat 32 p.val) 2#32) 2#32) (BitVec.ofNat 32 g.val))).toNat
    = 2 * (slotNo p).val + g.val) (i 0) g
  have a0 : (Scalar.indexCast (Scalar.addi (Scalar.muli (Scalar.remsi (BitVec.ofNat 32 (i 0).val) 2#32) 2#32) (BitVec.ofNat 32 g.val))).toNat ≤ (x 0).val
    ∧ (x 0).val < (Scalar.indexCast (Scalar.addi (Scalar.muli (Scalar.remsi (BitVec.ofNat 32 (i 0).val) 2#32) 2#32) (BitVec.ofNat 32 g.val))).toNat + 1 := hm
  have hg := g.isLt
  rw [b] at a0
  exact Finset.mem_filter.mpr ⟨Finset.mem_univ _, by omega⟩

end Cert.Kernel.Hand
-- ==== Proof.Printed.Grid.lean ====
/- What the row buffer's two slots hold from one grid point to the next, and what the body does to them before its loop. -/
module

public import proofs.«01_k».proof.Proof.Printed.Body

@[expose] public section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (𝒱 : Variants) (c : Dev nD) (bd : Option 𝒱.V)
variable (fy : S46695x5120.Idx → Elt F .fp8e4m3) (ft : S96x5120.Idx → Elt F .fp8e4m3)

/-- The slot the column group after `p` is copied to. -/
def otherNo (p : Fin 20) : Fin 2 := ⟨(p.val + 1) % 2, by omega⟩

/-- The other slot once column group `p` is in its own: the next group on its way, if there is one. -/
noncomputable def ahead (p : Fin 20) : sProp 𝕄 :=
  if h : p.val + 1 < 20 then inflight c fy ft (otherNo p) ⟨p.val + 1, h⟩ else free c fy ft (otherNo p)

/-- The two slots before point `n`, column group `n / 3` and chunk `n % 3`. -/
noncomputable def held (n : ℕ) : sProp 𝕄 :=
  if h : n < 60 then
    have hp : n / 3 < 20 := by omega
    if n = 0 then iprop(free c fy ft (slotNo ⟨n / 3, hp⟩) ∗ free c fy ft (otherNo ⟨n / 3, hp⟩))
    else if n % 3 = 0 then iprop(inflight c fy ft (slotNo ⟨n / 3, hp⟩) ⟨n / 3, hp⟩ ∗ free c fy ft (otherNo ⟨n / 3, hp⟩))
    else iprop(ready c fy ft (slotNo ⟨n / 3, hp⟩) ⟨n / 3, hp⟩ ∗ ahead c fy ft ⟨n / 3, hp⟩)
  else iprop(free c fy ft 0 ∗ free c fy ft 1)

theorem next_spec (i : grid0.Coords) (h2 : k0_cond2 i = 1#1) {α : Type}
    (K : PUnit → Prog (TpuEff nD τ sig (Elt F) Λ₀ .tc) α) (Q : α → sProp 𝕄) :
    iprop(free c fy ft (otherNo (i 0)) ∗ (ahead c fy ft (i 0) -∗ wp frame (wpE (defs₀ (F := F)) 𝒱 (c : Thread nD τ) bd) Set.univ (K ⟨⟩) Q))
    ⊢ wp frame (wpE (defs₀ (F := F)) 𝒱 (c : Thread nD τ) bd) Set.univ (next i h2 >>= K) Q := by
  unfold next ahead
  by_cases h3 : k0_cond3 i = 1#1
  · have hp := (cond3_iff i).mp h3
    rw [dif_pos h3, dif_pos hp, nextSem i h2 h3 ⟨(i 0).val + 1, hp⟩ rfl]
    exact fill_spec 𝒱 c bd fy ft _ _ _ (nextEnds_of i h2 h3 ⟨(i 0).val + 1, hp⟩ rfl) K Q
  · have hp : ¬ (i 0).val + 1 < 20 := fun h => h3 ((cond3_iff i).mpr h)
    rw [dif_neg h3, dif_neg hp, pure_bind]
    iintro ⟨H, HK⟩
    iapply HK $$ H

theorem turn_pos (i : grid0.Coords) (h2 : k0_cond2 i = 1#1) :
    turn (F := F) i = (next i h2 >>= fun _ => drain (thisEnds i h2) (semOf (slotNo (i 0)))) := by
  unfold turn; rw [dif_pos h2, thisSem i h2]
theorem turn_neg (i : grid0.Coords) (h2 : ¬ k0_cond2 i = 1#1) : turn (F := F) i = pure ⟨⟩ := by unfold turn; rw [dif_neg h2]
theorem first_pos (i : grid0.Coords) (h1 : k0_cond1 i = 1#1) : first (F := F) i = fill (firstEnds i h1) (semOf (slotNo (i 0))) := by
  unfold first; rw [dif_pos h1, firstSem i h1]
theorem first_neg (i : grid0.Coords) (h1 : ¬ k0_cond1 i = 1#1) : first (F := F) i = pure ⟨⟩ := by unfold first; rw [dif_neg h1]

/-- The next group's transfers issued, and this group's waited for. -/
theorem turn_spec (i : grid0.Coords) (h2 : k0_cond2 i = 1#1) (W : Waits sig Unit) {α : Type}
    (K : PUnit → Prog (TpuEff nD τ sig (Elt F) Λ₀ .tc) α) (Q : α → sProp 𝕄) :
    iprop(inflight c fy ft (slotNo (i 0)) (i 0) ∗ free c fy ft (otherNo (i 0)) ∗ owes (c : Thread nD τ) 0 W
      ∗ (ready c fy ft (slotNo (i 0)) (i 0) -∗ ahead c fy ft (i 0) -∗ (∃ W', owes (c : Thread nD τ) 0 W')
          -∗ wp frame (wpE (defs₀ (F := F)) 𝒱 (c : Thread nD τ) bd) Set.univ (K ⟨⟩) Q))
    ⊢ wp frame (wpE (defs₀ (F := F)) 𝒱 (c : Thread nD τ) bd) Set.univ (turn i >>= K) Q := by
  rw [turn_pos i h2, bind_assoc]
  iintro ⟨HA, HB, HO, HK⟩
  iapply (next_spec 𝒱 c bd fy ft i h2 (fun _ => drain (thisEnds i h2) (semOf (slotNo (i 0))) >>= K) Q)
  iframe HB
  iintro HB
  iapply (drain_spec 𝒱 c bd fy ft (thisEnds i h2) (slotNo (i 0)) (i 0) W K Q)
  iframe HA HO
  iintro HA HO
  iapply HK $$ HA HB HO

/-- THE SLOTS before a point's loop: this column group's slot holds it, and the next is on its way to the other. -/
theorem before_spec (i : grid0.Coords) (n : ℕ) (hn : n < 60) (hp : (i 0).val = n / 3) (hs : (i 1).val = n % 3) (W : Waits sig Unit) {α : Type}
    (K : PUnit → Prog (TpuEff nD τ sig (Elt F) Λ₀ .tc) α) (Q : α → sProp 𝕄) :
    iprop(held c fy ft n ∗ owes (c : Thread nD τ) 0 W
      ∗ (ready c fy ft (slotNo (i 0)) (i 0) -∗ ahead c fy ft (i 0) -∗ (∃ W', owes (c : Thread nD τ) 0 W')
          -∗ wp frame (wpE (defs₀ (F := F)) 𝒱 (c : Thread nD τ) bd) Set.univ (K ⟨⟩) Q))
    ⊢ wp frame (wpE (defs₀ (F := F)) 𝒱 (c : Thread nD τ) bd) Set.univ (first i >>= fun _ => turn i >>= K) Q := by
  have hi : (⟨n / 3, by omega⟩ : Fin 20) = i 0 := Fin.ext hp.symm
  unfold held
  simp only [dif_pos hn, hi]
  by_cases h2 : k0_cond2 i = 1#1
  · have hm : n % 3 = 0 := by rw [← hs]; exact (cond2_iff i).mp h2
    by_cases h1 : k0_cond1 i = 1#1
    · have h0 : n = 0 := by have := (cond1_iff i).mp h1; omega
      rw [if_pos h0, first_pos i h1]
      iintro ⟨⟨HA, HB⟩, HO, HK⟩
      iapply (fill_spec 𝒱 c bd fy ft (firstEnds i h1) (slotNo (i 0)) (i 0) (firstEnds_of i h1) (fun _ => turn i >>= K) Q)
      iframe HA
      iintro HA
      iapply (turn_spec 𝒱 c bd fy ft i h2 W K Q)
      iframe HA HB HO
      iexact HK
    · have h0 : n ≠ 0 := fun h => h1 ((cond1_iff i).mpr (by omega))
      rw [if_neg h0, if_pos hm, first_neg i h1, pure_bind]
      iintro ⟨⟨HA, HB⟩, HO, HK⟩
      iapply (turn_spec 𝒱 c bd fy ft i h2 W K Q)
      iframe HA HB HO
      iexact HK
  · have hm : n % 3 ≠ 0 := by rw [← hs]; exact fun h => h2 ((cond2_iff i).mpr h)
    have h1 : ¬ k0_cond1 i = 1#1 := fun h => h2 ((cond2_iff i).mpr ((cond1_iff i).mp h).2)
    rw [if_neg (by omega), if_neg hm, first_neg i h1, turn_neg i h2, pure_bind, pure_bind]
    iintro ⟨⟨HA, HB⟩, HO, HK⟩
    iapply HK $$ HA HB [HO]
    iexists _; iexact HO

/-- and after it. -/
theorem after_held (p : Fin 20) (n : ℕ) (hn : n < 60) (hp : p.val = n / 3) :
    iprop(ready c fy ft (slotNo p) p ∗ ahead c fy ft p) ⊢ held c fy ft (n + 1) := by
  unfold held
  by_cases hm : n % 3 = 2
  · by_cases hl : n + 1 < 60
    · have hq : p.val + 1 < 20 := by omega
      have hi : (⟨(n + 1) / 3, by omega⟩ : Fin 20) = ⟨p.val + 1, hq⟩ := Fin.ext (by show (n + 1) / 3 = p.val + 1; omega)
      simp only [dif_pos hl, hi]
      rw [if_neg (by omega), if_pos (by omega)]
      unfold ahead
      rw [dif_pos hq, show slotNo ⟨p.val + 1, hq⟩ = otherNo p from rfl,
        show otherNo ⟨p.val + 1, hq⟩ = slotNo p from Fin.ext (by show (p.val + 1 + 1) % 2 = p.val % 2; omega)]
      iintro ⟨HA, HB⟩
      iframe HB
      iapply (ready_free c fy ft) $$ HA
    · have hq : ¬ p.val + 1 < 20 := by omega
      rw [dif_neg hl]
      unfold ahead
      rw [dif_neg hq, show slotNo p = 1 from Fin.ext (by show p.val % 2 = 1; omega), show otherNo p = 0 from Fin.ext (by show (p.val + 1) % 2 = 0; omega)]
      iintro ⟨HA, HB⟩
      iframe HB
      iapply (ready_free c fy ft) $$ HA
  · have hl : n + 1 < 60 := by omega
    have hi : (⟨(n + 1) / 3, by omega⟩ : Fin 20) = p := Fin.ext (by show (n + 1) / 3 = p.val; omega)
    simp only [dif_pos hl, hi]
    rw [if_neg (by omega), if_neg (by omega)]

/-! ## The slots from the whole buffer, and back -/

theorem slots_disjoint : Disjoint (slotPart 0) (slotPart 1) := by
  rw [Finset.disjoint_left]; intro x
  simp only [slotPart, Finset.mem_filter, Finset.mem_univ, true_and, Fin.val_zero, Fin.val_one]; omega
theorem slots_univ : slotPart 0 ∪ slotPart 1 = Finset.univ := by
  ext x
  have h0 : (x 0).val < 4 := (x 0).isLt
  simp only [slotPart, Finset.mem_union, Finset.mem_filter, Finset.mem_univ, true_and, Fin.val_zero, Fin.val_one, iff_true]
  omega

theorem buf_split : (iprop(∃ f, locB c ↦{fullShare} f) : sProp 𝕄) ⊢
    iprop((∃ f, locB c ↦[slotPart 0]{fullShare} f) ∗ (∃ f, locB c ↦[slotPart 1]{fullShare} f)) := by
  iintro ⟨%f, H⟩
  ihave H := (BIBase.Entails.of_eq (show (locB c ↦{fullShare} f : sProp 𝕄) = (locB c ↦[slotPart 0 ∪ slotPart 1]{fullShare} f) by rw [slots_univ])) $$ H
  ihave H := (pointsTo_union (ℓ := locB c) slots_disjoint).mp $$ H
  icases H with ⟨HA, HB⟩
  isplitl [HA]
  · iexists _; iexact HA
  · iexists _; iexact HB

theorem buf_join : (iprop((∃ f, locB c ↦[slotPart 0]{fullShare} f) ∗ (∃ f, locB c ↦[slotPart 1]{fullShare} f)) : sProp 𝕄) ⊢
    iprop(∃ f, locB c ↦{fullShare} f) := by
  classical
  iintro ⟨⟨%f, HA⟩, ⟨%g, HB⟩⟩
  iexists (fun x => if x ∈ slotPart 0 then f x else g x)
  rw [show (locB c ↦{fullShare} (fun x => if x ∈ slotPart 0 then f x else g x) : sProp 𝕄)
    = (locB c ↦[slotPart 0 ∪ slotPart 1]{fullShare} (fun x => if x ∈ slotPart 0 then f x else g x)) by rw [slots_univ]]
  iapply (pointsTo_union (ℓ := locB c) slots_disjoint).mpr
  rw [pointsTo_congr (ℓ := locB c) (I := slotPart 0) (f := fun x => if x ∈ slotPart 0 then f x else g x) (g := f) (fun x hx => if_pos hx),
    pointsTo_congr (ℓ := locB c) (I := slotPart 1) (f := fun x => if x ∈ slotPart 0 then f x else g x) (g := g)
      (fun x hx => if_neg (Finset.disjoint_right.mp slots_disjoint hx))]
  iframe HA
  iexact HB

theorem share_four (ℓ : Loc nD τ sig) (f : Buf (Elt F) ℓ) : (ℓ ↦{fullShare} f : sProp 𝕄) ⊣⊢
    iprop(((ℓ ↦{quarter 0 0} f) ∗ (ℓ ↦{quarter 0 1} f)) ∗ ((ℓ ↦{quarter 1 0} f) ∗ (ℓ ↦{quarter 1 1} f))) :=
  (pointsTo_share (PosShare.mem_left_op_right fullShare)).trans
    (sep_congr (pointsTo_share (PosShare.mem_left_op_right fullShare.left)) (pointsTo_share (PosShare.mem_left_op_right fullShare.right)))

/-- Everything the two slots are made of. -/
noncomputable def pool : sProp 𝕄 :=
  iprop((∃ f, locB c ↦{fullShare} f) ∗ (semVal ((c : Thread nD τ), SemLoc.dma 8) 0 ∗ semVal ((c : Thread nD τ), SemLoc.dma 9) 0)
    ∗ (locY c ↦{fullShare} fy) ∗ (locT c ↦{fullShare} ft))

theorem pool_free : pool c fy ft ⊢ iprop(free c fy ft 0 ∗ free c fy ft 1) := by
  unfold pool free quarters
  iintro ⟨HB, ⟨S0, S1⟩, HY, HT⟩
  ihave HB := (buf_split c) $$ HB
  icases HB with ⟨B0, B1⟩
  ihave HY := (share_four (locY c) fy).mp $$ HY
  icases HY with ⟨⟨Y0, Y1⟩, ⟨Y2, Y3⟩⟩
  ihave HT := (share_four (locT c) ft).mp $$ HT
  icases HT with ⟨⟨T0, T1⟩, ⟨T2, T3⟩⟩
  isplitl [B0 S0 Y0 T0 Y1 T1]
  · iframe B0 Y0 T0 Y1 T1; iexact S0
  · iframe B1 Y2 T2 Y3 T3; iexact S1

theorem free_pool : iprop(free c fy ft 0 ∗ free c fy ft 1) ⊢ pool c fy ft := by
  unfold pool free quarters
  iintro ⟨⟨B0, S0, Y0, T0, Y1, T1⟩, ⟨B1, S1, Y2, T2, Y3, T3⟩⟩
  isplitl [B0 B1]
  · iapply (buf_join c); iframe B0; iexact B1
  isplitl [S0 S1]
  · isplitl [S0]
    · iexact S0
    · iexact S1
  isplitl [Y0 Y1 Y2 Y3]
  · iapply (share_four (locY c) fy).mpr
    iframe Y0 Y1 Y2; iexact Y3
  · iapply (share_four (locT c) ft).mpr
    iframe T0 T1 T2; iexact T3

theorem held_start : pool c fy ft ⊢ held c fy ft 0 := pool_free c fy ft
theorem held_end : held c fy ft 60 ⊢ pool c fy ft := free_pool c fy ft

end Cert.Kernel.Hand
-- ==== Proof.Printed.Frame.lean ====
/- The frame: the program terminates, nothing faults, its argument arrays end unchanged and every semaphore ends at zero;
   and what each point leaves in its window of the result. -/
module

public import proofs.«01_k».proof.Proof.Printed.Grid
public import proofs.«01_k».proof.Proof.Gen.Kernel.Frame

@[expose] public section

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The frame from a run of the pipeline that ends with every semaphore at zero. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats 0 c).arrAt_in 0 rfl _).trans (hA c 0)),
      ((h.1 c).1 1).trans (((dats 0 c).arrAt_in 1 rfl _).trans (hA c 1)),
      ((h.1 c).1 2).trans (((dats 0 c).arrAt_in 2 rfl _).trans (hA c 2)),
      ((h.1 c).1 3).trans (((dats 0 c).arrAt_in 3 rfl _).trans (hA c 3)),
      (h.1 c).2 main_arg4 (Pipeline.mem_restRefs_of main_arg4 (by decide) (by decide)),
      (h.1 c).2 main_arg5 (Pipeline.mem_restRefs_of main_arg5 (by decide) (by decide))⟩, h.2⟩) h

/-! ## The body's own buffers and semaphores -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((locY c ↦{fullShare} V m c main_arg4) ∗ (locT c ↦{fullShare} V m c main_arg5)) := by
  rw [BI.bigSep_eq_bigSepL_of_eq [main_arg4, main_arg5] (by decide) (by decide)]; rfl

/-- The expert rows and the tail as the program finds them. -/
abbrev rowsOf (c : Dev nD) : S46695x5120.Idx → Elt F .fp8e4m3 := V m c main_arg4
abbrev tailOf (c : Dev nD) : S96x5120.Idx → Elt F .fp8e4m3 := V m c main_arg5

/-- The region's own share is the pool the two slots are made of, and the generator register. -/
theorem PhiD_eq (c : Dev nD) :
    (Pipeline.ΦD osem0 spec0 H0 (V m) c : sProp 𝕄) ⊣⊢ iprop(pool c (rowsOf m c) (tailOf m c) ∗ ∃ r, prngReg c r) := by
  rw [Pipeline.ΦD_eq, scopedRest0_eq, ownSems00_eq, hbmPts0_eq]
  unfold pool
  constructor
  · iintro ⟨HB, HR, HS, HY, HT⟩
    iframe HR HB HS HY; iexact HT
  · iintro ⟨⟨HB, HS, HY, HT⟩, HR⟩
    iframe HR HB HS HY; iexact HT

/-! ## The proof data -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)

/-- What the windows' buffers hold at a point: the point's blocks. -/
abbrev buf0 (c : Dev nD) (t : Fin cfg0.N) : Buf (Elt F) ((st0_0 t).view.loc (c : Thread nD τ)) := (hst0 t).unread (iblk m c 0 t)
abbrev buf1 (c : Dev nD) (t : Fin cfg0.N) : Buf (Elt F) ((st0_1 t).view.loc (c : Thread nD τ)) := (hst1 t).unread (iblk m c 1 t)
abbrev buf2 (c : Dev nD) (t : Fin cfg0.N) : Buf (Elt F) ((st0_2 t).view.loc (c : Thread nD τ)) := (hst2 t).unread (iblk m c 2 t)
abbrev buf3 (c : Dev nD) (t : Fin cfg0.N) : Buf (Elt F) ((st0_3 t).view.loc (c : Thread nD τ)) := (hst3 t).unread (iblk m c 3 t)

/-- Every row number the table holds names rows the buffer has. -/
abbrev Fit (c : Dev nD) : Prop := ∀ t : Fin cfg0.N, AllFit c (grid0.coords t) (st0_0 t) (buf0 m c t)

theorem coords_val (t : Fin cfg0.N) : (grid0.coords t 0).val = t.val / 3 ∧ (grid0.coords t 1).val = t.val % 3 := by
  revert t; decide +kernel

theorem lt60 (t : Fin cfg0.N) : t.val < 60 := t.isLt.trans_eq N_0

variable (hfit : ∀ c : Dev nD, Fit m c)

/-- What a point leaves in the result's window. -/
def outAt (c : Dev nD) (t : Fin cfg0.N) : S2048x256.Idx → Elt F .bf16 :=
  chunkOut c (grid0.coords t) (st0_0 t) (st0_1 t) (st0_2 t) (st0_3 t) bufM rowIota (buf0 m c t) (buf1 m c t) (buf2 m c t) (buf3 m c t)
    (filled (rowsOf m c) (tailOf m c) (grid0.coords t 0)) (hfit c t)

/-- The proof data of the pipeline: the input windows keep their blocks, the result's window holds `outAt`, and between
    points the core holds the two slots as `held` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hfit c t
  Φ t := iprop(held c (rowsOf m c) (tailOf m c) t.val ∗ ∃ r, prngReg c r)
  q _ := fullShare
  owed _ := 0

theorem A_eq (c : Dev nD) (w : Fin cfg0.W) : (dats m hfit 0 c).A w = V m c (Pipeline.arrRef spec0 w) := by dsimp only [dats]
theorem after0_0 (c : Dev nD) (t : Fin cfg0.N) : (dats m hfit 0 c).after 0 t = iblk m c 0 t := by dsimp only [dats]
theorem after0_1 (c : Dev nD) (t : Fin cfg0.N) : (dats m hfit 0 c).after 1 t = iblk m c 1 t := by dsimp only [dats]
theorem after0_2 (c : Dev nD) (t : Fin cfg0.N) : (dats m hfit 0 c).after 2 t = iblk m c 2 t := by dsimp only [dats]
theorem after0_3 (c : Dev nD) (t : Fin cfg0.N) : (dats m hfit 0 c).after 3 t = iblk m c 3 t := by dsimp only [dats]
theorem after0_4 (c : Dev nD) (t : Fin cfg0.N) : (dats m hfit 0 c).after 4 t = outAt m hfit c t := by dsimp only [dats]

theorem before0_0 (c : Dev nD) (t : Fin cfg0.N) (d) : (dats m hfit 0 c).before 0 t d = iblk m c 0 t :=
  ((dats m hfit 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m hfit 0 c).before 1 t d = iblk m c 1 t :=
  ((dats m hfit 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m hfit 0 c).before 2 t d = iblk m c 2 t :=
  ((dats m hfit 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m hfit 0 c).before 3 t d = iblk m c 3 t :=
  ((dats m hfit 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

def bodyPre (c : Dev nD) (t : Fin cfg0.N) : sProp 𝕄 :=
  iprop((dats m hfit 0 c).Φ t.castSucc ∗ (dats m hfit 0 c).owesAt () t.castSucc
    ∗ (∃ d, owns (c : Thread nD τ) (st0_0 t) fullShare ((dats m hfit 0 c).before 0 t d))
    ∗ (∃ d, owns (c : Thread nD τ) (st0_1 t) fullShare ((dats m hfit 0 c).before 1 t d))
    ∗ (∃ d, owns (c : Thread nD τ) (st0_2 t) fullShare ((dats m hfit 0 c).before 2 t d))
    ∗ (∃ d, owns (c : Thread nD τ) (st0_3 t) fullShare ((dats m hfit 0 c).before 3 t d))
    ∗ (∃ d, owns (c : Thread nD τ) (st0_4 t) fullShare ((dats m hfit 0 c).before 4 t d)))
def bodyPost (c : Dev nD) (t : Fin cfg0.N) : sProp 𝕄 :=
  iprop((dats m hfit 0 c).Φ t.succ ∗ (dats m hfit 0 c).owesAt () t.succ
    ∗ owns (c : Thread nD τ) (st0_0 t) fullShare ((dats m hfit 0 c).after 0 t)
    ∗ owns (c : Thread nD τ) (st0_1 t) fullShare ((dats m hfit 0 c).after 1 t)
    ∗ owns (c : Thread nD τ) (st0_2 t) fullShare ((dats m hfit 0 c).after 2 t)
    ∗ owns (c : Thread nD τ) (st0_3 t) fullShare ((dats m hfit 0 c).after 3 t)
    ∗ owns (c : Thread nD τ) (st0_4 t) fullShare ((dats m hfit 0 c).after 4 t))

theorem owns_open {sp : Space} {s : Shape} {e : EltTy} (M : Memref sig .tc sp s e) (h : M.IsWhole) (c : Dev nD) (X : s.Idx → Elt F e) :
    (owns (c : Thread nD τ) M fullShare X : sProp 𝕄) ⊢ (M.view.loc (c : Thread nD τ) ↦{fullShare} h.unread X) := by
  unfold owns
  iintro ⟨%f, %hf, H⟩
  rw [h.set_eq_univ, ← h.eq_unread hf]
  iexact H

theorem owns_close {sp : Space} {s : Shape} {e : EltTy} (M : Memref sig .tc sp s e) (h : M.IsWhole) (c : Dev nD) (X : s.Idx → Elt F e)
    (f : Buf (Elt F) (M.view.loc (c : Thread nD τ))) (hf : M.view.read (Elt F) f = X) :
    (M.view.loc (c : Thread nD τ) ↦{fullShare} f : sProp 𝕄) ⊢ owns (c : Thread nD τ) M fullShare X := by
  unfold owns
  iintro H
  iexists f
  isplitr
  · ipureintro; exact hf
  rw [h.set_eq_univ]
  iexact H

/-- The loop of a point, on whole windows. -/
theorem loop_at (c : Dev nD) (t : Fin cfg0.N) (q9 : PosShare TreeShare) :
    iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ (∃ X, owns (c : Thread nD τ) (st0_4 t) fullShare X)
      ∗ (bufM.view.loc (c : Thread nD τ) ↦[slotPart (slotNo (grid0.coords t 0))]{q9} filled (rowsOf m c) (tailOf m c) (grid0.coords t 0)))
    ⊢ (wp frame (wpE (defs₀ (F := F)) Variants.none (c : Thread nD τ) none) Set.univ
        (Scf.Loop.for k0_t1_loop k0_t1_ok ⟨⟩
          (k0_t1_body (grid0.coords t) (st0_0 t) (hst0 t) (st0_1 t) (hst1 t) (st0_2 t) (hst2 t) (st0_3 t) (hst3 t)
            rowsM (Memref.isWhole_whole _) tailM (Memref.isWhole_whole _)
            (st0_4 t) (hst4 t) bufM (Memref.isWhole_whole _) cc0_scratch1 (BitVec.ofNat 32 (grid0.coords t 1).val) (v9At (grid0.coords t)) rowIota))
        (fun _ => iprop(owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (outAt m hfit c t)
          ∗ (bufM.view.loc (c : Thread nD τ) ↦[slotPart (slotNo (grid0.coords t 0))]{q9} filled (rowsOf m c) (tailOf m c) (grid0.coords t 0)))) : sProp 𝕄) := by
  have hl := loop_spec (F := F) (U := Pipeline.UD sig nD τ) Variants.none c none (grid0.coords t) (st0_0 t) (hst0 t) (st0_1 t) (hst1 t) (st0_2 t) (hst2 t) (st0_3 t) (hst3 t)
            rowsM (Memref.isWhole_whole _) tailM (Memref.isWhole_whole _)
            (st0_4 t) (hst4 t) bufM (Memref.isWhole_whole _) cc0_scratch1 (BitVec.ofNat 32 (grid0.coords t 1).val) (v9At (grid0.coords t)) rowIota
            (buf0 m c t) (buf1 m c t) (buf2 m c t) (buf3 m c t) (filled (rowsOf m c) (tailOf m c) (grid0.coords t 0)) (hfit c t)
            (slotPart (slotNo (grid0.coords t 0))) fullShare fullShare fullShare fullShare q9 (bufRect_sub (grid0.coords t))
  refine BIBase.Entails.trans ?_ (hl.trans (wp_mono _ _ _ fun _ => ?_))
  · iintro ⟨H0, H1, H2, H3, ⟨%X, H4⟩, H5⟩
    isplitl [H0]; · iapply (owns_open (F := F) _ (hst0 t) c _); iexact H0
    isplitl [H1]; · iapply (owns_open (F := F) _ (hst1 t) c _); iexact H1
    isplitl [H2]; · iapply (owns_open (F := F) _ (hst2 t) c _); iexact H2
    isplitl [H3]; · iapply (owns_open (F := F) _ (hst3 t) c _); iexact H3
    isplitl [H4]; · iexists _; iapply (owns_open (F := F) _ (hst4 t) c X); iexact H4
    iexact H5
  · iintro ⟨H0, H1, H2, H3, ⟨%f8, H4, %h8⟩, H5⟩
    isplitl [H0]; · iapply (owns_close (F := F) _ (hst0 t) c _ _ ((hst0 t).read_unread _)); iexact H0
    isplitl [H1]; · iapply (owns_close (F := F) _ (hst1 t) c _ _ ((hst1 t).read_unread _)); iexact H1
    isplitl [H2]; · iapply (owns_close (F := F) _ (hst2 t) c _ _ ((hst2 t).read_unread _)); iexact H2
    isplitl [H3]; · iapply (owns_close (F := F) _ (hst3 t) c _ _ ((hst3 t).read_unread _)); iexact H3
    isplitl [H4]; · iapply (owns_close (F := F) _ (hst4 t) c _ f8 h8); iexact H4
    iexact H5

theorem body_at_eq (t : Fin cfg0.N) :
    (bodyAt0 (F := F) t) = (first (grid0.coords t) >>= fun _ => turn (grid0.coords t) >>= fun _ => Scf.Loop.for k0_t1_loop k0_t1_ok ⟨⟩
        (k0_t1_body (grid0.coords t) (st0_0 t) (hst0 t) (st0_1 t) (hst1 t) (st0_2 t) (hst2 t) (st0_3 t) (hst3 t)
          rowsM (Memref.isWhole_whole _) tailM (Memref.isWhole_whole _)
          (st0_4 t) (hst4 t) bufM (Memref.isWhole_whole _) cc0_scratch1 (BitVec.ofNat 32 (grid0.coords t 1).val) (v9At (grid0.coords t)) rowIota)) :=
  combine_eq (grid0.coords t) (st0_0 t) (hst0 t) (st0_1 t) (hst1 t) (st0_2 t) (hst2 t) (st0_3 t) (hst3 t) (st0_4 t) (hst4 t)

theorem sound_body (c : Dev nD) (t : Fin cfg0.N) :
    bodyPre m hfit c t ⊢ wp frame (wpE (defs₀ (F := F)) Variants.none c none) Set.univ (bodyAt0 t) (fun _ => bodyPost m hfit c t) := by
  rw [body_at_eq]
  unfold bodyPre bodyPost
  rw [show (dats m hfit 0 c).Φ t.succ = iprop(held c (rowsOf m c) (tailOf m c) (t.val + 1) ∗ ∃ r, prngReg c r) from rfl,
    show (dats m hfit 0 c).Φ t.castSucc = iprop(held c (rowsOf m c) (tailOf m c) t.val ∗ ∃ r, prngReg c r) from rfl,
    after0_0, after0_1, after0_2, after0_3, after0_4]
  simp only [before0_0, before0_1, before0_2, before0_3]
  unfold Dat.owesAt Pipeline.owesWithin
  rw [show (dats m hfit 0 c).owed t.castSucc = 0 from rfl, show (dats m hfit 0 c).owed t.succ = 0 from rfl]
  iintro ⟨⟨HH, HR⟩, ⟨%W, -, HW⟩, ⟨%d0, H0⟩, ⟨%d1, H1⟩, ⟨%d2, H2⟩, ⟨%d3, H3⟩, ⟨%d4, H4⟩⟩
  iapply (before_spec (F := F) Variants.none c none (rowsOf m c) (tailOf m c) (grid0.coords t) t.val (lt60 t) (coords_val t).1 (coords_val t).2 W _ _)
  isplitl [HH]; · iexact HH
  isplitl [HW]; · iexact HW
  unfold ready
  iintro ⟨HB, HS⟩ HA ⟨%W', HW'⟩
  iapply (wp_wand_r _ _ _)
  isplitl [H0 H1 H2 H3 H4 HB]
  · iapply (loop_at m hfit c t fullShare)
    isplitl [H0]; · iexact H0
    isplitl [H1]; · iexact H1
    isplitl [H2]; · iexact H2
    isplitl [H3]; · iexact H3
    isplitl [H4]; · iexists _; iexact H4
    iexact HB
  iintro %u ⟨H0, H1, H2, H3, H4, HB⟩
  isplitl [HR HB HS HA]
  · isplitr [HR]
    · iapply (after_held (F := F) c (rowsOf m c) (tailOf m c) (grid0.coords t 0) t.val (lt60 t) (coords_val t).1)
      unfold ready
      isplitr [HA]
      · isplitl [HB]; · iexact HB
        iexact HS
      iexact HA
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hfit 0 c) (defs₀ (F := F)) Variants.none () Set.univ := fun t => by
  rw [bigSep_W0, bigSep_W0, defs₀_row]
  exact triple_restated (sound_body m hfit c t) rfl .rfl fun _ => .rfl

/-! ## The run and the frame -/

theorem region_in (c : Dev nD) : (Pipeline.ΦD osem0 spec0 H0 (V m) c : sProp 𝕄) ⊢ (dats m hfit 0 c).Φ 0 := by
  show (Pipeline.ΦD osem0 spec0 H0 (V m) c : sProp 𝕄) ⊢ iprop(held c (rowsOf m c) (tailOf m c) 0 ∗ ∃ r, prngReg c r)
  exact (PhiD_eq m c).1.trans (Laws.sep_mono (held_start c _ _) .rfl)

theorem region_out (c : Dev nD) : (dats m hfit 0 c).Φ (Fin.last cfg0.N) ⊢ (Pipeline.ΦD osem0 spec0 H0 (V m) c : sProp 𝕄) := by
  show iprop(held c (rowsOf m c) (tailOf m c) 60 ∗ ∃ r, prngReg c r) ⊢ (Pipeline.ΦD osem0 spec0 H0 (V m) c : sProp 𝕄)
  exact (Laws.sep_mono (held_end c _ _) .rfl).trans (PhiD_eq m c).2

set_option backward.isDefEq.respectTransparency.types false in
theorem run_main : θ_run defs (onTc (τ := τ) (main (F := F))) (s₀ m ρ) (fun r => Pipeline.FramePost cfgs (dats m hfit) 0 (V m) r ∧ r.2.sem = fun _ => 0) :=
  Pipeline.θ_run_frame_dma (Q' := _) cfgs (dats m hfit) (0 : Fin 1) launch0 osem0 defs₀ Variants.none ownSemFacts0 H0 H0_sub m ρ main
    (hbody := fun c => (body_obligation m hfit c).loose) (hshare := fun c => (dats m hfit 0 c).share_full fun _ => rfl)
    (howed := fun _ _ => rfl) (V := V m) (hmain := hmainD m Variants.none) (hA := A_eq m hfit)
    (hin := region_in m hfit) (hout := region_out m hfit)

include hfit in
/-- The frame, at any reading of the float types. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_ofD m ρ (dats m hfit) (A_eq m hfit) (run_main m ρ hfit)

end Cert.Kernel.Hand
end
-- ==== Proof.Printed.Windows.lean ====
/- What the windows of a grid point hold: the argument arrays' elements, by their places. -/
module

public import proofs.«01_k».proof.Proof.Printed.Frame
public import Idealize.ShloMosaic.Lib.Pipeline.ValueKit
public import Idealize.ShloMosaic.Lib.WholeRead

@[expose] public section
set_option maxRecDepth 16384

noncomputable section
namespace Cert.Kernel.Hand

open Cert.Kernel Cert.Kernel.Gen
open Idealize.ShloMosaic Idealize.ShloMosaic.TcCoe Idealize.ShloMosaic.ValueIdx
open Idealize.SL.Sem

variable {F : FTy → Type} [BitOps F]
variable (m : (ℓ : Loc nD τ sig) → Buf (Elt F) ℓ) (c : Dev nD) (t : Fin cfg0.N)

theorem idx0 : ∀ t : Fin cfg0.N, win0_0.index t = ![0, 0] := by decide +kernel
theorem idx1 : ∀ t : Fin cfg0.N, win0_1.index t = ![t.val % 3, t.val / 3] := by decide +kernel
theorem idx2 : ∀ t : Fin cfg0.N, win0_2.index t = ![0, 0] := by decide +kernel
theorem idx3 : ∀ t : Fin cfg0.N, win0_3.index t = ![t.val / 3, t.val % 3, 0] := by decide +kernel
theorem idx4 : ∀ t : Fin cfg0.N, win0_4.index t = ![t.val % 3, t.val / 3] := by decide +kernel

/-- The argument arrays, as the program finds them. -/
abbrev tabOf : S32x384.Idx → Elt F .i32 := m ((c : Thread nD τ).loc main_arg0)
abbrev xOf : S6144x5120.Idx → Elt F .bf16 := m ((c : Thread nD τ).loc main_arg1)
abbrev maskOf : S3072x256.Idx → Elt F .i32 := m ((c : Thread nD τ).loc main_arg2)
abbrev coefOf : S20x768x256.Idx → Elt F .f32 := m ((c : Thread nD τ).loc main_arg3)

theorem iblk0 (x : S32x384.Idx) : iblk m c 0 t x = tabOf m c x := by
  blk_ext [iblk, V, idx0 t]
theorem iblk1 (x : S2048x256.Idx) :
    iblk m c 1 t x = xOf m c (ValueIdx.ix2 ⟨2048 * (t.val % 3) + (x 0).val, by have := idx2_lt0 x; omega⟩
      ⟨256 * (t.val / 3) + (x 1).val, by have := idx2_lt1 x; have := lt60 t; omega⟩) := by
  blk_ext [iblk, V, idx1 t]
theorem iblk2 (x : S3072x256.Idx) : iblk m c 2 t x = maskOf m c x := by
  blk_ext [iblk, V, idx2 t]
theorem iblk3 (x : S1x256x256.Idx) :
    iblk m c 3 t x = coefOf m c (ValueIdx.ix3 ⟨t.val / 3, by have := lt60 t; omega⟩
      ⟨256 * (t.val % 3) + (x 1).val, by have : (x 1).val < 256 := (x 1).isLt; omega⟩ ⟨(x 2).val, (x 2).isLt⟩) := by
  blk_ext [iblk, V, idx3 t]

theorem read_unread_access {sp : Space} {s : Shape} {e : EltTy} {M : Memref sig .tc sp s e} (h : M.IsWhole) (X : s.Idx → Elt F e)
    (r : Rect s) (y : r.shape.Idx) : (M.access r).read (Elt F) (h.unread X) y = X (r.emb y) :=
  congrFun (h.read_unread X) _

/-- Where a rectangle of unit steps puts an element, its corner given in closed form. -/
theorem unit_place {s : Shape} {off off' : Fin s.rank → ℕ} (e : off = off') (size : Fin s.rank → ℕ) (inb) (y : (Rect.unit off size inb).shape.Idx)
    (a : Fin s.rank) : ((Rect.unit off size inb).emb y a : ℕ) = off' a + (y a).val :=
  (ValueKit.rect_emb_unit_val _ _ _ _ _).trans (by rw [congrFun e a])

/-- A word of the table, as the body reads it. -/
theorem tabWord_eq (k : Fin k0_t1_loop.trips) (u : Fin 8) (r : Fin 24) :
    tabWord c (grid0.coords t) (st0_0 t) (buf0 m c t) k u r
      = tabOf m c (ValueIdx.ix2 ⟨r.val, by omega⟩ ⟨128 * (t.val % 3) + (8 * k.val + u.val), by have : k.val < 16 := k.isLt.trans_eq trips_eq; omega⟩) := by
  unfold tabWord wordAt
  rw [read_unread_access, iblk0]
  refine congrArg (tabOf m c) (funext fun a => Fin.ext ?_)
  refine (unit_place (tabOff_eq r.val (grid0.coords t) k u) _ _ _ a).trans ?_
  rw [(coords_val t).2]
  match a with
  | ⟨0, _⟩ => rfl
  | ⟨1, _⟩ => rfl

/-- A row number of at most 11688 names rows inside the buffer. -/
theorem fits_of_le (i : grid0.Coords) (w : BitVec 32) (hw : w.toNat ≤ 11688) : Fits i w := by
  have hp : ∀ p : Fin 20, ∀ g : Fin 2, (Scalar.indexCast (Scalar.addi (Scalar.muli (Scalar.remsi (BitVec.ofNat 32 p.val) 2#32) 2#32) (BitVec.ofNat 32 g.val))).toNat + 1 ≤ 4 := by
    decide +kernel
  have hr : (Scalar.indexCast (Scalar.muli 4#32 w)).toNat + 32 ≤ 46784 := by
    simp only [Scalar.indexCast, Scalar.muli, IntOp.muli, BitVec.toNat_mul, BitVec.toNat_ofNat]; omega
  constructor
  · intro a
    match a with
    | ⟨0, _⟩ => exact hp (i 0) 0
    | ⟨1, _⟩ => exact hr
    | ⟨2, _⟩ => show 0 + 128 ≤ 128; omega
  · intro a
    match a with
    | ⟨0, _⟩ => exact hp (i 0) 1
    | ⟨1, _⟩ => exact hr
    | ⟨2, _⟩ => show 0 + 128 ≤ 128; omega

/-- When the table's row numbers are at most 11688 they all name rows inside the buffer. -/
theorem fit_of_bound (h : ∀ y : S32x384.Idx, (y 0).val < 16 → (tabOf m c y : BitVec 32).toNat ≤ 11688) : Fit m c := fun t k u v => by
  constructor
  · refine fits_of_le _ _ ?_
    unfold firstAt; rw [tabWord_eq]
    exact h _ (by show v.val < 16; omega)
  · refine fits_of_le _ _ ?_
    unfold secondAt; rw [tabWord_eq]
    exact h _ (by show 8 + v.val < 16; omega)

end Cert.Kernel.Hand
end
-- ==== Proof.Block.lean ====
/- One block of sixteen output rows, as the kernel's inner loop runs it eight times a trip, written once with the
   block's place in the trip as a parameter; and that a trip of the printed loop is eight of these. -/
module

public import proofs.«01_k».proof.Proof.Gen.KernelIdeal
public import proofs.«01_k».proof.Proof.Gen.KernelIdeal.Skeleton
public import Idealize.ShloMosaic.Lib.Pipeline.Regions

@[expose] public section

namespace Cert.KernelIdeal.Hand

open Cert.KernelIdeal Cert.KernelIdeal.Gen
open Idealize.ShloMosaic Idealize.SL.Sem Idealize.ShloMosaic.TcCoe

variable {F : FTy → Type} [FloatOps F]

/-! ## The block's number and the rectangles it names -/

/-- Block `u` of trip `k`, within its chunk of 128. -/
def lb (k : Fin k0_t1_loop.trips) (u : BitVec 32) : BitVec 32 :=
  Scalar.addi (Scalar.muli (Scf.iv 0#32 1#32 k) 8#32) u

/-- The same block counted over the three chunks. -/
def gb (i : grid0.Coords) (k : Fin k0_t1_loop.trips) (u : BitVec 32) : BitVec 32 :=
  Scalar.addi (Scalar.muli (BitVec.ofNat 32 (i 1).val) 128#32) (lb k u)

/-- Word `r` of the block's column of the table. -/
def tabOff (r : ℕ) (i : grid0.Coords) (k : Fin k0_t1_loop.trips) (u : BitVec 32) : Fin 2 → ℕ :=
  ![r, (Scalar.indexCast (gb i k u)).toNat]
/-- The block's eight rows of mask words. -/
def maskOff (i : grid0.Coords) (k : Fin k0_t1_loop.trips) (u : BitVec 32) : Fin 2 → ℕ :=
  ![(Scalar.indexCast (Scalar.muli (gb i k u) 8#32)).toNat, 0]
/-- The block's row of coefficients for column group `g`. -/
def coefOff (k : Fin k0_t1_loop.trips) (u g : BitVec 32) : Fin 3 → ℕ :=
  ![0, (Scalar.indexCast (Scalar.addi (Scalar.muli (lb k u) 2#32) g)).toNat, 0]
/-- The block's rows of `x` and of the result, from column `col`. -/
def outOff (k : Fin k0_t1_loop.trips) (u : BitVec 32) (col : ℕ) : Fin 2 → ℕ :=
  ![(Scalar.indexCast (Scalar.muli (lb k u) 16#32)).toNat, col]

theorem lb_toNat (k : Fin k0_t1_loop.trips) (u : Fin 8) :
    (lb k (BitVec.ofNat 32 u.val)).toNat = 8 * k.val + u.val := by
  revert k u; decide +kernel

theorem trips_eq : k0_t1_loop.trips = 16 := by decide +kernel

theorem gb_toNat (i : grid0.Coords) (k : Fin k0_t1_loop.trips) (u : Fin 8) :
    (gb i k (BitVec.ofNat 32 u.val)).toNat = 128 * (i 1).val + (8 * k.val + u.val) := by
  have hi : (i 1).val < 3 := (i 1).isLt
  have hk : k.val < 16 := trips_eq ▸ k.isLt
  have hu : u.val < 8 := u.isLt
  have h := lb_toNat k u
  simp only [gb, Scalar.addi, Scalar.muli, IntOp.addi, IntOp.muli, BitVec.toNat_add, BitVec.toNat_mul, BitVec.toNat_ofNat, h]
  omega

theorem tabOff_eq (r : ℕ) (i : grid0.Coords) (k : Fin k0_t1_loop.trips) (u : Fin 8) :
    tabOff r i k (BitVec.ofNat 32 u.val) = ![r, 128 * (i 1).val + (8 * k.val + u.val)] := by
  simp only [tabOff, Scalar.indexCast, gb_toNat]
theorem maskOff_eq (i : grid0.Coords) (k : Fin k0_t1_loop.trips) (u : Fin 8) :
    maskOff i k (BitVec.ofNat 32 u.val) = ![8 * (128 * (i 1).val + (8 * k.val + u.val)), 0] := by
  have hi : (i 1).val < 3 := (i 1).isLt
  have hk : k.val < 16 := trips_eq ▸ k.isLt
  have hu : u.val < 8 := u.isLt
  simp only [maskOff, Scalar.indexCast, Scalar.muli, IntOp.muli, BitVec.toNat_mul, gb_toNat, BitVec.toNat_ofNat]
  congr 1; omega
theorem coefOff_eq (k : Fin k0_t1_loop.trips) (u : Fin 8) (g : Fin 2) :
    coefOff k (BitVec.ofNat 32 u.val) (BitVec.ofNat 32 g.val) = ![0, 2 * (8 * k.val + u.val) + g.val, 0] := by
  have hk : k.val < 16 := trips_eq ▸ k.isLt
  have hu : u.val < 8 := u.isLt
  have hg : g.val < 2 := g.isLt
  simp only [coefOff, Scalar.indexCast, Scalar.muli, Scalar.addi, IntOp.muli, IntOp.addi, BitVec.toNat_add, BitVec.toNat_mul, lb_toNat, BitVec.toNat_ofNat]
  congr 2; omega
theorem outOff_eq (k : Fin k0_t1_loop.trips) (u : Fin 8) (col : ℕ) :
    outOff k (BitVec.ofNat 32 u.val) col = ![16 * (8 * k.val + u.val), col] := by
  have hk : k.val < 16 := trips_eq ▸ k.isLt
  have hu : u.val < 8 := u.isLt
  simp only [outOff, Scalar.indexCast, Scalar.muli, IntOp.muli, BitVec.toNat_mul, lb_toNat, BitVec.toNat_ofNat]
  congr 1; omega

theorem tabOff_inb (r : Fin 24) (i : grid0.Coords) (k : Fin k0_t1_loop.trips) (u : Fin 8) :
    ∀ a, tabOff r.val i k (BitVec.ofNat 32 u.val) a + S1x1.size a ≤ S32x384.size a := by
  have hi : (i 1).val < 3 := (i 1).isLt
  have hk : k.val < 16 := trips_eq ▸ k.isLt
  rw [tabOff_eq]; intro a; fin_cases a <;> simp [S1x1, S32x384] <;> omega
theorem maskOff_inb (i : grid0.Coords) (k : Fin k0_t1_loop.trips) (u : Fin 8) :
    ∀ a, maskOff i k (BitVec.ofNat 32 u.val) a + S8x256.size a ≤ S3072x256.size a := by
  have hi : (i 1).val < 3 := (i 1).isLt
  have hk : k.val < 16 := trips_eq ▸ k.isLt
  rw [maskOff_eq]; intro a; fin_cases a <;> simp [S8x256, S3072x256]; omega
theorem coefOff_inb (k : Fin k0_t1_loop.trips) (u : Fin 8) (g : Fin 2) :
    ∀ a, coefOff k (BitVec.ofNat 32 u.val) (BitVec.ofNat 32 g.val) a + S1x1x256.size a ≤ S1x256x256.size a := by
  have hk : k.val < 16 := trips_eq ▸ k.isLt
  rw [coefOff_eq]; intro a; fin_cases a <;> simp [S1x1x256, S1x256x256]; omega
theorem outOff_inb (k : Fin k0_t1_loop.trips) (u : Fin 8) (g : Fin 2) :
    ∀ a, outOff k (BitVec.ofNat 32 u.val) (128 * g.val) a + S16x128.size a ≤ S2048x256.size a := by
  have hk : k.val < 16 := trips_eq ▸ k.isLt
  rw [outOff_eq]; intro a; fin_cases a <;> simp [S16x128, S2048x256] <;> omega
theorem outOff_packed (k : Fin k0_t1_loop.trips) (u : Fin 8) (g : Fin 2) :
    (Rect.unit (s := S2048x256) (outOff k (BitVec.ofNat 32 u.val) (128 * g.val)) S16x128.size
      (outOff_inb k u g)).PackedRows (EltTy.packing .bf16) := by
  revert k u g; decide +kernel

/-- The block's rectangles. -/
abbrev tabRect (r : Fin 24) (i : grid0.Coords) (k : Fin k0_t1_loop.trips) (u : Fin 8) : Rect S32x384 :=
  Rect.unit (s := S32x384) (tabOff r.val i k (BitVec.ofNat 32 u.val)) S1x1.size (tabOff_inb r i k u)
abbrev maskRect (i : grid0.Coords) (k : Fin k0_t1_loop.trips) (u : Fin 8) : Rect S3072x256 :=
  Rect.unit (s := S3072x256) (maskOff i k (BitVec.ofNat 32 u.val)) S8x256.size (maskOff_inb i k u)
abbrev coefRect (k : Fin k0_t1_loop.trips) (u : Fin 8) (g : Fin 2) : Rect S1x256x256 :=
  Rect.unit (s := S1x256x256) (coefOff k (BitVec.ofNat 32 u.val) (BitVec.ofNat 32 g.val)) S1x1x256.size (coefOff_inb k u g)
abbrev outRect (k : Fin k0_t1_loop.trips) (u : Fin 8) (g : Fin 2) : Rect S2048x256 :=
  Rect.unit (s := S2048x256) (outOff k (BitVec.ofNat 32 u.val) (128 * g.val)) S16x128.size (outOff_inb k u g)
/-- The 32 rows of plane `g` of the buffer from row `4 w`. -/
abbrev bufRect (i : grid0.Coords) (w : BitVec 32) (g : Fin 2) (h : k0_chk16 i w) : Rect S4x46784x128 :=
  Rect.unit (s := S4x46784x128) (k0_off60 i w (BitVec.ofNat 32 g.val)) S1x32x128.size (k0_off60_inb i w h g)

/-- Rows `4 w` to `4 w + 31` of both planes are inside the buffer, written as the kernel assumes it of the word `w`. -/
def Fits (i : grid0.Coords) (w : BitVec 32) : Prop :=
  (∀ a, (k0_off60 i w 0#32) a + S1x32x128.size a ≤ S4x46784x128.size a) ∧
  (∀ a, (k0_off60 i w 1#32) a + S1x32x128.size a ≤ S4x46784x128.size a)

noncomputable instance Fits.dec : ∀ (i : grid0.Coords) (w : BitVec 32), Decidable (Fits i w) :=
  fun i w => decidable_of_iff' _ (Iff.of_eq (Fits.eq_1 i w))

theorem Fits.both {i : grid0.Coords} {w : BitVec 32} (h : Fits i w) : k0_chk16 i w := fun r => by
  match r with
  | 0 => exact h.1
  | 1 => exact h.2

/-! ## What a block computes from what it reads -/

/-- Which of 32 buffer rows come from the first of the two places. -/
noncomputable def below (v10 : IVec S32x128 32) (t : Elt F .i32) : IVec S32x128 1 :=
  cmpi .slt v10 (broadcast S32x128 (Scalar.muli 4#32 t))

/-- The 32 rows of one slot: those above the cut from one place, the rest from another. -/
noncomputable def mix (v10 : IVec S32x128 32) (t : Elt F .i32) (a b : Vec F S1x32x128 .fp8e4m3) : FVec F S32x128 .fp8e4m3 :=
  select (below (F := F) v10 t) (shapeCast S32x128 a shapeCasts_S1x32x128_S32x128) (shapeCast S32x128 b shapeCasts_S1x32x128_S32x128)

/-- The mask words read as sixteen rows of half words. -/
noncomputable def maskBits (m : Vec F S8x256 .i32) : IVec S16x256 1 :=
  cmpi .ne (bitcast S16x256 16 m bitcasts_S8x256_w32_S16x256_w16) (broadcast S16x256 0#16)

/-- The coefficient row over the sixteen rows. -/
noncomputable def coefRow (c : Vec F S1x1x256 .f32) : FVec F S16x256 .f32 :=
  broadcastTo S16x256 (shapeCast S1x256 (shapeCast S1x256 c shapeCasts_S1x1x256_S1x256) shapeCasts_S1x256_S1x256) broadcasts_S1x256_S16x256

/-- The coefficient's leading part, as f32. -/
noncomputable def head (v : FVec F S16x256 .f32) : FVec F S16x256 .f32 := extf .f32 (truncf .bf16 v bitsLt_bf16_f32) bitsLt_bf16_f32
noncomputable def rest (v : FVec F S16x256 .f32) : FVec F S16x256 .f32 := subf v (head v)
noncomputable def masked (b : IVec S16x256 1) (v : FVec F S16x256 .f32) : FVec F S16x256 .bf16 :=
  select b (truncf .bf16 v bitsLt_bf16_f32) (broadcast S16x256 (Scalar.ofBits .bf16 0x0000#16))

/-- The left operand: three parts of each group's masked coefficients. -/
noncomputable def lhs (m : Vec F S8x256 .i32) (c0 c1 : Vec F S1x1x256 .f32) : FVec F S96x256 .bf16 :=
  concatenate S96x256 0 [⟨S16x256, masked (maskBits m) (head (coefRow c0))⟩, ⟨S16x256, masked (maskBits m) (head (rest (coefRow c0)))⟩,
    ⟨S16x256, masked (maskBits m) (rest (rest (coefRow c0)))⟩, ⟨S16x256, masked (maskBits m) (head (coefRow c1))⟩,
    ⟨S16x256, masked (maskBits m) (head (rest (coefRow c1)))⟩, ⟨S16x256, masked (maskBits m) (rest (rest (coefRow c1)))⟩]
    concatenates_S16x256_S16x256_S16x256_S16x256_S16x256_S16x256_S96x256_d0

/-- The product of the block. -/
noncomputable def prod (m : Vec F S8x256 .i32) (c0 c1 : Vec F S1x1x256 .f32) (p0 p1 : FVec F S256x128 .fp8e4m3) : FVec F S96x256 .f32 :=
  matmul dot_S96x256_S256x256_S96x256_1_0_0_1_n_n none (lhs m c0 c1)
    (concatenate S256x256 1 [⟨S256x128, p0⟩, ⟨S256x128, p1⟩] concatenates_S256x128_S256x128_S256x256_d1)
    (constant S96x256 .f32 0x00000000#32)

/-- What is stored in each column group. -/
noncomputable def out0 (x : Vec F S16x128 .bf16) (r : FVec F S96x256 .f32) : Vec F S16x128 .bf16 :=
  truncf .bf16 (addf (extf .f32 x bitsLt_bf16_f32)
    (addf (addf (extractStridedSlice S16x128 ![0, 0] r slices_S96x256_o0_0_S16x128)
      (extractStridedSlice S16x128 ![16, 0] r slices_S96x256_o16_0_S16x128))
      (extractStridedSlice S16x128 ![32, 0] r slices_S96x256_o32_0_S16x128))) bitsLt_bf16_f32
noncomputable def out1 (x : Vec F S16x128 .bf16) (r : FVec F S96x256 .f32) : Vec F S16x128 .bf16 :=
  truncf .bf16 (addf (extf .f32 x bitsLt_bf16_f32)
    (addf (addf (extractStridedSlice S16x128 ![48, 128] r slices_S96x256_o48_128_S16x128)
      (extractStridedSlice S16x128 ![64, 128] r slices_S96x256_o64_128_S16x128))
      (extractStridedSlice S16x128 ![80, 128] r slices_S96x256_o80_128_S16x128))) bitsLt_bf16_f32

/-! ## The block as a program -/

/-- One word of the table, with the fact the kernel assumes of it. -/
noncomputable def place (C : BitVec 32 → Prop) (dec : ∀ w, Decidable (C w)) (arg2 : Memref sig .tc .smem S32x384 .i32)
    (r : Rect S32x384) (h1 : r.shape.numel = 1) :
    Prog (TpuEff nD τ sig (Elt F) Λ₀ .tc) (PSigma C) := do
  let w : Elt F .i32 ← smemLoad arg2 r h1 rfl
  have h : C w := (← Prog.lift (TpuEff.assume (C w) (dec w))).down
  pure ⟨w, h⟩

/-- One slot's 32 rows of plane `g`. -/
noncomputable def pick (i : grid0.Coords) (arg9 : Memref sig .tc .vmem S4x46784x128 .fp8e4m3) (v10 : IVec S32x128 32) (g : Fin 2)
    (t : Elt F .i32) (wa : BitVec 32) (ha : k0_chk16 i wa) (wb : BitVec 32) (hb : k0_chk16 i wb) :
    Prog (TpuEff nD τ sig (Elt F) Λ₀ .tc) (FVec F S32x128 .fp8e4m3) := do
  let a : Vec F S1x32x128 .fp8e4m3 ← Prog.lift (.load arg9 (bufRect i wa g ha).toLoadRect (View.loadsAt_vmem h_S1x32x128))
  let b : Vec F S1x32x128 .fp8e4m3 ← Prog.lift (.load arg9 (bufRect i wb g hb).toLoadRect (View.loadsAt_vmem h_S1x32x128))
  pure (mix v10 t a b)

/-- The eight slots of plane `g`. -/
noncomputable def plane (i : grid0.Coords) (arg9 : Memref sig .tc .vmem S4x46784x128 .fp8e4m3) (v10 : IVec S32x128 32) (g : Fin 2)
    (t0 t1 t2 t3 t4 t5 t6 t7 : Elt F .i32) (a0 b0 a1 b1 a2 b2 a3 b3 a4 b4 a5 b5 a6 b6 a7 b7 : BitVec 32)
    (ha0 : k0_chk16 i a0) (hb0 : k0_chk16 i b0) (ha1 : k0_chk16 i a1) (hb1 : k0_chk16 i b1) (ha2 : k0_chk16 i a2) (hb2 : k0_chk16 i b2) (ha3 : k0_chk16 i a3) (hb3 : k0_chk16 i b3) (ha4 : k0_chk16 i a4) (hb4 : k0_chk16 i b4) (ha5 : k0_chk16 i a5) (hb5 : k0_chk16 i b5) (ha6 : k0_chk16 i a6) (hb6 : k0_chk16 i b6) (ha7 : k0_chk16 i a7) (hb7 : k0_chk16 i b7) :
    Prog (TpuEff nD τ sig (Elt F) Λ₀ .tc) (FVec F S256x128 .fp8e4m3) := do
  let r0 ← pick i arg9 v10 g t0 a0 ha0 b0 hb0
  let r1 ← pick i arg9 v10 g t1 a1 ha1 b1 hb1
  let r2 ← pick i arg9 v10 g t2 a2 ha2 b2 hb2
  let r3 ← pick i arg9 v10 g t3 a3 ha3 b3 hb3
  let r4 ← pick i arg9 v10 g t4 a4 ha4 b4 hb4
  let r5 ← pick i arg9 v10 g t5 a5 ha5 b5 hb5
  let r6 ← pick i arg9 v10 g t6 a6 ha6 b6 hb6
  let r7 ← pick i arg9 v10 g t7 a7 ha7 b7 hb7
  pure (concatenate S256x128 0 [⟨S32x128, r0⟩, ⟨S32x128, r1⟩, ⟨S32x128, r2⟩, ⟨S32x128, r3⟩, ⟨S32x128, r4⟩, ⟨S32x128, r5⟩, ⟨S32x128, r6⟩, ⟨S32x128, r7⟩]
    concatenates_S32x128_S32x128_S32x128_S32x128_S32x128_S32x128_S32x128_S32x128_S256x128_d0)

/-- Block `u` of trip `k`. -/
noncomputable def blk (i : grid0.Coords) (arg2 : Memref sig .tc .smem S32x384 .i32) (arg3 : Memref sig .tc .vmem S2048x256 .bf16)
    (arg4 : Memref sig .tc .vmem S3072x256 .i32) (arg5 : Memref sig .tc .vmem S1x256x256 .f32)
    (arg8 : Memref sig .tc .vmem S2048x256 .bf16) (harg8 : arg8.IsWhole) (arg9 : Memref sig .tc .vmem S4x46784x128 .fp8e4m3)
    (v10 : IVec S32x128 32) (k : Fin k0_t1_loop.trips) (u : Fin 8) :
    Prog (TpuEff nD τ sig (Elt F) Λ₀ .tc) PUnit := do
  let ⟨a0, ha0⟩ ← place (Fits i) (Fits.dec i) arg2 (tabRect 0 i k u) numel1_S1x1
  let ⟨a1, ha1⟩ ← place (Fits i) (Fits.dec i) arg2 (tabRect 1 i k u) numel1_S1x1
  let ⟨a2, ha2⟩ ← place (Fits i) (Fits.dec i) arg2 (tabRect 2 i k u) numel1_S1x1
  let ⟨a3, ha3⟩ ← place (Fits i) (Fits.dec i) arg2 (tabRect 3 i k u) numel1_S1x1
  let ⟨a4, ha4⟩ ← place (Fits i) (Fits.dec i) arg2 (tabRect 4 i k u) numel1_S1x1
  let ⟨a5, ha5⟩ ← place (Fits i) (Fits.dec i) arg2 (tabRect 5 i k u) numel1_S1x1
  let ⟨a6, ha6⟩ ← place (Fits i) (Fits.dec i) arg2 (tabRect 6 i k u) numel1_S1x1
  let ⟨a7, ha7⟩ ← place (Fits i) (Fits.dec i) arg2 (tabRect 7 i k u) numel1_S1x1
  let ⟨b0, hb0⟩ ← place (Fits i) (Fits.dec i) arg2 (tabRect 8 i k u) numel1_S1x1
  let ⟨b1, hb1⟩ ← place (Fits i) (Fits.dec i) arg2 (tabRect 9 i k u) numel1_S1x1
  let ⟨b2, hb2⟩ ← place (Fits i) (Fits.dec i) arg2 (tabRect 10 i k u) numel1_S1x1
  let ⟨b3, hb3⟩ ← place (Fits i) (Fits.dec i) arg2 (tabRect 11 i k u) numel1_S1x1
  let ⟨b4, hb4⟩ ← place (Fits i) (Fits.dec i) arg2 (tabRect 12 i k u) numel1_S1x1
  let ⟨b5, hb5⟩ ← place (Fits i) (Fits.dec i) arg2 (tabRect 13 i k u) numel1_S1x1
  let ⟨b6, hb6⟩ ← place (Fits i) (Fits.dec i) arg2 (tabRect 14 i k u) numel1_S1x1
  let ⟨b7, hb7⟩ ← place (k0_chk16 i) (k0_chk16.dec i) arg2 (tabRect 15 i k u) numel1_S1x1
  let t0 : Elt F .i32 ← smemLoad arg2 (tabRect 16 i k u) numel1_S1x1 rfl
  let t1 : Elt F .i32 ← smemLoad arg2 (tabRect 17 i k u) numel1_S1x1 rfl
  let t2 : Elt F .i32 ← smemLoad arg2 (tabRect 18 i k u) numel1_S1x1 rfl
  let t3 : Elt F .i32 ← smemLoad arg2 (tabRect 19 i k u) numel1_S1x1 rfl
  let t4 : Elt F .i32 ← smemLoad arg2 (tabRect 20 i k u) numel1_S1x1 rfl
  let t5 : Elt F .i32 ← smemLoad arg2 (tabRect 21 i k u) numel1_S1x1 rfl
  let t6 : Elt F .i32 ← smemLoad arg2 (tabRect 22 i k u) numel1_S1x1 rfl
  let t7 : Elt F .i32 ← smemLoad arg2 (tabRect 23 i k u) numel1_S1x1 rfl
  let m : Vec F S8x256 .i32 ← Prog.lift (.load arg4 (maskRect i k u).toLoadRect (View.loadsAt_vmem h_S8x256))
  let c0 : Vec F S1x1x256 .f32 ← Prog.lift (.load arg5 (coefRect k u 0).toLoadRect (View.loadsAt_vmem h_S1x1x256))
  let p0 ← plane i arg9 v10 0 t0 t1 t2 t3 t4 t5 t6 t7 a0 b0 a1 b1 a2 b2 a3 b3 a4 b4 a5 b5 a6 b6 a7 b7 ha0.both hb0.both ha1.both hb1.both ha2.both hb2.both ha3.both hb3.both ha4.both hb4.both ha5.both hb5.both ha6.both hb6.both ha7.both hb7
  let c1 : Vec F S1x1x256 .f32 ← Prog.lift (.load arg5 (coefRect k u 1).toLoadRect (View.loadsAt_vmem h_S1x1x256))
  let p1 ← plane i arg9 v10 1 t0 t1 t2 t3 t4 t5 t6 t7 a0 b0 a1 b1 a2 b2 a3 b3 a4 b4 a5 b5 a6 b6 a7 b7 ha0.both hb0.both ha1.both hb1.both ha2.both hb2.both ha3.both hb3.both ha4.both hb4.both ha5.both hb5.both ha6.both hb6.both ha7.both hb7
  let x0 : Vec F S16x128 .bf16 ← Prog.lift (.load arg3 (outRect k u 0).toLoadRect (View.loadsAt_vmem h_S16x128))
  let _o0 : Vec F S16x128 .bf16 ← Prog.lift (.load arg8 (outRect k u 0).toLoadRect (View.loadsAt_vmem h_S16x128))
  Prog.lift (.store arg8 (outRect k u 0) (out0 x0 (prod m c0 c1 p0 p1)) Finset.univ
    (View.stores_vmem h_S16x128 (harg8.storeExact_slice rfl _ (outOff_packed k u 0)) (fun _ => rfl)) (.inl rfl))
  let x1 : Vec F S16x128 .bf16 ← Prog.lift (.load arg3 (outRect k u 1).toLoadRect (View.loadsAt_vmem h_S16x128))
  let _o1 : Vec F S16x128 .bf16 ← Prog.lift (.load arg8 (outRect k u 1).toLoadRect (View.loadsAt_vmem h_S16x128))
  Prog.lift (.store arg8 (outRect k u 1) (out1 x1 (prod m c0 c1 p0 p1)) Finset.univ
    (View.stores_vmem h_S16x128 (harg8.storeExact_slice rfl _ (outOff_packed k u 1)) (fun _ => rfl)) (.inl rfl))

set_option maxHeartbeats 0 in
set_option maxRecDepth 100000 in
/-- A trip of the loop is its eight blocks. -/
theorem body_eq (i : grid0.Coords) (arg2 : Memref sig .tc .smem S32x384 .i32) (harg2 : arg2.IsWhole) (arg3 : Memref sig .tc .vmem S2048x256 .bf16) (harg3 : arg3.IsWhole) (arg4 : Memref sig .tc .vmem S3072x256 .i32) (harg4 : arg4.IsWhole) (arg5 : Memref sig .tc .vmem S1x256x256 .f32) (harg5 : arg5.IsWhole) (arg6 : Memref sig .tc .hbm S46695x5120 .fp8e4m3) (harg6 : arg6.IsWhole) (arg7 : Memref sig .tc .hbm S96x5120 .fp8e4m3) (harg7 : arg7.IsWhole) (arg8 : Memref sig .tc .vmem S2048x256 .bf16) (harg8 : arg8.IsWhole) (arg9 : Memref sig .tc .vmem S4x46784x128 .fp8e4m3) (harg9 : arg9.IsWhole) (arg10 : DmaSems sig S2) (arg1 v9 : BitVec 32) (v10 : IVec S32x128 32) (k : Fin k0_t1_loop.trips) :
    k0_t1_body (F := F) i arg2 harg2 arg3 harg3 arg4 harg4 arg5 harg5 arg6 harg6 arg7 harg7 arg8 harg8 arg9 harg9 arg10 arg1 v9 v10 k ⟨⟩ = (do
      blk i arg2 arg3 arg4 arg5 arg8 harg8 arg9 v10 k 0
      blk i arg2 arg3 arg4 arg5 arg8 harg8 arg9 v10 k 1
      blk i arg2 arg3 arg4 arg5 arg8 harg8 arg9 v10 k 2
      blk i arg2 arg3 arg4 arg5 arg8 harg8 arg9 v10 k 3
      blk i arg2 arg3 arg4 arg5 arg8 harg8 arg9 v10 k 4
      blk i arg2 arg3 arg4 arg5 arg8 harg8 arg9 v10 k 5
      blk i arg2 arg3 arg4 arg5 arg8 harg8 arg9 v10 k 6
      blk i arg2 arg3 arg4 arg5 arg8 harg8 arg9 v10 k 7
      ) := by chain_rfl

end Cert.KernelIdeal.Hand
-- ==== Proof.BlockSpec.lean ====
/- What one block stores, as a rule for its program: the words it reads name places inside the part of the buffer that is
   held, and the two column groups of its sixteen rows are overwritten. -/
module

public import proofs.«01_k».proof.Proof.Block
public import Idealize.ShloMosaic.Lib.Tactic
public import Idealize.ShloMosaic.Lib.Exec

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

/-- The word a one-element rectangle of the table holds. -/
noncomputable def wordAt (c : Dev nD) (arg2 : Memref sig .tc .smem S32x384 .i32) (f : Buf (Elt F) (arg2.view.loc (c : Thread nD τ)))
    (r : Rect S32x384) (h1 : r.shape.numel = 1) : BitVec 32 :=
  (arg2.access r).read (Elt F) f (Shape.Idx.first (h1.symm ▸ Nat.one_pos))

variable (𝒱 : Variants) (c : Dev nD) (bd : Option 𝒱.V)

/-- Holding the table, its word is read. -/
theorem word_spec (arg2 : Memref sig .tc .smem S32x384 .i32) (f : Buf (Elt F) (arg2.view.loc (c : Thread nD τ)))
    (r : Rect S32x384) (h1 : r.shape.numel = 1) (w : BitVec 32) (hw : wordAt c arg2 f r h1 = w) {α : Type}
    (K : Elt F .i32 → Prog (TpuEff nD τ sig (Elt F) Λ₀ .tc) α) (Q : α → sProp (MT nD τ sig Unit (Elt F) ℕ U ℕ)) (q : PosShare TreeShare) :
    iprop((arg2.view.loc (c : Thread nD τ) ↦{q} f) ∗ ((arg2.view.loc (c : Thread nD τ) ↦{q} f) -∗
        wp frame (wpE (defs₀ (F := F)) 𝒱 (c : Thread nD τ) bd) Set.univ (K w) Q))
      ⊢ wp frame (wpE (defs₀ (F := F)) 𝒱 (c : Thread nD τ) bd) Set.univ (smemLoad arg2 r h1 rfl >>= K) Q := by
  subst hw
  iintro ⟨H, HR⟩
  iapply (wp_load_rect 𝒱 (c : Thread nD τ) bd Set.univ (m := arg2) (r := r) (Finset.subset_univ _)) $$ H
  iintro H
  iapply HR $$ H

/-- Holding the table, a word of which the assumed fact is true is read. -/
theorem place_spec (C : BitVec 32 → Prop) (dec : ∀ w, Decidable (C w)) (arg2 : Memref sig .tc .smem S32x384 .i32)
    (f : Buf (Elt F) (arg2.view.loc (c : Thread nD τ)))
    (r : Rect S32x384) (h1 : r.shape.numel = 1) (w : BitVec 32) (hw : wordAt c arg2 f r h1 = w) (hC : C w) {α : Type}
    (K : PSigma C → Prog (TpuEff nD τ sig (Elt F) Λ₀ .tc) α) (Q : α → sProp (MT nD τ sig Unit (Elt F) ℕ U ℕ)) (q : PosShare TreeShare) :
    iprop((arg2.view.loc (c : Thread nD τ) ↦{q} f) ∗ ((arg2.view.loc (c : Thread nD τ) ↦{q} f) -∗
        wp frame (wpE (defs₀ (F := F)) 𝒱 (c : Thread nD τ) bd) Set.univ (K ⟨w, hC⟩) Q))
      ⊢ wp frame (wpE (defs₀ (F := F)) 𝒱 (c : Thread nD τ) bd) Set.univ (place C dec arg2 r h1 >>= K) Q := by
  subst hw
  unfold place
  iintro ⟨H, HR⟩
  iapply (wp_load_rect 𝒱 (c : Thread nD τ) bd Set.univ (m := arg2) (r := r) (Finset.subset_univ _)) $$ H
  iintro H
  iapply (wp_assume 𝒱 (c : Thread nD τ) bd Set.univ hC)
  iapply HR $$ H

/-- Holding the part of the buffer two places lie in, the mixed rows are read. -/
theorem pick_spec (i : grid0.Coords) (arg9 : Memref sig .tc .vmem S4x46784x128 .fp8e4m3) (v10 : IVec S32x128 32) (g : Fin 2)
    (t : Elt F .i32) (wa : BitVec 32) (ha : k0_chk16 i wa) (wb : BitVec 32) (hb : k0_chk16 i wb)
    (S : Finset (Idx (arg9.view.loc (c : Thread nD τ)))) (f : Buf (Elt F) (arg9.view.loc (c : Thread nD τ)))
    (hA : (arg9.access (bufRect i wa g ha)).set ⊆ S) (hB : (arg9.access (bufRect i wb g hb)).set ⊆ S) {α : Type}
    (K : FVec F S32x128 .fp8e4m3 → Prog (TpuEff nD τ sig (Elt F) Λ₀ .tc) α) (Q : α → sProp (MT nD τ sig Unit (Elt F) ℕ U ℕ))
    (q : PosShare TreeShare) :
    iprop((arg9.view.loc (c : Thread nD τ) ↦[S]{q} f) ∗ ((arg9.view.loc (c : Thread nD τ) ↦[S]{q} f) -∗
        wp frame (wpE (defs₀ (F := F)) 𝒱 (c : Thread nD τ) bd) Set.univ (K (mix v10 t ((arg9.access (bufRect i wa g ha)).read (Elt F) f)
          ((arg9.access (bufRect i wb g hb)).read (Elt F) f))) Q))
      ⊢ wp frame (wpE (defs₀ (F := F)) 𝒱 (c : Thread nD τ) bd) Set.univ (pick i arg9 v10 g t wa ha wb hb >>= K) Q := by
  unfold pick
  iintro ⟨H, HR⟩
  iapply (wp_load_rect 𝒱 (c : Thread nD τ) bd Set.univ (m := arg9) (r := bufRect i wa g ha) hA) $$ H
  iintro H
  iapply (wp_load_rect 𝒱 (c : Thread nD τ) bd Set.univ (m := arg9) (r := bufRect i wb g hb) hB) $$ H
  iintro H
  iapply HR $$ H

/-- The 32 rows slot `v` takes of plane `g`: from the places `wa v` and `wb v`, cut at `wt v`. -/
noncomputable def slotOf (i : grid0.Coords) (arg9 : Memref sig .tc .vmem S4x46784x128 .fp8e4m3) (v10 : IVec S32x128 32) (g : Fin 2)
    (f : Buf (Elt F) (arg9.view.loc (c : Thread nD τ))) (wa wb wt : Fin 8 → BitVec 32)
    (ha : ∀ v, Fits i (wa v)) (hb : ∀ v, Fits i (wb v)) (v : Fin 8) : FVec F S32x128 .fp8e4m3 :=
  mix v10 (wt v) ((arg9.access (bufRect i (wa v) g (ha v).both)).read (Elt F) f)
    ((arg9.access (bufRect i (wb v) g (hb v).both)).read (Elt F) f)

/-- The 256 rows of eight slots. -/
noncomputable def stack (s : Fin 8 → FVec F S32x128 .fp8e4m3) : FVec F S256x128 .fp8e4m3 :=
  concatenate S256x128 0 [⟨S32x128, s 0⟩, ⟨S32x128, s 1⟩, ⟨S32x128, s 2⟩, ⟨S32x128, s 3⟩, ⟨S32x128, s 4⟩, ⟨S32x128, s 5⟩,
    ⟨S32x128, s 6⟩, ⟨S32x128, s 7⟩]
    concatenates_S32x128_S32x128_S32x128_S32x128_S32x128_S32x128_S32x128_S32x128_S256x128_d0

/-- Holding the part of the buffer all the places lie in, a plane's 256 rows are read. -/
theorem plane_spec (i : grid0.Coords) (arg9 : Memref sig .tc .vmem S4x46784x128 .fp8e4m3) (v10 : IVec S32x128 32) (g : Fin 2)
    (wa wb wt : Fin 8 → BitVec 32) (ha : ∀ v, Fits i (wa v)) (hb : ∀ v, Fits i (wb v))
    (S : Finset (Idx (arg9.view.loc (c : Thread nD τ)))) (f : Buf (Elt F) (arg9.view.loc (c : Thread nD τ)))
    (hS : ∀ v h, (arg9.access (bufRect i v g h)).set ⊆ S) {α : Type}
    (K : FVec F S256x128 .fp8e4m3 → Prog (TpuEff nD τ sig (Elt F) Λ₀ .tc) α) (Q : α → sProp (MT nD τ sig Unit (Elt F) ℕ U ℕ))
    (q : PosShare TreeShare) :
    iprop((arg9.view.loc (c : Thread nD τ) ↦[S]{q} f) ∗ ((arg9.view.loc (c : Thread nD τ) ↦[S]{q} f) -∗
        wp frame (wpE (defs₀ (F := F)) 𝒱 (c : Thread nD τ) bd) Set.univ (K (stack (slotOf c i arg9 v10 g f wa wb wt ha hb))) Q))
      ⊢ wp frame (wpE (defs₀ (F := F)) 𝒱 (c : Thread nD τ) bd) Set.univ
        (plane (F := F) i arg9 v10 g (wt 0) (wt 1) (wt 2) (wt 3) (wt 4) (wt 5) (wt 6) (wt 7)
          (wa 0) (wb 0) (wa 1) (wb 1) (wa 2) (wb 2) (wa 3) (wb 3) (wa 4) (wb 4) (wa 5) (wb 5) (wa 6) (wb 6) (wa 7) (wb 7)
          (ha 0).both (hb 0).both (ha 1).both (hb 1).both (ha 2).both (hb 2).both (ha 3).both (hb 3).both (ha 4).both (hb 4).both (ha 5).both (hb 5).both (ha 6).both (hb 6).both (ha 7).both (hb 7).both >>= K) Q := by
  unfold plane
  simp only [bind_assoc, pure_bind]
  iintro ⟨H, HR⟩
  iapply (pick_spec 𝒱 c bd i arg9 v10 g (wt 0) (wa 0) (ha 0).both (wb 0) (hb 0).both S f (hS _ _) (hS _ _))
  iframe H
  iintro H
  iapply (pick_spec 𝒱 c bd i arg9 v10 g (wt 1) (wa 1) (ha 1).both (wb 1) (hb 1).both S f (hS _ _) (hS _ _))
  iframe H
  iintro H
  iapply (pick_spec 𝒱 c bd i arg9 v10 g (wt 2) (wa 2) (ha 2).both (wb 2) (hb 2).both S f (hS _ _) (hS _ _))
  iframe H
  iintro H
  iapply (pick_spec 𝒱 c bd i arg9 v10 g (wt 3) (wa 3) (ha 3).both (wb 3) (hb 3).both S f (hS _ _) (hS _ _))
  iframe H
  iintro H
  iapply (pick_spec 𝒱 c bd i arg9 v10 g (wt 4) (wa 4) (ha 4).both (wb 4) (hb 4).both S f (hS _ _) (hS _ _))
  iframe H
  iintro H
  iapply (pick_spec 𝒱 c bd i arg9 v10 g (wt 5) (wa 5) (ha 5).both (wb 5) (hb 5).both S f (hS _ _) (hS _ _))
  iframe H
  iintro H
  iapply (pick_spec 𝒱 c bd i arg9 v10 g (wt 6) (wa 6) (ha 6).both (wb 6) (hb 6).both S f (hS _ _) (hS _ _))
  iframe H
  iintro H
  iapply (pick_spec 𝒱 c bd i arg9 v10 g (wt 7) (wa 7) (ha 7).both (wb 7) (hb 7).both S f (hS _ _) (hS _ _))
  iframe H
  iintro H
  iapply HR $$ H

/-- A block: holding the table, the mask, the coefficients, `x`, the part of the buffer its places lie in, and the result,
    it leaves all as they were but the result, whose two column groups of the block's rows it overwrites. -/
theorem blk_spec (i : grid0.Coords) (arg2 : Memref sig .tc .smem S32x384 .i32) (arg3 : Memref sig .tc .vmem S2048x256 .bf16)
    (arg4 : Memref sig .tc .vmem S3072x256 .i32) (arg5 : Memref sig .tc .vmem S1x256x256 .f32)
    (arg8 : Memref sig .tc .vmem S2048x256 .bf16) (harg8 : arg8.IsWhole) (arg9 : Memref sig .tc .vmem S4x46784x128 .fp8e4m3)
    (v10 : IVec S32x128 32) (k : Fin k0_t1_loop.trips) (u : Fin 8)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f8 : Buf (Elt F) (arg8.view.loc (c : Thread nD τ))) (f9 : Buf (Elt F) (arg9.view.loc (c : Thread nD τ)))
    (S : Finset (Idx (arg9.view.loc (c : Thread nD τ))))
    (wa wb wt : Fin 8 → BitVec 32)
    (ra : ∀ v : Fin 8, wordAt c arg2 f2 (tabRect ⟨v.val, by omega⟩ i k u) numel1_S1x1 = wa v)
    (rb : ∀ v : Fin 8, wordAt c arg2 f2 (tabRect ⟨8 + v.val, by omega⟩ i k u) numel1_S1x1 = wb v)
    (rt : ∀ v : Fin 8, wordAt c arg2 f2 (tabRect ⟨16 + v.val, by omega⟩ i k u) numel1_S1x1 = wt v)
    (ha : ∀ v, Fits i (wa v)) (hb : ∀ v, Fits i (wb v))
    (hS : ∀ v g h, (arg9.access (bufRect i v g h)).set ⊆ S) {α : Type}
    (K : PUnit → Prog (TpuEff nD τ sig (Elt F) Λ₀ .tc) α) (Q : α → sProp (MT nD τ sig Unit (Elt F) ℕ U ℕ))
    (q2 q3 q4 q5 q9 : PosShare TreeShare)
    (y : Fin 2 → Vec F S16x128 .bf16)
    (hy : ∀ r, r = prod ((arg4.access (maskRect i k u)).read (Elt F) f4) ((arg5.access (coefRect k u 0)).read (Elt F) f5)
        ((arg5.access (coefRect k u 1)).read (Elt F) f5) (stack (slotOf c i arg9 v10 0 f9 wa wb wt ha hb))
        (stack (slotOf c i arg9 v10 1 f9 wa wb wt ha hb)) →
      y 0 = out0 ((arg3.access (outRect k u 0)).read (Elt F) f3) r ∧ y 1 = out1 ((arg3.access (outRect k u 1)).read (Elt F) f3) r) :
    iprop((arg2.view.loc (c : Thread nD τ) ↦{q2} f2) ∗ (arg3.view.loc (c : Thread nD τ) ↦{q3} f3) ∗
        (arg4.view.loc (c : Thread nD τ) ↦{q4} f4) ∗ (arg5.view.loc (c : Thread nD τ) ↦{q5} f5) ∗
        (arg8.view.loc (c : Thread nD τ) ↦{fullShare} f8) ∗ (arg9.view.loc (c : Thread nD τ) ↦[S]{q9} f9) ∗
        ((arg2.view.loc (c : Thread nD τ) ↦{q2} f2) -∗ (arg3.view.loc (c : Thread nD τ) ↦{q3} f3) -∗
          (arg4.view.loc (c : Thread nD τ) ↦{q4} f4) -∗ (arg5.view.loc (c : Thread nD τ) ↦{q5} f5) -∗
          (arg8.view.loc (c : Thread nD τ) ↦{fullShare} ((arg8.access (outRect k u 1)).write (Elt F) ((arg8.access (outRect k u 0)).write (Elt F) f8 (y 0) Finset.univ)
            (y 1) Finset.univ)) -∗
          (arg9.view.loc (c : Thread nD τ) ↦[S]{q9} f9) -∗
          wp frame (wpE (defs₀ (F := F)) 𝒱 (c : Thread nD τ) bd) Set.univ (K ⟨⟩) Q))
      ⊢ wp frame (wpE (defs₀ (F := F)) 𝒱 (c : Thread nD τ) bd) Set.univ
        (blk i arg2 arg3 arg4 arg5 arg8 harg8 arg9 v10 k u >>= K) Q := by
  obtain ⟨hy0, hy1⟩ := hy _ rfl
  unfold blk
  simp only [bind_assoc, pure_bind]
  iintro ⟨H2, H3, H4, H5, H8, H9, HR⟩
  iapply (place_spec 𝒱 c bd _ _ arg2 f2 (tabRect 0 i k u) numel1_S1x1 (wa 0) (ra 0) (ha 0))
  iframe H2
  iintro H2
  iapply (place_spec 𝒱 c bd _ _ arg2 f2 (tabRect 1 i k u) numel1_S1x1 (wa 1) (ra 1) (ha 1))
  iframe H2
  iintro H2
  iapply (place_spec 𝒱 c bd _ _ arg2 f2 (tabRect 2 i k u) numel1_S1x1 (wa 2) (ra 2) (ha 2))
  iframe H2
  iintro H2
  iapply (place_spec 𝒱 c bd _ _ arg2 f2 (tabRect 3 i k u) numel1_S1x1 (wa 3) (ra 3) (ha 3))
  iframe H2
  iintro H2
  iapply (place_spec 𝒱 c bd _ _ arg2 f2 (tabRect 4 i k u) numel1_S1x1 (wa 4) (ra 4) (ha 4))
  iframe H2
  iintro H2
  iapply (place_spec 𝒱 c bd _ _ arg2 f2 (tabRect 5 i k u) numel1_S1x1 (wa 5) (ra 5) (ha 5))
  iframe H2
  iintro H2
  iapply (place_spec 𝒱 c bd _ _ arg2 f2 (tabRect 6 i k u) numel1_S1x1 (wa 6) (ra 6) (ha 6))
  iframe H2
  iintro H2
  iapply (place_spec 𝒱 c bd _ _ arg2 f2 (tabRect 7 i k u) numel1_S1x1 (wa 7) (ra 7) (ha 7))
  iframe H2
  iintro H2
  iapply (place_spec 𝒱 c bd _ _ arg2 f2 (tabRect 8 i k u) numel1_S1x1 (wb 0) (rb 0) (hb 0))
  iframe H2
  iintro H2
  iapply (place_spec 𝒱 c bd _ _ arg2 f2 (tabRect 9 i k u) numel1_S1x1 (wb 1) (rb 1) (hb 1))
  iframe H2
  iintro H2
  iapply (place_spec 𝒱 c bd _ _ arg2 f2 (tabRect 10 i k u) numel1_S1x1 (wb 2) (rb 2) (hb 2))
  iframe H2
  iintro H2
  iapply (place_spec 𝒱 c bd _ _ arg2 f2 (tabRect 11 i k u) numel1_S1x1 (wb 3) (rb 3) (hb 3))
  iframe H2
  iintro H2
  iapply (place_spec 𝒱 c bd _ _ arg2 f2 (tabRect 12 i k u) numel1_S1x1 (wb 4) (rb 4) (hb 4))
  iframe H2
  iintro H2
  iapply (place_spec 𝒱 c bd _ _ arg2 f2 (tabRect 13 i k u) numel1_S1x1 (wb 5) (rb 5) (hb 5))
  iframe H2
  iintro H2
  iapply (place_spec 𝒱 c bd _ _ arg2 f2 (tabRect 14 i k u) numel1_S1x1 (wb 6) (rb 6) (hb 6))
  iframe H2
  iintro H2
  iapply (place_spec 𝒱 c bd _ _ arg2 f2 (tabRect 15 i k u) numel1_S1x1 (wb 7) (rb 7) (hb 7).both)
  iframe H2
  iintro H2
  iapply (word_spec 𝒱 c bd arg2 f2 (tabRect 16 i k u) numel1_S1x1 (wt 0) (rt 0))
  iframe H2
  iintro H2
  iapply (word_spec 𝒱 c bd arg2 f2 (tabRect 17 i k u) numel1_S1x1 (wt 1) (rt 1))
  iframe H2
  iintro H2
  iapply (word_spec 𝒱 c bd arg2 f2 (tabRect 18 i k u) numel1_S1x1 (wt 2) (rt 2))
  iframe H2
  iintro H2
  iapply (word_spec 𝒱 c bd arg2 f2 (tabRect 19 i k u) numel1_S1x1 (wt 3) (rt 3))
  iframe H2
  iintro H2
  iapply (word_spec 𝒱 c bd arg2 f2 (tabRect 20 i k u) numel1_S1x1 (wt 4) (rt 4))
  iframe H2
  iintro H2
  iapply (word_spec 𝒱 c bd arg2 f2 (tabRect 21 i k u) numel1_S1x1 (wt 5) (rt 5))
  iframe H2
  iintro H2
  iapply (word_spec 𝒱 c bd arg2 f2 (tabRect 22 i k u) numel1_S1x1 (wt 6) (rt 6))
  iframe H2
  iintro H2
  iapply (word_spec 𝒱 c bd arg2 f2 (tabRect 23 i k u) numel1_S1x1 (wt 7) (rt 7))
  iframe H2
  iintro H2
  iapply (wp_load_rect 𝒱 (c : Thread nD τ) bd Set.univ (m := arg4) (r := maskRect i k u) (Finset.subset_univ _)) $$ H4
  iintro H4
  iapply (wp_load_rect 𝒱 (c : Thread nD τ) bd Set.univ (m := arg5) (r := coefRect k u 0) (Finset.subset_univ _)) $$ H5
  iintro H5
  iapply (plane_spec 𝒱 c bd i arg9 v10 0 wa wb wt ha hb S f9 (fun v h => hS v 0 h))
  iframe H9
  iintro H9
  iapply (wp_load_rect 𝒱 (c : Thread nD τ) bd Set.univ (m := arg5) (r := coefRect k u 1) (Finset.subset_univ _)) $$ H5
  iintro H5
  iapply (plane_spec 𝒱 c bd i arg9 v10 1 wa wb wt ha hb S f9 (fun v h => hS v 1 h))
  iframe H9
  iintro H9
  iapply (wp_load_rect 𝒱 (c : Thread nD τ) bd Set.univ (m := arg3) (r := outRect k u 0) (Finset.subset_univ _)) $$ H3
  iintro H3
  iapply (wp_load_rect 𝒱 (c : Thread nD τ) bd Set.univ (m := arg8) (r := outRect k u 0) (Finset.subset_univ _)) $$ H8
  iintro H8
  iapply (wp_store 𝒱 (c : Thread nD τ) bd Set.univ (m := arg8) (r := outRect k u 0) (Finset.subset_univ _)) $$ H8
  iintro H8
  iapply (wp_load_rect 𝒱 (c : Thread nD τ) bd Set.univ (m := arg3) (r := outRect k u 1) (Finset.subset_univ _)) $$ H3
  iintro H3
  iapply (wp_load_rect 𝒱 (c : Thread nD τ) bd Set.univ (m := arg8) (r := outRect k u 1) (Finset.subset_univ _)) $$ H8
  iintro H8
  iapply (wp_store 𝒱 (c : Thread nD τ) bd Set.univ (m := arg8) (r := outRect k u 1) (Finset.subset_univ _)) $$ H8
  iintro H8
  rw [hy0, hy1]
  iapply HR $$ H2 H3 H4 H5 H8 H9

end Cert.KernelIdeal.Hand
-- ==== Proof.BlockValue.lean ====
/- What one block of the kernel computes over the extended reals, element by element. -/
module

public import proofs.«01_k».proof.Proof.BlockSpec
public import Idealize.ShloMosaic.Lib.Pipeline.ValueKit
public import Idealize.ShloMosaic.Lib.BitcastPair

@[expose] public section
set_option maxRecDepth 16384

noncomputable section
namespace Cert.KernelIdeal.Hand

open Cert.KernelIdeal Cert.KernelIdeal.Gen
open Idealize.ShloMosaic Idealize.ShloMosaic.TcCoe Idealize.SL.Sem

/-- A low half word is nonzero exactly when the word's low sixteen bits are. -/
theorem low_ne (w : BitVec 32) : IntOp.cmpi .ne (w.extractLsb' 0 16) 0#16 = IntOp.cmpi .ne (IntOp.andi w 65535#32) 0#32 := by
  have e : (w.extractLsb' 0 16).toNat = (w &&& 65535#32).toNat := by
    rw [BitVec.extractLsb'_toNat, BitVec.toNat_and, BitVec.toNat_ofNat]
    exact (Nat.and_two_pow_sub_one_eq_mod w.toNat 16).symm
  simp only [IntOp.cmpi, IntOp.andi]
  congr 1
  rw [Bool.eq_iff_iff]
  simp only [bne_iff_ne, ne_eq, ← BitVec.toNat_inj, e]
  simp

/-- A high half word is nonzero exactly when the word shifted down is. -/
theorem high_ne (w : BitVec 32) : IntOp.cmpi .ne (w.extractLsb' 16 16) 0#16 = IntOp.cmpi .ne (IntOp.shrui .host w 16#32) 0#32 := by
  have e : (w.extractLsb' 16 16).toNat = (w >>> 16).toNat := by
    rw [BitVec.extractLsb'_toNat, BitVec.toNat_ushiftRight]
    exact Nat.mod_eq_of_lt (by have := w.isLt; rw [Nat.shiftRight_eq_div_pow]; omega)
  have e2 : IntOp.shrui .host w 16#32 = w >>> 16 := by
    simp [IntOp.shrui]
  rw [e2]
  simp only [IntOp.cmpi]
  congr 1
  rw [Bool.eq_iff_iff]
  simp only [bne_iff_ne, ne_eq, ← BitVec.toNat_inj, e]
  simp

theorem maskBits_at (m : Vec Ideal S8x256 .i32) (r : Fin 16) (j : Fin 256) :
    maskBits (F := Ideal) m (ix2 r j) =
      if r.val % 2 < 1 then IntOp.cmpi .ne (IntOp.andi (m (ix2 ⟨r.val / 2, by omega⟩ j)) 65535#32) 0#32
      else IntOp.cmpi .ne (IntOp.shrui .host (m (ix2 ⟨r.val / 2, by omega⟩ j)) 16#32) 0#32 := by
  have hs : bitcast S16x256 16 m bitcasts_S8x256_w32_S16x256_w16 (ix2 r j) =
      (m (ix2 ⟨r.val / 2, by omega⟩ j)).extractLsb' (16 * (r.val % 2)) 16 := by
    rw [bitcast_32_16]
    have hr : S16x256.row (ix2 r j) = r.val := rfl
    simp only [hr]
    refine congrArg (fun y => (m y).extractLsb' (16 * (r.val % 2)) 16) (funext fun a => Fin.ext ?_)
    match a with
    | ⟨0, _⟩ => exact (Shape.Bitcasts.srcIdx_row _ _ _ _ _ rfl)
    | ⟨1, _⟩ => exact (Shape.Bitcasts.srcIdx_other _ _ _ _ _ (show ¬ (1 + 2 = 2) by decide))
  show IntOp.cmpi .ne (bitcast S16x256 16 m bitcasts_S8x256_w32_S16x256_w16 (ix2 r j)) 0#16 = _
  rw [hs]
  split
  · rw [show r.val % 2 = 0 by omega]; exact low_ne _
  · rw [show r.val % 2 = 1 by omega]; exact high_ne _

/-- The 256 rows are the eight slots' 32 rows in order. -/
theorem stack_at (s : Fin 8 → FVec Ideal S32x128 .fp8e4m3) (j : Fin 256) (l : Fin 128) :
    stack s (ix2 j l) = s ⟨j.val / 32, by omega⟩ (ix2 ⟨j.val % 32, by omega⟩ l) :=
  concatenate_ofFn_apply (t := S256x128) (s₁ := S32x128) 0 s
    concatenates_S32x128_S32x128_S32x128_S32x128_S32x128_S32x128_S32x128_S32x128_S256x128_d0 rfl 32 rfl (ix2 j l) ⟨j.val / 32, by omega⟩ rfl
    (ix2 ⟨j.val % 32, by omega⟩ l) rfl (fun b hb => by
      match b with
      | ⟨0, _⟩ => exact absurd rfl hb
      | ⟨1, _⟩ => rfl)

theorem coefRow_at (c : Vec Ideal S1x1x256 .f32) (r : Fin 16) (j : Fin 256) : coefRow c (ix2 r j) = c (ix3 0 0 j) := by
  unfold coefRow; pointwise

theorem masked_at (b : IVec S16x256 1) (v : FVec Ideal S16x256 .f32) (r : Fin 16) (j : Fin 256) :
    masked b v (ix2 r j) = Scalar.select (b (ix2 r j)) (v (ix2 r j)) 0 := by
  unfold masked; pointwise

theorem head_at (v : FVec Ideal S16x256 .f32) (r : Fin 16) (j : Fin 256) : head v (ix2 r j) = v (ix2 r j) := by
  unfold head; pointwise

theorem rest_at (v : FVec Ideal S16x256 .f32) (r : Fin 16) (j : Fin 256) (h : v (ix2 r j) ≠ ⊤) (h' : v (ix2 r j) ≠ ⊥) :
    rest v (ix2 r j) = 0 := by
  have e : rest v (ix2 r j) = v (ix2 r j) - v (ix2 r j) := by unfold rest head; pointwise
  rw [e]; exact EReal.sub_self h h'

theorem rest_rest_at (v : FVec Ideal S16x256 .f32) (r : Fin 16) (j : Fin 256) (h : v (ix2 r j) ≠ ⊤) (h' : v (ix2 r j) ≠ ⊥) :
    rest (rest v) (ix2 r j) = 0 :=
  rest_at _ _ _ (by rw [rest_at v r j h h']; exact EReal.zero_ne_top) (by rw [rest_at v r j h h']; exact EReal.zero_ne_bot)

/-- The six parts of the left operand. -/
def part (m : Vec Ideal S8x256 .i32) (c0 c1 : Vec Ideal S1x1x256 .f32) (q : Fin 6) : FVec Ideal S16x256 .bf16 :=
  match q with
  | 0 => masked (maskBits (F := Ideal) m) (head (coefRow c0))
  | 1 => masked (maskBits (F := Ideal) m) (head (rest (coefRow c0)))
  | 2 => masked (maskBits (F := Ideal) m) (rest (rest (coefRow c0)))
  | 3 => masked (maskBits (F := Ideal) m) (head (coefRow c1))
  | 4 => masked (maskBits (F := Ideal) m) (head (rest (coefRow c1)))
  | 5 => masked (maskBits (F := Ideal) m) (rest (rest (coefRow c1)))

theorem lhs_at (m : Vec Ideal S8x256 .i32) (c0 c1 : Vec Ideal S1x1x256 .f32) (q : Fin 6) (r : Fin 16) (j : Fin 256) :
    lhs m c0 c1 (ix2 ⟨16 * q.val + r.val, by omega⟩ j) = part m c0 c1 q (ix2 r j) :=
  concatenate_ofFn_apply (t := S96x256) (s₁ := S16x256) 0 (part m c0 c1)
    concatenates_S16x256_S16x256_S16x256_S16x256_S16x256_S16x256_S96x256_d0 rfl 16 rfl (ix2 ⟨16 * q.val + r.val, by omega⟩ j) q
    (by show (16 * q.val + r.val) / 16 = q.val; omega)
    (ix2 r j) (by show r.val = (16 * q.val + r.val) % 16; omega) (fun b hb => by
      match b with
      | ⟨0, _⟩ => exact absurd rfl hb
      | ⟨1, _⟩ => rfl)

theorem prod_at (m : Vec Ideal S8x256 .i32) (c0 c1 : Vec Ideal S1x1x256 .f32) (p0 p1 : FVec Ideal S256x128 .fp8e4m3) (R : Fin 96) (C : Fin 256) :
    prod m c0 c1 p0 p1 (ix2 R C) = ∑ j : Fin 256, lhs m c0 c1 (ix2 R j) *
      (if h : C.val < 128 then p0 (ix2 j ⟨C.val, h⟩) else p1 (ix2 j ⟨C.val - 128, by omega⟩)) := by
  unfold prod; pointwise

/-- A row of the product, over a part of the left operand. -/
theorem prod_part (m : Vec Ideal S8x256 .i32) (c0 c1 : Vec Ideal S1x1x256 .f32) (p0 p1 : FVec Ideal S256x128 .fp8e4m3) (q : Fin 6) (r : Fin 16)
    (C : Fin 256) : prod m c0 c1 p0 p1 (ix2 ⟨16 * q.val + r.val, by omega⟩ C) = ∑ j : Fin 256, part m c0 c1 q (ix2 r j) *
      (if h : C.val < 128 then p0 (ix2 j ⟨C.val, h⟩) else p1 (ix2 j ⟨C.val - 128, by omega⟩)) := by
  rw [prod_at]
  exact Finset.sum_congr rfl fun j _ => by rw [lhs_at]

theorem prod_zero (m : Vec Ideal S8x256 .i32) (c0 c1 : Vec Ideal S1x1x256 .f32) (p0 p1 : FVec Ideal S256x128 .fp8e4m3) (q : Fin 6) (r : Fin 16)
    (C : Fin 256) (h : ∀ j, part m c0 c1 q (ix2 r j) = 0) : prod m c0 c1 p0 p1 (ix2 ⟨16 * q.val + r.val, by omega⟩ C) = 0 := by
  rw [prod_part]
  exact Finset.sum_eq_zero fun j _ => by rw [h j, zero_mul]

theorem select_zero (b : BitVec 1) : Scalar.select b (0 : EReal) 0 = 0 := by
  unfold Scalar.select; split <;> rfl

theorem out0_parts (x : Vec Ideal S16x128 .bf16) (v : FVec Ideal S96x256 .f32) (r : Fin 16) (l : Fin 128) :
    out0 x v (ix2 r l) = x (ix2 r l) + ((v (ix2 ⟨16 * (0 : Fin 6).val + r.val, by have := r.isLt; simp; omega⟩ ⟨l.val, by omega⟩)
      + v (ix2 ⟨16 * (1 : Fin 6).val + r.val, by have := r.isLt; simp; omega⟩ ⟨l.val, by omega⟩))
      + v (ix2 ⟨16 * (2 : Fin 6).val + r.val, by have := r.isLt; simp; omega⟩ ⟨l.val, by omega⟩)) := by
  have e : out0 x v (ix2 r l) = x (ix2 r l) + ((v (ix2 ⟨0 + r.val, by omega⟩ ⟨0 + l.val, by omega⟩)
      + v (ix2 ⟨16 + r.val, by omega⟩ ⟨0 + l.val, by omega⟩)) + v (ix2 ⟨32 + r.val, by omega⟩ ⟨0 + l.val, by omega⟩)) := by
    unfold out0; pointwise
  have hl : (⟨0 + l.val, by omega⟩ : Fin 256) = ⟨l.val, by omega⟩ := Fin.ext (Nat.zero_add _)
  rw [e, hl]; rfl

theorem out1_parts (x : Vec Ideal S16x128 .bf16) (v : FVec Ideal S96x256 .f32) (r : Fin 16) (l : Fin 128) :
    out1 x v (ix2 r l) = x (ix2 r l) + ((v (ix2 ⟨16 * (3 : Fin 6).val + r.val, by have := r.isLt; show 16 * 3 + r.val < 96; omega⟩ ⟨128 + l.val, by omega⟩)
      + v (ix2 ⟨16 * (4 : Fin 6).val + r.val, by have := r.isLt; show 16 * 4 + r.val < 96; omega⟩ ⟨128 + l.val, by omega⟩))
      + v (ix2 ⟨16 * (5 : Fin 6).val + r.val, by have := r.isLt; show 16 * 5 + r.val < 96; omega⟩ ⟨128 + l.val, by omega⟩)) := by
  have e : out1 x v (ix2 r l) = x (ix2 r l) + ((v (ix2 ⟨48 + r.val, by omega⟩ ⟨128 + l.val, by omega⟩)
      + v (ix2 ⟨64 + r.val, by omega⟩ ⟨128 + l.val, by omega⟩)) + v (ix2 ⟨80 + r.val, by omega⟩ ⟨128 + l.val, by omega⟩)) := by
    unfold out1; pointwise
  rw [e]; rfl

variable (m : Vec Ideal S8x256 .i32) (c0 c1 : Vec Ideal S1x1x256 .f32) (p0 p1 : FVec Ideal S256x128 .fp8e4m3)

/-- What a block stores in its first column group: the coefficients being real, the parts after the first are zero. -/
theorem out0_at (x : Vec Ideal S16x128 .bf16) (hc : ∀ j, c0 (ix3 0 0 j) ≠ ⊤ ∧ c0 (ix3 0 0 j) ≠ ⊥) (r : Fin 16) (l : Fin 128) :
    out0 x (prod m c0 c1 p0 p1) (ix2 r l) =
      x (ix2 r l) + ∑ j : Fin 256, Scalar.select (maskBits (F := Ideal) m (ix2 r j)) (c0 (ix3 0 0 j)) 0 * p0 (ix2 j l) := by
  have hr : ∀ j, coefRow c0 (ix2 r j) ≠ ⊤ ∧ coefRow c0 (ix2 r j) ≠ ⊥ := fun j => by rw [coefRow_at]; exact hc j
  rw [out0_parts, prod_zero m c0 c1 p0 p1 1 r _ (fun j => (masked_at _ _ r j).trans (by rw [head_at, rest_at _ _ _ (hr j).1 (hr j).2]; exact select_zero _)),
    prod_zero m c0 c1 p0 p1 2 r _ (fun j => (masked_at _ _ r j).trans (by rw [rest_rest_at _ _ _ (hr j).1 (hr j).2]; exact select_zero _)),
    prod_part, add_zero, add_zero]
  congr 1
  refine Finset.sum_congr rfl fun j _ => ?_
  rw [dif_pos (show l.val < 128 from l.isLt)]
  congr 1
  exact (masked_at _ _ r j).trans (by rw [head_at, coefRow_at])

theorem out1_at (x : Vec Ideal S16x128 .bf16) (hc : ∀ j, c1 (ix3 0 0 j) ≠ ⊤ ∧ c1 (ix3 0 0 j) ≠ ⊥) (r : Fin 16) (l : Fin 128) :
    out1 x (prod m c0 c1 p0 p1) (ix2 r l) =
      x (ix2 r l) + ∑ j : Fin 256, Scalar.select (maskBits (F := Ideal) m (ix2 r j)) (c1 (ix3 0 0 j)) 0 * p1 (ix2 j l) := by
  have hr : ∀ j, coefRow c1 (ix2 r j) ≠ ⊤ ∧ coefRow c1 (ix2 r j) ≠ ⊥ := fun j => by rw [coefRow_at]; exact hc j
  rw [out1_parts, prod_zero m c0 c1 p0 p1 4 r _ (fun j => (masked_at _ _ r j).trans (by rw [head_at, rest_at _ _ _ (hr j).1 (hr j).2]; exact select_zero _)),
    prod_zero m c0 c1 p0 p1 5 r _ (fun j => (masked_at _ _ r j).trans (by rw [rest_rest_at _ _ _ (hr j).1 (hr j).2]; exact select_zero _)),
    prod_part, add_zero, add_zero]
  congr 1
  refine Finset.sum_congr rfl fun j _ => ?_
  rw [dif_neg (show ¬ 128 + l.val < 128 by omega)]
  congr 1
  · exact (masked_at _ _ r j).trans (by rw [head_at, coefRow_at])
  · exact congrArg (fun y => p1 (ix2 j y)) (Fin.ext (by show 128 + l.val - 128 = l.val; omega))

/-- One slot's rows, by the place of each. -/
theorem mix_at (v10 : IVec S32x128 32) (t : BitVec 32) (a b : Vec Ideal S1x32x128 .fp8e4m3) (i : Fin 32) (l : Fin 128) :
    mix v10 t a b (ix2 i l) = Scalar.select (IntOp.cmpi .slt (v10 (ix2 i l)) (IntOp.muli 4#32 t)) (a (ix3 0 i l)) (b (ix3 0 i l)) := by
  unfold mix below; pointwise; rfl

end Cert.KernelIdeal.Hand
end
-- ==== Proof.Copies.lean ====
/- The copies that fill the row buffer: each of the buffer's two slots takes the two planes of one 256 column group by four
   transfers on the slot's semaphore; what each transfer leaves, and the rule for issuing one. -/
module

public import proofs.«01_k».proof.Proof.Block
public import proofs.«01_k».proof.Proof.Gen.KernelIdeal.Launch
public import proofs.«01_k».proof.Proof.Gen.KernelIdeal.Points
public import Idealize.ShloMosaic.Lib.Pipeline.FrameBody
public import Idealize.ShloMosaic.Lib.MixedBatch
public import Idealize.ShloMosaic.Lib.ViewIndex
public import Idealize.ShloMosaic.Lib.ValueLayout
public import Idealize.ShloMosaic.Lib.Tactic

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The transfers' ends -/

/-- The expert rows, the tail rows and the row buffer, whole. -/
abbrev rowsM : Memref sig .tc .hbm S46695x5120 .fp8e4m3 := Memref.whole main_arg4
abbrev tailM : Memref sig .tc .hbm S96x5120 .fp8e4m3 := Memref.whole main_arg5
abbrev bufM : Memref sig .tc .vmem S4x46784x128 .fp8e4m3 := Memref.whole cc0_scratch0

abbrev rowsSrc (o : Fin 2 → ℕ) (h : ∀ a, o a + S46688x128.size a ≤ S46695x5120.size a) : Memref sig .tc .hbm S46688x128 .fp8e4m3 :=
  rowsM.slice (Rect.unit (s := S46695x5120) o S46688x128.size h) (fun _ => rfl)
abbrev tailSrc (o : Fin 2 → ℕ) (h : ∀ a, o a + S96x128.size a ≤ S96x5120.size a) : Memref sig .tc .hbm S96x128 .fp8e4m3 :=
  tailM.slice (Rect.unit (s := S96x5120) o S96x128.size h) (fun _ => rfl)
abbrev rowsDst (o : Fin 3 → ℕ) (h : ∀ a, o a + S1x46688x128.size a ≤ S4x46784x128.size a) : Memref sig .tc .vmem S46688x128 .fp8e4m3 :=
  (bufM.slice (Rect.unit (s := S4x46784x128) o S1x46688x128.size h) (fun _ => rfl)).squeeze S46688x128 squeezes_S1x46688x128_S46688x128
abbrev tailDst (o : Fin 3 → ℕ) (h : ∀ a, o a + S1x96x128.size a ≤ S4x46784x128.size a) : Memref sig .tc .vmem S96x128 .fp8e4m3 :=
  (bufM.slice (Rect.unit (s := S4x46784x128) o S1x96x128.size h) (fun _ => rfl)).squeeze S96x128 squeezes_S1x96x128_S96x128

/-- The offsets in closed form: column group `p`'s half `g`, slot `sl`'s plane `g` from row `r`. -/
abbrev srcOff (p : Fin 20) (g : Fin 2) : Fin 2 → ℕ := ![0, 256 * p.val + 128 * g.val]
abbrev dstOff (sl g : Fin 2) (r : ℕ) : Fin 3 → ℕ := ![2 * sl.val + g.val, r, 0]

theorem rowsSrc_inb (p : Fin 20) (g : Fin 2) : ∀ a, srcOff p g a + S46688x128.size a ≤ S46695x5120.size a := by
  intro a; fin_cases a <;> simp [srcOff, S46688x128, S46695x5120]; omega
theorem tailSrc_inb (p : Fin 20) (g : Fin 2) : ∀ a, srcOff p g a + S96x128.size a ≤ S96x5120.size a := by
  intro a; fin_cases a <;> simp [srcOff, S96x128, S96x5120]; omega

/-- The elements of plane `g` of slot `sl` that come from the expert rows, and those that come from the tail. -/
noncomputable def mainPart (sl g : Fin 2) : Finset S4x46784x128.Idx :=
  Finset.univ.filter fun x => (x 0).val = 2 * sl.val + g.val ∧ (x 1).val < 46688
noncomputable def tailPart (sl g : Fin 2) : Finset S4x46784x128.Idx :=
  Finset.univ.filter fun x => (x 0).val = 2 * sl.val + g.val ∧ 46688 ≤ (x 1).val
/-- The elements of slot `sl`. -/
noncomputable def slotPart (sl : Fin 2) : Finset S4x46784x128.Idx :=
  Finset.univ.filter fun x => (x 0).val / 2 = sl.val

/-- What a slot holds of column group `p`: the expert rows' columns, then the tail's. -/
noncomputable def filled (fy : S46695x5120.Idx → Elt F .fp8e4m3) (ft : S96x5120.Idx → Elt F .fp8e4m3) (p : Fin 20) :
    S4x46784x128.Idx → Elt F .fp8e4m3 := fun x =>
  have h0 : (x 0).val < 4 := (x 0).isLt
  have h1 : (x 1).val < 46784 := (x 1).isLt
  have h2 : (x 2).val < 128 := (x 2).isLt
  if h : (x 1).val < 46688 then
    fy (ix2 (⟨(x 1).val, by omega⟩ : Fin 46695) (⟨256 * p.val + 128 * ((x 0).val % 2) + (x 2).val, by omega⟩ : Fin 5120))
  else ft (ix2 (⟨(x 1).val - 46688, by omega⟩ : Fin 96) (⟨256 * p.val + 128 * ((x 0).val % 2) + (x 2).val, by omega⟩ : Fin 5120))

theorem rowsDst_emb (sl g : Fin 2) (o : Fin 3 → ℕ) (h) (e : o = dstOff sl g 0) (r : Fin 46688) (l : Fin 128) (x : S4x46784x128.Idx)
    (h0 : (x 0).val = 2 * sl.val + g.val) (h1 : (x 1).val = r.val) (h2 : (x 2).val = l.val) :
    (rowsDst o h).view.emb (ix2 r l) = x := by
  subst e
  show (Rect.unit (s := S4x46784x128) (dstOff sl g 0) S1x46688x128.size h).emb (Shape.reshapeEquiv _ (ix2 r l)) = x
  rw [reshapeEquiv_ix2_1ab]
  funext a; apply Fin.ext
  rw [Rect.emb_apply]
  match a with
  | 0 => show 2 * sl.val + g.val + 1 * 0 = (x 0).val; omega
  | 1 => show 0 + 1 * r.val = (x 1).val; omega
  | 2 => show 0 + 1 * l.val = (x 2).val; omega

theorem tailDst_emb (sl g : Fin 2) (o : Fin 3 → ℕ) (h) (e : o = dstOff sl g 46688) (r : Fin 96) (l : Fin 128) (x : S4x46784x128.Idx)
    (h0 : (x 0).val = 2 * sl.val + g.val) (h1 : (x 1).val = 46688 + r.val) (h2 : (x 2).val = l.val) :
    (tailDst o h).view.emb (ix2 r l) = x := by
  subst e
  show (Rect.unit (s := S4x46784x128) (dstOff sl g 46688) S1x96x128.size h).emb (Shape.reshapeEquiv _ (ix2 r l)) = x
  rw [reshapeEquiv_ix2_1ab]
  funext a; apply Fin.ext
  rw [Rect.emb_apply]
  match a with
  | 0 => show 2 * sl.val + g.val + 1 * 0 = (x 0).val; omega
  | 1 => show 46688 + 1 * r.val = (x 1).val; omega
  | 2 => show 0 + 1 * l.val = (x 2).val; omega

/-- What a transfer of expert rows writes. -/
theorem rows_written (fy : S46695x5120.Idx → Elt F .fp8e4m3) (ft : S96x5120.Idx → Elt F .fp8e4m3) (p : Fin 20) (sl g : Fin 2)
    (o : Fin 3 → ℕ) (h) (e : o = dstOff sl g 0) (o' : Fin 2 → ℕ) (h') (e' : o' = srcOff p g)
    (fd : S4x46784x128.Idx → Elt F .fp8e4m3) :
    ∀ x ∈ mainPart sl g, (rowsDst o h).view.write (Elt F) fd (ReadAs.same.apply ((rowsSrc o' h').view.read (Elt F) fy)) Finset.univ x
      = filled fy ft p x := by
  intro x hx
  obtain ⟨hx0, hx1⟩ := (Finset.mem_filter.mp hx).2
  have h0 : (x 0).val < 4 := (x 0).isLt
  have h2 : (x 2).val < 128 := (x 2).isLt
  have hg := g.isLt
  have hr := rowsDst_emb sl g o h e ⟨(x 1).val, hx1⟩ ⟨(x 2).val, h2⟩ x hx0 rfl rfl
  conv_lhs => rw [← hr]
  rw [View.write_emb_of_mem _ _ (Finset.mem_univ _)]
  unfold filled
  rw [dif_pos hx1]
  subst e'
  refine congrArg fy (funext fun a => Fin.ext ?_)
  show ((Rect.unit (s := S46695x5120) (srcOff p g) S46688x128.size h').emb _ a).val = _
  rw [Rect.emb_apply]
  match a with
  | 0 => show 0 + 1 * (x 1).val = (x 1).val; omega
  | 1 => show 256 * p.val + 128 * g.val + 1 * (x 2).val = 256 * p.val + 128 * ((x 0).val % 2) + (x 2).val; omega

/-- What a transfer of tail rows writes. -/
theorem tail_written (fy : S46695x5120.Idx → Elt F .fp8e4m3) (ft : S96x5120.Idx → Elt F .fp8e4m3) (p : Fin 20) (sl g : Fin 2)
    (o : Fin 3 → ℕ) (h) (e : o = dstOff sl g 46688) (o' : Fin 2 → ℕ) (h') (e' : o' = srcOff p g)
    (fd : S4x46784x128.Idx → Elt F .fp8e4m3) :
    ∀ x ∈ tailPart sl g, (tailDst o h).view.write (Elt F) fd (ReadAs.same.apply ((tailSrc o' h').view.read (Elt F) ft)) Finset.univ x
      = filled fy ft p x := by
  intro x hx
  obtain ⟨hx0, hx1⟩ := (Finset.mem_filter.mp hx).2
  have h0 : (x 0).val < 4 := (x 0).isLt
  have h1 : (x 1).val < 46784 := (x 1).isLt
  have h2 : (x 2).val < 128 := (x 2).isLt
  have hg := g.isLt
  have hr := tailDst_emb sl g o h e ⟨(x 1).val - 46688, by omega⟩ ⟨(x 2).val, h2⟩ x hx0 (by show _ = 46688 + ((x 1).val - 46688); omega) rfl
  conv_lhs => rw [← hr]
  rw [View.write_emb_of_mem _ _ (Finset.mem_univ _)]
  unfold filled
  rw [dif_neg (by omega)]
  subst e'
  refine congrArg ft (funext fun a => Fin.ext ?_)
  show ((Rect.unit (s := S96x5120) (srcOff p g) S96x128.size h').emb _ a).val = _
  rw [Rect.emb_apply]
  match a with
  | 0 => show 0 + 1 * ((x 1).val - 46688) = (x 1).val - 46688; omega
  | 1 => show 256 * p.val + 128 * g.val + 1 * (x 2).val = 256 * p.val + 128 * ((x 0).val % 2) + (x 2).val; omega

theorem rowsDst_sub (sl g : Fin 2) (o : Fin 3 → ℕ) (h) (e : o = dstOff sl g 0) : (rowsDst o h).view.set ⊆ mainPart sl g := by
  subst e
  intro x hx
  have hx' : x ∈ (Rect.unit (s := S4x46784x128) (dstOff sl g 0) S1x46688x128.size h).set := by
    have hs : (rowsDst (dstOff sl g 0) h).view.set = (Rect.unit (s := S4x46784x128) (dstOff sl g 0) S1x46688x128.size h).set :=
      (View.set_reshape _ _).trans (View.set_slice_whole _ _)
    rw [← hs]; exact hx
  have hm := Rect.mem_set_unit.mp hx'
  have a0 : 2 * sl.val + g.val ≤ (x 0).val ∧ (x 0).val < 2 * sl.val + g.val + 1 := hm 0
  have a1 : 0 ≤ (x 1).val ∧ (x 1).val < 0 + 46688 := hm 1
  exact Finset.mem_filter.mpr ⟨Finset.mem_univ _, by omega, by omega⟩

theorem tailDst_sub (sl g : Fin 2) (o : Fin 3 → ℕ) (h) (e : o = dstOff sl g 46688) : (tailDst o h).view.set ⊆ tailPart sl g := by
  subst e
  intro x hx
  have hx' : x ∈ (Rect.unit (s := S4x46784x128) (dstOff sl g 46688) S1x96x128.size h).set := by
    have hs : (tailDst (dstOff sl g 46688) h).view.set = (Rect.unit (s := S4x46784x128) (dstOff sl g 46688) S1x96x128.size h).set :=
      (View.set_reshape _ _).trans (View.set_slice_whole _ _)
    rw [← hs]; exact hx
  have hm := Rect.mem_set_unit.mp hx'
  have a0 : 2 * sl.val + g.val ≤ (x 0).val ∧ (x 0).val < 2 * sl.val + g.val + 1 := hm 0
  have a1 : 46688 ≤ (x 1).val ∧ (x 1).val < 46688 + 96 := hm 1
  exact Finset.mem_filter.mpr ⟨Finset.mem_univ _, by omega, by omega⟩

/-! ## One transfer -/

/-- A transfer's credit: it counts the bytes written. -/
noncomputable def rowsCredit : ℕ := cc0_scratch0.dmaCredit S46688x128 .fp8e4m3
noncomputable def tailCredit : ℕ := cc0_scratch0.dmaCredit S96x128 .fp8e4m3

/-- The four transfers of a slot: for each half, the expert rows and then the tail. -/
noncomputable def credits : Fin 4 → ℕ := fun t => if t.val % 2 = 0 then rowsCredit else tailCredit

theorem rows_amount (o : Fin 3 → ℕ) (h) (sem : DmaSem sig) : (rowsDst o h).view.amount (.dma sem) = rowsCredit := rfl
theorem tail_amount (o : Fin 3 → ℕ) (h) (sem : DmaSem sig) : (tailDst o h).view.amount (.dma sem) = tailCredit := rfl

theorem rows_credit (o : Fin 3 → ℕ) (h) : (rowsDst o h).view.dmaCredit = rowsCredit := rfl
theorem tail_credit (o : Fin 3 → ℕ) (h) : (tailDst o h).view.dmaCredit = tailCredit := rfl

/-- The slots' semaphores. -/
def semOf (sl : Fin 2) : DmaSem sig := (![8, 9] : Fin 2 → DmaSem sig) sl

/-- A quarter of an argument array, for one half of one slot. -/
noncomputable def quarter (sl g : Fin 2) : PosShare TreeShare :=
  if sl = 0 then (if g = 0 then fullShare.left.left else fullShare.left.right)
  else (if g = 0 then fullShare.right.left else fullShare.right.right)

section
variable (𝒱 : Variants) (c : Dev nD) (bd : Option 𝒱.V)

/-- The row buffer, the expert rows and the tail, as this core's locations. -/
abbrev locB : Loc nD τ sig := (c : Thread nD τ).loc cc0_scratch0
abbrev locY : Loc nD τ sig := (c : Thread nD τ).loc main_arg4
abbrev locT : Loc nD τ sig := (c : Thread nD τ).loc main_arg5

variable (fy : S46695x5120.Idx → Elt F .fp8e4m3) (ft : S96x5120.Idx → Elt F .fp8e4m3)

/-- The elements a transfer reads. -/
noncomputable abbrev rowsRead (p : Fin 20) (g : Fin 2) : Finset S46695x5120.Idx := (rowsSrc (srcOff p g) (rowsSrc_inb p g)).view.set
noncomputable abbrev tailRead (p : Fin 20) (g : Fin 2) : Finset S96x5120.Idx := (tailSrc (srcOff p g) (tailSrc_inb p g)).view.set

/-- What the slot's transfers deliver: its part of the buffer filled, and the share of what was read. -/
noncomputable def delivered (sl : Fin 2) (p : Fin 20) (t : Fin 4) : sProp 𝕄 :=
  match t with
  | 0 => iprop((locB c ↦[mainPart sl 0]{fullShare} filled fy ft p) ∗ (locY c ↦[rowsRead p 0]{quarter sl 0} fy))
  | 1 => iprop((locB c ↦[tailPart sl 0]{fullShare} filled fy ft p) ∗ (locT c ↦[tailRead p 0]{quarter sl 0} ft))
  | 2 => iprop((locB c ↦[mainPart sl 1]{fullShare} filled fy ft p) ∗ (locY c ↦[rowsRead p 1]{quarter sl 1} fy))
  | 3 => iprop((locB c ↦[tailPart sl 1]{fullShare} filled fy ft p) ∗ (locT c ↦[tailRead p 1]{quarter sl 1} ft))

instance (sl : Fin 2) (p : Fin 20) (t : Fin 4) : Storable (upEmb : UEmb _ 𝕄) (delivered c fy ft sl p t) := by
  fin_cases t <;> simp only [delivered] <;> infer_instance

/-- ISSUING a transfer of expert rows: from a share of the expert rows and the part of the buffer it fills, the slot's
batch of transfers grows by one; the share of the columns not read stays. -/
theorem issue_rows (p : Fin 20) (sl g : Fin 2) (o : Fin 3 → ℕ) (h) (e : o = dstOff sl g 0) (o' : Fin 2 → ℕ) (h') (e' : o' = srcOff p g)
    (sem : DmaSem sig) (h1 : (rowsSrc o' h').view.WordExact) (h2 : (rowsDst o h).view.WordExact)
    (h3 : DmaTarget.Typed (nD := nD) .hbm (.dma sem) (.here (p := ((c : Thread nD τ)).2) (rowsDst o h))) (q : PosShare TreeShare)
    (D : Fin 4 → sProp 𝕄) (j : ℕ) (hj : j < 4) (hA : credits ⟨j, hj⟩ = rowsCredit)
    (hD : iprop((locB c ↦[mainPart sl g]{fullShare} filled fy ft p) ∗ (locY c ↦[rowsRead p g]{q} fy)) ⊢ D ⟨j, hj⟩) {α : Type}
    (K : PUnit → Prog (TpuEff nD τ sig (Elt F) Λ₀ .tc) α) (Q : α → sProp 𝕄) (fd : S4x46784x128.Idx → Elt F .fp8e4m3) :
    iprop((locY c ↦{q} fy) ∗ (locB c ↦[mainPart sl g]{fullShare} fd) ∗ Transfers.MixedBatch (countersEmb (U := Pipeline.UD sig nD τ)) (c : Thread nD τ) (.dma sem) () credits D j 0
      ∗ ((locY c ↦[Finset.univ \ rowsRead p g]{q} fy)
          -∗ Transfers.MixedBatch (countersEmb (U := Pipeline.UD sig nD τ)) (c : Thread nD τ) (.dma sem) () credits D (j + 1) 0
          -∗ wp frame (wpE (defs₀ (F := F)) 𝒱 (c : Thread nD τ) bd) Set.univ (K ⟨⟩) Q))
    ⊢ wp frame (wpE (defs₀ (F := F)) 𝒱 (c : Thread nD τ) bd) Set.univ
        (Prog.lift (.enqueueDma (rowsSrc o' h') (.here (rowsDst o h)) (.dma sem) h1 h2 h3) >>= K) Q := by
  subst e'
  iintro ⟨HY, HB, HM, HK⟩
  ihave HY := (pointsTo_split_subset (Finset.subset_univ (rowsSrc (srcOff p g) h').view.set)).mp $$ HY
  icases HY with ⟨HY, Hrest⟩
  iapply (Transfers.wp_dmaMixedBatch (countersEmb (U := Pipeline.UD sig nD τ)) 𝒱 (c : Thread nD τ) bd () credits (src := rowsSrc (srcOff p g) h') (dst := rowsDst o h) (fs := fy) (fd := fd) (q := q)
    (rowsDst_sub sl g o h e) hj (hA := (rows_amount o h sem).trans hA.symm) (hu := Nat.zero_le _)
    (hD := (sep_mono_l (BIBase.Entails.of_eq (pointsTo_congr (rows_written fy ft p sl g o h e (srcOff p g) h' rfl fd)))).trans hD)) $$ [HY HB HM]
  · isplitl [HY]; iexact HY
    isplitl [HB]; iexact HB
    iexact HM
  iintro HM
  iapply HK $$ Hrest HM

/-- ISSUING a transfer of tail rows. -/
theorem issue_tail (p : Fin 20) (sl g : Fin 2) (o : Fin 3 → ℕ) (h) (e : o = dstOff sl g 46688) (o' : Fin 2 → ℕ) (h') (e' : o' = srcOff p g)
    (sem : DmaSem sig) (h1 : (tailSrc o' h').view.WordExact) (h2 : (tailDst o h).view.WordExact)
    (h3 : DmaTarget.Typed (nD := nD) .hbm (.dma sem) (.here (p := ((c : Thread nD τ)).2) (tailDst o h))) (q : PosShare TreeShare)
    (D : Fin 4 → sProp 𝕄) (j : ℕ) (hj : j < 4) (hA : credits ⟨j, hj⟩ = tailCredit)
    (hD : iprop((locB c ↦[tailPart sl g]{fullShare} filled fy ft p) ∗ (locT c ↦[tailRead p g]{q} ft)) ⊢ D ⟨j, hj⟩) {α : Type}
    (K : PUnit → Prog (TpuEff nD τ sig (Elt F) Λ₀ .tc) α) (Q : α → sProp 𝕄) (fd : S4x46784x128.Idx → Elt F .fp8e4m3) :
    iprop((locT c ↦{q} ft) ∗ (locB c ↦[tailPart sl g]{fullShare} fd) ∗ Transfers.MixedBatch (countersEmb (U := Pipeline.UD sig nD τ)) (c : Thread nD τ) (.dma sem) () credits D j 0
      ∗ ((locT c ↦[Finset.univ \ tailRead p g]{q} ft)
          -∗ Transfers.MixedBatch (countersEmb (U := Pipeline.UD sig nD τ)) (c : Thread nD τ) (.dma sem) () credits D (j + 1) 0
          -∗ wp frame (wpE (defs₀ (F := F)) 𝒱 (c : Thread nD τ) bd) Set.univ (K ⟨⟩) Q))
    ⊢ wp frame (wpE (defs₀ (F := F)) 𝒱 (c : Thread nD τ) bd) Set.univ
        (Prog.lift (.enqueueDma (tailSrc o' h') (.here (tailDst o h)) (.dma sem) h1 h2 h3) >>= K) Q := by
  subst e'
  iintro ⟨HY, HB, HM, HK⟩
  ihave HY := (pointsTo_split_subset (Finset.subset_univ (tailSrc (srcOff p g) h').view.set)).mp $$ HY
  icases HY with ⟨HY, Hrest⟩
  iapply (Transfers.wp_dmaMixedBatch (countersEmb (U := Pipeline.UD sig nD τ)) 𝒱 (c : Thread nD τ) bd () credits (src := tailSrc (srcOff p g) h') (dst := tailDst o h) (fs := ft) (fd := fd) (q := q)
    (tailDst_sub sl g o h e) hj (hA := (tail_amount o h sem).trans hA.symm) (hu := Nat.zero_le _)
    (hD := (sep_mono_l (BIBase.Entails.of_eq (pointsTo_congr (tail_written fy ft p sl g o h e (srcOff p g) h' rfl fd)))).trans hD)) $$ [HY HB HM]
  · isplitl [HY]; iexact HY
    isplitl [HB]; iexact HB
    iexact HM
  iintro HM
  iapply HK $$ Hrest HM

/-! ## A slot's three states -/

/-- The shares of the argument arrays a slot's transfers read from. -/
noncomputable def quarters (sl : Fin 2) : sProp 𝕄 :=
  iprop((locY c ↦{quarter sl 0} fy) ∗ (locT c ↦{quarter sl 0} ft) ∗ (locY c ↦{quarter sl 1} fy) ∗ (locT c ↦{quarter sl 1} ft))

/-- A slot nothing is being copied to, of any contents. -/
noncomputable def free (sl : Fin 2) : sProp 𝕄 :=
  iprop((∃ f, locB c ↦[slotPart sl]{fullShare} f) ∗ semVal ((c : Thread nD τ), SemLoc.dma (semOf sl)) 0 ∗ quarters c fy ft sl)
/-- A slot holding column group `p`. -/
noncomputable def ready (sl : Fin 2) (p : Fin 20) : sProp 𝕄 :=
  iprop((locB c ↦[slotPart sl]{fullShare} filled fy ft p) ∗ semVal ((c : Thread nD τ), SemLoc.dma (semOf sl)) 0 ∗ quarters c fy ft sl)
/-- A slot column group `p` is being copied to. -/
noncomputable def inflight (sl : Fin 2) (p : Fin 20) : sProp 𝕄 :=
  iprop(Transfers.MixedBatch (countersEmb (U := Pipeline.UD sig nD τ)) (c : Thread nD τ) (.dma (semOf sl)) () credits (delivered c fy ft sl p) 4 0
    ∗ (locY c ↦[Finset.univ \ rowsRead p 0]{quarter sl 0} fy) ∗ (locT c ↦[Finset.univ \ tailRead p 0]{quarter sl 0} ft)
    ∗ (locY c ↦[Finset.univ \ rowsRead p 1]{quarter sl 1} fy) ∗ (locT c ↦[Finset.univ \ tailRead p 1]{quarter sl 1} ft))

theorem ready_free (sl : Fin 2) (p : Fin 20) : ready c fy ft sl p ⊢ free c fy ft sl := by
  unfold ready free
  iintro ⟨H, HS, HQ⟩
  isplitl [H]
  · iexists _; iexact H
  iframe HS
  iexact HQ

theorem slot_split (sl : Fin 2) (f : S4x46784x128.Idx → Elt F .fp8e4m3) :
    (locB c ↦[slotPart sl]{fullShare} f : sProp 𝕄) ⊣⊢ iprop((locB c ↦[mainPart sl 0]{fullShare} f) ∗ (locB c ↦[tailPart sl 0]{fullShare} f)
      ∗ (locB c ↦[mainPart sl 1]{fullShare} f) ∗ (locB c ↦[tailPart sl 1]{fullShare} f)) := by
  have hs : slotPart sl = mainPart sl 0 ∪ (tailPart sl 0 ∪ (mainPart sl 1 ∪ tailPart sl 1)) := by
    ext x
    have h0 : (x 0).val < 4 := (x 0).isLt
    simp only [slotPart, mainPart, tailPart, Finset.mem_union, Finset.mem_filter, Finset.mem_univ, true_and, Fin.val_zero, Fin.val_one]
    omega
  have d3 : Disjoint (mainPart sl 1) (tailPart sl 1) := by
    rw [Finset.disjoint_left]; intro x
    simp only [mainPart, tailPart, Finset.mem_filter, Finset.mem_univ, true_and]; omega
  have d2 : Disjoint (tailPart sl 0) (mainPart sl 1 ∪ tailPart sl 1) := by
    rw [Finset.disjoint_left]; intro x
    simp only [mainPart, tailPart, Finset.mem_union, Finset.mem_filter, Finset.mem_univ, true_and, Fin.val_zero, Fin.val_one]; omega
  have d1 : Disjoint (mainPart sl 0) (tailPart sl 0 ∪ (mainPart sl 1 ∪ tailPart sl 1)) := by
    rw [Finset.disjoint_left]; intro x
    simp only [mainPart, tailPart, Finset.mem_union, Finset.mem_filter, Finset.mem_univ, true_and, Fin.val_zero, Fin.val_one]; omega
  rw [hs]
  exact (pointsTo_union d1).trans (sep_congr .rfl ((pointsTo_union d2).trans (sep_congr .rfl (pointsTo_union d3))))

end

end Cert.KernelIdeal.Hand
-- ==== Proof.Slot.lean ====
/- The four transfers that fill a slot, issued together and waited for together, as the kernel does both; and the kernel's
   body as those and the loop. -/
module

public import proofs.«01_k».proof.Proof.Copies
public import proofs.«01_k».proof.Proof.Gen.KernelIdeal.Skeleton
public import Idealize.ShloMosaic.Lib.Pipeline.Regions

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where the four transfers of a slot read and write: for each half, of the expert rows and of the tail. -/
structure Ends where
  oy : Fin 2 → Fin 2 → ℕ
  hy : ∀ g a, oy g a + S46688x128.size a ≤ S46695x5120.size a
  ot : Fin 2 → Fin 2 → ℕ
  ht : ∀ g a, ot g a + S96x128.size a ≤ S96x5120.size a
  om : Fin 2 → Fin 3 → ℕ
  hm : ∀ g a, om g a + S1x46688x128.size a ≤ S4x46784x128.size a
  ou : Fin 2 → Fin 3 → ℕ
  hu : ∀ g a, ou g a + S1x96x128.size a ≤ S4x46784x128.size a
  wy : ∀ g, (rowsSrc (oy g) (hy g)).view.WordExact
  wt : ∀ g, (tailSrc (ot g) (ht g)).view.WordExact
  wm : ∀ g, (rowsDst (om g) (hm g)).view.WordExact
  wu : ∀ g, (tailDst (ou g) (hu g)).view.WordExact

/-- They are slot `sl`'s for column group `p`. -/
def Ends.Of (E : Ends) (sl : Fin 2) (p : Fin 20) : Prop :=
  ∀ g, E.oy g = srcOff p g ∧ E.ot g = srcOff p g ∧ E.om g = dstOff sl g 0 ∧ E.ou g = dstOff sl g 46688

/-- Issuing the four transfers. -/
def fill (E : Ends) (sem : DmaSem sig) : Prog (TpuEff nD τ sig (Elt F) Λ₀ .tc) PUnit := do
  Prog.lift (.enqueueDma (rowsSrc (E.oy 0) (E.hy 0)) (.here (rowsDst (E.om 0) (E.hm 0))) (.dma sem) (E.wy 0) (E.wm 0) ⟨Or.inl rfl, trivial⟩)
  Prog.lift (.enqueueDma (tailSrc (E.ot 0) (E.ht 0)) (.here (tailDst (E.ou 0) (E.hu 0))) (.dma sem) (E.wt 0) (E.wu 0) ⟨Or.inl rfl, trivial⟩)
  Prog.lift (.enqueueDma (rowsSrc (E.oy 1) (E.hy 1)) (.here (rowsDst (E.om 1) (E.hm 1))) (.dma sem) (E.wy 1) (E.wm 1) ⟨Or.inl rfl, trivial⟩)
  Prog.lift (.enqueueDma (tailSrc (E.ot 1) (E.ht 1)) (.here (tailDst (E.ou 1) (E.hu 1))) (.dma sem) (E.wt 1) (E.wu 1) ⟨Or.inl rfl, trivial⟩)
  pure ⟨⟩

/-- Waiting for the four transfers. -/
def drain (E : Ends) (sem : DmaSem sig) : Prog (TpuEff nD τ sig (Elt F) Λ₀ .tc) PUnit := do
  Prog.lift (.waitDma2 sem (rowsSrc (E.oy 0) (E.hy 0)) (rowsDst (E.om 0) (E.hm 0)) (E.wy 0) (E.wm 0))
  Prog.lift (.waitDma2 sem (tailSrc (E.ot 0) (E.ht 0)) (tailDst (E.ou 0) (E.hu 0)) (E.wt 0) (E.wu 0))
  Prog.lift (.waitDma2 sem (rowsSrc (E.oy 1) (E.hy 1)) (rowsDst (E.om 1) (E.hm 1)) (E.wy 1) (E.wm 1))
  Prog.lift (.waitDma2 sem (tailSrc (E.ot 1) (E.ht 1)) (tailDst (E.ou 1) (E.hu 1)) (E.wt 1) (E.wu 1))
  pure ⟨⟩

section
variable (𝒱 : Variants) (c : Dev nD) (bd : Option 𝒱.V)
variable (fy : S46695x5120.Idx → Elt F .fp8e4m3) (ft : S96x5120.Idx → Elt F .fp8e4m3)

theorem fill_spec (E : Ends) (sl : Fin 2) (p : Fin 20) (hE : E.Of sl p) {α : Type}
    (K : PUnit → Prog (TpuEff nD τ sig (Elt F) Λ₀ .tc) α) (Q : α → sProp 𝕄) :
    iprop(free c fy ft sl ∗ (inflight c fy ft sl p -∗ wp frame (wpE (defs₀ (F := F)) 𝒱 (c : Thread nD τ) bd) Set.univ (K ⟨⟩) Q))
    ⊢ wp frame (wpE (defs₀ (F := F)) 𝒱 (c : Thread nD τ) bd) Set.univ (fill E (semOf sl) >>= K) Q := by
  obtain ⟨e0, e1, e2, e3⟩ := hE 0
  obtain ⟨f0, f1, f2, f3⟩ := hE 1
  unfold fill free quarters inflight
  simp only [bind_assoc, pure_bind]
  iintro ⟨⟨⟨%f, HB⟩, HS, HY0, HT0, HY1, HT1⟩, HK⟩
  ihave HB := (slot_split c sl f).mp $$ HB
  icases HB with ⟨B0, B1, B2, B3⟩
  imod (Transfers.mixedBatch_alloc' (Lvl := ℕ) (countersEmb (U := Pipeline.UD sig nD τ)) (c : Thread nD τ) () credits
    (delivered c fy ft sl p) (sm := SemLoc.dma (semOf sl)) (E := Set.univ)) $$ HS with HM
  iapply (issue_rows 𝒱 c bd fy ft p sl 0 _ _ e2 _ _ e0 _ _ _ _ (quarter sl 0) (delivered c fy ft sl p) 0 (by omega) rfl .rfl)
  iframe HY0 B0 HM
  iintro R0 HM
  iapply (issue_tail 𝒱 c bd fy ft p sl 0 _ _ e3 _ _ e1 _ _ _ _ (quarter sl 0) (delivered c fy ft sl p) 1 (by omega) rfl .rfl)
  iframe HT0 B1 HM
  iintro R1 HM
  iapply (issue_rows 𝒱 c bd fy ft p sl 1 _ _ f2 _ _ f0 _ _ _ _ (quarter sl 1) (delivered c fy ft sl p) 2 (by omega) rfl .rfl)
  iframe HY1 B2 HM
  iintro R2 HM
  iapply (issue_tail 𝒱 c bd fy ft p sl 1 _ _ f3 _ _ f1 _ _ _ _ (quarter sl 1) (delivered c fy ft sl p) 3 (by omega) rfl .rfl)
  iframe HT1 B3 HM
  iintro R3 HM
  iapply HK
  iframe HM R0 R1 R2
  iexact R3

theorem credits_total : Transfers.sumTo credits 4 = rowsCredit + tailCredit + rowsCredit + tailCredit := by
  simp [Transfers.sumTo, credits]

theorem credits_pos (t : Fin 4) : 0 < credits t := by
  unfold credits
  split
  · exact View.dmaCredit_pos (v := (rowsDst (dstOff 0 0 0) (by decide)).view) (by decide)
  · exact View.dmaCredit_pos (v := (tailDst (dstOff 0 0 0) (by decide)).view) (by decide)

theorem delivered_all (sl : Fin 2) (p : Fin 20) : bigSep Finset.univ (delivered c fy ft sl p) ⊢
    iprop(((locB c ↦[mainPart sl 0]{fullShare} filled fy ft p) ∗ (locY c ↦[rowsRead p 0]{quarter sl 0} fy))
      ∗ ((locB c ↦[tailPart sl 0]{fullShare} filled fy ft p) ∗ (locT c ↦[tailRead p 0]{quarter sl 0} ft))
      ∗ ((locB c ↦[mainPart sl 1]{fullShare} filled fy ft p) ∗ (locY c ↦[rowsRead p 1]{quarter sl 1} fy))
      ∗ ((locB c ↦[tailPart sl 1]{fullShare} filled fy ft p) ∗ (locT c ↦[tailRead p 1]{quarter sl 1} ft))) := by
  rw [BI.bigSep_eq_bigSepL_of_eq [(0 : Fin 4), 1, 2, 3] (by decide) (by decide) (delivered c fy ft sl p)]
  exact .rfl

theorem drain_spec (E : Ends) (sl : Fin 2) (p : Fin 20) (W : Waits sig Unit) {α : Type}
    (K : PUnit → Prog (TpuEff nD τ sig (Elt F) Λ₀ .tc) α) (Q : α → sProp 𝕄) :
    iprop(inflight c fy ft sl p ∗ owes (c : Thread nD τ) 0 W
      ∗ (ready c fy ft sl p -∗ (∃ W', owes (c : Thread nD τ) 0 W') -∗ wp frame (wpE (defs₀ (F := F)) 𝒱 (c : Thread nD τ) bd) Set.univ (K ⟨⟩) Q))
    ⊢ wp frame (wpE (defs₀ (F := F)) 𝒱 (c : Thread nD τ) bd) Set.univ (drain E (semOf sl) >>= K) Q := by
  unfold drain ready quarters inflight
  simp only [bind_assoc, pure_bind]
  iintro ⟨⟨HM, R0, R1, R2, R3⟩, HO, HK⟩
  iapply (Transfers.wp_waitMixedBatch (countersEmb (U := Pipeline.UD sig nD τ)) 𝒱 (c : Thread nD τ) bd () (A := credits) (J := rowsCredit) (rows_credit _ _) (j := 4) (u := 0)
    (by rw [credits_total]; omega)) $$ [HM HO]
  · isplitl [HM]; iexact HM
    iexact HO
  iintro ⟨HM, HO⟩
  iapply (Transfers.wp_waitMixedBatch (countersEmb (U := Pipeline.UD sig nD τ)) 𝒱 (c : Thread nD τ) bd () (A := credits) (J := tailCredit) (tail_credit _ _) (j := 4) (u := 0 + rowsCredit)
    (by rw [credits_total]; omega)) $$ [HM HO]
  · isplitl [HM]; iexact HM
    iexact HO
  iintro ⟨HM, HO⟩
  iapply (Transfers.wp_waitMixedBatch (countersEmb (U := Pipeline.UD sig nD τ)) 𝒱 (c : Thread nD τ) bd () (A := credits) (J := rowsCredit) (rows_credit _ _) (j := 4) (u := 0 + rowsCredit + tailCredit)
    (by rw [credits_total]; omega)) $$ [HM HO]
  · isplitl [HM]; iexact HM
    iexact HO
  iintro ⟨HM, HO⟩
  iapply (Transfers.wp_waitMixedBatchAll (countersEmb (U := Pipeline.UD sig nD τ)) 𝒱 (c : Thread nD τ) bd () (A := credits) (J := tailCredit) (tail_credit _ _) credits_pos (u := 0 + rowsCredit + tailCredit + rowsCredit)
    (by rw [credits_total]; omega)) $$ [HM HO]
  · isplitl [HM]; iexact HM
    iexact HO
  iintro ⟨HD, HS, HO⟩
  ihave HD := (delivered_all c fy ft sl p) $$ HD
  icases HD with ⟨⟨B0, Y0⟩, ⟨B1, T0⟩, ⟨B2, Y1⟩, ⟨B3, T1⟩⟩
  ihave Y0 := (pointsTo_split_subset (ℓ := locY c) (Finset.subset_univ (rowsRead p 0))).mpr $$ [Y0 R0]
  · iframe Y0; iexact R0
  ihave T0 := (pointsTo_split_subset (ℓ := locT c) (Finset.subset_univ (tailRead p 0))).mpr $$ [T0 R1]
  · iframe T0; iexact R1
  ihave Y1 := (pointsTo_split_subset (ℓ := locY c) (Finset.subset_univ (rowsRead p 1))).mpr $$ [Y1 R2]
  · iframe Y1; iexact R2
  ihave T1 := (pointsTo_split_subset (ℓ := locT c) (Finset.subset_univ (tailRead p 1))).mpr $$ [T1 R3]
  · iframe T1; iexact R3
  ihave HB := (slot_split c sl (filled fy ft p)).mpr $$ [B0 B1 B2 B3]
  · iframe B0 B1 B2; iexact B3
  iapply HK $$ [HB HS Y0 T0 Y1 T1] [HO]
  · iframe HB HS Y0 T0 Y1; iexact T1
  · iexists _; iexact HO

end

end Cert.KernelIdeal.Hand
-- ==== Proof.Loop.lean ====
/- The loop over the blocks of one chunk, as a rule: from the buffers a point works on, it leaves the result at one function
   of what it read. -/
module

public import proofs.«01_k».proof.Proof.BlockSpec

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]
variable (𝒱 : Variants) (c : Dev nD) (bd : Option 𝒱.V)
variable (i : grid0.Coords) (arg2 : Memref sig .tc .smem S32x384 .i32) (harg2 : arg2.IsWhole)
  (arg3 : Memref sig .tc .vmem S2048x256 .bf16) (harg3 : arg3.IsWhole)
  (arg4 : Memref sig .tc .vmem S3072x256 .i32) (harg4 : arg4.IsWhole) (arg5 : Memref sig .tc .vmem S1x256x256 .f32) (harg5 : arg5.IsWhole)
  (arg6 : Memref sig .tc .hbm S46695x5120 .fp8e4m3) (harg6 : arg6.IsWhole) (arg7 : Memref sig .tc .hbm S96x5120 .fp8e4m3) (harg7 : arg7.IsWhole)
  (arg8 : Memref sig .tc .vmem S2048x256 .bf16) (harg8 : arg8.IsWhole) (arg9 : Memref sig .tc .vmem S4x46784x128 .fp8e4m3) (harg9 : arg9.IsWhole)
  (arg10 : DmaSems sig S2) (arg1 v9 : BitVec 32) (v10 : IVec S32x128 32)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f9 : Buf (Elt F) (arg9.view.loc (c : Thread nD τ)))

/-- The words a block reads of the table: word `r` of its column. -/
noncomputable def tabWord (k : Fin k0_t1_loop.trips) (u : Fin 8) (r : Fin 24) : BitVec 32 :=
  wordAt c arg2 f2 (tabRect r i k u) numel1_S1x1
noncomputable def firstAt (k : Fin k0_t1_loop.trips) (u v : Fin 8) : BitVec 32 := tabWord c i arg2 f2 k u ⟨v.val, by omega⟩
noncomputable def secondAt (k : Fin k0_t1_loop.trips) (u v : Fin 8) : BitVec 32 := tabWord c i arg2 f2 k u ⟨8 + v.val, by omega⟩
noncomputable def cutAt (k : Fin k0_t1_loop.trips) (u v : Fin 8) : BitVec 32 := tabWord c i arg2 f2 k u ⟨16 + v.val, by omega⟩

/-- Every place the table names is inside the buffer. -/
def AllFit : Prop := ∀ k u v, Fits i (firstAt c i arg2 f2 k u v) ∧ Fits i (secondAt c i arg2 f2 k u v)

variable (hfit : AllFit c i arg2 f2)

/-- The product of block `u` of trip `k`, of what the buffers hold. -/
noncomputable def blkProd (k : Fin k0_t1_loop.trips) (u : Fin 8) : FVec F S96x256 .f32 :=
  prod ((arg4.access (maskRect i k u)).read (Elt F) f4) ((arg5.access (coefRect k u 0)).read (Elt F) f5)
    ((arg5.access (coefRect k u 1)).read (Elt F) f5)
    (stack (slotOf c i arg9 v10 0 f9 (firstAt c i arg2 f2 k u) (secondAt c i arg2 f2 k u) (cutAt c i arg2 f2 k u)
      (fun v => (hfit k u v).1) (fun v => (hfit k u v).2)))
    (stack (slotOf c i arg9 v10 1 f9 (firstAt c i arg2 f2 k u) (secondAt c i arg2 f2 k u) (cutAt c i arg2 f2 k u)
      (fun v => (hfit k u v).1) (fun v => (hfit k u v).2)))

/-- What the block stores in column group `g`. -/
noncomputable def blkOut (k : Fin k0_t1_loop.trips) (u : Fin 8) (g : Fin 2) : Vec F S16x128 .bf16 :=
  match g with
  | 0 => out0 ((arg3.access (outRect k u 0)).read (Elt F) f3) (blkProd c i arg2 arg4 arg5 arg9 v10 f2 f4 f5 f9 hfit k u)
  | 1 => out1 ((arg3.access (outRect k u 1)).read (Elt F) f3) (blkProd c i arg2 arg4 arg5 arg9 v10 f2 f4 f5 f9 hfit k u)

/-- The place of element `j` of column group `g` of block `u` of trip `k` in the chunk's result. -/
abbrev outPlace (k : Fin k0_t1_loop.trips) (u : Fin 8) (g : Fin 2) (j : S16x128.Idx) : S2048x256.Idx := (outRect k u g).emb j

theorem outPlace_row (k : Fin k0_t1_loop.trips) (u : Fin 8) (g : Fin 2) (j : S16x128.Idx) :
    (outPlace k u g j 0).val = 16 * (8 * k.val + u.val) + (j 0).val := by
  rw [Rect.emb_apply]
  show (outOff k (BitVec.ofNat 32 u.val) (128 * g.val)) 0 + 1 * (j 0).val = _
  rw [outOff_eq, Nat.one_mul]; rfl
theorem outPlace_col (k : Fin k0_t1_loop.trips) (u : Fin 8) (g : Fin 2) (j : S16x128.Idx) :
    (outPlace k u g j 1).val = 128 * g.val + (j 1).val := by
  rw [Rect.emb_apply]
  show (outOff k (BitVec.ofNat 32 u.val) (128 * g.val)) 1 + 1 * (j 1).val = _
  rw [outOff_eq, Nat.one_mul]; rfl

theorem outPlace_inj {k k' : Fin k0_t1_loop.trips} {u u' : Fin 8} {g g' : Fin 2} {j j' : S16x128.Idx}
    (h : outPlace k u g j = outPlace k' u' g' j') : k = k' ∧ u = u' ∧ g = g' := by
  have h0 := congrArg (fun y : S2048x256.Idx => (y 0).val) h
  have h1 := congrArg (fun y : S2048x256.Idx => (y 1).val) h
  simp only [outPlace_row, outPlace_col] at h0 h1
  have a0 : (j 0).val < 16 := (j 0).isLt
  have a1 : (j 1).val < 128 := (j 1).isLt
  have b0 : (j' 0).val < 16 := (j' 0).isLt
  have b1 : (j' 1).val < 128 := (j' 1).isLt
  have := u.isLt; have := u'.isLt
  refine ⟨Fin.ext ?_, Fin.ext ?_, Fin.ext ?_⟩ <;> omega

/-- A write of one block's column group leaves every other block and group as it was, and is read back where it was made. -/
theorem outWrite_read (f8 : Buf (Elt F) (arg8.view.loc (c : Thread nD τ))) (y : Vec F S16x128 .bf16)
    (k k' : Fin k0_t1_loop.trips) (u u' : Fin 8) (g g' : Fin 2) (j : S16x128.Idx) :
    arg8.view.read (Elt F) ((arg8.access (outRect k u g)).write (Elt F) f8 y Finset.univ) (outPlace k' u' g' j)
      = if k = k' ∧ u = u' ∧ g = g' then y j else arg8.view.read (Elt F) f8 (outPlace k' u' g' j) := by
  split
  · rename_i h; obtain ⟨rfl, rfl, rfl⟩ := h
    exact View.read_slice_write_emb (v := arg8.view) (outRect k u g) f8 y (Finset.mem_univ j)
  · rename_i h
    refine View.read_slice_write_of_not_mem (v := arg8.view) (outRect k u g) f8 y Finset.univ fun hm => h ?_
    obtain ⟨x, -, hx⟩ := Finset.mem_map.mp hm
    exact outPlace_inj hx

/-- The blocks done before block `n` of the chunk: the result holds theirs. -/
def Done (n : ℕ) (f8 : Buf (Elt F) (arg8.view.loc (c : Thread nD τ))) : Prop :=
  ∀ (k : Fin k0_t1_loop.trips) (u : Fin 8), 8 * k.val + u.val < n → ∀ g j,
    arg8.view.read (Elt F) f8 (outPlace k u g j) = blkOut c i arg2 arg3 arg4 arg5 arg9 v10 f2 f3 f4 f5 f9 hfit k u g j

theorem Done.step {n : ℕ} {f8 : Buf (Elt F) (arg8.view.loc (c : Thread nD τ))} (k : Fin k0_t1_loop.trips) (u : Fin 8)
    (hn : n = 8 * k.val + u.val)
    (h : Done c i arg2 arg3 arg4 arg5 arg8 arg9 v10 f2 f3 f4 f5 f9 hfit n f8) :
    Done c i arg2 arg3 arg4 arg5 arg8 arg9 v10 f2 f3 f4 f5 f9 hfit (n + 1)
      ((arg8.access (outRect k u 1)).write (Elt F) ((arg8.access (outRect k u 0)).write (Elt F) f8
        (blkOut c i arg2 arg3 arg4 arg5 arg9 v10 f2 f3 f4 f5 f9 hfit k u 0) Finset.univ)
        (blkOut c i arg2 arg3 arg4 arg5 arg9 v10 f2 f3 f4 f5 f9 hfit k u 1) Finset.univ) := by
  intro k' u' hk' g j
  rw [outWrite_read c, outWrite_read c]
  by_cases e : k = k' ∧ u = u'
  · obtain ⟨rfl, rfl⟩ := e
    match g with
    | 0 => simp
    | 1 => simp
  · rw [if_neg (fun h => e ⟨h.1, h.2.1⟩), if_neg (fun h => e ⟨h.1, h.2.1⟩)]
    refine h k' u' ?_ g j
    by_contra hc
    have := u.isLt; have := u'.isLt
    exact e ⟨Fin.ext (by omega), Fin.ext (by omega)⟩

variable (S : Finset (Idx (arg9.view.loc (c : Thread nD τ)))) (q2 q3 q4 q5 q9 : PosShare TreeShare)

/-- What the loop holds after `n` blocks. -/
noncomputable def loopRes (n : ℕ) : sProp (MT nD τ sig Unit (Elt F) ℕ U ℕ) :=
  iprop((arg2.view.loc (c : Thread nD τ) ↦{q2} f2) ∗ (arg3.view.loc (c : Thread nD τ) ↦{q3} f3) ∗
    (arg4.view.loc (c : Thread nD τ) ↦{q4} f4) ∗ (arg5.view.loc (c : Thread nD τ) ↦{q5} f5) ∗
    (∃ f8, (arg8.view.loc (c : Thread nD τ) ↦{fullShare} f8) ∗ ⌜Done c i arg2 arg3 arg4 arg5 arg8 arg9 v10 f2 f3 f4 f5 f9 hfit n f8⌝) ∗
    (arg9.view.loc (c : Thread nD τ) ↦[S]{q9} f9))

/-- A block takes the loop's holding one block on. -/
theorem blk_step (hS : ∀ w g h, (arg9.access (bufRect i w g h)).set ⊆ S) (k : Fin k0_t1_loop.trips) (u : Fin 8) (n : ℕ)
    (hn : n = 8 * k.val + u.val) {α : Type}
    (K : PUnit → Prog (TpuEff nD τ sig (Elt F) Λ₀ .tc) α) (Q : α → sProp (MT nD τ sig Unit (Elt F) ℕ U ℕ)) :
    iprop(loopRes c i arg2 arg3 arg4 arg5 arg8 arg9 v10 f2 f3 f4 f5 f9 hfit S q2 q3 q4 q5 q9 n ∗
        (loopRes c i arg2 arg3 arg4 arg5 arg8 arg9 v10 f2 f3 f4 f5 f9 hfit S q2 q3 q4 q5 q9 (n + 1) -∗
          wp frame (wpE (defs₀ (F := F)) 𝒱 (c : Thread nD τ) bd) Set.univ (K ⟨⟩) Q))
      ⊢ wp frame (wpE (defs₀ (F := F)) 𝒱 (c : Thread nD τ) bd) Set.univ
        (blk i arg2 arg3 arg4 arg5 arg8 harg8 arg9 v10 k u >>= K) Q := by
  unfold loopRes
  iintro ⟨⟨H2, H3, H4, H5, ⟨%f8, H8, %h8⟩, H9⟩, HR⟩
  iapply (blk_spec 𝒱 c bd i arg2 arg3 arg4 arg5 arg8 harg8 arg9 v10 k u f2 f3 f4 f5 f8 f9 S
    (firstAt c i arg2 f2 k u) (secondAt c i arg2 f2 k u) (cutAt c i arg2 f2 k u) (fun _ => rfl) (fun _ => rfl) (fun _ => rfl)
    (fun v => (hfit k u v).1) (fun v => (hfit k u v).2)
    hS K Q q2 q3 q4 q5 q9
    (blkOut c i arg2 arg3 arg4 arg5 arg9 v10 f2 f3 f4 f5 f9 hfit k u) (fun r hr => by subst hr; exact ⟨rfl, rfl⟩))
  iframe H2 H3 H4 H5 H8 H9
  iintro H2 H3 H4 H5 H8 H9
  iapply HR
  iframe H2 H3 H4 H5 H9
  iexists _
  iframe H8
  ipureintro
  exact h8.step c i arg2 arg3 arg4 arg5 arg8 arg9 v10 f2 f3 f4 f5 f9 hfit k u hn

/-- A trip takes it eight blocks on. -/
theorem trip_step (hS : ∀ w g h, (arg9.access (bufRect i w g h)).set ⊆ S) (k : Fin k0_t1_loop.trips) :
    loopRes (U := U) c i arg2 arg3 arg4 arg5 arg8 arg9 v10 f2 f3 f4 f5 f9 hfit S q2 q3 q4 q5 q9 (8 * k.val)
      ⊢ wp frame (wpE (defs₀ (F := F)) 𝒱 (c : Thread nD τ) bd) Set.univ
        (k0_t1_body (F := F) i arg2 harg2 arg3 harg3 arg4 harg4 arg5 harg5 arg6 harg6 arg7 harg7 arg8 harg8 arg9 harg9 arg10 arg1 v9 v10 k ⟨⟩)
        (fun _ => loopRes c i arg2 arg3 arg4 arg5 arg8 arg9 v10 f2 f3 f4 f5 f9 hfit S q2 q3 q4 q5 q9 (8 * (k.val + 1))) := by
  rw [body_eq, ← bind_pure (blk i arg2 arg3 arg4 arg5 arg8 harg8 arg9 v10 k 7)]
  iintro H
  iapply (blk_step 𝒱 c bd i arg2 arg3 arg4 arg5 arg8 harg8 arg9 v10 f2 f3 f4 f5 f9 hfit S q2 q3 q4 q5 q9 hS k 0 (8 * k.val) rfl)
  iframe H
  iintro H
  iapply (blk_step 𝒱 c bd i arg2 arg3 arg4 arg5 arg8 harg8 arg9 v10 f2 f3 f4 f5 f9 hfit S q2 q3 q4 q5 q9 hS k 1 (8 * k.val + 1) rfl)
  iframe H
  iintro H
  iapply (blk_step 𝒱 c bd i arg2 arg3 arg4 arg5 arg8 harg8 arg9 v10 f2 f3 f4 f5 f9 hfit S q2 q3 q4 q5 q9 hS k 2 (8 * k.val + 2) rfl)
  iframe H
  iintro H
  iapply (blk_step 𝒱 c bd i arg2 arg3 arg4 arg5 arg8 harg8 arg9 v10 f2 f3 f4 f5 f9 hfit S q2 q3 q4 q5 q9 hS k 3 (8 * k.val + 3) rfl)
  iframe H
  iintro H
  iapply (blk_step 𝒱 c bd i arg2 arg3 arg4 arg5 arg8 harg8 arg9 v10 f2 f3 f4 f5 f9 hfit S q2 q3 q4 q5 q9 hS k 4 (8 * k.val + 4) rfl)
  iframe H
  iintro H
  iapply (blk_step 𝒱 c bd i arg2 arg3 arg4 arg5 arg8 harg8 arg9 v10 f2 f3 f4 f5 f9 hfit S q2 q3 q4 q5 q9 hS k 5 (8 * k.val + 5) rfl)
  iframe H
  iintro H
  iapply (blk_step 𝒱 c bd i arg2 arg3 arg4 arg5 arg8 harg8 arg9 v10 f2 f3 f4 f5 f9 hfit S q2 q3 q4 q5 q9 hS k 6 (8 * k.val + 6) rfl)
  iframe H
  iintro H
  iapply (blk_step 𝒱 c bd i arg2 arg3 arg4 arg5 arg8 harg8 arg9 v10 f2 f3 f4 f5 f9 hfit S q2 q3 q4 q5 q9 hS k 7 (8 * k.val + 7) rfl)
  iframe H
  iintro H
  rw [show 8 * k.val + 7 + 1 = 8 * (k.val + 1) by omega]
  rw [wp_pure]
  iexact H

/-! ## The chunk's result as one function of the place -/

/-- The block, column group and place in it of an element of the chunk's result. -/
def tripOf (x : S2048x256.Idx) : Fin k0_t1_loop.trips :=
  ⟨(x 0).val / 128, by have h : (x 0).val < 2048 := (x 0).isLt; rw [trips_eq]; omega⟩
def unitOf (x : S2048x256.Idx) : Fin 8 := ⟨(x 0).val / 16 % 8, by omega⟩
def groupOf (x : S2048x256.Idx) : Fin 2 := ⟨(x 1).val / 128, by have h : (x 1).val < 256 := (x 1).isLt; omega⟩
def withinOf (x : S2048x256.Idx) : S16x128.Idx := fun a => match a with
  | 0 => ⟨(x 0).val % 16, by show _ < 16; omega⟩
  | 1 => ⟨(x 1).val % 128, by show _ < 128; omega⟩

theorem outPlace_of (x : S2048x256.Idx) : outPlace (tripOf x) (unitOf x) (groupOf x) (withinOf x) = x := by
  funext a
  apply Fin.ext
  match a with
  | 0 => rw [outPlace_row]; show 16 * (8 * ((x 0).val / 128) + (x 0).val / 16 % 8) + (x 0).val % 16 = (x 0).val; omega
  | 1 => rw [outPlace_col]; show 128 * ((x 1).val / 128) + (x 1).val % 128 = (x 1).val; omega

/-- What the loop leaves in the chunk's result. -/
noncomputable def chunkOut (x : S2048x256.Idx) : Elt F .bf16 :=
  blkOut c i arg2 arg3 arg4 arg5 arg9 v10 f2 f3 f4 f5 f9 hfit (tripOf x) (unitOf x) (groupOf x) (withinOf x)

theorem Done.all {n : ℕ} (hn : n = 128) {f8 : Buf (Elt F) (arg8.view.loc (c : Thread nD τ))}
    (h : Done c i arg2 arg3 arg4 arg5 arg8 arg9 v10 f2 f3 f4 f5 f9 hfit n f8) :
    arg8.view.read (Elt F) f8 = chunkOut c i arg2 arg3 arg4 arg5 arg9 v10 f2 f3 f4 f5 f9 hfit := by
  subst hn
  funext x
  have h' := h (tripOf x) (unitOf x) (by
    have h1 : (x 0).val < 2048 := (x 0).isLt
    show 8 * ((x 0).val / 128) + (x 0).val / 16 % 8 < 128
    omega) (groupOf x) (withinOf x)
  rw [outPlace_of] at h'
  exact h'

/-- The loop: holding what a point works on, it leaves the result at the chunk's function and all else as it was. -/
theorem loop_spec (hS : ∀ w g h, (arg9.access (bufRect i w g h)).set ⊆ S) :
    iprop((arg2.view.loc (c : Thread nD τ) ↦{q2} f2) ∗ (arg3.view.loc (c : Thread nD τ) ↦{q3} f3) ∗
      (arg4.view.loc (c : Thread nD τ) ↦{q4} f4) ∗ (arg5.view.loc (c : Thread nD τ) ↦{q5} f5) ∗
      (∃ f8, (arg8.view.loc (c : Thread nD τ) ↦{fullShare} f8)) ∗ (arg9.view.loc (c : Thread nD τ) ↦[S]{q9} f9))
      ⊢ (wp frame (wpE (defs₀ (F := F)) 𝒱 (c : Thread nD τ) bd) Set.univ
        (Scf.Loop.for k0_t1_loop k0_t1_ok ⟨⟩
          (k0_t1_body (F := F) i arg2 harg2 arg3 harg3 arg4 harg4 arg5 harg5 arg6 harg6 arg7 harg7 arg8 harg8 arg9 harg9 arg10 arg1 v9 v10))
        (fun _ => iprop((arg2.view.loc (c : Thread nD τ) ↦{q2} f2) ∗ (arg3.view.loc (c : Thread nD τ) ↦{q3} f3) ∗
          (arg4.view.loc (c : Thread nD τ) ↦{q4} f4) ∗ (arg5.view.loc (c : Thread nD τ) ↦{q5} f5) ∗
          (∃ f8, (arg8.view.loc (c : Thread nD τ) ↦{fullShare} f8) ∗
            ⌜arg8.view.read (Elt F) f8 = chunkOut c i arg2 arg3 arg4 arg5 arg9 v10 f2 f3 f4 f5 f9 hfit⌝) ∗
          (arg9.view.loc (c : Thread nD τ) ↦[S]{q9} f9))) : sProp (MT nD τ sig Unit (Elt F) ℕ U ℕ)) := by
  iintro ⟨H2, H3, H4, H5, ⟨%f8, H8⟩, H9⟩
  iapply (Scf.wp_for frame (wpE (defs₀ (F := F)) 𝒱 (c : Thread nD τ) bd) Set.univ k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 arg1 v9 v10)
    (fun n _ => loopRes (U := U) c i arg2 arg3 arg4 arg5 arg8 arg9 v10 f2 f3 f4 f5 f9 hfit S q2 q3 q4 q5 q9 (8 * n))
    (by
      intro k acc
      cases acc
      have h := trip_step (U := U) 𝒱 c bd i arg2 harg2 arg3 harg3 arg4 harg4 arg5 harg5 arg6 harg6 arg7 harg7 arg8 harg8 arg9 harg9 arg10 arg1 v9 v10
        f2 f3 f4 f5 f9 hfit S q2 q3 q4 q5 q9 hS k
      dsimp only
      convert h using 1))
  isplitl
  · unfold loopRes
    iframe H2 H3 H4 H5 H9
    iexists f8
    iframe H8
    ipureintro
    intro k u h
    omega
  · iintro %_ H
    unfold loopRes
    icases H with ⟨H2, H3, H4, H5, ⟨%f8, H8, %h8⟩, H9⟩
    iframe H2 H3 H4 H5 H9
    iexists f8
    iframe H8
    ipureintro
    exact Done.all c i arg2 arg3 arg4 arg5 arg8 arg9 v10 f2 f3 f4 f5 f9 hfit
      (show 8 * k0_t1_loop.trips = 128 by rw [trips_eq]) h8

end Cert.KernelIdeal.Hand
-- ==== Proof.Body.lean ====
/- The kernel's body as three programs in a row: issue the first slot's transfers at the first point, at the first chunk of a
   column group issue the next group's and wait for this group's, and the loop over the chunk's blocks. -/
module

public import proofs.«01_k».proof.Proof.Slot
public import proofs.«01_k».proof.Proof.Loop

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- Element `o` of the kernel's two semaphores. -/
abbrev semAt (o : Fin 1 → ℕ) (h : ∀ a, o a + S1.size a ≤ S2.size a) : DmaSem sig :=
  (SemArray.squeeze (SemArray.slice cc0_scratch1 (Rect.unit (s := S2) o S1.size h)) S_ squeezes_S1_S_).sem

theorem semAt_eq (sl : Fin 2) (o : Fin 1 → ℕ) (h) (e : o = ![sl.val]) : semAt o h = semOf sl := by
  subst e
  refine (Fin.ext ?_).trans (show (⟨8 + sl.val, by have := sl.isLt; show _ < 10; omega⟩ : DmaSem sig) = semOf sl from by revert sl; decide)
  show 8 + (S2.rowMajor ((Rect.unit (s := S2) ![sl.val] S1.size h).emb (Shape.reshapeEquiv squeezes_S1_S_.numel_eq fun i => i.elim0))).val = 8 + sl.val
  have h0 : ((Shape.reshapeEquiv squeezes_S1_S_.numel_eq (fun i => i.elim0) : S1.Idx) 0).val < 1 := Fin.isLt _
  rw [Shape.rowMajor_val_one, Rect.emb_apply]
  show 8 + (sl.val + 1 * _) = _
  omega

/-- The transfers issued at the first point. -/
def firstEnds (i : grid0.Coords) (h1 : k0_cond1 i = 1#1) : Ends where
  oy g := k0_off3 i (BitVec.ofNat 32 g.val)
  hy g := k0_off3_inb i h1 g
  ot g := k0_off5 i (BitVec.ofNat 32 g.val)
  ht g := k0_off5_inb i h1 g
  om g := k0_off4 i (BitVec.ofNat 32 g.val)
  hm g := k0_off4_inb i h1 g
  ou g := k0_off6 i (BitVec.ofNat 32 g.val)
  hu g := k0_off6_inb i h1 g
  wy g := (Memref.isWhole_whole _).wordExact_slice rfl _ (k0_off3_wordsfp8e4m3 i h1 g)
  wt g := (Memref.isWhole_whole _).wordExact_slice rfl _ (k0_off5_wordsfp8e4m3 i h1 g)
  wm g := ((Memref.isWhole_whole _).wordExact_slice rfl _ (k0_off4_wordsfp8e4m3 i h1 g)).reshape _ _
  wu g := ((Memref.isWhole_whole _).wordExact_slice rfl _ (k0_off6_wordsfp8e4m3 i h1 g)).reshape _ _

/-- The next column group's transfers. -/
def nextEnds (i : grid0.Coords) (h2 : k0_cond2 i = 1#1) (h3 : k0_cond3 i = 1#1) : Ends where
  oy g := k0_off9 i (BitVec.ofNat 32 g.val)
  hy g := k0_off9_inb i h2 h3 g
  ot g := k0_off11 i (BitVec.ofNat 32 g.val)
  ht g := k0_off11_inb i h2 h3 g
  om g := k0_off10 i (BitVec.ofNat 32 g.val)
  hm g := k0_off10_inb i h2 h3 g
  ou g := k0_off12 i (BitVec.ofNat 32 g.val)
  hu g := k0_off12_inb i h2 h3 g
  wy g := (Memref.isWhole_whole _).wordExact_slice rfl _ (k0_off9_wordsfp8e4m3 i h2 h3 g)
  wt g := (Memref.isWhole_whole _).wordExact_slice rfl _ (k0_off11_wordsfp8e4m3 i h2 h3 g)
  wm g := ((Memref.isWhole_whole _).wordExact_slice rfl _ (k0_off10_wordsfp8e4m3 i h2 h3 g)).reshape _ _
  wu g := ((Memref.isWhole_whole _).wordExact_slice rfl _ (k0_off12_wordsfp8e4m3 i h2 h3 g)).reshape _ _

/-- This column group's transfers, as waited for. -/
def thisEnds (i : grid0.Coords) (h2 : k0_cond2 i = 1#1) : Ends where
  oy g := k0_off15 i (BitVec.ofNat 32 g.val)
  hy g := k0_off15_inb i h2 g
  ot g := k0_off17 i (BitVec.ofNat 32 g.val)
  ht g := k0_off17_inb i h2 g
  om g := k0_off16 i (BitVec.ofNat 32 g.val)
  hm g := k0_off16_inb i h2 g
  ou g := k0_off18 i (BitVec.ofNat 32 g.val)
  hu g := k0_off18_inb i h2 g
  wy g := (Memref.isWhole_whole _).wordExact_slice rfl _ (k0_off15_wordsfp8e4m3 i h2 g)
  wt g := (Memref.isWhole_whole _).wordExact_slice rfl _ (k0_off17_wordsfp8e4m3 i h2 g)
  wm g := ((Memref.isWhole_whole _).wordExact_slice rfl _ (k0_off16_wordsfp8e4m3 i h2 g)).reshape _ _
  wu g := ((Memref.isWhole_whole _).wordExact_slice rfl _ (k0_off18_wordsfp8e4m3 i h2 g)).reshape _ _

/-- What the body does before its loop. -/
def first (i : grid0.Coords) : Prog (TpuEff nD τ sig (Elt F) Λ₀ .tc) PUnit :=
  if h1 : k0_cond1 i = 1#1 then fill (firstEnds i h1) (semAt (k0_off1 i) (k0_off1_inb i h1)) else pure ⟨⟩

def next (i : grid0.Coords) (h2 : k0_cond2 i = 1#1) : Prog (TpuEff nD τ sig (Elt F) Λ₀ .tc) PUnit :=
  if h3 : k0_cond3 i = 1#1 then fill (nextEnds i h2 h3) (semAt (k0_off7 i) (k0_off7_inb i h2 h3)) else pure ⟨⟩

def turn (i : grid0.Coords) : Prog (TpuEff nD τ sig (Elt F) Λ₀ .tc) PUnit :=
  if h2 : k0_cond2 i = 1#1 then next i h2 >>= fun _ => drain (thisEnds i h2) (semAt (k0_off13 i) (k0_off13_inb i h2)) else pure ⟨⟩

/-- The multiplier and the row counter the loop is given. -/
abbrev v9At (i : grid0.Coords) : BitVec 32 := Scalar.muli (Scalar.remsi (BitVec.ofNat 32 (i 0).val) 2#32) 2#32
noncomputable abbrev rowIota : IVec S32x128 32 := iota .tc S32x128 32 [0] iota_S32x128_d0_w32

set_option maxRecDepth 65536 in
theorem combine_eq (i : grid0.Coords) (arg2 : Memref sig .tc .smem S32x384 .i32) (harg2 : arg2.IsWhole)
  (arg3 : Memref sig .tc .vmem S2048x256 .bf16) (harg3 : arg3.IsWhole)
  (arg4 : Memref sig .tc .vmem S3072x256 .i32) (harg4 : arg4.IsWhole) (arg5 : Memref sig .tc .vmem S1x256x256 .f32) (harg5 : arg5.IsWhole)
  (arg8 : Memref sig .tc .vmem S2048x256 .bf16) (harg8 : arg8.IsWhole) :
    cc0_combine (F := F) i arg2 harg2 arg3 harg3 arg4 harg4 arg5 harg5 rowsM (Memref.isWhole_whole _) tailM (Memref.isWhole_whole _)
      arg8 harg8 bufM (Memref.isWhole_whole _) cc0_scratch1
    = (first i >>= fun _ => turn i >>= fun _ => Scf.Loop.for k0_t1_loop k0_t1_ok ⟨⟩
        (k0_t1_body i arg2 harg2 arg3 harg3 arg4 harg4 arg5 harg5 rowsM (Memref.isWhole_whole _) tailM (Memref.isWhole_whole _)
          arg8 harg8 bufM (Memref.isWhole_whole _) cc0_scratch1 (BitVec.ofNat 32 (i 1).val) (v9At i) rowIota)) := by
  rw [cc0_combine_eq_skeleton]
  unfold cc0_combine_skel
  rw [k0_part1_eq_skeleton, k0_part3_eq_skeleton]
  unfold k0_part1_skel k0_part3_skel
  rw [k0_part2_eq_skeleton]
  unfold k0_part2_skel first turn next fill drain
  dsimp only
  by_cases h1 : k0_cond1 i = 1#1 <;> by_cases h2 : k0_cond2 i = 1#1 <;> by_cases h3 : k0_cond3 i = 1#1 <;>
    simp only [h1, h2, h3, dite_true, dite_false, ↓reduceDIte, bind_assoc, pure_bind, bind_pure_unit] <;> rfl

/-! ## The offsets and the conditions -/

/-- The slot of column group `p`. -/
def slotNo (p : Fin 20) : Fin 2 := ⟨p.val % 2, by omega⟩

theorem firstEnds_of (i : grid0.Coords) (h1) : (firstEnds i h1).Of (slotNo (i 0)) (i 0) := by
  intro g
  have a := (by decide : ∀ (p : Fin 20) (g : Fin 2), (Scalar.muli (Scalar.addi (Scalar.muli (BitVec.ofNat 32 p.val) 2#32) (BitVec.ofNat 32 g.val)) 128#32).toNat
    = 256 * p.val + 128 * g.val) (i 0) g
  have b := (by decide : ∀ (p : Fin 20) (g : Fin 2), (Scalar.addi (Scalar.muli (Scalar.remsi (BitVec.ofNat 32 p.val) 2#32) 2#32) (BitVec.ofNat 32 g.val)).toNat
    = 2 * (slotNo p).val + g.val) (i 0) g
  exact ⟨congrArg (fun n => ![0, n]) a, congrArg (fun n => ![0, n]) a, congrArg (fun n => ![n, 0, 0]) b, congrArg (fun n => ![n, 46688, 0]) b⟩

theorem thisEnds_of (i : grid0.Coords) (h2) : (thisEnds i h2).Of (slotNo (i 0)) (i 0) := by
  intro g
  have a := (by decide : ∀ (p : Fin 20) (g : Fin 2), (Scalar.muli (Scalar.addi (Scalar.muli (BitVec.ofNat 32 p.val) 2#32) (BitVec.ofNat 32 g.val)) 128#32).toNat
    = 256 * p.val + 128 * g.val) (i 0) g
  have b := (by decide : ∀ (p : Fin 20) (g : Fin 2), (Scalar.addi (Scalar.muli (Scalar.remsi (BitVec.ofNat 32 p.val) 2#32) 2#32) (BitVec.ofNat 32 g.val)).toNat
    = 2 * (slotNo p).val + g.val) (i 0) g
  exact ⟨congrArg (fun n => ![0, n]) a, congrArg (fun n => ![0, n]) a, congrArg (fun n => ![n, 0, 0]) b, congrArg (fun n => ![n, 46688, 0]) b⟩

theorem nextEnds_of (i : grid0.Coords) (h2 h3) (p' : Fin 20) (hp : p'.val = (i 0).val + 1) : (nextEnds i h2 h3).Of (slotNo p') p' := by
  intro g
  have a := (by decide : ∀ (p : Fin 20) (p' : Fin 20) (g : Fin 2), p'.val = p.val + 1 →
    (Scalar.muli (Scalar.addi (Scalar.muli (Scalar.addi (BitVec.ofNat 32 p.val) 1#32) 2#32) (BitVec.ofNat 32 g.val)) 128#32).toNat
    = 256 * p'.val + 128 * g.val) (i 0) p' g hp
  have b := (by decide : ∀ (p : Fin 20) (p' : Fin 20) (g : Fin 2), p'.val = p.val + 1 →
    (Scalar.addi (Scalar.muli (Scalar.remsi (Scalar.addi (BitVec.ofNat 32 p.val) 1#32) 2#32) 2#32) (BitVec.ofNat 32 g.val)).toNat
    = 2 * (slotNo p').val + g.val) (i 0) p' g hp
  exact ⟨congrArg (fun n => ![0, n]) a, congrArg (fun n => ![0, n]) a, congrArg (fun n => ![n, 0, 0]) b, congrArg (fun n => ![n, 46688, 0]) b⟩

theorem firstSem (i : grid0.Coords) (h1) : semAt (k0_off1 i) (k0_off1_inb i h1) = semOf (slotNo (i 0)) :=
  semAt_eq _ _ _ (congrArg (fun n => ![n]) ((by decide : ∀ (p : Fin 20), (Scalar.remsi (BitVec.ofNat 32 p.val) 2#32).toNat = (slotNo p).val) (i 0)))
theorem thisSem (i : grid0.Coords) (h2) : semAt (k0_off13 i) (k0_off13_inb i h2) = semOf (slotNo (i 0)) :=
  semAt_eq _ _ _ (congrArg (fun n => ![n]) ((by decide : ∀ (p : Fin 20), (Scalar.remsi (BitVec.ofNat 32 p.val) 2#32).toNat = (slotNo p).val) (i 0)))
theorem nextSem (i : grid0.Coords) (h2 h3) (p' : Fin 20) (hp : p'.val = (i 0).val + 1) :
    semAt (k0_off7 i) (k0_off7_inb i h2 h3) = semOf (slotNo p') :=
  semAt_eq _ _ _ (congrArg (fun n => ![n]) ((by decide : ∀ (p p' : Fin 20), p'.val = p.val + 1 →
    (Scalar.remsi (Scalar.addi (BitVec.ofNat 32 p.val) 1#32) 2#32).toNat = (slotNo p').val) (i 0) p' hp))

theorem cond1_iff (i : grid0.Coords) : k0_cond1 i = 1#1 ↔ (i 0).val = 0 ∧ (i 1).val = 0 :=
  (by decide : ∀ (p : Fin 20) (s : Fin 3), Scalar.cmpi .ne (Scalar.extui (Scalar.andi (Scalar.cmpi .eq (BitVec.ofNat 32 p.val) 0#32)
    (Scalar.cmpi .eq (BitVec.ofNat 32 s.val) 0#32)) : BitVec 32) 0#32 = 1#1 ↔ p.val = 0 ∧ s.val = 0) (i 0) (i 1)
theorem cond2_iff (i : grid0.Coords) : k0_cond2 i = 1#1 ↔ (i 1).val = 0 :=
  (by decide : ∀ (s : Fin 3), Scalar.cmpi .ne (Scalar.extui (Scalar.cmpi .eq (BitVec.ofNat 32 s.val) 0#32) : BitVec 32) 0#32 = 1#1 ↔ s.val = 0) (i 1)
theorem cond3_iff (i : grid0.Coords) : k0_cond3 i = 1#1 ↔ (i 0).val + 1 < 20 :=
  (by decide : ∀ (p : Fin 20), Scalar.cmpi .ne (Scalar.extui (Scalar.cmpi .slt (Scalar.addi (BitVec.ofNat 32 p.val) 1#32) 20#32) : BitVec 32) 0#32 = 1#1
    ↔ p.val + 1 < 20) (i 0)

/-- The loop reads only this column group's slot. -/
theorem bufRect_sub (i : grid0.Coords) (w : BitVec 32) (g : Fin 2) (h) :
    (bufM.access (bufRect i w g h)).set ⊆ slotPart (slotNo (i 0)) := by
  intro x hx
  have hx' : x ∈ (bufRect i w g h).set := by
    have hs : (bufM.access (bufRect i w g h)).set = (bufRect i w g h).set := View.set_slice_whole _ _
    rw [← hs]; exact hx
  have hm := (Rect.mem_set_unit.mp hx') 0
  have b := (by decide : ∀ (p : Fin 20) (g : Fin 2), (Scalar.indexCast (Scalar.addi (Scalar.muli (Scalar.remsi (BitVec.ofNat 32 p.val) 2#32) 2#32) (BitVec.ofNat 32 g.val))).toNat
    = 2 * (slotNo p).val + g.val) (i 0) g
  have a0 : (Scalar.indexCast (Scalar.addi (Scalar.muli (Scalar.remsi (BitVec.ofNat 32 (i 0).val) 2#32) 2#32) (BitVec.ofNat 32 g.val))).toNat ≤ (x 0).val
    ∧ (x 0).val < (Scalar.indexCast (Scalar.addi (Scalar.muli (Scalar.remsi (BitVec.ofNat 32 (i 0).val) 2#32) 2#32) (BitVec.ofNat 32 g.val))).toNat + 1 := hm
  have hg := g.isLt
  rw [b] at a0
  exact Finset.mem_filter.mpr ⟨Finset.mem_univ _, by omega⟩

end Cert.KernelIdeal.Hand
-- ==== Proof.Grid.lean ====
/- What the row buffer's two slots hold from one grid point to the next, and what the body does to them before its loop. -/
module

public import proofs.«01_k».proof.Proof.Body

@[expose] public section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V)
variable (fy : S46695x5120.Idx → Elt F .fp8e4m3) (ft : S96x5120.Idx → Elt F .fp8e4m3)

/-- The slot the column group after `p` is copied to. -/
def otherNo (p : Fin 20) : Fin 2 := ⟨(p.val + 1) % 2, by omega⟩

/-- The other slot once column group `p` is in its own: the next group on its way, if there is one. -/
noncomputable def ahead (p : Fin 20) : sProp 𝕄 :=
  if h : p.val + 1 < 20 then inflight c fy ft (otherNo p) ⟨p.val + 1, h⟩ else free c fy ft (otherNo p)

/-- The two slots before point `n`, column group `n / 3` and chunk `n % 3`. -/
noncomputable def held (n : ℕ) : sProp 𝕄 :=
  if h : n < 60 then
    have hp : n / 3 < 20 := by omega
    if n = 0 then iprop(free c fy ft (slotNo ⟨n / 3, hp⟩) ∗ free c fy ft (otherNo ⟨n / 3, hp⟩))
    else if n % 3 = 0 then iprop(inflight c fy ft (slotNo ⟨n / 3, hp⟩) ⟨n / 3, hp⟩ ∗ free c fy ft (otherNo ⟨n / 3, hp⟩))
    else iprop(ready c fy ft (slotNo ⟨n / 3, hp⟩) ⟨n / 3, hp⟩ ∗ ahead c fy ft ⟨n / 3, hp⟩)
  else iprop(free c fy ft 0 ∗ free c fy ft 1)

theorem next_spec (i : grid0.Coords) (h2 : k0_cond2 i = 1#1) {α : Type}
    (K : PUnit → Prog (TpuEff nD τ sig (Elt F) Λ₀ .tc) α) (Q : α → sProp 𝕄) :
    iprop(free c fy ft (otherNo (i 0)) ∗ (ahead c fy ft (i 0) -∗ wp frame (wpE (defs₀ (F := F)) 𝒱 (c : Thread nD τ) bd) Set.univ (K ⟨⟩) Q))
    ⊢ wp frame (wpE (defs₀ (F := F)) 𝒱 (c : Thread nD τ) bd) Set.univ (next i h2 >>= K) Q := by
  unfold next ahead
  by_cases h3 : k0_cond3 i = 1#1
  · have hp := (cond3_iff i).mp h3
    rw [dif_pos h3, dif_pos hp, nextSem i h2 h3 ⟨(i 0).val + 1, hp⟩ rfl]
    exact fill_spec 𝒱 c bd fy ft _ _ _ (nextEnds_of i h2 h3 ⟨(i 0).val + 1, hp⟩ rfl) K Q
  · have hp : ¬ (i 0).val + 1 < 20 := fun h => h3 ((cond3_iff i).mpr h)
    rw [dif_neg h3, dif_neg hp, pure_bind]
    iintro ⟨H, HK⟩
    iapply HK $$ H

theorem turn_pos (i : grid0.Coords) (h2 : k0_cond2 i = 1#1) :
    turn (F := F) i = (next i h2 >>= fun _ => drain (thisEnds i h2) (semOf (slotNo (i 0)))) := by
  unfold turn; rw [dif_pos h2, thisSem i h2]
theorem turn_neg (i : grid0.Coords) (h2 : ¬ k0_cond2 i = 1#1) : turn (F := F) i = pure ⟨⟩ := by unfold turn; rw [dif_neg h2]
theorem first_pos (i : grid0.Coords) (h1 : k0_cond1 i = 1#1) : first (F := F) i = fill (firstEnds i h1) (semOf (slotNo (i 0))) := by
  unfold first; rw [dif_pos h1, firstSem i h1]
theorem first_neg (i : grid0.Coords) (h1 : ¬ k0_cond1 i = 1#1) : first (F := F) i = pure ⟨⟩ := by unfold first; rw [dif_neg h1]

/-- The next group's transfers issued, and this group's waited for. -/
theorem turn_spec (i : grid0.Coords) (h2 : k0_cond2 i = 1#1) (W : Waits sig Unit) {α : Type}
    (K : PUnit → Prog (TpuEff nD τ sig (Elt F) Λ₀ .tc) α) (Q : α → sProp 𝕄) :
    iprop(inflight c fy ft (slotNo (i 0)) (i 0) ∗ free c fy ft (otherNo (i 0)) ∗ owes (c : Thread nD τ) 0 W
      ∗ (ready c fy ft (slotNo (i 0)) (i 0) -∗ ahead c fy ft (i 0) -∗ (∃ W', owes (c : Thread nD τ) 0 W')
          -∗ wp frame (wpE (defs₀ (F := F)) 𝒱 (c : Thread nD τ) bd) Set.univ (K ⟨⟩) Q))
    ⊢ wp frame (wpE (defs₀ (F := F)) 𝒱 (c : Thread nD τ) bd) Set.univ (turn i >>= K) Q := by
  rw [turn_pos i h2, bind_assoc]
  iintro ⟨HA, HB, HO, HK⟩
  iapply (next_spec 𝒱 c bd fy ft i h2 (fun _ => drain (thisEnds i h2) (semOf (slotNo (i 0))) >>= K) Q)
  iframe HB
  iintro HB
  iapply (drain_spec 𝒱 c bd fy ft (thisEnds i h2) (slotNo (i 0)) (i 0) W K Q)
  iframe HA HO
  iintro HA HO
  iapply HK $$ HA HB HO

/-- THE SLOTS before a point's loop: this column group's slot holds it, and the next is on its way to the other. -/
theorem before_spec (i : grid0.Coords) (n : ℕ) (hn : n < 60) (hp : (i 0).val = n / 3) (hs : (i 1).val = n % 3) (W : Waits sig Unit) {α : Type}
    (K : PUnit → Prog (TpuEff nD τ sig (Elt F) Λ₀ .tc) α) (Q : α → sProp 𝕄) :
    iprop(held c fy ft n ∗ owes (c : Thread nD τ) 0 W
      ∗ (ready c fy ft (slotNo (i 0)) (i 0) -∗ ahead c fy ft (i 0) -∗ (∃ W', owes (c : Thread nD τ) 0 W')
          -∗ wp frame (wpE (defs₀ (F := F)) 𝒱 (c : Thread nD τ) bd) Set.univ (K ⟨⟩) Q))
    ⊢ wp frame (wpE (defs₀ (F := F)) 𝒱 (c : Thread nD τ) bd) Set.univ (first i >>= fun _ => turn i >>= K) Q := by
  have hi : (⟨n / 3, by omega⟩ : Fin 20) = i 0 := Fin.ext hp.symm
  unfold held
  simp only [dif_pos hn, hi]
  by_cases h2 : k0_cond2 i = 1#1
  · have hm : n % 3 = 0 := by rw [← hs]; exact (cond2_iff i).mp h2
    by_cases h1 : k0_cond1 i = 1#1
    · have h0 : n = 0 := by have := (cond1_iff i).mp h1; omega
      rw [if_pos h0, first_pos i h1]
      iintro ⟨⟨HA, HB⟩, HO, HK⟩
      iapply (fill_spec 𝒱 c bd fy ft (firstEnds i h1) (slotNo (i 0)) (i 0) (firstEnds_of i h1) (fun _ => turn i >>= K) Q)
      iframe HA
      iintro HA
      iapply (turn_spec 𝒱 c bd fy ft i h2 W K Q)
      iframe HA HB HO
      iexact HK
    · have h0 : n ≠ 0 := fun h => h1 ((cond1_iff i).mpr (by omega))
      rw [if_neg h0, if_pos hm, first_neg i h1, pure_bind]
      iintro ⟨⟨HA, HB⟩, HO, HK⟩
      iapply (turn_spec 𝒱 c bd fy ft i h2 W K Q)
      iframe HA HB HO
      iexact HK
  · have hm : n % 3 ≠ 0 := by rw [← hs]; exact fun h => h2 ((cond2_iff i).mpr h)
    have h1 : ¬ k0_cond1 i = 1#1 := fun h => h2 ((cond2_iff i).mpr ((cond1_iff i).mp h).2)
    rw [if_neg (by omega), if_neg hm, first_neg i h1, turn_neg i h2, pure_bind, pure_bind]
    iintro ⟨⟨HA, HB⟩, HO, HK⟩
    iapply HK $$ HA HB [HO]
    iexists _; iexact HO

/-- and after it. -/
theorem after_held (p : Fin 20) (n : ℕ) (hn : n < 60) (hp : p.val = n / 3) :
    iprop(ready c fy ft (slotNo p) p ∗ ahead c fy ft p) ⊢ held c fy ft (n + 1) := by
  unfold held
  by_cases hm : n % 3 = 2
  · by_cases hl : n + 1 < 60
    · have hq : p.val + 1 < 20 := by omega
      have hi : (⟨(n + 1) / 3, by omega⟩ : Fin 20) = ⟨p.val + 1, hq⟩ := Fin.ext (by show (n + 1) / 3 = p.val + 1; omega)
      simp only [dif_pos hl, hi]
      rw [if_neg (by omega), if_pos (by omega)]
      unfold ahead
      rw [dif_pos hq, show slotNo ⟨p.val + 1, hq⟩ = otherNo p from rfl,
        show otherNo ⟨p.val + 1, hq⟩ = slotNo p from Fin.ext (by show (p.val + 1 + 1) % 2 = p.val % 2; omega)]
      iintro ⟨HA, HB⟩
      iframe HB
      iapply (ready_free c fy ft) $$ HA
    · have hq : ¬ p.val + 1 < 20 := by omega
      rw [dif_neg hl]
      unfold ahead
      rw [dif_neg hq, show slotNo p = 1 from Fin.ext (by show p.val % 2 = 1; omega), show otherNo p = 0 from Fin.ext (by show (p.val + 1) % 2 = 0; omega)]
      iintro ⟨HA, HB⟩
      iframe HB
      iapply (ready_free c fy ft) $$ HA
  · have hl : n + 1 < 60 := by omega
    have hi : (⟨(n + 1) / 3, by omega⟩ : Fin 20) = p := Fin.ext (by show (n + 1) / 3 = p.val; omega)
    simp only [dif_pos hl, hi]
    rw [if_neg (by omega), if_neg (by omega)]

/-! ## The slots from the whole buffer, and back -/

theorem slots_disjoint : Disjoint (slotPart 0) (slotPart 1) := by
  rw [Finset.disjoint_left]; intro x
  simp only [slotPart, Finset.mem_filter, Finset.mem_univ, true_and, Fin.val_zero, Fin.val_one]; omega
theorem slots_univ : slotPart 0 ∪ slotPart 1 = Finset.univ := by
  ext x
  have h0 : (x 0).val < 4 := (x 0).isLt
  simp only [slotPart, Finset.mem_union, Finset.mem_filter, Finset.mem_univ, true_and, Fin.val_zero, Fin.val_one, iff_true]
  omega

theorem buf_split : (iprop(∃ f, locB c ↦{fullShare} f) : sProp 𝕄) ⊢
    iprop((∃ f, locB c ↦[slotPart 0]{fullShare} f) ∗ (∃ f, locB c ↦[slotPart 1]{fullShare} f)) := by
  iintro ⟨%f, H⟩
  ihave H := (BIBase.Entails.of_eq (show (locB c ↦{fullShare} f : sProp 𝕄) = (locB c ↦[slotPart 0 ∪ slotPart 1]{fullShare} f) by rw [slots_univ])) $$ H
  ihave H := (pointsTo_union (ℓ := locB c) slots_disjoint).mp $$ H
  icases H with ⟨HA, HB⟩
  isplitl [HA]
  · iexists _; iexact HA
  · iexists _; iexact HB

theorem buf_join : (iprop((∃ f, locB c ↦[slotPart 0]{fullShare} f) ∗ (∃ f, locB c ↦[slotPart 1]{fullShare} f)) : sProp 𝕄) ⊢
    iprop(∃ f, locB c ↦{fullShare} f) := by
  classical
  iintro ⟨⟨%f, HA⟩, ⟨%g, HB⟩⟩
  iexists (fun x => if x ∈ slotPart 0 then f x else g x)
  rw [show (locB c ↦{fullShare} (fun x => if x ∈ slotPart 0 then f x else g x) : sProp 𝕄)
    = (locB c ↦[slotPart 0 ∪ slotPart 1]{fullShare} (fun x => if x ∈ slotPart 0 then f x else g x)) by rw [slots_univ]]
  iapply (pointsTo_union (ℓ := locB c) slots_disjoint).mpr
  rw [pointsTo_congr (ℓ := locB c) (I := slotPart 0) (f := fun x => if x ∈ slotPart 0 then f x else g x) (g := f) (fun x hx => if_pos hx),
    pointsTo_congr (ℓ := locB c) (I := slotPart 1) (f := fun x => if x ∈ slotPart 0 then f x else g x) (g := g)
      (fun x hx => if_neg (Finset.disjoint_right.mp slots_disjoint hx))]
  iframe HA
  iexact HB

theorem share_four (ℓ : Loc nD τ sig) (f : Buf (Elt F) ℓ) : (ℓ ↦{fullShare} f : sProp 𝕄) ⊣⊢
    iprop(((ℓ ↦{quarter 0 0} f) ∗ (ℓ ↦{quarter 0 1} f)) ∗ ((ℓ ↦{quarter 1 0} f) ∗ (ℓ ↦{quarter 1 1} f))) :=
  (pointsTo_share (PosShare.mem_left_op_right fullShare)).trans
    (sep_congr (pointsTo_share (PosShare.mem_left_op_right fullShare.left)) (pointsTo_share (PosShare.mem_left_op_right fullShare.right)))

/-- Everything the two slots are made of. -/
noncomputable def pool : sProp 𝕄 :=
  iprop((∃ f, locB c ↦{fullShare} f) ∗ (semVal ((c : Thread nD τ), SemLoc.dma 8) 0 ∗ semVal ((c : Thread nD τ), SemLoc.dma 9) 0)
    ∗ (locY c ↦{fullShare} fy) ∗ (locT c ↦{fullShare} ft))

theorem pool_free : pool c fy ft ⊢ iprop(free c fy ft 0 ∗ free c fy ft 1) := by
  unfold pool free quarters
  iintro ⟨HB, ⟨S0, S1⟩, HY, HT⟩
  ihave HB := (buf_split c) $$ HB
  icases HB with ⟨B0, B1⟩
  ihave HY := (share_four (locY c) fy).mp $$ HY
  icases HY with ⟨⟨Y0, Y1⟩, ⟨Y2, Y3⟩⟩
  ihave HT := (share_four (locT c) ft).mp $$ HT
  icases HT with ⟨⟨T0, T1⟩, ⟨T2, T3⟩⟩
  isplitl [B0 S0 Y0 T0 Y1 T1]
  · iframe B0 Y0 T0 Y1 T1; iexact S0
  · iframe B1 Y2 T2 Y3 T3; iexact S1

theorem free_pool : iprop(free c fy ft 0 ∗ free c fy ft 1) ⊢ pool c fy ft := by
  unfold pool free quarters
  iintro ⟨⟨B0, S0, Y0, T0, Y1, T1⟩, ⟨B1, S1, Y2, T2, Y3, T3⟩⟩
  isplitl [B0 B1]
  · iapply (buf_join c); iframe B0; iexact B1
  isplitl [S0 S1]
  · isplitl [S0]
    · iexact S0
    · iexact S1
  isplitl [Y0 Y1 Y2 Y3]
  · iapply (share_four (locY c) fy).mpr
    iframe Y0 Y1 Y2; iexact Y3
  · iapply (share_four (locT c) ft).mpr
    iframe T0 T1 T2; iexact T3

theorem held_start : pool c fy ft ⊢ held c fy ft 0 := pool_free c fy ft
theorem held_end : held c fy ft 60 ⊢ pool c fy ft := free_pool c fy ft

end Cert.KernelIdeal.Hand
-- ==== Proof.Frame.lean ====
/- The frame: the program terminates, nothing faults, its argument arrays end unchanged and every semaphore ends at zero;
   and what each point leaves in its window of the result. -/
module

public import proofs.«01_k».proof.Proof.Grid
public import proofs.«01_k».proof.Proof.Gen.KernelIdeal.Frame

@[expose] public section

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The frame from a run of the pipeline that ends with every semaphore at zero. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats 0 c).arrAt_in 0 rfl _).trans (hA c 0)),
      ((h.1 c).1 1).trans (((dats 0 c).arrAt_in 1 rfl _).trans (hA c 1)),
      ((h.1 c).1 2).trans (((dats 0 c).arrAt_in 2 rfl _).trans (hA c 2)),
      ((h.1 c).1 3).trans (((dats 0 c).arrAt_in 3 rfl _).trans (hA c 3)),
      (h.1 c).2 main_arg4 (Pipeline.mem_restRefs_of main_arg4 (by decide) (by decide)),
      (h.1 c).2 main_arg5 (Pipeline.mem_restRefs_of main_arg5 (by decide) (by decide))⟩, h.2⟩) h

/-! ## The body's own buffers and semaphores -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((locY c ↦{fullShare} V m c main_arg4) ∗ (locT c ↦{fullShare} V m c main_arg5)) := by
  rw [BI.bigSep_eq_bigSepL_of_eq [main_arg4, main_arg5] (by decide) (by decide)]; rfl

/-- The expert rows and the tail as the program finds them. -/
abbrev rowsOf (c : Dev nD) : S46695x5120.Idx → Elt F .fp8e4m3 := V m c main_arg4
abbrev tailOf (c : Dev nD) : S96x5120.Idx → Elt F .fp8e4m3 := V m c main_arg5

/-- The region's own share is the pool the two slots are made of, and the generator register. -/
theorem PhiD_eq (c : Dev nD) :
    (Pipeline.ΦD osem0 spec0 H0 (V m) c : sProp 𝕄) ⊣⊢ iprop(pool c (rowsOf m c) (tailOf m c) ∗ ∃ r, prngReg c r) := by
  rw [Pipeline.ΦD_eq, scopedRest0_eq, ownSems00_eq, hbmPts0_eq]
  unfold pool
  constructor
  · iintro ⟨HB, HR, HS, HY, HT⟩
    iframe HR HB HS HY; iexact HT
  · iintro ⟨⟨HB, HS, HY, HT⟩, HR⟩
    iframe HR HB HS HY; iexact HT

/-! ## The proof data -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)

/-- What the windows' buffers hold at a point: the point's blocks. -/
abbrev buf0 (c : Dev nD) (t : Fin cfg0.N) : Buf (Elt F) ((st0_0 t).view.loc (c : Thread nD τ)) := (hst0 t).unread (iblk m c 0 t)
abbrev buf1 (c : Dev nD) (t : Fin cfg0.N) : Buf (Elt F) ((st0_1 t).view.loc (c : Thread nD τ)) := (hst1 t).unread (iblk m c 1 t)
abbrev buf2 (c : Dev nD) (t : Fin cfg0.N) : Buf (Elt F) ((st0_2 t).view.loc (c : Thread nD τ)) := (hst2 t).unread (iblk m c 2 t)
abbrev buf3 (c : Dev nD) (t : Fin cfg0.N) : Buf (Elt F) ((st0_3 t).view.loc (c : Thread nD τ)) := (hst3 t).unread (iblk m c 3 t)

/-- Every row number the table holds names rows the buffer has. -/
abbrev Fit (c : Dev nD) : Prop := ∀ t : Fin cfg0.N, AllFit c (grid0.coords t) (st0_0 t) (buf0 m c t)

theorem coords_val (t : Fin cfg0.N) : (grid0.coords t 0).val = t.val / 3 ∧ (grid0.coords t 1).val = t.val % 3 := by
  revert t; decide +kernel

theorem lt60 (t : Fin cfg0.N) : t.val < 60 := t.isLt.trans_eq N_0

variable (hfit : ∀ c : Dev nD, Fit m c)

/-- What a point leaves in the result's window. -/
def outAt (c : Dev nD) (t : Fin cfg0.N) : S2048x256.Idx → Elt F .bf16 :=
  chunkOut c (grid0.coords t) (st0_0 t) (st0_1 t) (st0_2 t) (st0_3 t) bufM rowIota (buf0 m c t) (buf1 m c t) (buf2 m c t) (buf3 m c t)
    (filled (rowsOf m c) (tailOf m c) (grid0.coords t 0)) (hfit c t)

/-- The proof data of the pipeline: the input windows keep their blocks, the result's window holds `outAt`, and between
    points the core holds the two slots as `held` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hfit c t
  Φ t := iprop(held c (rowsOf m c) (tailOf m c) t.val ∗ ∃ r, prngReg c r)
  q _ := fullShare
  owed _ := 0

theorem A_eq (c : Dev nD) (w : Fin cfg0.W) : (dats m hfit 0 c).A w = V m c (Pipeline.arrRef spec0 w) := by dsimp only [dats]
theorem after0_0 (c : Dev nD) (t : Fin cfg0.N) : (dats m hfit 0 c).after 0 t = iblk m c 0 t := by dsimp only [dats]
theorem after0_1 (c : Dev nD) (t : Fin cfg0.N) : (dats m hfit 0 c).after 1 t = iblk m c 1 t := by dsimp only [dats]
theorem after0_2 (c : Dev nD) (t : Fin cfg0.N) : (dats m hfit 0 c).after 2 t = iblk m c 2 t := by dsimp only [dats]
theorem after0_3 (c : Dev nD) (t : Fin cfg0.N) : (dats m hfit 0 c).after 3 t = iblk m c 3 t := by dsimp only [dats]
theorem after0_4 (c : Dev nD) (t : Fin cfg0.N) : (dats m hfit 0 c).after 4 t = outAt m hfit c t := by dsimp only [dats]

theorem before0_0 (c : Dev nD) (t : Fin cfg0.N) (d) : (dats m hfit 0 c).before 0 t d = iblk m c 0 t :=
  ((dats m hfit 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m hfit 0 c).before 1 t d = iblk m c 1 t :=
  ((dats m hfit 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m hfit 0 c).before 2 t d = iblk m c 2 t :=
  ((dats m hfit 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m hfit 0 c).before 3 t d = iblk m c 3 t :=
  ((dats m hfit 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

def bodyPre (c : Dev nD) (t : Fin cfg0.N) : sProp 𝕄 :=
  iprop((dats m hfit 0 c).Φ t.castSucc ∗ (dats m hfit 0 c).owesAt () t.castSucc
    ∗ (∃ d, owns (c : Thread nD τ) (st0_0 t) fullShare ((dats m hfit 0 c).before 0 t d))
    ∗ (∃ d, owns (c : Thread nD τ) (st0_1 t) fullShare ((dats m hfit 0 c).before 1 t d))
    ∗ (∃ d, owns (c : Thread nD τ) (st0_2 t) fullShare ((dats m hfit 0 c).before 2 t d))
    ∗ (∃ d, owns (c : Thread nD τ) (st0_3 t) fullShare ((dats m hfit 0 c).before 3 t d))
    ∗ (∃ d, owns (c : Thread nD τ) (st0_4 t) fullShare ((dats m hfit 0 c).before 4 t d)))
def bodyPost (c : Dev nD) (t : Fin cfg0.N) : sProp 𝕄 :=
  iprop((dats m hfit 0 c).Φ t.succ ∗ (dats m hfit 0 c).owesAt () t.succ
    ∗ owns (c : Thread nD τ) (st0_0 t) fullShare ((dats m hfit 0 c).after 0 t)
    ∗ owns (c : Thread nD τ) (st0_1 t) fullShare ((dats m hfit 0 c).after 1 t)
    ∗ owns (c : Thread nD τ) (st0_2 t) fullShare ((dats m hfit 0 c).after 2 t)
    ∗ owns (c : Thread nD τ) (st0_3 t) fullShare ((dats m hfit 0 c).after 3 t)
    ∗ owns (c : Thread nD τ) (st0_4 t) fullShare ((dats m hfit 0 c).after 4 t))

theorem owns_open {sp : Space} {s : Shape} {e : EltTy} (M : Memref sig .tc sp s e) (h : M.IsWhole) (c : Dev nD) (X : s.Idx → Elt F e) :
    (owns (c : Thread nD τ) M fullShare X : sProp 𝕄) ⊢ (M.view.loc (c : Thread nD τ) ↦{fullShare} h.unread X) := by
  unfold owns
  iintro ⟨%f, %hf, H⟩
  rw [h.set_eq_univ, ← h.eq_unread hf]
  iexact H

theorem owns_close {sp : Space} {s : Shape} {e : EltTy} (M : Memref sig .tc sp s e) (h : M.IsWhole) (c : Dev nD) (X : s.Idx → Elt F e)
    (f : Buf (Elt F) (M.view.loc (c : Thread nD τ))) (hf : M.view.read (Elt F) f = X) :
    (M.view.loc (c : Thread nD τ) ↦{fullShare} f : sProp 𝕄) ⊢ owns (c : Thread nD τ) M fullShare X := by
  unfold owns
  iintro H
  iexists f
  isplitr
  · ipureintro; exact hf
  rw [h.set_eq_univ]
  iexact H

/-- The loop of a point, on whole windows. -/
theorem loop_at (c : Dev nD) (t : Fin cfg0.N) (q9 : PosShare TreeShare) :
    iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ (∃ X, owns (c : Thread nD τ) (st0_4 t) fullShare X)
      ∗ (bufM.view.loc (c : Thread nD τ) ↦[slotPart (slotNo (grid0.coords t 0))]{q9} filled (rowsOf m c) (tailOf m c) (grid0.coords t 0)))
    ⊢ (wp frame (wpE (defs₀ (F := F)) Variants.none (c : Thread nD τ) none) Set.univ
        (Scf.Loop.for k0_t1_loop k0_t1_ok ⟨⟩
          (k0_t1_body (grid0.coords t) (st0_0 t) (hst0 t) (st0_1 t) (hst1 t) (st0_2 t) (hst2 t) (st0_3 t) (hst3 t)
            rowsM (Memref.isWhole_whole _) tailM (Memref.isWhole_whole _)
            (st0_4 t) (hst4 t) bufM (Memref.isWhole_whole _) cc0_scratch1 (BitVec.ofNat 32 (grid0.coords t 1).val) (v9At (grid0.coords t)) rowIota))
        (fun _ => iprop(owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (outAt m hfit c t)
          ∗ (bufM.view.loc (c : Thread nD τ) ↦[slotPart (slotNo (grid0.coords t 0))]{q9} filled (rowsOf m c) (tailOf m c) (grid0.coords t 0)))) : sProp 𝕄) := by
  have hl := loop_spec (F := F) (U := Pipeline.UD sig nD τ) Variants.none c none (grid0.coords t) (st0_0 t) (hst0 t) (st0_1 t) (hst1 t) (st0_2 t) (hst2 t) (st0_3 t) (hst3 t)
            rowsM (Memref.isWhole_whole _) tailM (Memref.isWhole_whole _)
            (st0_4 t) (hst4 t) bufM (Memref.isWhole_whole _) cc0_scratch1 (BitVec.ofNat 32 (grid0.coords t 1).val) (v9At (grid0.coords t)) rowIota
            (buf0 m c t) (buf1 m c t) (buf2 m c t) (buf3 m c t) (filled (rowsOf m c) (tailOf m c) (grid0.coords t 0)) (hfit c t)
            (slotPart (slotNo (grid0.coords t 0))) fullShare fullShare fullShare fullShare q9 (bufRect_sub (grid0.coords t))
  refine BIBase.Entails.trans ?_ (hl.trans (wp_mono _ _ _ fun _ => ?_))
  · iintro ⟨H0, H1, H2, H3, ⟨%X, H4⟩, H5⟩
    isplitl [H0]; · iapply (owns_open (F := F) _ (hst0 t) c _); iexact H0
    isplitl [H1]; · iapply (owns_open (F := F) _ (hst1 t) c _); iexact H1
    isplitl [H2]; · iapply (owns_open (F := F) _ (hst2 t) c _); iexact H2
    isplitl [H3]; · iapply (owns_open (F := F) _ (hst3 t) c _); iexact H3
    isplitl [H4]; · iexists _; iapply (owns_open (F := F) _ (hst4 t) c X); iexact H4
    iexact H5
  · iintro ⟨H0, H1, H2, H3, ⟨%f8, H4, %h8⟩, H5⟩
    isplitl [H0]; · iapply (owns_close (F := F) _ (hst0 t) c _ _ ((hst0 t).read_unread _)); iexact H0
    isplitl [H1]; · iapply (owns_close (F := F) _ (hst1 t) c _ _ ((hst1 t).read_unread _)); iexact H1
    isplitl [H2]; · iapply (owns_close (F := F) _ (hst2 t) c _ _ ((hst2 t).read_unread _)); iexact H2
    isplitl [H3]; · iapply (owns_close (F := F) _ (hst3 t) c _ _ ((hst3 t).read_unread _)); iexact H3
    isplitl [H4]; · iapply (owns_close (F := F) _ (hst4 t) c _ f8 h8); iexact H4
    iexact H5

theorem body_at_eq (t : Fin cfg0.N) :
    (bodyAt0 (F := F) t) = (first (grid0.coords t) >>= fun _ => turn (grid0.coords t) >>= fun _ => Scf.Loop.for k0_t1_loop k0_t1_ok ⟨⟩
        (k0_t1_body (grid0.coords t) (st0_0 t) (hst0 t) (st0_1 t) (hst1 t) (st0_2 t) (hst2 t) (st0_3 t) (hst3 t)
          rowsM (Memref.isWhole_whole _) tailM (Memref.isWhole_whole _)
          (st0_4 t) (hst4 t) bufM (Memref.isWhole_whole _) cc0_scratch1 (BitVec.ofNat 32 (grid0.coords t 1).val) (v9At (grid0.coords t)) rowIota)) :=
  combine_eq (grid0.coords t) (st0_0 t) (hst0 t) (st0_1 t) (hst1 t) (st0_2 t) (hst2 t) (st0_3 t) (hst3 t) (st0_4 t) (hst4 t)

theorem sound_body (c : Dev nD) (t : Fin cfg0.N) :
    bodyPre m hfit c t ⊢ wp frame (wpE (defs₀ (F := F)) Variants.none c none) Set.univ (bodyAt0 t) (fun _ => bodyPost m hfit c t) := by
  rw [body_at_eq]
  unfold bodyPre bodyPost
  rw [show (dats m hfit 0 c).Φ t.succ = iprop(held c (rowsOf m c) (tailOf m c) (t.val + 1) ∗ ∃ r, prngReg c r) from rfl,
    show (dats m hfit 0 c).Φ t.castSucc = iprop(held c (rowsOf m c) (tailOf m c) t.val ∗ ∃ r, prngReg c r) from rfl,
    after0_0, after0_1, after0_2, after0_3, after0_4]
  simp only [before0_0, before0_1, before0_2, before0_3]
  unfold Dat.owesAt Pipeline.owesWithin
  rw [show (dats m hfit 0 c).owed t.castSucc = 0 from rfl, show (dats m hfit 0 c).owed t.succ = 0 from rfl]
  iintro ⟨⟨HH, HR⟩, ⟨%W, -, HW⟩, ⟨%d0, H0⟩, ⟨%d1, H1⟩, ⟨%d2, H2⟩, ⟨%d3, H3⟩, ⟨%d4, H4⟩⟩
  iapply (before_spec (F := F) Variants.none c none (rowsOf m c) (tailOf m c) (grid0.coords t) t.val (lt60 t) (coords_val t).1 (coords_val t).2 W _ _)
  isplitl [HH]; · iexact HH
  isplitl [HW]; · iexact HW
  unfold ready
  iintro ⟨HB, HS⟩ HA ⟨%W', HW'⟩
  iapply (wp_wand_r _ _ _)
  isplitl [H0 H1 H2 H3 H4 HB]
  · iapply (loop_at m hfit c t fullShare)
    isplitl [H0]; · iexact H0
    isplitl [H1]; · iexact H1
    isplitl [H2]; · iexact H2
    isplitl [H3]; · iexact H3
    isplitl [H4]; · iexists _; iexact H4
    iexact HB
  iintro %u ⟨H0, H1, H2, H3, H4, HB⟩
  isplitl [HR HB HS HA]
  · isplitr [HR]
    · iapply (after_held (F := F) c (rowsOf m c) (tailOf m c) (grid0.coords t 0) t.val (lt60 t) (coords_val t).1)
      unfold ready
      isplitr [HA]
      · isplitl [HB]; · iexact HB
        iexact HS
      iexact HA
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hfit 0 c) (defs₀ (F := F)) Variants.none () Set.univ := fun t => by
  rw [bigSep_W0, bigSep_W0, defs₀_row]
  exact triple_restated (sound_body m hfit c t) rfl .rfl fun _ => .rfl

/-! ## The run and the frame -/

theorem region_in (c : Dev nD) : (Pipeline.ΦD osem0 spec0 H0 (V m) c : sProp 𝕄) ⊢ (dats m hfit 0 c).Φ 0 := by
  show (Pipeline.ΦD osem0 spec0 H0 (V m) c : sProp 𝕄) ⊢ iprop(held c (rowsOf m c) (tailOf m c) 0 ∗ ∃ r, prngReg c r)
  exact (PhiD_eq m c).1.trans (Laws.sep_mono (held_start c _ _) .rfl)

theorem region_out (c : Dev nD) : (dats m hfit 0 c).Φ (Fin.last cfg0.N) ⊢ (Pipeline.ΦD osem0 spec0 H0 (V m) c : sProp 𝕄) := by
  show iprop(held c (rowsOf m c) (tailOf m c) 60 ∗ ∃ r, prngReg c r) ⊢ (Pipeline.ΦD osem0 spec0 H0 (V m) c : sProp 𝕄)
  exact (Laws.sep_mono (held_end c _ _) .rfl).trans (PhiD_eq m c).2

set_option backward.isDefEq.respectTransparency.types false in
theorem run_main : θ_run defs (onTc (τ := τ) (main (F := F))) (s₀ m ρ) (fun r => Pipeline.FramePost cfgs (dats m hfit) 0 (V m) r ∧ r.2.sem = fun _ => 0) :=
  Pipeline.θ_run_frame_dma (Q' := _) cfgs (dats m hfit) (0 : Fin 1) launch0 osem0 defs₀ Variants.none ownSemFacts0 H0 H0_sub m ρ main
    (hbody := fun c => (body_obligation m hfit c).loose) (hshare := fun c => (dats m hfit 0 c).share_full fun _ => rfl)
    (howed := fun _ _ => rfl) (V := V m) (hmain := hmainD m Variants.none) (hA := A_eq m hfit)
    (hin := region_in m hfit) (hout := region_out m hfit)

include hfit in
/-- The frame, at any reading of the float types. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_ofD m ρ (dats m hfit) (A_eq m hfit) (run_main m ρ hfit)

end Cert.KernelIdeal.Hand
end
-- ==== Proof.Windows.lean ====
/- What the windows of a grid point hold: the argument arrays' elements, by their places. -/
module

public import proofs.«01_k».proof.Proof.Frame
public import Idealize.ShloMosaic.Lib.Pipeline.ValueKit
public import Idealize.ShloMosaic.Lib.WholeRead

@[expose] public section
set_option maxRecDepth 16384

noncomputable section
namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (c : Dev nD) (t : Fin cfg0.N)

theorem idx0 : ∀ t : Fin cfg0.N, win0_0.index t = ![0, 0] := by decide +kernel
theorem idx1 : ∀ t : Fin cfg0.N, win0_1.index t = ![t.val % 3, t.val / 3] := by decide +kernel
theorem idx2 : ∀ t : Fin cfg0.N, win0_2.index t = ![0, 0] := by decide +kernel
theorem idx3 : ∀ t : Fin cfg0.N, win0_3.index t = ![t.val / 3, t.val % 3, 0] := by decide +kernel
theorem idx4 : ∀ t : Fin cfg0.N, win0_4.index t = ![t.val % 3, t.val / 3] := by decide +kernel

/-- The argument arrays, as the program finds them. -/
abbrev tabOf : S32x384.Idx → Elt F .i32 := m ((c : Thread nD τ).loc main_arg0)
abbrev xOf : S6144x5120.Idx → Elt F .bf16 := m ((c : Thread nD τ).loc main_arg1)
abbrev maskOf : S3072x256.Idx → Elt F .i32 := m ((c : Thread nD τ).loc main_arg2)
abbrev coefOf : S20x768x256.Idx → Elt F .f32 := m ((c : Thread nD τ).loc main_arg3)

theorem iblk0 (x : S32x384.Idx) : iblk m c 0 t x = tabOf m c x := by
  blk_ext [iblk, V, idx0 t]
theorem iblk1 (x : S2048x256.Idx) :
    iblk m c 1 t x = xOf m c (ValueIdx.ix2 ⟨2048 * (t.val % 3) + (x 0).val, by have := idx2_lt0 x; omega⟩
      ⟨256 * (t.val / 3) + (x 1).val, by have := idx2_lt1 x; have := lt60 t; omega⟩) := by
  blk_ext [iblk, V, idx1 t]
theorem iblk2 (x : S3072x256.Idx) : iblk m c 2 t x = maskOf m c x := by
  blk_ext [iblk, V, idx2 t]
theorem iblk3 (x : S1x256x256.Idx) :
    iblk m c 3 t x = coefOf m c (ValueIdx.ix3 ⟨t.val / 3, by have := lt60 t; omega⟩
      ⟨256 * (t.val % 3) + (x 1).val, by have : (x 1).val < 256 := (x 1).isLt; omega⟩ ⟨(x 2).val, (x 2).isLt⟩) := by
  blk_ext [iblk, V, idx3 t]

theorem read_unread_access {sp : Space} {s : Shape} {e : EltTy} {M : Memref sig .tc sp s e} (h : M.IsWhole) (X : s.Idx → Elt F e)
    (r : Rect s) (y : r.shape.Idx) : (M.access r).read (Elt F) (h.unread X) y = X (r.emb y) :=
  congrFun (h.read_unread X) _

/-- Where a rectangle of unit steps puts an element, its corner given in closed form. -/
theorem unit_place {s : Shape} {off off' : Fin s.rank → ℕ} (e : off = off') (size : Fin s.rank → ℕ) (inb) (y : (Rect.unit off size inb).shape.Idx)
    (a : Fin s.rank) : ((Rect.unit off size inb).emb y a : ℕ) = off' a + (y a).val :=
  (ValueKit.rect_emb_unit_val _ _ _ _ _).trans (by rw [congrFun e a])

/-- A word of the table, as the body reads it. -/
theorem tabWord_eq (k : Fin k0_t1_loop.trips) (u : Fin 8) (r : Fin 24) :
    tabWord c (grid0.coords t) (st0_0 t) (buf0 m c t) k u r
      = tabOf m c (ValueIdx.ix2 ⟨r.val, by omega⟩ ⟨128 * (t.val % 3) + (8 * k.val + u.val), by have : k.val < 16 := k.isLt.trans_eq trips_eq; omega⟩) := by
  unfold tabWord wordAt
  rw [read_unread_access, iblk0]
  refine congrArg (tabOf m c) (funext fun a => Fin.ext ?_)
  refine (unit_place (tabOff_eq r.val (grid0.coords t) k u) _ _ _ a).trans ?_
  rw [(coords_val t).2]
  match a with
  | ⟨0, _⟩ => rfl
  | ⟨1, _⟩ => rfl

/-- A row number of at most 11688 names rows inside the buffer. -/
theorem fits_of_le (i : grid0.Coords) (w : BitVec 32) (hw : w.toNat ≤ 11688) : Fits i w := by
  have hp : ∀ p : Fin 20, ∀ g : Fin 2, (Scalar.indexCast (Scalar.addi (Scalar.muli (Scalar.remsi (BitVec.ofNat 32 p.val) 2#32) 2#32) (BitVec.ofNat 32 g.val))).toNat + 1 ≤ 4 := by
    decide +kernel
  have hr : (Scalar.indexCast (Scalar.muli 4#32 w)).toNat + 32 ≤ 46784 := by
    simp only [Scalar.indexCast, Scalar.muli, IntOp.muli, BitVec.toNat_mul, BitVec.toNat_ofNat]; omega
  constructor
  · intro a
    match a with
    | ⟨0, _⟩ => exact hp (i 0) 0
    | ⟨1, _⟩ => exact hr
    | ⟨2, _⟩ => show 0 + 128 ≤ 128; omega
  · intro a
    match a with
    | ⟨0, _⟩ => exact hp (i 0) 1
    | ⟨1, _⟩ => exact hr
    | ⟨2, _⟩ => show 0 + 128 ≤ 128; omega

/-- When the table's row numbers are at most 11688 they all name rows inside the buffer. -/
theorem fit_of_bound (h : ∀ y : S32x384.Idx, (y 0).val < 16 → (tabOf m c y : BitVec 32).toNat ≤ 11688) : Fit m c := fun t k u v => by
  constructor
  · refine fits_of_le _ _ ?_
    unfold firstAt; rw [tabWord_eq]
    exact h _ (by show v.val < 16; omega)
  · refine fits_of_le _ _ ?_
    unfold secondAt; rw [tabWord_eq]
    exact h _ (by show 8 + v.val < 16; omega)

end Cert.KernelIdeal.Hand
end
-- ==== Proof.KernelValue.lean ====
/- What the kernel leaves in its result over the extended reals, element by element, in terms of its arguments. -/
module

public import proofs.«01_k».proof.Proof.BlockValue
public import proofs.«01_k».proof.Proof.Windows

@[expose] public section
set_option maxRecDepth 16384

noncomputable section
namespace Cert.KernelIdeal.Hand

open Cert.KernelIdeal Cert.KernelIdeal.Gen
open Idealize.ShloMosaic Idealize.ShloMosaic.TcCoe Idealize.SL.Sem

/-- Row `n` of the code table (the first 46688 rows of the one array, then the other), at column `q`. -/
def codeAt (fy : S46695x5120.Idx → EReal) (ft : S96x5120.Idx → EReal) (n : ℕ) (q : Fin 5120) : EReal :=
  if h : n < 46688 then fy (ix2 ⟨n, by omega⟩ q) else ft (ix2 ⟨min (n - 46688) 95, by omega⟩ q)

/-- Whether position `j` counts for row `r` of block `b`. -/
def memberAt (mask : IVec S3072x256 32) (b : Fin 384) (r : Fin 16) (j : Fin 256) : BitVec 1 :=
  if r.val % 2 < 1 then IntOp.cmpi .ne (IntOp.andi (mask (ix2 ⟨b.val * 8 + r.val / 2, by omega⟩ j)) 65535#32) 0#32
  else IntOp.cmpi .ne (IntOp.shrui .host (mask (ix2 ⟨b.val * 8 + r.val / 2, by omega⟩ j)) 16#32) 0#32

/-- The code position `j` of block `b` picks, at column `q`. -/
def pickedAt (tab : IVec S32x384 32) (fy : S46695x5120.Idx → EReal) (ft : S96x5120.Idx → EReal) (b : Fin 384) (j : Fin 256) (q : Fin 5120) : EReal :=
  Scalar.select (IntOp.cmpi .slt (BitVec.ofNat 32 (j.val % 32)) (IntOp.muli 4#32 (tab (ix2 ⟨16 + j.val / 32, by omega⟩ b))))
    (codeAt fy ft (4 * (tab (ix2 ⟨j.val / 32, by omega⟩ b)).toNat + j.val % 32) q)
    (codeAt fy ft (4 * (tab (ix2 ⟨8 + j.val / 32, by omega⟩ b)).toNat + j.val % 32) q)

/-- The result at row `16 b + r` and column `q`. -/
def valueAt (tab : IVec S32x384 32) (x : S6144x5120.Idx → EReal) (mask : IVec S3072x256 32) (coef : S20x768x256.Idx → EReal)
    (fy : S46695x5120.Idx → EReal) (ft : S96x5120.Idx → EReal) (R : Fin 6144) (q : Fin 5120) : EReal :=
  x (ix2 R q) + ∑ j : Fin 256, Scalar.select (memberAt mask ⟨R.val / 16, by omega⟩ ⟨R.val % 16, by omega⟩ j)
    (coef (ix3 ⟨q.val / 256, by omega⟩ ⟨R.val / 16 * 2 + q.val / 128 % 2, by omega⟩ j)) 0
    * pickedAt tab fy ft ⟨R.val / 16, by omega⟩ j q

/-- What a slot holds, at the place of a row of plane `g`. -/
theorem filled_at (fy : S46695x5120.Idx → EReal) (ft : S96x5120.Idx → EReal) (p : Fin 20) (g : Fin 2) (l : Fin 128) (n : ℕ) (y : S4x46784x128.Idx)
    (h0 : (y 0).val % 2 = g.val) (h1 : (y 1).val = n) (h2 : (y 2).val = l.val) :
    filled (F := Ideal) fy ft p y = codeAt fy ft n ⟨256 * p.val + 128 * g.val + l.val, by omega⟩ := by
  have hn : n < 46784 := h1 ▸ (y 1).isLt
  unfold filled codeAt
  by_cases h : n < 46688
  · rw [dif_pos (h1 ▸ h), dif_pos h]
    refine congrArg fy (funext fun a => Fin.ext ?_)
    match a with
    | ⟨0, _⟩ => exact h1
    | ⟨1, _⟩ => show 256 * p.val + 128 * ((y 0).val % 2) + (y 2).val = 256 * p.val + 128 * g.val + l.val; rw [h0, h2]
  · rw [dif_neg (h1 ▸ h), dif_neg h]
    refine congrArg ft (funext fun a => Fin.ext ?_)
    match a with
    | ⟨0, _⟩ => show (y 1).val - 46688 = min (n - 46688) 95; rw [h1]; omega
    | ⟨1, _⟩ => show 256 * p.val + 128 * ((y 0).val % 2) + (y 2).val = 256 * p.val + 128 * g.val + l.val; rw [h0, h2]

theorem off60_eq (i : grid0.Coords) (w : BitVec 32) (hw : w.toNat ≤ 11688) (g : Fin 2) :
    k0_off60 i w (BitVec.ofNat 32 g.val) = ![2 * ((i 0).val % 2) + g.val, 4 * w.toNat, 0] := by
  have hp : ∀ p : Fin 20, ∀ g : Fin 2, (Scalar.indexCast (Scalar.addi (Scalar.muli (Scalar.remsi (BitVec.ofNat 32 p.val) 2#32) 2#32) (BitVec.ofNat 32 g.val))).toNat
      = 2 * (p.val % 2) + g.val := by
    decide +kernel
  have hr : (Scalar.indexCast (Scalar.muli 4#32 w)).toNat = 4 * w.toNat := by
    simp only [Scalar.indexCast, Scalar.muli, IntOp.muli, BitVec.toNat_mul, BitVec.toNat_ofNat]; omega
  funext a
  match a with
  | ⟨0, _⟩ => exact hp (i 0) g
  | ⟨1, _⟩ => exact hr
  | ⟨2, _⟩ => rfl

variable (c : Dev nD)

/-- A row of the buffer, read at the place a word names. -/
theorem row_read (i : grid0.Coords) (fy : S46695x5120.Idx → EReal) (ft : S96x5120.Idx → EReal) (w : BitVec 32) (hw : w.toNat ≤ 11688) (g : Fin 2)
    (h : k0_chk16 i w) (s : Fin 32) (l : Fin 128) :
    (bufM.access (bufRect i w g h)).read (Elt Ideal) (filled (F := Ideal) fy ft (i 0)) (ix3 0 s l)
      = codeAt fy ft (4 * w.toNat + s.val) ⟨256 * (i 0).val + 128 * g.val + l.val, by have : (i 0).val < 20 := (i 0).isLt; omega⟩ := by
  have e (a) := unit_place (s := S4x46784x128) (off60_eq i w hw g) S1x32x128.size (k0_off60_inb i w h g) (ix3 0 s l) a
  refine (show _ = filled (F := Ideal) fy ft (i 0) ((bufRect i w g h).emb (ix3 0 s l)) from rfl).trans ?_
  refine filled_at fy ft (i 0) g l _ _ ?_ ?_ ?_
  · rw [e 0]; show (2 * ((i 0).val % 2) + g.val + 0) % 2 = g.val; omega
  · rw [e 1]; rfl
  · rw [e 2]; show 0 + l.val = l.val; omega

theorem rowIota_at (s : Fin 32) (l : Fin 128) : rowIota (ix2 s l) = BitVec.ofNat 32 s.val := by
  unfold rowIota; pointwise

/-- A slot's rows, by the words that place them. -/
theorem slotOf_at (i : grid0.Coords) (fy : S46695x5120.Idx → EReal) (ft : S96x5120.Idx → EReal) (g : Fin 2) (wa wb wt : Fin 8 → BitVec 32)
    (ha : ∀ v, Fits i (wa v)) (hb : ∀ v, Fits i (wb v)) (v : Fin 8) (ha' : (wa v).toNat ≤ 11688) (hb' : (wb v).toNat ≤ 11688) (s : Fin 32) (l : Fin 128) :
    slotOf (F := Ideal) c i bufM rowIota g (filled (F := Ideal) fy ft (i 0)) wa wb wt ha hb v (ix2 s l) =
      Scalar.select (IntOp.cmpi .slt (BitVec.ofNat 32 s.val) (IntOp.muli 4#32 (wt v)))
        (codeAt fy ft (4 * (wa v).toNat + s.val) ⟨256 * (i 0).val + 128 * g.val + l.val, by have : (i 0).val < 20 := (i 0).isLt; omega⟩)
        (codeAt fy ft (4 * (wb v).toNat + s.val) ⟨256 * (i 0).val + 128 * g.val + l.val, by have : (i 0).val < 20 := (i 0).isLt; omega⟩) := by
  unfold slotOf
  rw [mix_at, rowIota_at]
  exact congr (congrArg _ (row_read i fy ft (wa v) ha' g _ s l)) (row_read i fy ft (wb v) hb' g _ s l)

variable (m : (ℓ : Loc nD τ sig) → Buf (Elt Ideal) ℓ) (t : Fin cfg0.N)
variable (hfit : ∀ c : Dev nD, Fit m c)

/-- The block's mask words. -/
theorem mask_read (k : Fin k0_t1_loop.trips) (u : Fin 8) (a : Fin 8) (j : Fin 256) :
    ((st0_2 t).access (maskRect (grid0.coords t) k u)).read (Elt Ideal) (buf2 m c t) (ix2 a j)
      = maskOf m c (ix2 ⟨8 * (128 * (t.val % 3) + (8 * k.val + u.val)) + a.val, by have : k.val < 16 := k.isLt.trans_eq trips_eq; omega⟩ j) := by
  rw [read_unread_access, iblk2]
  refine congrArg (maskOf m c) (funext fun b => Fin.ext ?_)
  refine (unit_place (maskOff_eq (grid0.coords t) k u) _ _ _ b).trans ?_
  rw [(coords_val t).2]
  match b with
  | ⟨0, _⟩ => rfl
  | ⟨1, _⟩ => exact Nat.zero_add _

/-- Whether a position counts, by the block's mask words. -/
theorem member_read (k : Fin k0_t1_loop.trips) (u : Fin 8) (r : Fin 16) (j : Fin 256) :
    maskBits (F := Ideal) (((st0_2 t).access (maskRect (grid0.coords t) k u)).read (Elt Ideal) (buf2 m c t)) (ix2 r j)
      = memberAt (maskOf m c) ⟨128 * (t.val % 3) + (8 * k.val + u.val), by have : k.val < 16 := k.isLt.trans_eq trips_eq; omega⟩ r j := by
  have hk : k.val < 16 := k.isLt.trans_eq trips_eq
  have e : (⟨8 * (128 * (t.val % 3) + (8 * k.val + u.val)) + r.val / 2, by omega⟩ : Fin 3072)
      = ⟨(128 * (t.val % 3) + (8 * k.val + u.val)) * 8 + r.val / 2, by omega⟩ := Fin.ext (by dsimp only; omega)
  have em := (mask_read c m t k u ⟨r.val / 2, by omega⟩ j).trans (congrArg (fun a => maskOf m c (ix2 a j)) e)
  rw [maskBits_at, em]
  rfl

/-- The block's coefficients for column group `g`, and its rows of `x` there. -/
def coefBlk (k : Fin k0_t1_loop.trips) (u : Fin 8) (g : Fin 2) : Vec Ideal S1x1x256 .f32 :=
  ((st0_3 t).access (coefRect k u g)).read (Elt Ideal) (buf3 m c t)
def xBlk (k : Fin k0_t1_loop.trips) (u : Fin 8) (g : Fin 2) : Vec Ideal S16x128 .bf16 :=
  ((st0_1 t).access (outRect k u g)).read (Elt Ideal) (buf1 m c t)

/-- The block's coefficients. -/
theorem coef_read (k : Fin k0_t1_loop.trips) (u : Fin 8) (g : Fin 2) (j : Fin 256) :
    coefBlk c m t k u g (ix3 0 0 j)
      = coefOf m c (ix3 ⟨t.val / 3, by have := lt60 t; omega⟩
          ⟨256 * (t.val % 3) + (2 * (8 * k.val + u.val) + g.val), by have : k.val < 16 := k.isLt.trans_eq trips_eq; omega⟩ j) := by
  unfold coefBlk
  rw [read_unread_access, iblk3]
  have e (a) := unit_place (s := S1x256x256) (coefOff_eq k u g) S1x1x256.size (coefOff_inb k u g) (ix3 0 0 j) a
  refine congrArg (coefOf m c) (funext fun b => Fin.ext ?_)
  match b with
  | ⟨0, _⟩ => rfl
  | ⟨1, _⟩ => exact congrArg (256 * (t.val % 3) + ·) (e 1)
  | ⟨2, _⟩ => exact (e 2).trans (Nat.zero_add _)

/-- The block's rows of `x`. -/
theorem x_read (k : Fin k0_t1_loop.trips) (u : Fin 8) (g : Fin 2) (r : Fin 16) (l : Fin 128) :
    xBlk c m t k u g (ix2 r l)
      = xOf m c (ix2 ⟨2048 * (t.val % 3) + (16 * (8 * k.val + u.val) + r.val), by have : k.val < 16 := k.isLt.trans_eq trips_eq; omega⟩
          ⟨256 * (t.val / 3) + (128 * g.val + l.val), by have := lt60 t; omega⟩) := by
  unfold xBlk
  rw [read_unread_access, iblk1]
  refine congrArg (xOf m c) (funext fun b => Fin.ext ?_)
  match b with
  | ⟨0, _⟩ => exact congrArg (2048 * (t.val % 3) + ·) (outPlace_row k u g (ix2 r l))
  | ⟨1, _⟩ => exact congrArg (256 * (t.val / 3) + ·) (outPlace_col k u g (ix2 r l))

variable (hb : ∀ y : S32x384.Idx, (y 0).val < 16 → (tabOf m c y : BitVec 32).toNat ≤ 11688)
variable (hc : ∀ y : S20x768x256.Idx, (coefOf m c y : EReal) ≠ ⊤ ∧ (coefOf m c y : EReal) ≠ ⊥)

/-- What a block stores in column group `g`, by rows of its two operands. -/
theorem blkOut_at (k : Fin k0_t1_loop.trips) (u : Fin 8) (g : Fin 2) (r : Fin 16) (l : Fin 128)
    (hc : ∀ y : S20x768x256.Idx, (coefOf m c y : EReal) ≠ ⊤ ∧ (coefOf m c y : EReal) ≠ ⊥) :
    blkOut c (grid0.coords t) (st0_0 t) (st0_1 t) (st0_2 t) (st0_3 t) bufM rowIota (buf0 m c t) (buf1 m c t) (buf2 m c t) (buf3 m c t)
        (filled (rowsOf m c) (tailOf m c) (grid0.coords t 0)) (hfit c t) k u g (ix2 r l)
      = xBlk c m t k u g (ix2 r l) + ∑ j : Fin 256,
          Scalar.select (maskBits (F := Ideal) (((st0_2 t).access (maskRect (grid0.coords t) k u)).read (Elt Ideal) (buf2 m c t)) (ix2 r j))
            (coefBlk c m t k u g (ix3 0 0 j)) 0
          * stack (slotOf c (grid0.coords t) bufM rowIota g (filled (rowsOf m c) (tailOf m c) (grid0.coords t 0))
              (firstAt c (grid0.coords t) (st0_0 t) (buf0 m c t) k u) (secondAt c (grid0.coords t) (st0_0 t) (buf0 m c t) k u)
              (cutAt c (grid0.coords t) (st0_0 t) (buf0 m c t) k u)
              (fun v => (hfit c t k u v).1) (fun v => (hfit c t k u v).2)) (ix2 j l) := by
  have hg : ∀ j, coefBlk c m t k u g (ix3 0 0 j) ≠ ⊤ ∧ coefBlk c m t k u g (ix3 0 0 j) ≠ ⊥ := fun j => by
    rw [coef_read]; exact hc _
  match g, hg with
  | 0, hg => exact out0_at _ _ _ _ _ _ hg r l
  | 1, hg => exact out1_at _ _ _ _ _ _ hg r l

include hb in
/-- A position's code in the block's operand. -/
theorem stack_read (k : Fin k0_t1_loop.trips) (u : Fin 8) (g : Fin 2) (j : Fin 256) (l : Fin 128) :
    stack (slotOf c (grid0.coords t) bufM rowIota g (filled (rowsOf m c) (tailOf m c) (grid0.coords t 0))
              (firstAt c (grid0.coords t) (st0_0 t) (buf0 m c t) k u) (secondAt c (grid0.coords t) (st0_0 t) (buf0 m c t) k u)
              (cutAt c (grid0.coords t) (st0_0 t) (buf0 m c t) k u)
              (fun v => (hfit c t k u v).1) (fun v => (hfit c t k u v).2)) (ix2 j l)
      = pickedAt (tabOf m c) (rowsOf m c) (tailOf m c) ⟨128 * (t.val % 3) + (8 * k.val + u.val), by have : k.val < 16 := k.isLt.trans_eq trips_eq; omega⟩ j
          ⟨256 * (t.val / 3) + (128 * g.val + l.val), by have := lt60 t; omega⟩ := by
  have hk : k.val < 16 := k.isLt.trans_eq trips_eq
  have ea : firstAt c (grid0.coords t) (st0_0 t) (buf0 m c t) k u ⟨j.val / 32, by omega⟩ = tabOf m c (ix2 ⟨j.val / 32, by omega⟩ ⟨128 * (t.val % 3) + (8 * k.val + u.val), by omega⟩) := tabWord_eq m c t k u _
  have eb : secondAt c (grid0.coords t) (st0_0 t) (buf0 m c t) k u ⟨j.val / 32, by omega⟩ = tabOf m c (ix2 ⟨8 + j.val / 32, by omega⟩ ⟨128 * (t.val % 3) + (8 * k.val + u.val), by omega⟩) := tabWord_eq m c t k u _
  have et : cutAt c (grid0.coords t) (st0_0 t) (buf0 m c t) k u ⟨j.val / 32, by omega⟩ = tabOf m c (ix2 ⟨16 + j.val / 32, by omega⟩ ⟨128 * (t.val % 3) + (8 * k.val + u.val), by omega⟩) := tabWord_eq m c t k u _
  rw [stack_at, slotOf_at c _ _ _ g _ _ _ _ _ _ (by rw [ea]; exact hb _ (by show j.val / 32 < 16; omega)) (by rw [eb]; exact hb _ (by show 8 + j.val / 32 < 16; omega)), ea, eb, et]
  unfold pickedAt
  have hq : (⟨256 * (grid0.coords t 0).val + 128 * g.val + l.val, by rw [(coords_val t).1]; have := lt60 t; omega⟩ : Fin 5120)
      = ⟨256 * (t.val / 3) + (128 * g.val + l.val), by have := lt60 t; omega⟩ := Fin.ext (by have := (coords_val t).1; show 256 * (grid0.coords t 0).val + 128 * g.val + l.val = 256 * (t.val / 3) + (128 * g.val + l.val); omega)
  rw [hq]

include hb hc in
/-- What a point leaves in the result's window. -/
theorem outAt_at (y : S2048x256.Idx) : outAt m hfit c t y =
    valueAt (tabOf m c) (xOf m c) (maskOf m c) (coefOf m c) (rowsOf m c) (tailOf m c)
      ⟨2048 * (t.val % 3) + (y 0).val, by have : (y 0).val < 2048 := (y 0).isLt; omega⟩
      ⟨256 * (t.val / 3) + (y 1).val, by have : (y 1).val < 256 := (y 1).isLt; have := lt60 t; omega⟩ := by
  have h0 : (y 0).val < 2048 := (y 0).isLt
  have h1 : (y 1).val < 256 := (y 1).isLt
  have ht := lt60 t
  have hw : withinOf y = ix2 ⟨(y 0).val % 16, by omega⟩ ⟨(y 1).val % 128, by omega⟩ := by
    funext a
    match a with
    | ⟨0, _⟩ => rfl
    | ⟨1, _⟩ => rfl
  have ek : (tripOf y).val = (y 0).val / 128 := rfl
  have eu : (unitOf y).val = (y 0).val / 16 % 8 := rfl
  have eg : (groupOf y).val = (y 1).val / 128 := rfl
  unfold outAt chunkOut
  rw [hw, blkOut_at c m t hfit _ _ _ _ _ hc, x_read]
  unfold valueAt
  refine congr (congrArg (· + ·) (congrArg (xOf m c) (funext fun a => Fin.ext ?_))) (Finset.sum_congr rfl fun j _ => ?_)
  · match a with
    | ⟨0, _⟩ => show 2048 * (t.val % 3) + (16 * (8 * ((y 0).val / 128) + (y 0).val / 16 % 8) + (y 0).val % 16) = 2048 * (t.val % 3) + (y 0).val; omega
    | ⟨1, _⟩ => show 256 * (t.val / 3) + (128 * ((y 1).val / 128) + (y 1).val % 128) = 256 * (t.val / 3) + (y 1).val; omega
  · rw [stack_read c m t hfit hb, coef_read, member_read]
    have eb : (⟨128 * (t.val % 3) + (8 * (tripOf y).val + (unitOf y).val), by rw [ek, eu]; omega⟩ : Fin 384)
        = ⟨(2048 * (t.val % 3) + (y 0).val) / 16, by omega⟩ := Fin.ext (by dsimp only; rw [ek, eu]; omega)
    have er : (⟨(y 0).val % 16, by omega⟩ : Fin 16) = ⟨(2048 * (t.val % 3) + (y 0).val) % 16, by omega⟩ := Fin.ext (by dsimp only; omega)
    have eq : (⟨256 * (t.val / 3) + (128 * (groupOf y).val + (y 1).val % 128), by rw [eg]; omega⟩ : Fin 5120)
        = ⟨256 * (t.val / 3) + (y 1).val, by omega⟩ := Fin.ext (by dsimp only; rw [eg]; omega)
    have e0 : (⟨t.val / 3, by omega⟩ : Fin 20) = ⟨(256 * (t.val / 3) + (y 1).val) / 256, by omega⟩ := Fin.ext (by dsimp only; omega)
    have e1 : (⟨256 * (t.val % 3) + (2 * (8 * (tripOf y).val + (unitOf y).val) + (groupOf y).val), by rw [ek, eu, eg]; omega⟩ : Fin 768)
        = ⟨(2048 * (t.val % 3) + (y 0).val) / 16 * 2 + (256 * (t.val / 3) + (y 1).val) / 128 % 2, by omega⟩ :=
      Fin.ext (by dsimp only; rw [ek, eu, eg]; omega)
    rw [eb, er, eq, e0, e1]

include hb hc in
/-- The result's array after the run. -/
theorem arr_eq : (dats m hfit 0 c).arrAt 4 cfg0.N = fun y : S6144x5120.Idx =>
    valueAt (tabOf m c) (xOf m c) (maskOf m c) (coefOf m c) (rowsOf m c) (tailOf m c) (y 0) (y 1) := by
  refine (dats m hfit 0 c).arrAt_eq_of_covers 4 _ (by decide +kernel) fun t hf y => ?_
  blk_simp
  rw [after0_4]
  refine (outAt_at c m t hfit hb hc _).trans ?_
  refine congr (congrArg (valueAt _ _ _ _ _ _) (Fin.ext ?_)) (Fin.ext ?_)
  · blk_simp [idx4 t]; dsimp only; omega
  · blk_simp [idx4 t]; dsimp only; omega

end Cert.KernelIdeal.Hand
end
-- ==== Proof.ReferenceLine.lean ====
/- What the reference's host lines compute, as plain array operations: the row each slot names, the gathered rows,
   the weights, the weighted sum; and that the lines leave exactly this in the result. -/
module

public import proofs.«01_k».proof.Proof.Gen.ReferenceIdeal.Frame
public import Idealize.ShloMosaic.Lib.StableHlo.ReadAt

@[expose] public section

namespace Cert.ReferenceIdeal.Hand

open Idealize.ShloMosaic Idealize.SL.Sem Cert.ReferenceIdeal Cert.ReferenceIdeal.Gen

variable {F : FTy → Type} [FloatOps F]

/-! ## The arrays the lines compute, in order -/

/-- The table of code rows: the first 46688 rows of the one array, then the other. -/
noncomputable def codes (a : FVec F S46695x5120 .f32) (b : FVec F S96x5120 .f32) : FVec F S46784x5120 .f32 :=
  concatenate S46784x5120 0 [⟨S46688x5120, extractStridedSlice S46688x5120 ![0, 0] a slices_S46695x5120_S46688x5120_0_0⟩, ⟨S96x5120, b⟩]
    concatenates_S46688x5120_S96x5120_S46784x5120_d0

/-- The divisor 32 of the remainder, with the guard against zero that the remainder's definition has. -/
noncomputable def divisor : IVec S1x256 32 :=
  broadcastInDim S1x256 ![] bcast_S_S1x256
    (select (cmpi .eq (id (constantI S_ 32 32#32)) (constantI S_ 32 0#32)) (constantI S_ 32 1#32) (id (constantI S_ 32 32#32)))

/-- The position 0 … 255, and its remainder of the truncated division. -/
noncomputable def truncRem : IVec S1x256 32 :=
  Host.remsi (broadcastInDim S1x256 ![1] bcast_S256_S1x256_1 (iotaInDim S256 32 0)) divisor

/-- A position's place within its slot of 32. -/
noncomputable def within : IVec S1x256 32 :=
  select (andi (cmpi .ne (cmpi .slt truncRem (broadcastInDim S1x256 ![] bcast_S_S1x256 (constantI S_ 32 0#32)))
      (broadcastInDim S1x256 ![] bcast_S_S1x256 (cmpi .slt (select (cmpi .eq (id (constantI S_ 32 32#32)) (constantI S_ 32 0#32)) (constantI S_ 32 1#32) (id (constantI S_ 32 32#32))) (constantI S_ 32 0#32))))
      (cmpi .ne truncRem (broadcastInDim S1x256 ![] bcast_S_S1x256 (constantI S_ 32 0#32))))
    (addi truncRem divisor) truncRem

/-- The table rows 0 … 7, 8 … 15 and 16 … 23, each entry for the 32 positions of its slot. -/
noncomputable def firstOf (tab : IVec S32x384 32) : IVec S384x256 32 :=
  shapeCast S384x256 (broadcastInDim S384x8x32 ![0, 1] bcast_S384x8_S384x8x32_0_1
    (transpose S384x8 [1, 0] (extractStridedSlice S8x384 ![0, 0] tab slices_S32x384_S8x384_0_0) transposes_S8x384_S384x8_1_0)) shapeCasts_S384x8x32_S384x256
noncomputable def secondOf (tab : IVec S32x384 32) : IVec S384x256 32 :=
  shapeCast S384x256 (broadcastInDim S384x8x32 ![0, 1] bcast_S384x8_S384x8x32_0_1
    (transpose S384x8 [1, 0] (extractStridedSlice S8x384 ![8, 0] tab slices_S32x384_S8x384_8_0) transposes_S8x384_S384x8_1_0)) shapeCasts_S384x8x32_S384x256
noncomputable def splitOf (tab : IVec S32x384 32) : IVec S384x256 32 :=
  shapeCast S384x256 (broadcastInDim S384x8x32 ![0, 1] bcast_S384x8_S384x8x32_0_1
    (transpose S384x8 [1, 0] (extractStridedSlice S8x384 ![16, 0] tab slices_S32x384_S8x384_16_0) transposes_S8x384_S384x8_1_0)) shapeCasts_S384x8x32_S384x256

/-- Each position's place over all blocks. -/
noncomputable def place : IVec S384x256 32 := broadcastInDim S384x256 ![0, 1] bcast_S1x256_S384x256_0_1 within

/-- The row each position names. -/
noncomputable def rowOf (tab : IVec S32x384 32) : IVec S384x256 32 :=
  addi (muli (broadcastInDim S384x256 ![] bcast_S_S384x256 (constantI S_ 32 4#32))
    (select (cmpi .slt place (muli (broadcastInDim S384x256 ![] bcast_S_S384x256 (constantI S_ 32 4#32)) (splitOf tab))) (firstOf tab) (secondOf tab))) place

/-- The same, with a negative row counted from the end, as indexing has it. -/
noncomputable def wrapped (tab : IVec S32x384 32) : IVec S384x256 32 :=
  select (cmpi .slt (rowOf tab) (broadcastInDim S384x256 ![] bcast_S_S384x256 (constantI S_ 32 0#32)))
    (addi (rowOf tab) (broadcastInDim S384x256 ![] bcast_S_S384x256 (constantI S_ 32 46784#32))) (rowOf tab)

/-- The rows picked. -/
noncomputable def gathered (v : FVec F S46784x5120 .f32) (tab : IVec S32x384 32) : FVec F S384x256x5120 .f32 :=
  Host.gather gather_S46784x5120_S384x256x1_S384x256x5120_2_0_n_n_0_2_15120 v
    (broadcastInDim S384x256x1 ![0, 1] bcast_S384x256_S384x256x1_0_1 (wrapped tab))

noncomputable def maskLow (mask : IVec S3072x256 32) : IVec S384x8x1x256 1 :=
  broadcastInDim S384x8x1x256 ![0, 1, 3] bcast_S384x8x256_S384x8x1x256_0_1_3
    (cmpi .ne (andi (shapeCast S384x8x256 mask shapeCasts_S3072x256_S384x8x256) (broadcastInDim S384x8x256 ![] bcast_S_S384x8x256 (constantI S_ 32 65535#32)))
      (broadcastInDim S384x8x256 ![] bcast_S_S384x8x256 (constantI S_ 32 0#32)))
noncomputable def maskHigh (mask : IVec S3072x256 32) : IVec S384x8x1x256 1 :=
  broadcastInDim S384x8x1x256 ![0, 1, 3] bcast_S384x8x256_S384x8x1x256_0_1_3
    (cmpi .ne (Host.shrui (shapeCast S384x8x256 mask shapeCasts_S3072x256_S384x8x256) (broadcastInDim S384x8x256 ![] bcast_S_S384x8x256 (constantI S_ 32 16#32)))
      (broadcastInDim S384x8x256 ![] bcast_S_S384x8x256 (constantI S_ 32 0#32)))

/-- Which of the 256 positions counts for each of the sixteen rows. -/
noncomputable def memberOf (mask : IVec S3072x256 32) : IVec S384x16x256 1 :=
  shapeCast S384x16x256 (concatenate S384x8x2x256 2 [⟨S384x8x1x256, maskLow mask⟩, ⟨S384x8x1x256, maskHigh mask⟩]
    concatenates_S384x8x1x256_S384x8x1x256_S384x8x2x256_d2) shapeCasts_S384x8x2x256_S384x16x256

/-- The coefficients, one for each position and each 128 columns. -/
noncomputable def coefOf (coef : FVec F S20x768x256 .f32) : FVec F S384x1x256x40x1 .f32 :=
  shapeCast S384x1x256x40x1 (transpose S384x256x20x2 [1, 3, 0, 2] (shapeCast S20x384x2x256 coef shapeCasts_S20x768x256_S20x384x2x256)
    transposes_S20x384x2x256_S384x256x20x2_1_3_0_2) shapeCasts_S384x256x20x2_S384x1x256x40x1

/-- The weights: the coefficient where the position counts, zero elsewhere. -/
noncomputable def weightOf (mask : IVec S3072x256 32) (coef : FVec F S20x768x256 .f32) : FVec F S384x16x256x40x1 .f32 :=
  select (broadcastInDim S384x16x256x40x1 ![0, 1, 2, 3, 4] bcast_S384x16x256x1x1_S384x16x256x40x1_0_1_2_3_4
      (shapeCast S384x16x256x1x1 (memberOf mask) shapeCasts_S384x16x256_S384x16x256x1x1))
    (broadcastInDim S384x16x256x40x1 ![0, 1, 2, 3, 4] bcast_S384x1x256x40x1_S384x16x256x40x1_0_1_2_3_4 (coefOf coef))
    (broadcastInDim S384x16x256x40x1 ![] bcast_S_S384x16x256x40x1 (id (constant S_ .f32 0x00000000#32)))

/-- The weighted rows before they are summed. -/
noncomputable def terms (v : FVec F S46784x5120 .f32) (tab : IVec S32x384 32) (mask : IVec S3072x256 32) (coef : FVec F S20x768x256 .f32) :
    FVec F S384x16x256x40x128 .f32 :=
  mulf (broadcastInDim S384x16x256x40x128 ![0, 1, 2, 3, 4] bcast_S384x1x256x40x128_S384x16x256x40x128_0_1_2_3_4
      (shapeCast S384x1x256x40x128 (gathered v tab) shapeCasts_S384x256x5120_S384x1x256x40x128))
    (broadcastInDim S384x16x256x40x128 ![0, 1, 2, 3, 4] bcast_S384x16x256x40x1_S384x16x256x40x128_0_1_2_3_4 (weightOf mask coef))

/-- The weighted sum. -/
noncomputable def summed (v : FVec F S46784x5120 .f32) (tab : IVec S32x384 32) (mask : IVec S3072x256 32) (coef : FVec F S20x768x256 .f32) :
    FVec F S384x16x40x128 .f32 :=
  Host.reduceAdd (terms v tab mask coef) (constant S_ .f32 0x00000000#32) reducesTo_S384x16x256x40x128_S384x16x40x128_d2 h_S_

/-- The result. -/
noncomputable def result (a : FVec F S46695x5120 .f32) (b : FVec F S96x5120 .f32) (tab : IVec S32x384 32) (x : FVec F S6144x5120 .bf16)
    (mask : IVec S3072x256 32) (coef : FVec F S20x768x256 .f32) : FVec F S6144x5120 .bf16 :=
  shapeCast S6144x5120 (truncf .bf16 (addf (extf .f32 (shapeCast S384x16x40x128 x shapeCasts_S6144x5120_S384x16x40x128) bitsLt_bf16_f32)
    (summed (codes a b) tab mask coef)) bitsLt_bf16_f32) shapeCasts_S384x16x40x128_S6144x5120

/-! ## The lines leave them -/

/-- All the lines after the region. -/
abbrev line : List (HloOp τ sig (Elt F)) := [hostOps1, hostOps1_1, hostOps1_2, hostOps1_3, hostOps1_4, hostOps1_5, hostOps1_6].flatten

set_option maxRecDepth 16384 in
theorem line_low (W : Valuation τ sig (Elt F)) : StableHlo.upto (line (F := F)) W 74 (Proc.devRef .tc main_v44) = maskLow (W (Proc.devRef .tc main_arg2)) := by
  simp only [line, List.flatten_cons, List.flatten_nil, List.cons_append, List.nil_append, List.append_nil]
  after_reads_simp
  rfl

set_option maxRecDepth 16384 in
theorem line_high (W : Valuation τ sig (Elt F)) : StableHlo.upto (line (F := F)) W 74 (Proc.devRef .tc main_v45) = maskHigh (W (Proc.devRef .tc main_arg2)) := by
  simp only [line, List.flatten_cons, List.flatten_nil, List.cons_append, List.nil_append, List.append_nil]
  after_reads_simp
  rfl

set_option maxRecDepth 16384 in
theorem line_rows (W : Valuation τ sig (Elt F)) : StableHlo.upto (line (F := F)) W 1 (Proc.devRef .tc main_v1) =
    extractStridedSlice S46688x5120 ![0, 0] (W (Proc.devRef .tc main_v0_0)) slices_S46695x5120_S46688x5120_0_0 := by
  simp only [line, List.flatten_cons, List.flatten_nil, List.cons_append, List.nil_append, List.append_nil]
  after_reads_simp

set_option maxRecDepth 16384 in
theorem line_last (W : Valuation τ sig (Elt F)) : StableHlo.upto (line (F := F)) W 1 (Proc.devRef .tc main_v0_1) = W (Proc.devRef .tc main_v0_1) := by
  simp only [line, List.flatten_cons, List.flatten_nil, List.cons_append, List.nil_append, List.append_nil]
  after_reads_simp

set_option maxRecDepth 16384 in
/-- The lines leave `result` of the arrays they start from. -/
theorem line_result (W : Valuation τ sig (Elt F)) : StableHlo.after (line (F := F)) W (Proc.devRef .tc main_v61) =
    result (W (Proc.devRef .tc main_v0_0)) (W (Proc.devRef .tc main_v0_1)) (W (Proc.devRef .tc main_arg0)) (W (Proc.devRef .tc main_arg1))
      (W (Proc.devRef .tc main_arg2)) (W (Proc.devRef .tc main_arg3)) := by
  have h44 := line_low W
  have h45 := line_high W
  have h1 := line_rows W
  have h0 := line_last W
  simp only [line, List.flatten_cons, List.flatten_nil, List.cons_append, List.nil_append, List.append_nil] at h44 h45 h1 h0 ⊢
  after_reads_simp
  simp -implicitDefEqProofs only [StableHlo.TRef.toBuf, StableHlo.TRef.ofBuf, cast_cast, cast_eq]
  rw [h44, h45, h1, h0]
  rfl

end Cert.ReferenceIdeal.Hand
-- ==== Proof.ReferenceAt.lean ====
/- The reference's arrays read at an index. -/
module

public import proofs.«01_k».proof.Proof.ReferenceLine
public import Idealize.ShloMosaic.Lib.Pipeline.ValueKit

@[expose] public section

set_option maxRecDepth 16384

namespace Cert.ReferenceIdeal.Hand

open Idealize.ShloMosaic Idealize.SL.Sem Cert.ReferenceIdeal Cert.ReferenceIdeal.Gen

theorem firstOf_at (tab : IVec S32x384 32) (b : Fin 384) (j : Fin 256) :
    firstOf tab (ix2 b j) = tab (ix2 ⟨j.val / 32, by omega⟩ b) := by
  unfold firstOf; pointwise
theorem secondOf_at (tab : IVec S32x384 32) (b : Fin 384) (j : Fin 256) :
    secondOf tab (ix2 b j) = tab (ix2 ⟨8 + j.val / 32, by omega⟩ b) := by
  unfold secondOf; pointwise
theorem splitOf_at (tab : IVec S32x384 32) (b : Fin 384) (j : Fin 256) :
    splitOf tab (ix2 b j) = tab (ix2 ⟨16 + j.val / 32, by omega⟩ b) := by
  unfold splitOf; pointwise

theorem within_at (j : Fin 256) : within (ix2 0 j) = BitVec.ofNat 32 (j.val % 32) := by
  unfold within truncRem divisor; pointwise
  revert j; decide +kernel

theorem place_at (b : Fin 384) (j : Fin 256) : place (ix2 b j) = BitVec.ofNat 32 (j.val % 32) := by
  unfold place; rw [← within_at j]; pointwise

/-- The row a position names, by the words of the table. -/
theorem rowOf_at (tab : IVec S32x384 32) (b : Fin 384) (j : Fin 256) : rowOf tab (ix2 b j) =
    IntOp.addi (IntOp.muli 4#32 (Scalar.select (IntOp.cmpi .slt (BitVec.ofNat 32 (j.val % 32)) (IntOp.muli 4#32 (tab (ix2 ⟨16 + j.val / 32, by omega⟩ b))))
      (tab (ix2 ⟨j.val / 32, by omega⟩ b)) (tab (ix2 ⟨8 + j.val / 32, by omega⟩ b)))) (BitVec.ofNat 32 (j.val % 32)) := by
  rw [← firstOf_at tab b j, ← secondOf_at tab b j, ← splitOf_at tab b j, ← place_at b j]
  unfold rowOf; pointwise

theorem wrapped_at (tab : IVec S32x384 32) (b : Fin 384) (j : Fin 256) : wrapped tab (ix2 b j) =
    Scalar.select (IntOp.cmpi .slt (rowOf tab (ix2 b j)) 0#32) (IntOp.addi (rowOf tab (ix2 b j)) 46784#32) (rowOf tab (ix2 b j)) := by
  unfold wrapped; pointwise

theorem codes_at {F : FTy → Type} [FloatOps F] (a : FVec F S46695x5120 .f32) (b : FVec F S96x5120 .f32) (r : Fin 46784) (q : Fin 5120) :
    codes a b (ix2 r q) = if h : r.val < 46688 then a (ix2 ⟨r.val, by omega⟩ q) else b (ix2 ⟨r.val - 46688, by omega⟩ q) := by
  unfold codes; pointwise

theorem memberOf_at (mask : IVec S3072x256 32) (b : Fin 384) (r : Fin 16) (j : Fin 256) :
    memberOf mask (ix3 b r j) =
      if r.val % 2 < 1 then IntOp.cmpi .ne (IntOp.andi (mask (ix2 ⟨b.val * 8 + r.val / 2, by omega⟩ j)) 65535#32) 0#32
      else IntOp.cmpi .ne (IntOp.shrui .host (mask (ix2 ⟨b.val * 8 + r.val / 2, by omega⟩ j)) 16#32) 0#32 := by
  unfold memberOf maskLow maskHigh; pointwise
  split <;> rfl

theorem coefOf_at {F : FTy → Type} [FloatOps F] (coef : FVec F S20x768x256 .f32) (b : Fin 384) (j : Fin 256) (p : Fin 40) :
    coefOf coef (ix5 b 0 j p 0) = coef (ix3 ⟨p.val / 2, by omega⟩ ⟨b.val * 2 + p.val % 2, by omega⟩ j) := by
  unfold coefOf; pointwise

theorem weightOf_at (mask : IVec S3072x256 32) (coef : FVec Ideal S20x768x256 .f32) (b : Fin 384) (r : Fin 16) (j : Fin 256) (p : Fin 40) :
    weightOf mask coef (ix5 b r j p 0) = Scalar.select (memberOf mask (ix3 b r j))
      (coef (ix3 ⟨p.val / 2, by omega⟩ ⟨b.val * 2 + p.val % 2, by omega⟩ j)) 0 := by
  rw [← coefOf_at coef b j p]
  unfold weightOf; simp only [id]; pointwise

theorem summed_at (v : FVec Ideal S46784x5120 .f32) (tab : IVec S32x384 32) (mask : IVec S3072x256 32) (coef : FVec Ideal S20x768x256 .f32)
    (b : Fin 384) (r : Fin 16) (p : Fin 40) (l : Fin 128) :
    summed v tab mask coef (ix4 b r p l) =
      ∑ j : Fin 256, gathered v tab (ix3 b j ⟨p.val * 128 + l.val, by omega⟩) * weightOf mask coef (ix5 b r j p 0) := by
  unfold summed terms; pointwise

theorem result_at (a : FVec Ideal S46695x5120 .f32) (b : FVec Ideal S96x5120 .f32) (tab : IVec S32x384 32) (x : FVec Ideal S6144x5120 .bf16)
    (mask : IVec S3072x256 32) (coef : FVec Ideal S20x768x256 .f32) (R : Fin 6144) (C : Fin 5120) :
    result a b tab x mask coef (ix2 R C) = x (ix2 R C) +
      summed (codes a b) tab mask coef (ix4 ⟨R.val / 16, by omega⟩ ⟨R.val % 16, by omega⟩ ⟨C.val / 128, by omega⟩ ⟨C.val % 128, by omega⟩) := by
  unfold result; pointwise

theorem gather_at (v : FVec Ideal S46784x5120 .f32) (idx : IVec S384x256x1 32) (b : Fin 384) (j : Fin 256) (q : Fin 5120) :
    Host.gather gather_S46784x5120_S384x256x1_S384x256x5120_2_0_n_n_0_2_15120 v idx (ix3 b j q) =
      v (ix2 ⟨min (idx (ix3 b j 0)).toInt.toNat 46783, by omega⟩ q) := by
  generalize hd : gather_S46784x5120_S384x256x1_S384x256x5120_2_0_n_n_0_2_15120 = d
  have hcoll : d.collapsedSliceDims = [0] := by rw [← hd]; rfl
  have hob : d.operandBatchingDims = [] := by rw [← hd]; rfl
  have hsim : d.startIndexMap = [0] := by rw [← hd]; rfl
  unfold Host.gather
  refine congrArg v (funext fun a => Fin.ext ?_)
  show d.start (ix3 b j q) idx a + d.batchCoord (ix3 b j q) a + d.offCoord (ix3 b j q) a = _
  rw [d.batchCoord_eq_zero _ _ (by rw [hob]; exact List.not_mem_nil)]
  have h01 : a = 0 ∨ a = 1 := by
    match a with
    | ⟨0, _⟩ => exact Or.inl rfl
    | ⟨1, _⟩ => exact Or.inr rfl
  rcases h01 with rfl | rfl
  · rw [d.offCoord_eq_zero _ _ (fun h => ((d.mem_sKept 0).1 h).1 (by rw [hcoll]; exact List.mem_singleton.2 rfl))]
    simp only [Nat.add_zero]
    unfold GatherDims.start
    rw [dif_pos (show (0 : Fin 2) ∈ d.startIndexMap by rw [hsim]; exact List.mem_singleton.mpr rfl)]
    subst hd
    have hsi : ∀ h, (gather_S46784x5120_S384x256x1_S384x256x5120_2_0_n_n_0_2_15120).siIdx (ix3 b j q) ⟨List.idxOf (0 : Fin 2) (gather_S46784x5120_S384x256x1_S384x256x5120_2_0_n_n_0_2_15120).startIndexMap, h⟩ = ix3 b j 0 := by
      intro h
      funext y; refine Fin.ext ?_
      match y with
      | ⟨0, _⟩ => rfl
      | ⟨1, _⟩ => rfl
      | ⟨2, _⟩ => rfl
    rw [hsi]
    rfl
  · subst hd
    unfold GatherDims.start
    rw [dif_neg (by decide)]
    simp only [Nat.zero_add]
    rfl

theorem gathered_at (v : FVec Ideal S46784x5120 .f32) (tab : IVec S32x384 32) (b : Fin 384) (j : Fin 256) (q : Fin 5120) :
    gathered v tab (ix3 b j q) = v (ix2 ⟨min (wrapped tab (ix2 b j)).toInt.toNat 46783, by omega⟩ q) := by
  have hw : broadcastInDim S384x256x1 ![0, 1] bcast_S384x256_S384x256x1_0_1 (wrapped tab) (ix3 b j 0) = wrapped tab (ix2 b j) := by pointwise
  unfold gathered
  rw [gather_at]
  exact congrArg (fun a => v (ix2 a q)) (Fin.ext (by show min _ 46783 = min _ 46783; rw [hw]))

end Cert.ReferenceIdeal.Hand
-- ==== Proof.ReferenceValue.lean ====
/- The reference's run over the extended reals: what it leaves in its result, in terms of its arguments. -/
module

public import proofs.«01_k».proof.Proof.ReferenceAt

@[expose] public section
set_option maxRecDepth 16384

noncomputable section
namespace Cert.ReferenceIdeal.Hand

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg) (c : Dev nD)

theorem widx2 : ∀ t : Fin cfg0.N, win0_2.index t = ![0, 0] := by decide +kernel
theorem widx3 : ∀ t : Fin cfg0.N, win0_3.index t = ![0, 0] := by decide +kernel
theorem widx0 : ∀ t : Fin cfg0.N, win0_0.index t = ![0, 0] := by decide +kernel
theorem widx1 : ∀ t : Fin cfg0.N, win0_1.index t = ![0, 0] := by decide +kernel

/-- Widening leaves the codes as they are. -/
theorem wide_rows : (dats m 0 c).arrAt 2 cfg0.N = m ((c : Thread nD τ).loc main_arg4) := by
  refine (dats m 0 c).arrAt_eq_of_covers 2 _ (by decide +kernel) fun t hf y => ?_
  blk_simp
  rw [after0_2]
  frame_out
  unfold k0_pay1
  show iblk m c 0 t y = _
  blk_simp [iblk, V]
  refine congrArg (m ((c : Thread nD τ).loc main_arg4)) (funext fun a => Fin.ext ?_)
  blk_simp [widx0 t, widx2 t]
  rfl
theorem wide_tail : (dats m 0 c).arrAt 3 cfg0.N = m ((c : Thread nD τ).loc main_arg5) := by
  refine (dats m 0 c).arrAt_eq_of_covers 3 _ (by decide +kernel) fun t hf y => ?_
  blk_simp
  rw [after0_3]
  frame_out
  unfold k0_pay2
  show iblk m c 1 t y = _
  blk_simp [iblk, V]
  refine congrArg (m ((c : Thread nD τ).loc main_arg5)) (funext fun a => Fin.ext ?_)
  blk_simp [widx1 t, widx3 t]
  rfl

/-- The result the reference leaves. -/
abbrev resultOf : S6144x5120.Idx → EReal :=
  result (F := Ideal) (m ((c : Thread nD τ).loc main_arg4)) (m ((c : Thread nD τ).loc main_arg5)) (m ((c : Thread nD τ).loc main_arg0))
    (m ((c : Thread nD τ).loc main_arg1)) (m ((c : Thread nD τ).loc main_arg2)) (m ((c : Thread nD τ).loc main_arg3))

theorem after_result : Pipeline.afterTail₀ cfgs (dats m) 0 (V0 m) [hostOps1, hostOps1_1, hostOps1_2, hostOps1_3, hostOps1_4, hostOps1_5, hostOps1_6] c main_v61
    = resultOf m c := by
  unfold Pipeline.afterTail₀
  refine (line_result _).trans ?_
  have hw (w : Fin cfg0.W) := Pipeline.withArrays_arr cfg0.spec (by decide) c (V0 m c) (fun w => (dats m 0 c).arrAt w cfg0.N) w
  have hn (b : Ref sig .tc) (h : ∀ w, Pipeline.arrRef spec0 w ≠ b) :=
    Pipeline.withArrays_of_ne cfg0.spec c (V0 m c) (fun w => (dats m 0 c).arrAt w cfg0.N) b h
  have e2 := (hw 2).trans (wide_rows m c)
  have e3 := (hw 3).trans (wide_tail m c)
  have a0 := hn main_arg0 (by decide)
  have a1 := hn main_arg1 (by decide)
  have a2 := hn main_arg2 (by decide)
  have a3 := hn main_arg3 (by decide)
  exact congr (congr (congr (congr (congr (congrArg _ e2) e3) a0) a1) a2) a3

theorem run_result : θ_run defs (onTc (τ := τ) (main (F := Ideal))) ⟨m, fun _ => 0, ρ⟩ (fun r => ∀ c : Dev nD,
      r.2.mem ((c.tc : Thread nD τ).loc main_v61) = resultOf m c) :=
  (θ_run defs _ _).mono (fun _ h c => ((h c).2 main_v61 (Pipeline.mem_restRefs_of main_v61 (by decide) (by decide))).trans (after_result m c)) (run_main m ρ)

end Cert.ReferenceIdeal.Hand
end
-- ==== Proof.Tie.lean ====
/- The kernel's value and the reference's are the same extended real at every place. -/
module

public import proofs.«01_k».proof.Proof.KernelValue
public import proofs.«01_k».proof.Proof.ReferenceValue

@[expose] public section
set_option maxRecDepth 16384

noncomputable section
namespace Cert.Tie

open Idealize.ShloMosaic Cert.KernelIdeal.Hand Cert.ReferenceIdeal.Hand
open Cert.KernelIdeal (S32x384 S6144x5120 S3072x256 S20x768x256 S46695x5120 S96x5120)

/-- A row number made of a word of at most 11688 and a place within a slot, as a number. -/
theorem row_toNat (w : BitVec 32) (hw : w.toNat ≤ 11688) (s : Fin 32) :
    (IntOp.addi (IntOp.muli 4#32 w) (BitVec.ofNat 32 s.val)).toNat = 4 * w.toNat + s.val := by
  simp only [IntOp.addi, IntOp.muli, BitVec.toNat_add, BitVec.toNat_mul, BitVec.toNat_ofNat]; omega

/-- Such a row number is not negative, so indexing leaves it as it is. -/
theorem row_wrapped (v : BitVec 32) (h : v.toNat < 46784) :
    Scalar.select (IntOp.cmpi .slt v 0#32) (IntOp.addi v 46784#32) v = v := by
  have hn : IntOp.cmpi .slt v 0#32 = 0#1 := by
    simp only [IntOp.cmpi, BitVec.slt]
    have hi : v.toInt = v.toNat := by rw [BitVec.toInt_eq_toNat_cond]; split <;> omega
    have : ¬ (v.toInt < (0#32 : BitVec 32).toInt) := by rw [hi]; simp
    rw [decide_eq_false this]; rfl
  rw [hn]; rfl

theorem row_index (v : BitVec 32) (h : v.toNat < 46784) : min v.toInt.toNat 46783 = v.toNat := by
  have hi : v.toInt = v.toNat := by rw [BitVec.toInt_eq_toNat_cond]; split <;> omega
  rw [hi, Int.toNat_natCast]; omega

variable (tab : IVec S32x384 32) (x : FVec Ideal S6144x5120 .bf16) (mask : IVec S3072x256 32) (coef : FVec Ideal S20x768x256 .f32)
  (fy : FVec Ideal S46695x5120 .f32) (ft : FVec Ideal S96x5120 .f32)

theorem codes_row (n : ℕ) (h : n < 46784) (q : Fin 5120) : codes (F := Ideal) fy ft (ix2 ⟨n, h⟩ q) = codeAt fy ft n q := by
  rw [codes_at]
  unfold codeAt
  by_cases hn : n < 46688
  · rw [dif_pos hn, dif_pos hn]
  · rw [dif_neg hn, dif_neg hn]
    exact congrArg (fun a => ft (ix2 a q)) (Fin.ext (by show n - 46688 = min (n - 46688) 95; omega))

/-- The code a position picks, in the reference's reading. -/
theorem picked (hb : ∀ y : S32x384.Idx, (y 0).val < 16 → (tab y).toNat ≤ 11688) (b : Fin 384) (j : Fin 256) (q : Fin 5120) :
    gathered (F := Ideal) (codes fy ft) tab (ix3 b j q) = pickedAt tab fy ft b j q := by
  rw [gathered_at]
  have h1 := hb (ix2 ⟨j.val / 32, by omega⟩ b) (by show j.val / 32 < 16; omega)
  have h2 := hb (ix2 ⟨8 + j.val / 32, by omega⟩ b) (by show 8 + j.val / 32 < 16; omega)
  have key (w : BitVec 32) (hw' : w.toNat ≤ 11688) (e : rowOf tab (ix2 b j) = IntOp.addi (IntOp.muli 4#32 w) (BitVec.ofNat 32 (j.val % 32))) (hlt) :
      codes (F := Ideal) fy ft (ix2 ⟨min (wrapped tab (ix2 b j)).toInt.toNat 46783, hlt⟩ q)
        = codeAt fy ft (4 * w.toNat + j.val % 32) q := by
    have en : (rowOf tab (ix2 b j)).toNat = 4 * w.toNat + j.val % 32 := by
      rw [e]; exact row_toNat w hw' ⟨j.val % 32, by omega⟩
    have ew : wrapped tab (ix2 b j) = rowOf tab (ix2 b j) := by
      rw [wrapped_at]; exact row_wrapped _ (by rw [en]; omega)
    refine Eq.trans (congrArg (fun a => codes (F := Ideal) fy ft (ix2 a q)) (Fin.ext (?_ : _ = 4 * w.toNat + j.val % 32)) :
      _ = codes (F := Ideal) fy ft (ix2 ⟨4 * w.toNat + j.val % 32, by omega⟩ q)) (codes_row fy ft _ _ q)
    show min _ 46783 = _
    rw [ew, row_index _ (by rw [en]; omega), en]
  have er := rowOf_at tab b j
  unfold pickedAt
  generalize hsel : IntOp.cmpi .slt (BitVec.ofNat 32 (j.val % 32)) (IntOp.muli 4#32 (tab (ix2 ⟨16 + j.val / 32, by omega⟩ b))) = s at er ⊢
  unfold Scalar.select at er ⊢
  split
  · rename_i hs
    rw [if_pos hs] at er
    exact key _ h1 er _
  · rename_i hs
    rw [if_neg hs] at er
    exact key _ h2 er _

theorem result_eq_ix (hb : ∀ y : S32x384.Idx, (y 0).val < 16 → (tab y).toNat ≤ 11688) (R : Fin 6144) (C : Fin 5120) :
    result (F := Ideal) fy ft tab x mask coef (ix2 R C) = valueAt tab x mask coef fy ft R C := by
  have eq : (⟨C.val / 128 * 128 + C.val % 128, by omega⟩ : Fin 5120) = C := Fin.ext (by dsimp only; omega)
  have e0 : (⟨C.val / 128 / 2, by omega⟩ : Fin 20) = ⟨C.val / 256, by omega⟩ := Fin.ext (by dsimp only; omega)
  have hs (j : Fin 256) : gathered (F := Ideal) (codes fy ft) tab (ix3 ⟨R.val / 16, by omega⟩ j ⟨C.val / 128 * 128 + C.val % 128, by omega⟩)
        * weightOf (F := Ideal) mask coef (ix5 ⟨R.val / 16, by omega⟩ ⟨R.val % 16, by omega⟩ j ⟨C.val / 128, by omega⟩ 0)
      = Scalar.select (memberAt mask ⟨R.val / 16, by omega⟩ ⟨R.val % 16, by omega⟩ j)
          (coef (ix3 ⟨C.val / 256, by omega⟩ ⟨R.val / 16 * 2 + C.val / 128 % 2, by omega⟩ j)) 0
        * pickedAt tab fy ft ⟨R.val / 16, by omega⟩ j C := by
    rw [picked tab fy ft hb, weightOf_at, memberOf_at, eq, e0]
    exact mul_comm _ _
  rw [result_at, summed_at]
  exact congrArg (fun s => x (ix2 R C) + s) (Finset.sum_congr rfl fun j _ => hs j)

/-- The two results agree everywhere. -/
theorem result_eq (hb : ∀ y : S32x384.Idx, (y 0).val < 16 → (tab y).toNat ≤ 11688) :
    result (F := Ideal) fy ft tab x mask coef = fun y : S6144x5120.Idx => valueAt tab x mask coef fy ft (y 0) (y 1) := by
  funext y
  have hy : y = ix2 (n0 := 6144) (n1 := 5120) (y 0) (y 1) := by
    funext a
    match a with
    | ⟨0, _⟩ => rfl
    | ⟨1, _⟩ => rfl
  exact (congrArg (result (F := Ideal) fy ft tab x mask coef) hy).trans (result_eq_ix tab x mask coef fy ft hb (y 0) (y 1))

/-! ## The two runs -/

open Idealize.SL.Sem Idealize.ShloMosaic.TcCoe

/-- The kernel's result. -/
def kernelValue (m : (ℓ : Loc Cert.KernelIdeal.nD Cert.KernelIdeal.τ Cert.KernelIdeal.sig) → Buf (Elt Ideal) ℓ) (c : Dev Cert.KernelIdeal.nD) :
    S6144x5120.Idx → EReal := fun y =>
  valueAt (tabOf m c) (xOf m c) (maskOf m c) (coefOf m c) (rowsOf m c) (tailOf m c) (y 0) (y 1)

/-- The kernel's run leaves it. -/
theorem kernel_run (m : (ℓ : Loc Cert.KernelIdeal.nD Cert.KernelIdeal.τ Cert.KernelIdeal.sig) → Buf (Elt Ideal) ℓ)
    (ρ : Dev Cert.KernelIdeal.nD → PrngReg)
    (hb : ∀ c, ∀ y : S32x384.Idx, (y 0).val < 16 → (tabOf m c y : BitVec 32).toNat ≤ 11688)
    (hc : ∀ c, ∀ y : S20x768x256.Idx, (coefOf m c y : EReal) ≠ ⊤ ∧ (coefOf m c y : EReal) ≠ ⊥) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = kernelValue m c) := by
  have hfit : ∀ c, Fit m c := fun c => fit_of_bound m c (hb c)
  exact (θ_run Cert.KernelIdeal.defs _ _).mono (fun _ h c => ((h.1 c).1 4).trans (arr_eq c m hfit (hb c) (hc c))) (Cert.KernelIdeal.Hand.run_main m ρ hfit)

/-- The reference's result is the kernel's, of the same arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hb : ∀ y : S32x384.Idx, (y 0).val < 16 → (tabOf m c y : BitVec 32).toNat ≤ 11688)
    (h0 : m' ((c.tc : Thread Cert.ReferenceIdeal.nD Cert.ReferenceIdeal.τ).loc Cert.ReferenceIdeal.main_arg0) = tabOf m c)
    (h1 : m' ((c.tc : Thread Cert.ReferenceIdeal.nD Cert.ReferenceIdeal.τ).loc Cert.ReferenceIdeal.main_arg1) = xOf m c)
    (h2 : m' ((c.tc : Thread Cert.ReferenceIdeal.nD Cert.ReferenceIdeal.τ).loc Cert.ReferenceIdeal.main_arg2) = maskOf m c)
    (h3 : m' ((c.tc : Thread Cert.ReferenceIdeal.nD Cert.ReferenceIdeal.τ).loc Cert.ReferenceIdeal.main_arg3) = coefOf m c)
    (h4 : m' ((c.tc : Thread Cert.ReferenceIdeal.nD Cert.ReferenceIdeal.τ).loc Cert.ReferenceIdeal.main_arg4) = rowsOf m c)
    (h5 : m' ((c.tc : Thread Cert.ReferenceIdeal.nD Cert.ReferenceIdeal.τ).loc Cert.ReferenceIdeal.main_arg5) = tailOf m c) :
    resultOf m' c = kernelValue m c := by
  unfold resultOf
  rw [h0, h1, h2, h3, h4, h5]
  exact result_eq (tabOf m c) (xOf m c) (maskOf m c) (coefOf m c) (rowsOf m c) (tailOf m c) hb

end Cert.Tie
end
-- ==== Proof.lean ====
/- The certificate's claims, assembled: the frames of the two printings of the kernel and of the reference, and that kernel
   and reference end with equal results over the extended reals. -/
module

public import proofs.«01_k».proof.Defs
public import proofs.«01_k».proof.Proof.Pre
public import proofs.«01_k».proof.Proof.Printed.Windows
public import proofs.«01_k».proof.Proof.Tie
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_tables_ok

@[expose] public section

noncomputable section

open Idealize.ShloMosaic Idealize.SL.Sem

namespace Cert.Proof

/-- Kernel and reference, from the same arguments, end with equal results. -/
theorem algebraic : Cert.algebraic_KernelIdeal_ReferenceIdeal (hKernelIdeal := Cert.KernelIdeal.Gen.facts)
    (hReferenceIdeal := Cert.ReferenceIdeal.Gen.facts) (hPre_tables_ok := Cert.Pre_tables_ok.Gen.facts) := by
  intro m g m' g' h hag
  have hb : ∀ c, ∀ y : Cert.KernelIdeal.S32x384.Idx, (y 0).val < 16 → (Cert.KernelIdeal.Hand.tabOf m c y : BitVec 32).toNat ≤ 11688 :=
    fun c y hy => Cert.Pre_tables_ok.Hand.bound _ _ _ _ _ _ (h c) y hy
  have hc : ∀ c, ∀ y : Cert.KernelIdeal.S20x768x256.Idx, (Cert.KernelIdeal.Hand.coefOf m c y : EReal) ≠ ⊤ ∧ (Cert.KernelIdeal.Hand.coefOf m c y : EReal) ≠ ⊥ :=
    fun c y => Cert.Pre_tables_ok.Hand.finite _ _ _ _ _ _ (h c) y
  refine ⟨Cert.Tie.kernelValue m, ?_, ?_⟩
  · exact (θ_run Cert.KernelIdeal.defs _ _).mono (fun _ hr c => ⟨hr.1 c, hr.2.1 c⟩)
      (θ_run_and (Cert.Tie.kernel_run m g hb hc) (Cert.KernelIdeal.Hand.frame m g fun c => Cert.KernelIdeal.Hand.fit_of_bound m c (hb c)))
  · exact (θ_run Cert.ReferenceIdeal.defs _ _).mono
      (fun _ hr c => ⟨(hr.1 c).trans (Cert.Tie.reference_value m m' c (hb c) (hag c).1 (hag c).2.1 (hag c).2.2.1 (hag c).2.2.2.1 (hag c).2.2.2.2.1 (hag c).2.2.2.2.2), hr.2 c⟩)
      (θ_run_and (Cert.ReferenceIdeal.Hand.run_result m' g') (Cert.ReferenceIdeal.Gen.unchanged m' g'))

theorem claim : Cert.Claim :=
  ⟨Cert.Kernel.Gen.facts, Cert.KernelIdeal.Gen.facts, Cert.ReferenceIdeal.Gen.facts, Cert.Pre_tables_ok.Gen.facts,
    fun m g h => Cert.Kernel.Hand.frame m g fun c => Cert.Kernel.Hand.fit_of_bound m c fun y hy =>
      Cert.Pre_tables_ok.Hand.bound _ _ _ _ _ _ (h c) y hy,
    fun m g h => Cert.KernelIdeal.Hand.frame m g fun c => Cert.KernelIdeal.Hand.fit_of_bound m c fun y hy =>
      Cert.Pre_tables_ok.Hand.bound _ _ _ _ _ _ (h c) y hy,
    fun m g _ => Cert.ReferenceIdeal.Gen.frame m g,
    IdealRules.bf16_pack.statement Cert.KernelIdeal.S16x256, algebraic⟩

end Cert.Proof

end
